-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "scale2" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x4x16384x64 : Shape := ⟨4, ![1, 4, 16384, 64]⟩
abbrev S1x4x16384x128 : Shape := ⟨4, ![1, 4, 16384, 128]⟩
abbrev S64 : Shape := ⟨1, ![64]⟩
abbrev S128 : Shape := ⟨1, ![128]⟩
abbrev S_ : Shape := ⟨0, ![]⟩

class Facts : Prop where
  bcast_S_S1x4x16384x64 : S_.BroadcastsInDim S1x4x16384x64 (![] : Fin 0 → Fin S1x4x16384x64.rank)
  reducesTo_S1x4x16384x64_S_d0_1_2_3 : S1x4x16384x64.ReducesTo [0, 1, 2, 3] S_
  h_S_ : 0 < S_.numel
  bcast_S_S1x4x16384x128 : S_.BroadcastsInDim S1x4x16384x128 (![] : Fin 0 → Fin S1x4x16384x128.rank)
  reducesTo_S1x4x16384x128_S_d0_1_2_3 : S1x4x16384x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64 .f32 := Host.absf main_arg8
  let main_cst_14 : FVec F S_ .f32 := constant S_ .f32 0x7F800000#32
  let main_v33 : FVec F S64 .f32 := broadcastInDim S64 ![] bcast_S_S64 main_cst_14
  let main_v34 : IVec S64 1 := cmpf .olt main_v32 main_v33
  let main_c_15 : IVec S_ 1 := constantI S_ 1 1#1
  let main_v35 : IVec S_ 1 := (fun x v => Host.reduce IntOp.andi x v reducesTo_S64_S_d0 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x4x16384x128 .f32) (main_arg5 : FVec F S64 .f32) (main_arg6 : FVec F S64 .f32) (main_arg7 : FVec F S64 .f32) (main_arg8 : FVec F S64 .f32) (main_v3 : IVec S_ 1) (main_v7 : IVec S_ 1) (main_v11 : IVec S_ 1) (main_v15 : IVec S_ 1) : IVec S_ 1 :=
  let main_v16 : FVec F S1x4x16384x128 .f32 := Host.absf main_arg4
  let main_cst_6 : FVec F S_ .f32 := constant S_ .f32 0x7F800000#32
  let main_v17 : FVec F S1x4x16384x128 .f32 := broadcastInDim S1x4x16384x128 ![] bcast_S_S1x4x16384x128 main_cst_6
  let main_v18 : IVec S1x4x16384x128 1 := cmpf .olt main_v16 main_v17
  let main_c_7 : IVec S_ 1 := constantI S_ 1 1#1
  let main_v19 : IVec S_ 1 := (fun x v => Host.reduce IntOp.andi x v reducesTo_S1x4x16384x128_S_d0_1_2_3 h_S_) main_v18 main_c_7
  let main_v20 : FVec F S64 .f32 := Host.absf main_arg5
  let main_cst_8 : FVec F S_ .f32 := constant S_ .f32 0x7F800000#32
  let main_v21 : FVec F S64 .f32 := broadcastInDim S64 ![] bcast_S_S64 main_cst_8
  let main_v22 : IVec S64 1 := cmpf .olt main_v20 main_v21
  let main_c_9 : IVec S_ 1 := constantI S_ 1 1#1
  let main_v23 : IVec S_ 1 := (fun x v => Host.reduce IntOp.andi x v reducesTo_S64_S_d0 h_S_) main_v22 main_c_9
  let main_v24 : FVec F S64 .f32 := Host.absf main_arg6
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_v28 : FVec F S64 .f32 := Host.absf main_arg7
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg8 main_v3 main_v7 main_v11 main_v15 main_v19 main_v23 main_v27 main_v31

def fn {F : FTy → Type} [FloatOps F] (main_arg0 : FVec F S1x4x16384x64 .f32) (main_arg1 : FVec F S1x4x16384x64 .f32) (main_arg2 : FVec F S1x4x16384x64 .f32) (main_arg3 : FVec F S1x4x16384x64 .f32) (main_arg4 : FVec F S1x4x16384x128 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S1x4x16384x64 .f32 := Host.absf main_arg0
  let main_cst : FVec F S_ .f32 := constant S_ .f32 0x7F800000#32
  let main_v1 : FVec F S1x4x16384x64 .f32 := broadcastInDim S1x4x16384x64 ![] bcast_S_S1x4x16384x64 main_cst
  let main_v2 : IVec S1x4x16384x64 1 := cmpf .olt main_v0 main_v1
  let main_c : IVec S_ 1 := constantI S_ 1 1#1
  let main_v3 : IVec S_ 1 := (fun x v => Host.reduce IntOp.andi x v reducesTo_S1x4x16384x64_S_d0_1_2_3 h_S_) main_v2 main_c
  let main_v4 : FVec F S1x4x16384x64 .f32 := Host.absf main_arg1
  let main_cst_0 : FVec F S_ .f32 := constant S_ .f32 0x7F800000#32
  let main_v5 : FVec F S1x4x16384x64 .f32 := broadcastInDim S1x4x16384x64 ![] bcast_S_S1x4x16384x64 main_cst_0
  let main_v6 : IVec S1x4x16384x64 1 := cmpf .olt main_v4 main_v5
  let main_c_1 : IVec S_ 1 := constantI S_ 1 1#1
  let main_v7 : IVec S_ 1 := (fun x v => Host.reduce IntOp.andi x v reducesTo_S1x4x16384x64_S_d0_1_2_3 h_S_) main_v6 main_c_1
  let main_v8 : FVec F S1x4x16384x64 .f32 := Host.absf main_arg2
  let main_cst_2 : FVec F S_ .f32 := constant S_ .f32 0x7F800000#32
  let main_v9 : FVec F S1x4x16384x64 .f32 := broadcastInDim S1x4x16384x64 ![] bcast_S_S1x4x16384x64 main_cst_2
  let main_v10 : IVec S1x4x16384x64 1 := cmpf .olt main_v8 main_v9
  let main_c_3 : IVec S_ 1 := constantI S_ 1 1#1
  let main_v11 : IVec S_ 1 := (fun x v => Host.reduce IntOp.andi x v reducesTo_S1x4x16384x64_S_d0_1_2_3 h_S_) main_v10 main_c_3
  let main_v12 : FVec F S1x4x16384x64 .f32 := Host.absf main_arg3
  let main_cst_4 : FVec F S_ .f32 := constant S_ .f32 0x7F800000#32
  let main_v13 : FVec F S1x4x16384x64 .f32 := broadcastInDim S1x4x16384x64 ![] bcast_S_S1x4x16384x64 main_cst_4
  let main_v14 : IVec S1x4x16384x64 1 := cmpf .olt main_v12 main_v13
  let main_c_5 : IVec S_ 1 := constantI S_ 1 1#1
  let main_v15 : IVec S_ 1 := (fun x v => Host.reduce IntOp.andi x v reducesTo_S1x4x16384x64_S_d0_1_2_3 h_S_) main_v14 main_c_5
  fn_part1 (F := F) main_arg4 main_arg5 main_arg6 main_arg7 main_arg8 main_v3 main_v7 main_v11 main_v15
-- ==== Kernel.lean ====
abbrev S1x4x16384x64 : Shape := ⟨4, ![1, 4, 16384, 64]⟩
abbrev S1x4x16384x128 : Shape := ⟨4, ![1, 4, 16384, 128]⟩
abbrev S64 : Shape := ⟨1, ![64]⟩
abbrev S128 : Shape := ⟨1, ![128]⟩
abbrev S4x16384x64 : Shape := ⟨3, ![4, 16384, 64]⟩
abbrev S4x16384x128 : Shape := ⟨3, ![4, 16384, 128]⟩
abbrev S4x128x16384 : Shape := ⟨3, ![4, 128, 16384]⟩
abbrev S512x16384 : Shape := ⟨2, ![512, 16384]⟩
abbrev S16384x4x128 : Shape := ⟨3, ![16384, 4, 128]⟩
abbrev S16384x512 : Shape := ⟨2, ![16384, 512]⟩
abbrev S_ : Shape := ⟨0, ![]⟩
abbrev S256x16384 : Shape := ⟨2, ![256, 16384]⟩
abbrev S768x16384 : Shape := ⟨2, ![768, 16384]⟩
abbrev S16384x256 : Shape := ⟨2, ![16384, 256]⟩
abbrev S16384x768 : Shape := ⟨2, ![16384, 768]⟩
abbrev S16384x1536 : Shape := ⟨2, ![16384, 1536]⟩
abbrev S1x64 : Shape := ⟨2, ![1, 64]⟩
abbrev S1x128 : Shape := ⟨2, ![1, 128]⟩
abbrev S128x512 : Shape := ⟨2, ![128, 512]⟩
abbrev S16384x128 : Shape := ⟨2, ![16384, 128]⟩
abbrev S128x16384 : Shape := ⟨2, ![128, 16384]⟩
abbrev S512x128 : Shape := ⟨2, ![512, 128]⟩
abbrev S2x1x512 : Shape := ⟨3, ![2, 1, 512]⟩
abbrev S2x144x512 : Shape := ⟨3, ![2, 144, 512]⟩
abbrev S2x1024x512 : Shape := ⟨3, ![2, 1024, 512]⟩
abbrev S64x512 : Shape := ⟨2, ![64, 512]⟩
abbrev S256x512 : Shape := ⟨2, ![256, 512]⟩
abbrev S256x128 : Shape := ⟨2, ![256, 128]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S1x144x512 : Shape := ⟨3, ![1, 144, 512]⟩
abbrev S144x512 : Shape := ⟨2, ![144, 512]⟩
abbrev S128x256 : Shape := ⟨2, ![128, 256]⟩
abbrev S16x256 : Shape := ⟨2, ![16, 256]⟩
abbrev S144x256 : Shape := ⟨2, ![144, 256]⟩
abbrev S1 : Shape := ⟨1, ![1]⟩
abbrev S1x1 : Shape := ⟨2, ![1, 1]⟩
abbrev S1x128x512 : Shape := ⟨3, ![1, 128, 512]⟩

abbrev nBuf : Space → Nat
  | .hbm => 41
  | .vmem => 21
  | .smem => 0
  | _ => 0

abbrev bufTy : (tb : Table) → Fin (tcTables nBuf tb) → BufTy
  | .hbm, ⟨0, _⟩ => ⟨S1x4x16384x64, .f32⟩
  | .hbm, ⟨1, _⟩ => ⟨S1x4x16384x64, .f32⟩
  | .hbm, ⟨2, _⟩ => ⟨S1x4x16384x64, .f32⟩
  | .hbm, ⟨3, _⟩ => ⟨S1x4x16384x64, .f32⟩
  | .hbm, ⟨4, _⟩ => ⟨S1x4x16384x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S4x16384x64, .f32⟩
  | .hbm, ⟨11, _⟩ => ⟨S4x16384x64, .f32⟩
  | .hbm, ⟨12, _⟩ => ⟨S4x16384x128, .f32⟩
  | .hbm, ⟨13, _⟩ => ⟨S4x16384x64, .f32⟩
  | .hbm, ⟨14, _⟩ => ⟨S4x16384x64, .f32⟩
  | .hbm, ⟨15, _⟩ => ⟨S4x16384x128, .f32⟩
  | .hbm, ⟨16, _⟩ => ⟨S4x128x16384, .f32⟩
  | .hbm, ⟨17, _⟩ => ⟨S512x16384, .f32⟩
  | .hbm, ⟨18, _⟩ => ⟨S16384x4x128, .f32⟩
  | .hbm, ⟨19, _⟩ => ⟨S16384x512, .f32⟩
  | .hbm, ⟨20, _⟩ => ⟨S4x16384x128, .f32⟩
  | .hbm, ⟨21, _⟩ => ⟨S4x128x16384, .f32⟩
  | .hbm, ⟨22, _⟩ => ⟨S512x16384, .f32⟩
  | .hbm, ⟨23, _⟩ => ⟨S_, .f32⟩
  | .hbm, ⟨24, _⟩ => ⟨S256x16384, .f32⟩
  | .hbm, ⟨25, _⟩ => ⟨S768x16384, .f32⟩
  | .hbm, ⟨26, _⟩ => ⟨S768x16384, .bf16⟩
  | .hbm, ⟨27, _⟩ => ⟨S768x16384, .f32⟩
  | .hbm, ⟨28, _⟩ => ⟨S768x16384, .bf16⟩
  | .hbm, ⟨29, _⟩ => ⟨S_, .f32⟩
  | .hbm, ⟨30, _⟩ => ⟨S16384x256, .f32⟩
  | .hbm, ⟨31, _⟩ => ⟨S_, .f32⟩
  | .hbm, ⟨32, _⟩ => ⟨S16384x768, .f32⟩
  | .hbm, ⟨33, _⟩ => ⟨S16384x1536, .f32⟩
  | .hbm, ⟨34, _⟩ => ⟨S16384x1536, .bf16⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x128, .f32⟩
  | .hbm, ⟨40, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S16384x128, .bf16⟩
  | .local _ .vmem, ⟨5, _⟩ => ⟨S16384x128, .bf16⟩
  | .local _ .vmem, ⟨6, _⟩ => ⟨S128x16384, .bf16⟩
  | .local _ .vmem, ⟨7, _⟩ => ⟨S128x16384, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S512x128, .bf16⟩
  | .local _ .vmem, ⟨14, _⟩ => ⟨S512x128, .bf16⟩
  | .local _ .vmem, ⟨15, _⟩ => ⟨S2x1x512, .f32⟩
  | .local _ .vmem, ⟨16, _⟩ => ⟨S2x144x512, .f32⟩
  | .local _ .vmem, ⟨17, _⟩ => ⟨S2x1024x512, .f32⟩
  | .local _ .vmem, ⟨18, _⟩ => ⟨S2x1x512, .f32⟩
  | .local _ .vmem, ⟨19, _⟩ => ⟨S2x1024x512, .f32⟩
  | .local _ .vmem, ⟨20, _⟩ => ⟨S2x1x512, .f32⟩
  | _, _ => ⟨S1x4x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v40 : BitVec 32 := Scalar.extui v13
  let c0_i32_16 : BitVec 32 := 0#32
  let v41 : BitVec 1 := Scalar.cmpi .ne v40 c0_i32_16
  v41

def k0_mult1 (i : grid0.Coords) : BitVec 32 :=
  let arg1 : BitVec 32 := BitVec.ofNat 32 (i 1).val
  let c512_i32_66 : BitVec 32 := 512#32
  let v135 : BitVec 32 := Scalar.muli arg1 c512_i32_66
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c1024_i32_67 : BitVec 32 := 1024#32
  let c0_i32_70 : BitVec 32 := 0#32
  let v142 : BitVec 1 := Scalar.cmpi .sgt c1024_i32_67 c0_i32_70
  let v143 : BitVec 32 := Scalar.extui v142
  let c0_i32_71 : BitVec 32 := 0#32
  let v144 : BitVec 1 := Scalar.cmpi .slt c1024_i32_67 c0_i32_71
  let v145 : BitVec 32 := Scalar.extui v144
  let v146 : BitVec 32 := Scalar.subi v143 v145
  let v147 : BitVec 1 := Scalar.cmpi .ne v141 v146
  let v148 : BitVec 32 := Scalar.remsi v135 c1024_i32_67
  let c0_i32_72 : BitVec 32 := 0#32
  let v149 : BitVec 1 := Scalar.cmpi .ne v148 c0_i32_72
  let v150 : BitVec 1 := Scalar.andi v147 v149
  let v136 : BitVec 32 := Scalar.divsi v135 c1024_i32_67
  let c1_i32_73 : BitVec 32 := 1#32
  let v151 : BitVec 32 := Scalar.subi v136 c1_i32_73
  let v152 : BitVec 32 := Scalar.select v150 v151 v136
  let c4_i32_77 : BitVec 32 := 4#32
  let v164 : BitVec 32 := Scalar.muli v152 c4_i32_77
  let c0_i32_78 : BitVec 32 := 0#32
  let v165 : BitVec 32 := Scalar.addi v164 c0_i32_78
  let c256_i32_79 : BitVec 32 := 256#32
  let v166 : BitVec 32 := Scalar.muli v165 c256_i32_79
  v166
def k0_off1 (i : grid0.Coords) (c0_i32_78 : BitVec 32) : Fin 2 → Nat :=
  let arg1 : BitVec 32 := BitVec.ofNat 32 (i 1).val
  let c512_i32_66 : BitVec 32 := 512#32
  let v135 : BitVec 32 := Scalar.muli arg1 c512_i32_66
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c1024_i32_67 : BitVec 32 := 1024#32
  let c0_i32_70 : BitVec 32 := 0#32
  let v142 : BitVec 1 := Scalar.cmpi .sgt c1024_i32_67 c0_i32_70
  let v143 : BitVec 32 := Scalar.extui v142
  let c0_i32_71 : BitVec 32 := 0#32
  let v144 : BitVec 1 := Scalar.cmpi .slt c1024_i32_67 c0_i32_71
  let v145 : BitVec 32 := Scalar.extui v144
  let v146 : BitVec 32 := Scalar.subi v143 v145
  let v147 : BitVec 1 := Scalar.cmpi .ne v141 v146
  let v148 : BitVec 32 := Scalar.remsi v135 c1024_i32_67
  let c0_i32_72 : BitVec 32 := 0#32
  let v149 : BitVec 1 := Scalar.cmpi .ne v148 c0_i32_72
  let v150 : BitVec 1 := Scalar.andi v147 v149
  let v136 : BitVec 32 := Scalar.divsi v135 c1024_i32_67
  let c1_i32_73 : BitVec 32 := 1#32
  let v151 : BitVec 32 := Scalar.subi v136 c1_i32_73
  let v152 : BitVec 32 := Scalar.select v150 v151 v136
  let c4_i32_77 : BitVec 32 := 4#32
  let v164 : BitVec 32 := Scalar.muli v152 c4_i32_77
  let v165 : BitVec 32 := Scalar.addi v164 c0_i32_78
  let c256_i32_79 : BitVec 32 := 256#32
  let v166 : BitVec 32 := Scalar.muli v165 c256_i32_79
  let v167 : BitVec 32 := v166
  let v168 : Index := Scalar.indexCast v167
  let c0_80 : Index := 0#32
  ![v168.toNat, 0]
def k0_mult2 (i : grid0.Coords) : BitVec 32 :=
  let arg1 : BitVec 32 := BitVec.ofNat 32 (i 1).val
  let c512_i32_87 : BitVec 32 := 512#32
  let v179 : BitVec 32 := Scalar.muli arg1 c512_i32_87
  let c0_i32_89 : BitVec 32 := 0#32
  let v181 : BitVec 1 := Scalar.cmpi .sgt v179 c0_i32_89
  let v182 : BitVec 32 := Scalar.extui v181
  let c0_i32_90 : BitVec 32 := 0#32
  let v183 : BitVec 1 := Scalar.cmpi .slt v179 c0_i32_90
  let v184 : BitVec 32 := Scalar.extui v183
  let v185 : BitVec 32 := Scalar.subi v182 v184
  let c1024_i32_88 : BitVec 32 := 1024#32
  let c0_i32_91 : BitVec 32 := 0#32
  let v186 : BitVec 1 := Scalar.cmpi .sgt c1024_i32_88 c0_i32_91
  let v187 : BitVec 32 := Scalar.extui v186
  let c0_i32_92 : BitVec 32 := 0#32
  let v188 : BitVec 1 := Scalar.cmpi .slt c1024_i32_88 c0_i32_92
  let v189 : BitVec 32 := Scalar.extui v188
  let v190 : BitVec 32 := Scalar.subi v187 v189
  let v191 : BitVec 1 := Scalar.cmpi .ne v185 v190
  let v192 : BitVec 32 := Scalar.remsi v179 c1024_i32_88
  let c0_i32_93 : BitVec 32 := 0#32
  let v193 : BitVec 1 := Scalar.cmpi .ne v192 c0_i32_93
  let v194 : BitVec 1 := Scalar.andi v191 v193
  let v180 : BitVec 32 := Scalar.divsi v179 c1024_i32_88
  let c1_i32_94 : BitVec 32 := 1#32
  let v195 : BitVec 32 := Scalar.subi v180 c1_i32_94
  let v196 : BitVec 32 := Scalar.select v194 v195 v180
  let c4_i32_99 : BitVec 32 := 4#32
  let v208 : BitVec 32 := Scalar.muli v196 c4_i32_99
  let c0_i32_100 : BitVec 32 := 0#32
  let v209 : BitVec 32 := Scalar.addi v208 c0_i32_100
  let c256_i32_101 : BitVec 32 := 256#32
  let v210 : BitVec 32 := Scalar.muli v209 c256_i32_101
  v210
def k0_mult3 (i : grid0.Coords) : BitVec 32 :=
  let arg1 : BitVec 32 := BitVec.ofNat 32 (i 1).val
  let c512_i32_109 : BitVec 32 := 512#32
  let v223 : BitVec 32 := Scalar.muli arg1 c512_i32_109
  let c0_i32_111 : BitVec 32 := 0#32
  let v225 : BitVec 1 := Scalar.cmpi .sgt v223 c0_i32_111
  let v226 : BitVec 32 := Scalar.extui v225
  let c0_i32_112 : BitVec 32 := 0#32
  let v227 : BitVec 1 := Scalar.cmpi .slt v223 c0_i32_112
  let v228 : BitVec 32 := Scalar.extui v227
  let v229 : BitVec 32 := Scalar.subi v226 v228
  let c1024_i32_110 : BitVec 32 := 1024#32
  let c0_i32_113 : BitVec 32 := 0#32
  let v230 : BitVec 1 := Scalar.cmpi .sgt c1024_i32_110 c0_i32_113
  let v231 : BitVec 32 := Scalar.extui v230
  let c0_i32_114 : BitVec 32 := 0#32
  let v232 : BitVec 1 := Scalar.cmpi .slt c1024_i32_110 c0_i32_114
  let v233 : BitVec 32 := Scalar.extui v232
  let v234 : BitVec 32 := Scalar.subi v231 v233
  let v235 : BitVec 1 := Scalar.cmpi .ne v229 v234
  let v236 : BitVec 32 := Scalar.remsi v223 c1024_i32_110
  let c0_i32_115 : BitVec 32 := 0#32
  let v237 : BitVec 1 := Scalar.cmpi .ne v236 c0_i32_115
  let v238 : BitVec 1 := Scalar.andi v235 v237
  let v224 : BitVec 32 := Scalar.divsi v223 c1024_i32_110
  let c1_i32_116 : BitVec 32 := 1#32
  let v239 : BitVec 32 := Scalar.subi v224 c1_i32_116
  let v240 : BitVec 32 := Scalar.select v238 v239 v224
  let c4_i32_121 : BitVec 32 := 4#32
  let v252 : BitVec 32 := Scalar.muli v240 c4_i32_121
  let c1_i32_122 : BitVec 32 := 1#32
  let v253 : BitVec 32 := Scalar.addi v252 c1_i32_122
  let c256_i32_123 : BitVec 32 := 256#32
  let v254 : BitVec 32 := Scalar.muli v253 c256_i32_123
  v254
def k0_mult4 (i : grid0.Coords) : BitVec 32 :=
  let arg1 : BitVec 32 := BitVec.ofNat 32 (i 1).val
  let c512_i32_130 : BitVec 32 := 512#32
  let v268 : BitVec 32 := Scalar.muli arg1 c512_i32_130
  let c0_i32_132 : BitVec 32 := 0#32
  let v270 : BitVec 1 := Scalar.cmpi .sgt v268 c0_i32_132
  let v271 : BitVec 32 := Scalar.extui v270
  let c0_i32_133 : BitVec 32 := 0#32
  let v272 : BitVec 1 := Scalar.cmpi .slt v268 c0_i32_133
  let v273 : BitVec 32 := Scalar.extui v272
  let v274 : BitVec 32 := Scalar.subi v271 v273
  let c1024_i32_131 : BitVec 32 := 1024#32
  let c0_i32_134 : BitVec 32 := 0#32
  let v275 : BitVec 1 := Scalar.cmpi .sgt c1024_i32_131 c0_i32_134
  let v276 : BitVec 32 := Scalar.extui v275
  let c0_i32_135 : BitVec 32 := 0#32
  let v277 : BitVec 1 := Scalar.cmpi .slt c1024_i32_131 c0_i32_135
  let v278 : BitVec 32 := Scalar.extui v277
  let v279 : BitVec 32 := Scalar.subi v276 v278
  let v280 : BitVec 1 := Scalar.cmpi .ne v274 v279
  let v281 : BitVec 32 := Scalar.remsi v268 c1024_i32_131
  let c0_i32_136 : BitVec 32 := 0#32
  let v282 : BitVec 1 := Scalar.cmpi .ne v281 c0_i32_136
  let v283 : BitVec 1 := Scalar.andi v280 v282
  let v269 : BitVec 32 := Scalar.divsi v268 c1024_i32_131
  let c1_i32_137 : BitVec 32 := 1#32
  let v284 : BitVec 32 := Scalar.subi v269 c1_i32_137
  let v285 : BitVec 32 := Scalar.select v283 v284 v269
  let c4_i32_142 : BitVec 32 := 4#32
  let v297 : BitVec 32 := Scalar.muli v285 c4_i32_142
  let c1_i32_143 : BitVec 32 := 1#32
  let v298 : BitVec 32 := Scalar.addi v297 c1_i32_143
  let c256_i32_144 : BitVec 32 := 256#32
  let v299 : BitVec 32 := Scalar.muli v298 c256_i32_144
  v299
def k0_mult5 (i : grid0.Coords) : BitVec 32 :=
  let arg1 : BitVec 32 := BitVec.ofNat 32 (i 1).val
  let c512_i32_152 : BitVec 32 := 512#32
  let v313 : BitVec 32 := Scalar.muli arg1 c512_i32_152
  let c0_i32_154 : BitVec 32 := 0#32
  let v315 : BitVec 1 := Scalar.cmpi .sgt v313 c0_i32_154
  let v316 : BitVec 32 := Scalar.extui v315
  let c0_i32_155 : BitVec 32 := 0#32
  let v317 : BitVec 1 := Scalar.cmpi .slt v313 c0_i32_155
  let v318 : BitVec 32 := Scalar.extui v317
  let v319 : BitVec 32 := Scalar.subi v316 v318
  let c1024_i32_153 : BitVec 32 := 1024#32
  let c0_i32_156 : BitVec 32 := 0#32
  let v320 : BitVec 1 := Scalar.cmpi .sgt c1024_i32_153 c0_i32_156
  let v321 : BitVec 32 := Scalar.extui v320
  let c0_i32_157 : BitVec 32 := 0#32
  let v322 : BitVec 1 := Scalar.cmpi .slt c1024_i32_153 c0_i32_157
  let v323 : BitVec 32 := Scalar.extui v322
  let v324 : BitVec 32 := Scalar.subi v321 v323
  let v325 : BitVec 1 := Scalar.cmpi .ne v319 v324
  let v326 : BitVec 32 := Scalar.remsi v313 c1024_i32_153
  let c0_i32_158 : BitVec 32 := 0#32
  let v327 : BitVec 1 := Scalar.cmpi .ne v326 c0_i32_158
  let v328 : BitVec 1 := Scalar.andi v325 v327
  let v314 : BitVec 32 := Scalar.divsi v313 c1024_i32_153
  let c1_i32_159 : BitVec 32 := 1#32
  let v329 : BitVec 32 := Scalar.subi v314 c1_i32_159
  let v330 : BitVec 32 := Scalar.select v328 v329 v314
  let c4_i32_164 : BitVec 32 := 4#32
  let v342 : BitVec 32 := Scalar.muli v330 c4_i32_164
  let c2_i32_165 : BitVec 32 := 2#32
  let v343 : BitVec 32 := Scalar.addi v342 c2_i32_165
  let c256_i32_166 : BitVec 32 := 256#32
  let v344 : BitVec 32 := Scalar.muli v343 c256_i32_166
  v344
def k0_mult6 (i : grid0.Coords) : BitVec 32 :=
  let arg1 : BitVec 32 := BitVec.ofNat 32 (i 1).val
  let c512_i32_173 : BitVec 32 := 512#32
  let v358 : BitVec 32 := Scalar.muli arg1 c512_i32_173
  let c0_i32_175 : BitVec 32 := 0#32
  let v360 : BitVec 1 := Scalar.cmpi .sgt v358 c0_i32_175
  let v361 : BitVec 32 := Scalar.extui v360
  let c0_i32_176 : BitVec 32 := 0#32
  let v362 : BitVec 1 := Scalar.cmpi .slt v358 c0_i32_176
  let v363 : BitVec 32 := Scalar.extui v362
  let v364 : BitVec 32 := Scalar.subi v361 v363
  let c1024_i32_174 : BitVec 32 := 1024#32
  let c0_i32_177 : BitVec 32 := 0#32
  let v365 : BitVec 1 := Scalar.cmpi .sgt c1024_i32_174 c0_i32_177
  let v366 : BitVec 32 := Scalar.extui v365
  let c0_i32_178 : BitVec 32 := 0#32
  let v367 : BitVec 1 := Scalar.cmpi .slt c1024_i32_174 c0_i32_178
  let v368 : BitVec 32 := Scalar.extui v367
  let v369 : BitVec 32 := Scalar.subi v366 v368
  let v370 : BitVec 1 := Scalar.cmpi .ne v364 v369
  let v371 : BitVec 32 := Scalar.remsi v358 c1024_i32_174
  let c0_i32_179 : BitVec 32 := 0#32
  let v372 : BitVec 1 := Scalar.cmpi .ne v371 c0_i32_179
  let v373 : BitVec 1 := Scalar.andi v370 v372
  let v359 : BitVec 32 := Scalar.divsi v358 c1024_i32_174
  let c1_i32_180 : BitVec 32 := 1#32
  let v374 : BitVec 32 := Scalar.subi v359 c1_i32_180
  let v375 : BitVec 32 := Scalar.select v373 v374 v359
  let c4_i32_185 : BitVec 32 := 4#32
  let v387 : BitVec 32 := Scalar.muli v375 c4_i32_185
  let c2_i32_186 : BitVec 32 := 2#32
  let v388 : BitVec 32 := Scalar.addi v387 c2_i32_186
  let c256_i32_187 : BitVec 32 := 256#32
  let v389 : BitVec 32 := Scalar.muli v388 c256_i32_187
  v389
def k0_mult7 (i : grid0.Coords) : BitVec 32 :=
  let arg1 : BitVec 32 := BitVec.ofNat 32 (i 1).val
  let c512_i32_195 : BitVec 32 := 512#32
  let v403 : BitVec 32 := Scalar.muli arg1 c512_i32_195
  let c0_i32_197 : BitVec 32 := 0#32
  let v405 : BitVec 1 := Scalar.cmpi .sgt v403 c0_i32_197
  let v406 : BitVec 32 := Scalar.extui v405
  let c0_i32_198 : BitVec 32 := 0#32
  let v407 : BitVec 1 := Scalar.cmpi .slt v403 c0_i32_198
  let v408 : BitVec 32 := Scalar.extui v407
  let v409 : BitVec 32 := Scalar.subi v406 v408
  let c1024_i32_196 : BitVec 32 := 1024#32
  let c0_i32_199 : BitVec 32 := 0#32
  let v410 : BitVec 1 := Scalar.cmpi .sgt c1024_i32_196 c0_i32_199
  let v411 : BitVec 32 := Scalar.extui v410
  let c0_i32_200 : BitVec 32 := 0#32
  let v412 : BitVec 1 := Scalar.cmpi .slt c1024_i32_196 c0_i32_200
  let v413 : BitVec 32 := Scalar.extui v412
  let v414 : BitVec 32 := Scalar.subi v411 v413
  let v415 : BitVec 1 := Scalar.cmpi .ne v409 v414
  let v416 : BitVec 32 := Scalar.remsi v403 c1024_i32_196
  let c0_i32_201 : BitVec 32 := 0#32
  let v417 : BitVec 1 := Scalar.cmpi .ne v416 c0_i32_201
  let v418 : BitVec 1 := Scalar.andi v415 v417
  let v404 : BitVec 32 := Scalar.divsi v403 c1024_i32_196
  let c1_i32_202 : BitVec 32 := 1#32
  let v419 : BitVec 32 := Scalar.subi v404 c1_i32_202
  let v420 : BitVec 32 := Scalar.select v418 v419 v404
  let c4_i32_207 : BitVec 32 := 4#32
  let v432 : BitVec 32 := Scalar.muli v420 c4_i32_207
  let c3_i32_208 : BitVec 32 := 3#32
  let v433 : BitVec 32 := Scalar.addi v432 c3_i32_208
  let c256_i32_209 : BitVec 32 := 256#32
  let v434 : BitVec 32 := Scalar.muli v433 c256_i32_209
  v434
def k0_mult8 (i : grid0.Coords) : BitVec 32 :=
  let arg1 : BitVec 32 := BitVec.ofNat 32 (i 1).val
  let c512_i32_216 : BitVec 32 := 512#32
  let v448 : BitVec 32 := Scalar.muli arg1 c512_i32_216
  let c0_i32_218 : BitVec 32 := 0#32
  let v450 : BitVec 1 := Scalar.cmpi .sgt v448 c0_i32_218
  let v451 : BitVec 32 := Scalar.extui v450
  let c0_i32_219 : BitVec 32 := 0#32
  let v452 : BitVec 1 := Scalar.cmpi .slt v448 c0_i32_219
  let v453 : BitVec 32 := Scalar.extui v452
  let v454 : BitVec 32 := Scalar.subi v451 v453
  let c1024_i32_217 : BitVec 32 := 1024#32
  let c0_i32_220 : BitVec 32 := 0#32
  let v455 : BitVec 1 := Scalar.cmpi .sgt c1024_i32_217 c0_i32_220
  let v456 : BitVec 32 := Scalar.extui v455
  let c0_i32_221 : BitVec 32 := 0#32
  let v457 : BitVec 1 := Scalar.cmpi .slt c1024_i32_217 c0_i32_221
  let v458 : BitVec 32 := Scalar.extui v457
  let v459 : BitVec 32 := Scalar.subi v456 v458
  let v460 : BitVec 1 := Scalar.cmpi .ne v454 v459
  let v461 : BitVec 32 := Scalar.remsi v448 c1024_i32_217
  let c0_i32_222 : BitVec 32 := 0#32
  let v462 : BitVec 1 := Scalar.cmpi .ne v461 c0_i32_222
  let v463 : BitVec 1 := Scalar.andi v460 v462
  let v449 : BitVec 32 := Scalar.divsi v448 c1024_i32_217
  let c1_i32_223 : BitVec 32 := 1#32
  let v464 : BitVec 32 := Scalar.subi v449 c1_i32_223
  let v465 : BitVec 32 := Scalar.select v463 v464 v449
  let c4_i32_228 : BitVec 32 := 4#32
  let v477 : BitVec 32 := Scalar.muli v465 c4_i32_228
  let c3_i32_229 : BitVec 32 := 3#32
  let v478 : BitVec 32 := Scalar.addi v477 c3_i32_229
  let c256_i32_230 : BitVec 32 := 256#32
  let v479 : BitVec 32 := Scalar.muli v478 c256_i32_230
  v479
@[reducible] def k0_t1_loop (i : grid0.Coords) : Scf.Loop 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_26 : BitVec 32 := 1#32
  ⟨c0_i32_24, v63, c1_i32_26⟩
def k0_mult9 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_100 : BitVec 32 := 4#32
  let v174 : BitVec 32 := Scalar.muli v136 c4_i32_100
  let c0_i32_101 : BitVec 32 := 0#32
  let v175 : BitVec 32 := Scalar.addi v174 c0_i32_101
  let c256_i32 : BitVec 32 := 256#32
  let v176 : BitVec 32 := Scalar.muli v175 c256_i32
  v176
def k0_off2 (i : grid0.Coords) (k0_t1 : Fin (k0_t1_loop i).trips) (c0_i32_67 : BitVec 32) (c0_i32_101 : BitVec 32) : Fin 2 → Nat :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let v136 : BitVec 32 := Scalar.addi v135 c0_i32_67
  let c4_i32_100 : BitVec 32 := 4#32
  let v174 : BitVec 32 := Scalar.muli v136 c4_i32_100
  let v175 : BitVec 32 := Scalar.addi v174 c0_i32_101
  let c256_i32 : BitVec 32 := 256#32
  let v176 : BitVec 32 := Scalar.muli v175 c256_i32
  let v177 : BitVec 32 := v176
  let v178 : Index := Scalar.indexCast v177
  let c0_102 : Index := 0#32
  ![v178.toNat, 0]
def k0_mult10 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_108 : BitVec 32 := 4#32
  let v187 : BitVec 32 := Scalar.muli v136 c4_i32_108
  let c0_i32_109 : BitVec 32 := 0#32
  let v188 : BitVec 32 := Scalar.addi v187 c0_i32_109
  let c256_i32_110 : BitVec 32 := 256#32
  let v189 : BitVec 32 := Scalar.muli v188 c256_i32_110
  v189
def k0_mult11 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_117 : BitVec 32 := 4#32
  let v200 : BitVec 32 := Scalar.muli v136 c4_i32_117
  let c1_i32_118 : BitVec 32 := 1#32
  let v201 : BitVec 32 := Scalar.addi v200 c1_i32_118
  let c256_i32_119 : BitVec 32 := 256#32
  let v202 : BitVec 32 := Scalar.muli v201 c256_i32_119
  v202
def k0_mult12 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_125 : BitVec 32 := 4#32
  let v214 : BitVec 32 := Scalar.muli v136 c4_i32_125
  let c1_i32_126 : BitVec 32 := 1#32
  let v215 : BitVec 32 := Scalar.addi v214 c1_i32_126
  let c256_i32_127 : BitVec 32 := 256#32
  let v216 : BitVec 32 := Scalar.muli v215 c256_i32_127
  v216
def k0_mult13 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_140 : BitVec 32 := 4#32
  let v236 : BitVec 32 := Scalar.muli v139 c4_i32_140
  let c0_i32_141 : BitVec 32 := 0#32
  let v237 : BitVec 32 := Scalar.addi v236 c0_i32_141
  let c256_i32_142 : BitVec 32 := 256#32
  let v238 : BitVec 32 := Scalar.muli v237 c256_i32_142
  v238
def k0_off3 (i : grid0.Coords) (k0_t1 : Fin (k0_t1_loop i).trips) (c0_i32_67 : BitVec 32) (c0_i32_141 : BitVec 32) : Fin 2 → Nat :=
  let c0_143 : Index := 0#32
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_140 : BitVec 32 := 4#32
  let v236 : BitVec 32 := Scalar.muli v139 c4_i32_140
  let v237 : BitVec 32 := Scalar.addi v236 c0_i32_141
  let c256_i32_142 : BitVec 32 := 256#32
  let v238 : BitVec 32 := Scalar.muli v237 c256_i32_142
  let v239 : BitVec 32 := v238
  let v240 : Index := Scalar.indexCast v239
  ![0, v240.toNat]
def k0_mult14 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_155 : BitVec 32 := 4#32
  let v258 : BitVec 32 := Scalar.muli v139 c4_i32_155
  let c0_i32_156 : BitVec 32 := 0#32
  let v259 : BitVec 32 := Scalar.addi v258 c0_i32_156
  let c256_i32_157 : BitVec 32 := 256#32
  let v260 : BitVec 32 := Scalar.muli v259 c256_i32_157
  v260
def k0_mult15 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_164 : BitVec 32 := 4#32
  let v272 : BitVec 32 := Scalar.muli v136 c4_i32_164
  let c2_i32_165 : BitVec 32 := 2#32
  let v273 : BitVec 32 := Scalar.addi v272 c2_i32_165
  let c256_i32_166 : BitVec 32 := 256#32
  let v274 : BitVec 32 := Scalar.muli v273 c256_i32_166
  v274
def k0_mult16 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_172 : BitVec 32 := 4#32
  let v286 : BitVec 32 := Scalar.muli v136 c4_i32_172
  let c2_i32_173 : BitVec 32 := 2#32
  let v287 : BitVec 32 := Scalar.addi v286 c2_i32_173
  let c256_i32_174 : BitVec 32 := 256#32
  let v288 : BitVec 32 := Scalar.muli v287 c256_i32_174
  v288
def k0_mult17 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_187 : BitVec 32 := 4#32
  let v308 : BitVec 32 := Scalar.muli v139 c4_i32_187
  let c1_i32_188 : BitVec 32 := 1#32
  let v309 : BitVec 32 := Scalar.addi v308 c1_i32_188
  let c256_i32_189 : BitVec 32 := 256#32
  let v310 : BitVec 32 := Scalar.muli v309 c256_i32_189
  v310
def k0_mult18 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_202 : BitVec 32 := 4#32
  let v330 : BitVec 32 := Scalar.muli v139 c4_i32_202
  let c1_i32_203 : BitVec 32 := 1#32
  let v331 : BitVec 32 := Scalar.addi v330 c1_i32_203
  let c256_i32_204 : BitVec 32 := 256#32
  let v332 : BitVec 32 := Scalar.muli v331 c256_i32_204
  v332
def k0_mult19 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_211 : BitVec 32 := 4#32
  let v344 : BitVec 32 := Scalar.muli v136 c4_i32_211
  let c3_i32_212 : BitVec 32 := 3#32
  let v345 : BitVec 32 := Scalar.addi v344 c3_i32_212
  let c256_i32_213 : BitVec 32 := 256#32
  let v346 : BitVec 32 := Scalar.muli v345 c256_i32_213
  v346
def k0_mult20 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c4_i32_219 : BitVec 32 := 4#32
  let v358 : BitVec 32 := Scalar.muli v136 c4_i32_219
  let c3_i32_220 : BitVec 32 := 3#32
  let v359 : BitVec 32 := Scalar.addi v358 c3_i32_220
  let c256_i32_221 : BitVec 32 := 256#32
  let v360 : BitVec 32 := Scalar.muli v359 c256_i32_221
  v360
def k0_mult21 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_240 : BitVec 32 := 4#32
  let v386 : BitVec 32 := Scalar.muli v139 c4_i32_240
  let c2_i32_241 : BitVec 32 := 2#32
  let v387 : BitVec 32 := Scalar.addi v386 c2_i32_241
  let c256_i32_242 : BitVec 32 := 256#32
  let v388 : BitVec 32 := Scalar.muli v387 c256_i32_242
  v388
def k0_mult22 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_255 : BitVec 32 := 4#32
  let v408 : BitVec 32 := Scalar.muli v139 c4_i32_255
  let c2_i32_256 : BitVec 32 := 2#32
  let v409 : BitVec 32 := Scalar.addi v408 c2_i32_256
  let c256_i32_257 : BitVec 32 := 256#32
  let v410 : BitVec 32 := Scalar.muli v409 c256_i32_257
  v410
def k0_mult23 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_270 : BitVec 32 := 4#32
  let v430 : BitVec 32 := Scalar.muli v139 c4_i32_270
  let c3_i32_271 : BitVec 32 := 3#32
  let v431 : BitVec 32 := Scalar.addi v430 c3_i32_271
  let c256_i32_272 : BitVec 32 := 256#32
  let v432 : BitVec 32 := Scalar.muli v431 c256_i32_272
  v432
def k0_mult24 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_69 : BitVec 32 := 1#32
  let v138 : BitVec 32 := Scalar.subi v136 c1_i32_69
  let v139 : BitVec 32 := Scalar.select v137 v31 v138
  let c4_i32_285 : BitVec 32 := 4#32
  let v452 : BitVec 32 := Scalar.muli v139 c4_i32_285
  let c3_i32_286 : BitVec 32 := 3#32
  let v453 : BitVec 32 := Scalar.addi v452 c3_i32_286
  let c256_i32_287 : BitVec 32 := 256#32
  let v454 : BitVec 32 := Scalar.muli v453 c256_i32_287
  v454
def k0_mult25 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_328 : BitVec 32 := 4#32
  let v505 : BitVec 32 := Scalar.muli v467 c4_i32_328
  let c0_i32_329 : BitVec 32 := 0#32
  let v506 : BitVec 32 := Scalar.addi v505 c0_i32_329
  let c256_i32_330 : BitVec 32 := 256#32
  let v507 : BitVec 32 := Scalar.muli v506 c256_i32_330
  v507
def k0_mult26 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_337 : BitVec 32 := 4#32
  let v518 : BitVec 32 := Scalar.muli v467 c4_i32_337
  let c0_i32_338 : BitVec 32 := 0#32
  let v519 : BitVec 32 := Scalar.addi v518 c0_i32_338
  let c256_i32_339 : BitVec 32 := 256#32
  let v520 : BitVec 32 := Scalar.muli v519 c256_i32_339
  v520
def k0_mult27 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_346 : BitVec 32 := 4#32
  let v531 : BitVec 32 := Scalar.muli v467 c4_i32_346
  let c1_i32_347 : BitVec 32 := 1#32
  let v532 : BitVec 32 := Scalar.addi v531 c1_i32_347
  let c256_i32_348 : BitVec 32 := 256#32
  let v533 : BitVec 32 := Scalar.muli v532 c256_i32_348
  v533
def k0_mult28 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_355 : BitVec 32 := 4#32
  let v545 : BitVec 32 := Scalar.muli v467 c4_i32_355
  let c1_i32_356 : BitVec 32 := 1#32
  let v546 : BitVec 32 := Scalar.addi v545 c1_i32_356
  let c256_i32_357 : BitVec 32 := 256#32
  let v547 : BitVec 32 := Scalar.muli v546 c256_i32_357
  v547
def k0_mult29 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_370 : BitVec 32 := 4#32
  let v567 : BitVec 32 := Scalar.muli v470 c4_i32_370
  let c0_i32_371 : BitVec 32 := 0#32
  let v568 : BitVec 32 := Scalar.addi v567 c0_i32_371
  let c256_i32_372 : BitVec 32 := 256#32
  let v569 : BitVec 32 := Scalar.muli v568 c256_i32_372
  v569
def k0_mult30 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_385 : BitVec 32 := 4#32
  let v589 : BitVec 32 := Scalar.muli v470 c4_i32_385
  let c0_i32_386 : BitVec 32 := 0#32
  let v590 : BitVec 32 := Scalar.addi v589 c0_i32_386
  let c256_i32_387 : BitVec 32 := 256#32
  let v591 : BitVec 32 := Scalar.muli v590 c256_i32_387
  v591
def k0_mult31 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_394 : BitVec 32 := 4#32
  let v603 : BitVec 32 := Scalar.muli v467 c4_i32_394
  let c2_i32_395 : BitVec 32 := 2#32
  let v604 : BitVec 32 := Scalar.addi v603 c2_i32_395
  let c256_i32_396 : BitVec 32 := 256#32
  let v605 : BitVec 32 := Scalar.muli v604 c256_i32_396
  v605
def k0_mult32 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_403 : BitVec 32 := 4#32
  let v617 : BitVec 32 := Scalar.muli v467 c4_i32_403
  let c2_i32_404 : BitVec 32 := 2#32
  let v618 : BitVec 32 := Scalar.addi v617 c2_i32_404
  let c256_i32_405 : BitVec 32 := 256#32
  let v619 : BitVec 32 := Scalar.muli v618 c256_i32_405
  v619
def k0_mult33 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_418 : BitVec 32 := 4#32
  let v639 : BitVec 32 := Scalar.muli v470 c4_i32_418
  let c1_i32_419 : BitVec 32 := 1#32
  let v640 : BitVec 32 := Scalar.addi v639 c1_i32_419
  let c256_i32_420 : BitVec 32 := 256#32
  let v641 : BitVec 32 := Scalar.muli v640 c256_i32_420
  v641
def k0_mult34 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_433 : BitVec 32 := 4#32
  let v661 : BitVec 32 := Scalar.muli v470 c4_i32_433
  let c1_i32_434 : BitVec 32 := 1#32
  let v662 : BitVec 32 := Scalar.addi v661 c1_i32_434
  let c256_i32_435 : BitVec 32 := 256#32
  let v663 : BitVec 32 := Scalar.muli v662 c256_i32_435
  v663
def k0_mult35 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_442 : BitVec 32 := 4#32
  let v675 : BitVec 32 := Scalar.muli v467 c4_i32_442
  let c3_i32_443 : BitVec 32 := 3#32
  let v676 : BitVec 32 := Scalar.addi v675 c3_i32_443
  let c256_i32_444 : BitVec 32 := 256#32
  let v677 : BitVec 32 := Scalar.muli v676 c256_i32_444
  v677
def k0_mult36 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c4_i32_451 : BitVec 32 := 4#32
  let v689 : BitVec 32 := Scalar.muli v467 c4_i32_451
  let c3_i32_452 : BitVec 32 := 3#32
  let v690 : BitVec 32 := Scalar.addi v689 c3_i32_452
  let c256_i32_453 : BitVec 32 := 256#32
  let v691 : BitVec 32 := Scalar.muli v690 c256_i32_453
  v691
def k0_mult37 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_472 : BitVec 32 := 4#32
  let v717 : BitVec 32 := Scalar.muli v470 c4_i32_472
  let c2_i32_473 : BitVec 32 := 2#32
  let v718 : BitVec 32 := Scalar.addi v717 c2_i32_473
  let c256_i32_474 : BitVec 32 := 256#32
  let v719 : BitVec 32 := Scalar.muli v718 c256_i32_474
  v719
def k0_mult38 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_487 : BitVec 32 := 4#32
  let v739 : BitVec 32 := Scalar.muli v470 c4_i32_487
  let c2_i32_488 : BitVec 32 := 2#32
  let v740 : BitVec 32 := Scalar.addi v739 c2_i32_488
  let c256_i32_489 : BitVec 32 := 256#32
  let v741 : BitVec 32 := Scalar.muli v740 c256_i32_489
  v741
def k0_mult39 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_502 : BitVec 32 := 4#32
  let v761 : BitVec 32 := Scalar.muli v470 c4_i32_502
  let c3_i32_503 : BitVec 32 := 3#32
  let v762 : BitVec 32 := Scalar.addi v761 c3_i32_503
  let c256_i32_504 : BitVec 32 := 256#32
  let v763 : BitVec 32 := Scalar.muli v762 c256_i32_504
  v763
def k0_mult40 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_297 : BitVec 32 := 1#32
  let v469 : BitVec 32 := Scalar.subi v467 c1_i32_297
  let v470 : BitVec 32 := Scalar.select v468 v31 v469
  let c4_i32_517 : BitVec 32 := 4#32
  let v783 : BitVec 32 := Scalar.muli v470 c4_i32_517
  let c3_i32_518 : BitVec 32 := 3#32
  let v784 : BitVec 32 := Scalar.addi v783 c3_i32_518
  let c256_i32_519 : BitVec 32 := 256#32
  let v785 : BitVec 32 := Scalar.muli v784 c256_i32_519
  v785
def k0_mult41 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_560 : BitVec 32 := 4#32
  let v836 : BitVec 32 := Scalar.muli v798 c4_i32_560
  let c0_i32_561 : BitVec 32 := 0#32
  let v837 : BitVec 32 := Scalar.addi v836 c0_i32_561
  let c256_i32_562 : BitVec 32 := 256#32
  let v838 : BitVec 32 := Scalar.muli v837 c256_i32_562
  v838
def k0_mult42 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_569 : BitVec 32 := 4#32
  let v849 : BitVec 32 := Scalar.muli v798 c4_i32_569
  let c0_i32_570 : BitVec 32 := 0#32
  let v850 : BitVec 32 := Scalar.addi v849 c0_i32_570
  let c256_i32_571 : BitVec 32 := 256#32
  let v851 : BitVec 32 := Scalar.muli v850 c256_i32_571
  v851
def k0_mult43 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_578 : BitVec 32 := 4#32
  let v862 : BitVec 32 := Scalar.muli v798 c4_i32_578
  let c1_i32_579 : BitVec 32 := 1#32
  let v863 : BitVec 32 := Scalar.addi v862 c1_i32_579
  let c256_i32_580 : BitVec 32 := 256#32
  let v864 : BitVec 32 := Scalar.muli v863 c256_i32_580
  v864
def k0_mult44 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_587 : BitVec 32 := 4#32
  let v876 : BitVec 32 := Scalar.muli v798 c4_i32_587
  let c1_i32_588 : BitVec 32 := 1#32
  let v877 : BitVec 32 := Scalar.addi v876 c1_i32_588
  let c256_i32_589 : BitVec 32 := 256#32
  let v878 : BitVec 32 := Scalar.muli v877 c256_i32_589
  v878
def k0_mult45 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_602 : BitVec 32 := 4#32
  let v898 : BitVec 32 := Scalar.muli v801 c4_i32_602
  let c0_i32_603 : BitVec 32 := 0#32
  let v899 : BitVec 32 := Scalar.addi v898 c0_i32_603
  let c256_i32_604 : BitVec 32 := 256#32
  let v900 : BitVec 32 := Scalar.muli v899 c256_i32_604
  v900
def k0_mult46 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_617 : BitVec 32 := 4#32
  let v920 : BitVec 32 := Scalar.muli v801 c4_i32_617
  let c0_i32_618 : BitVec 32 := 0#32
  let v921 : BitVec 32 := Scalar.addi v920 c0_i32_618
  let c256_i32_619 : BitVec 32 := 256#32
  let v922 : BitVec 32 := Scalar.muli v921 c256_i32_619
  v922
def k0_mult47 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_626 : BitVec 32 := 4#32
  let v934 : BitVec 32 := Scalar.muli v798 c4_i32_626
  let c2_i32_627 : BitVec 32 := 2#32
  let v935 : BitVec 32 := Scalar.addi v934 c2_i32_627
  let c256_i32_628 : BitVec 32 := 256#32
  let v936 : BitVec 32 := Scalar.muli v935 c256_i32_628
  v936
def k0_mult48 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_635 : BitVec 32 := 4#32
  let v948 : BitVec 32 := Scalar.muli v798 c4_i32_635
  let c2_i32_636 : BitVec 32 := 2#32
  let v949 : BitVec 32 := Scalar.addi v948 c2_i32_636
  let c256_i32_637 : BitVec 32 := 256#32
  let v950 : BitVec 32 := Scalar.muli v949 c256_i32_637
  v950
def k0_mult49 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_650 : BitVec 32 := 4#32
  let v970 : BitVec 32 := Scalar.muli v801 c4_i32_650
  let c1_i32_651 : BitVec 32 := 1#32
  let v971 : BitVec 32 := Scalar.addi v970 c1_i32_651
  let c256_i32_652 : BitVec 32 := 256#32
  let v972 : BitVec 32 := Scalar.muli v971 c256_i32_652
  v972
def k0_mult50 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_665 : BitVec 32 := 4#32
  let v992 : BitVec 32 := Scalar.muli v801 c4_i32_665
  let c1_i32_666 : BitVec 32 := 1#32
  let v993 : BitVec 32 := Scalar.addi v992 c1_i32_666
  let c256_i32_667 : BitVec 32 := 256#32
  let v994 : BitVec 32 := Scalar.muli v993 c256_i32_667
  v994
def k0_mult51 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_674 : BitVec 32 := 4#32
  let v1006 : BitVec 32 := Scalar.muli v798 c4_i32_674
  let c3_i32_675 : BitVec 32 := 3#32
  let v1007 : BitVec 32 := Scalar.addi v1006 c3_i32_675
  let c256_i32_676 : BitVec 32 := 256#32
  let v1008 : BitVec 32 := Scalar.muli v1007 c256_i32_676
  v1008
def k0_mult52 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c4_i32_683 : BitVec 32 := 4#32
  let v1020 : BitVec 32 := Scalar.muli v798 c4_i32_683
  let c3_i32_684 : BitVec 32 := 3#32
  let v1021 : BitVec 32 := Scalar.addi v1020 c3_i32_684
  let c256_i32_685 : BitVec 32 := 256#32
  let v1022 : BitVec 32 := Scalar.muli v1021 c256_i32_685
  v1022
def k0_mult53 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_704 : BitVec 32 := 4#32
  let v1048 : BitVec 32 := Scalar.muli v801 c4_i32_704
  let c2_i32_705 : BitVec 32 := 2#32
  let v1049 : BitVec 32 := Scalar.addi v1048 c2_i32_705
  let c256_i32_706 : BitVec 32 := 256#32
  let v1050 : BitVec 32 := Scalar.muli v1049 c256_i32_706
  v1050
def k0_mult54 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_719 : BitVec 32 := 4#32
  let v1070 : BitVec 32 := Scalar.muli v801 c4_i32_719
  let c2_i32_720 : BitVec 32 := 2#32
  let v1071 : BitVec 32 := Scalar.addi v1070 c2_i32_720
  let c256_i32_721 : BitVec 32 := 256#32
  let v1072 : BitVec 32 := Scalar.muli v1071 c256_i32_721
  v1072
def k0_mult55 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_734 : BitVec 32 := 4#32
  let v1092 : BitVec 32 := Scalar.muli v801 c4_i32_734
  let c3_i32_735 : BitVec 32 := 3#32
  let v1093 : BitVec 32 := Scalar.addi v1092 c3_i32_735
  let c256_i32_736 : BitVec 32 := 256#32
  let v1094 : BitVec 32 := Scalar.muli v1093 c256_i32_736
  v1094
def k0_mult56 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_529 : BitVec 32 := 1#32
  let v800 : BitVec 32 := Scalar.subi v798 c1_i32_529
  let v801 : BitVec 32 := Scalar.select v799 v31 v800
  let c4_i32_749 : BitVec 32 := 4#32
  let v1114 : BitVec 32 := Scalar.muli v801 c4_i32_749
  let c3_i32_750 : BitVec 32 := 3#32
  let v1115 : BitVec 32 := Scalar.addi v1114 c3_i32_750
  let c256_i32_751 : BitVec 32 := 256#32
  let v1116 : BitVec 32 := Scalar.muli v1115 c256_i32_751
  v1116
def k0_mult57 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_792 : BitVec 32 := 4#32
  let v1167 : BitVec 32 := Scalar.muli v1129 c4_i32_792
  let c0_i32_793 : BitVec 32 := 0#32
  let v1168 : BitVec 32 := Scalar.addi v1167 c0_i32_793
  let c256_i32_794 : BitVec 32 := 256#32
  let v1169 : BitVec 32 := Scalar.muli v1168 c256_i32_794
  v1169
def k0_mult58 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_801 : BitVec 32 := 4#32
  let v1180 : BitVec 32 := Scalar.muli v1129 c4_i32_801
  let c0_i32_802 : BitVec 32 := 0#32
  let v1181 : BitVec 32 := Scalar.addi v1180 c0_i32_802
  let c256_i32_803 : BitVec 32 := 256#32
  let v1182 : BitVec 32 := Scalar.muli v1181 c256_i32_803
  v1182
def k0_mult59 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_810 : BitVec 32 := 4#32
  let v1193 : BitVec 32 := Scalar.muli v1129 c4_i32_810
  let c1_i32_811 : BitVec 32 := 1#32
  let v1194 : BitVec 32 := Scalar.addi v1193 c1_i32_811
  let c256_i32_812 : BitVec 32 := 256#32
  let v1195 : BitVec 32 := Scalar.muli v1194 c256_i32_812
  v1195
def k0_mult60 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_819 : BitVec 32 := 4#32
  let v1207 : BitVec 32 := Scalar.muli v1129 c4_i32_819
  let c1_i32_820 : BitVec 32 := 1#32
  let v1208 : BitVec 32 := Scalar.addi v1207 c1_i32_820
  let c256_i32_821 : BitVec 32 := 256#32
  let v1209 : BitVec 32 := Scalar.muli v1208 c256_i32_821
  v1209
def k0_mult61 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_834 : BitVec 32 := 4#32
  let v1229 : BitVec 32 := Scalar.muli v1132 c4_i32_834
  let c0_i32_835 : BitVec 32 := 0#32
  let v1230 : BitVec 32 := Scalar.addi v1229 c0_i32_835
  let c256_i32_836 : BitVec 32 := 256#32
  let v1231 : BitVec 32 := Scalar.muli v1230 c256_i32_836
  v1231
def k0_mult62 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_849 : BitVec 32 := 4#32
  let v1251 : BitVec 32 := Scalar.muli v1132 c4_i32_849
  let c0_i32_850 : BitVec 32 := 0#32
  let v1252 : BitVec 32 := Scalar.addi v1251 c0_i32_850
  let c256_i32_851 : BitVec 32 := 256#32
  let v1253 : BitVec 32 := Scalar.muli v1252 c256_i32_851
  v1253
def k0_mult63 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_858 : BitVec 32 := 4#32
  let v1265 : BitVec 32 := Scalar.muli v1129 c4_i32_858
  let c2_i32_859 : BitVec 32 := 2#32
  let v1266 : BitVec 32 := Scalar.addi v1265 c2_i32_859
  let c256_i32_860 : BitVec 32 := 256#32
  let v1267 : BitVec 32 := Scalar.muli v1266 c256_i32_860
  v1267
def k0_mult64 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_867 : BitVec 32 := 4#32
  let v1279 : BitVec 32 := Scalar.muli v1129 c4_i32_867
  let c2_i32_868 : BitVec 32 := 2#32
  let v1280 : BitVec 32 := Scalar.addi v1279 c2_i32_868
  let c256_i32_869 : BitVec 32 := 256#32
  let v1281 : BitVec 32 := Scalar.muli v1280 c256_i32_869
  v1281
def k0_mult65 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_882 : BitVec 32 := 4#32
  let v1301 : BitVec 32 := Scalar.muli v1132 c4_i32_882
  let c1_i32_883 : BitVec 32 := 1#32
  let v1302 : BitVec 32 := Scalar.addi v1301 c1_i32_883
  let c256_i32_884 : BitVec 32 := 256#32
  let v1303 : BitVec 32 := Scalar.muli v1302 c256_i32_884
  v1303
def k0_mult66 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_897 : BitVec 32 := 4#32
  let v1323 : BitVec 32 := Scalar.muli v1132 c4_i32_897
  let c1_i32_898 : BitVec 32 := 1#32
  let v1324 : BitVec 32 := Scalar.addi v1323 c1_i32_898
  let c256_i32_899 : BitVec 32 := 256#32
  let v1325 : BitVec 32 := Scalar.muli v1324 c256_i32_899
  v1325
def k0_mult67 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_906 : BitVec 32 := 4#32
  let v1337 : BitVec 32 := Scalar.muli v1129 c4_i32_906
  let c3_i32_907 : BitVec 32 := 3#32
  let v1338 : BitVec 32 := Scalar.addi v1337 c3_i32_907
  let c256_i32_908 : BitVec 32 := 256#32
  let v1339 : BitVec 32 := Scalar.muli v1338 c256_i32_908
  v1339
def k0_mult68 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_915 : BitVec 32 := 4#32
  let v1351 : BitVec 32 := Scalar.muli v1129 c4_i32_915
  let c3_i32_916 : BitVec 32 := 3#32
  let v1352 : BitVec 32 := Scalar.addi v1351 c3_i32_916
  let c256_i32_917 : BitVec 32 := 256#32
  let v1353 : BitVec 32 := Scalar.muli v1352 c256_i32_917
  v1353
def k0_mult69 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_936 : BitVec 32 := 4#32
  let v1379 : BitVec 32 := Scalar.muli v1132 c4_i32_936
  let c2_i32_937 : BitVec 32 := 2#32
  let v1380 : BitVec 32 := Scalar.addi v1379 c2_i32_937
  let c256_i32_938 : BitVec 32 := 256#32
  let v1381 : BitVec 32 := Scalar.muli v1380 c256_i32_938
  v1381
def k0_mult70 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_951 : BitVec 32 := 4#32
  let v1401 : BitVec 32 := Scalar.muli v1132 c4_i32_951
  let c2_i32_952 : BitVec 32 := 2#32
  let v1402 : BitVec 32 := Scalar.addi v1401 c2_i32_952
  let c256_i32_953 : BitVec 32 := 256#32
  let v1403 : BitVec 32 := Scalar.muli v1402 c256_i32_953
  v1403
def k0_mult71 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_966 : BitVec 32 := 4#32
  let v1423 : BitVec 32 := Scalar.muli v1132 c4_i32_966
  let c3_i32_967 : BitVec 32 := 3#32
  let v1424 : BitVec 32 := Scalar.addi v1423 c3_i32_967
  let c256_i32_968 : BitVec 32 := 256#32
  let v1425 : BitVec 32 := Scalar.muli v1424 c256_i32_968
  v1425
def k0_mult72 (i : grid0.Coords) (k0_t1 : Fin (k0_t1_loop i).trips) : BitVec 32 :=
  let c0_i32_24 : BitVec 32 := 0#32
  let c1_i32_26 : BitVec 32 := 1#32
  let arg18 : BitVec 32 := Scf.iv c0_i32_24 c1_i32_26 k0_t1
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c1_i32_761 : BitVec 32 := 1#32
  let v1131 : BitVec 32 := Scalar.subi v1129 c1_i32_761
  let v1132 : BitVec 32 := Scalar.select v1130 v31 v1131
  let c4_i32_981 : BitVec 32 := 4#32
  let v1445 : BitVec 32 := Scalar.muli v1132 c4_i32_981
  let c3_i32_982 : BitVec 32 := 3#32
  let v1446 : BitVec 32 := Scalar.addi v1445 c3_i32_982
  let c256_i32_983 : BitVec 32 := 256#32
  let v1447 : BitVec 32 := Scalar.muli v1446 c256_i32_983
  v1447
@[reducible] def k0_t2_loop (i : grid0.Coords) : Scf.Loop 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let v60 : BitVec 32 := Scalar.addi c0_i32_24 v59
  let c1_i32_27 : BitVec 32 := 1#32
  ⟨v63, v60, c1_i32_27⟩
def k0_mult73 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_100 : BitVec 32 := 4#32
  let v174 : BitVec 32 := Scalar.muli v136 c4_i32_100
  let c0_i32_101 : BitVec 32 := 0#32
  let v175 : BitVec 32 := Scalar.addi v174 c0_i32_101
  let c256_i32 : BitVec 32 := 256#32
  let v176 : BitVec 32 := Scalar.muli v175 c256_i32
  v176
def k0_off4 (i : grid0.Coords) (k0_t2 : Fin (k0_t2_loop i).trips) (c0_i32_67 : BitVec 32) (c0_i32_101 : BitVec 32) : Fin 2 → Nat :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let v136 : BitVec 32 := Scalar.addi v135 c0_i32_67
  let c4_i32_100 : BitVec 32 := 4#32
  let v174 : BitVec 32 := Scalar.muli v136 c4_i32_100
  let v175 : BitVec 32 := Scalar.addi v174 c0_i32_101
  let c256_i32 : BitVec 32 := 256#32
  let v176 : BitVec 32 := Scalar.muli v175 c256_i32
  let v177 : BitVec 32 := v176
  let v178 : Index := Scalar.indexCast v177
  let c0_102 : Index := 0#32
  ![v178.toNat, 0]
def k0_mult74 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_108 : BitVec 32 := 4#32
  let v187 : BitVec 32 := Scalar.muli v136 c4_i32_108
  let c0_i32_109 : BitVec 32 := 0#32
  let v188 : BitVec 32 := Scalar.addi v187 c0_i32_109
  let c256_i32_110 : BitVec 32 := 256#32
  let v189 : BitVec 32 := Scalar.muli v188 c256_i32_110
  v189
def k0_mult75 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_117 : BitVec 32 := 4#32
  let v200 : BitVec 32 := Scalar.muli v136 c4_i32_117
  let c1_i32_118 : BitVec 32 := 1#32
  let v201 : BitVec 32 := Scalar.addi v200 c1_i32_118
  let c256_i32_119 : BitVec 32 := 256#32
  let v202 : BitVec 32 := Scalar.muli v201 c256_i32_119
  v202
def k0_mult76 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_125 : BitVec 32 := 4#32
  let v214 : BitVec 32 := Scalar.muli v136 c4_i32_125
  let c1_i32_126 : BitVec 32 := 1#32
  let v215 : BitVec 32 := Scalar.addi v214 c1_i32_126
  let c256_i32_127 : BitVec 32 := 256#32
  let v216 : BitVec 32 := Scalar.muli v215 c256_i32_127
  v216
def k0_mult77 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_140 : BitVec 32 := 4#32
  let v236 : BitVec 32 := Scalar.muli v139 c4_i32_140
  let c0_i32_141 : BitVec 32 := 0#32
  let v237 : BitVec 32 := Scalar.addi v236 c0_i32_141
  let c256_i32_142 : BitVec 32 := 256#32
  let v238 : BitVec 32 := Scalar.muli v237 c256_i32_142
  v238
def k0_off5 (i : grid0.Coords) (k0_t2 : Fin (k0_t2_loop i).trips) (c0_i32_67 : BitVec 32) (c0_i32_141 : BitVec 32) : Fin 2 → Nat :=
  let c0_143 : Index := 0#32
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_140 : BitVec 32 := 4#32
  let v236 : BitVec 32 := Scalar.muli v139 c4_i32_140
  let v237 : BitVec 32 := Scalar.addi v236 c0_i32_141
  let c256_i32_142 : BitVec 32 := 256#32
  let v238 : BitVec 32 := Scalar.muli v237 c256_i32_142
  let v239 : BitVec 32 := v238
  let v240 : Index := Scalar.indexCast v239
  ![0, v240.toNat]
def k0_mult78 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_155 : BitVec 32 := 4#32
  let v258 : BitVec 32 := Scalar.muli v139 c4_i32_155
  let c0_i32_156 : BitVec 32 := 0#32
  let v259 : BitVec 32 := Scalar.addi v258 c0_i32_156
  let c256_i32_157 : BitVec 32 := 256#32
  let v260 : BitVec 32 := Scalar.muli v259 c256_i32_157
  v260
def k0_mult79 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_164 : BitVec 32 := 4#32
  let v272 : BitVec 32 := Scalar.muli v136 c4_i32_164
  let c2_i32_165 : BitVec 32 := 2#32
  let v273 : BitVec 32 := Scalar.addi v272 c2_i32_165
  let c256_i32_166 : BitVec 32 := 256#32
  let v274 : BitVec 32 := Scalar.muli v273 c256_i32_166
  v274
def k0_mult80 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_172 : BitVec 32 := 4#32
  let v286 : BitVec 32 := Scalar.muli v136 c4_i32_172
  let c2_i32_173 : BitVec 32 := 2#32
  let v287 : BitVec 32 := Scalar.addi v286 c2_i32_173
  let c256_i32_174 : BitVec 32 := 256#32
  let v288 : BitVec 32 := Scalar.muli v287 c256_i32_174
  v288
def k0_mult81 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_187 : BitVec 32 := 4#32
  let v308 : BitVec 32 := Scalar.muli v139 c4_i32_187
  let c1_i32_188 : BitVec 32 := 1#32
  let v309 : BitVec 32 := Scalar.addi v308 c1_i32_188
  let c256_i32_189 : BitVec 32 := 256#32
  let v310 : BitVec 32 := Scalar.muli v309 c256_i32_189
  v310
def k0_mult82 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_202 : BitVec 32 := 4#32
  let v330 : BitVec 32 := Scalar.muli v139 c4_i32_202
  let c1_i32_203 : BitVec 32 := 1#32
  let v331 : BitVec 32 := Scalar.addi v330 c1_i32_203
  let c256_i32_204 : BitVec 32 := 256#32
  let v332 : BitVec 32 := Scalar.muli v331 c256_i32_204
  v332
def k0_mult83 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_211 : BitVec 32 := 4#32
  let v344 : BitVec 32 := Scalar.muli v136 c4_i32_211
  let c3_i32_212 : BitVec 32 := 3#32
  let v345 : BitVec 32 := Scalar.addi v344 c3_i32_212
  let c256_i32_213 : BitVec 32 := 256#32
  let v346 : BitVec 32 := Scalar.muli v345 c256_i32_213
  v346
def k0_mult84 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c4_i32_219 : BitVec 32 := 4#32
  let v358 : BitVec 32 := Scalar.muli v136 c4_i32_219
  let c3_i32_220 : BitVec 32 := 3#32
  let v359 : BitVec 32 := Scalar.addi v358 c3_i32_220
  let c256_i32_221 : BitVec 32 := 256#32
  let v360 : BitVec 32 := Scalar.muli v359 c256_i32_221
  v360
def k0_mult85 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_240 : BitVec 32 := 4#32
  let v386 : BitVec 32 := Scalar.muli v139 c4_i32_240
  let c2_i32_241 : BitVec 32 := 2#32
  let v387 : BitVec 32 := Scalar.addi v386 c2_i32_241
  let c256_i32_242 : BitVec 32 := 256#32
  let v388 : BitVec 32 := Scalar.muli v387 c256_i32_242
  v388
def k0_mult86 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_255 : BitVec 32 := 4#32
  let v408 : BitVec 32 := Scalar.muli v139 c4_i32_255
  let c2_i32_256 : BitVec 32 := 2#32
  let v409 : BitVec 32 := Scalar.addi v408 c2_i32_256
  let c256_i32_257 : BitVec 32 := 256#32
  let v410 : BitVec 32 := Scalar.muli v409 c256_i32_257
  v410
def k0_mult87 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_270 : BitVec 32 := 4#32
  let v430 : BitVec 32 := Scalar.muli v139 c4_i32_270
  let c3_i32_271 : BitVec 32 := 3#32
  let v431 : BitVec 32 := Scalar.addi v430 c3_i32_271
  let c256_i32_272 : BitVec 32 := 256#32
  let v432 : BitVec 32 := Scalar.muli v431 c256_i32_272
  v432
def k0_mult88 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_66 : BitVec 32 := 4#32
  let v135 : BitVec 32 := Scalar.muli arg18 c4_i32_66
  let c0_i32_67 : BitVec 32 := 0#32
  let v136 : BitVec 32 := Scalar.addi v135 c0_i32_67
  let c0_i32_68 : BitVec 32 := 0#32
  let v137 : BitVec 1 := Scalar.cmpi .eq v136 c0_i32_68
  let c1_i32_69 : BitVec 32 := 1#32
  let v138 : BitVec 32 := Scalar.subi v136 c1_i32_69
  let v139 : BitVec 32 := Scalar.select v137 v31 v138
  let c4_i32_285 : BitVec 32 := 4#32
  let v452 : BitVec 32 := Scalar.muli v139 c4_i32_285
  let c3_i32_286 : BitVec 32 := 3#32
  let v453 : BitVec 32 := Scalar.addi v452 c3_i32_286
  let c256_i32_287 : BitVec 32 := 256#32
  let v454 : BitVec 32 := Scalar.muli v453 c256_i32_287
  v454
def k0_mult89 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_328 : BitVec 32 := 4#32
  let v505 : BitVec 32 := Scalar.muli v467 c4_i32_328
  let c0_i32_329 : BitVec 32 := 0#32
  let v506 : BitVec 32 := Scalar.addi v505 c0_i32_329
  let c256_i32_330 : BitVec 32 := 256#32
  let v507 : BitVec 32 := Scalar.muli v506 c256_i32_330
  v507
def k0_mult90 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_337 : BitVec 32 := 4#32
  let v518 : BitVec 32 := Scalar.muli v467 c4_i32_337
  let c0_i32_338 : BitVec 32 := 0#32
  let v519 : BitVec 32 := Scalar.addi v518 c0_i32_338
  let c256_i32_339 : BitVec 32 := 256#32
  let v520 : BitVec 32 := Scalar.muli v519 c256_i32_339
  v520
def k0_mult91 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_346 : BitVec 32 := 4#32
  let v531 : BitVec 32 := Scalar.muli v467 c4_i32_346
  let c1_i32_347 : BitVec 32 := 1#32
  let v532 : BitVec 32 := Scalar.addi v531 c1_i32_347
  let c256_i32_348 : BitVec 32 := 256#32
  let v533 : BitVec 32 := Scalar.muli v532 c256_i32_348
  v533
def k0_mult92 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_355 : BitVec 32 := 4#32
  let v545 : BitVec 32 := Scalar.muli v467 c4_i32_355
  let c1_i32_356 : BitVec 32 := 1#32
  let v546 : BitVec 32 := Scalar.addi v545 c1_i32_356
  let c256_i32_357 : BitVec 32 := 256#32
  let v547 : BitVec 32 := Scalar.muli v546 c256_i32_357
  v547
def k0_mult93 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_370 : BitVec 32 := 4#32
  let v567 : BitVec 32 := Scalar.muli v470 c4_i32_370
  let c0_i32_371 : BitVec 32 := 0#32
  let v568 : BitVec 32 := Scalar.addi v567 c0_i32_371
  let c256_i32_372 : BitVec 32 := 256#32
  let v569 : BitVec 32 := Scalar.muli v568 c256_i32_372
  v569
def k0_mult94 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_385 : BitVec 32 := 4#32
  let v589 : BitVec 32 := Scalar.muli v470 c4_i32_385
  let c0_i32_386 : BitVec 32 := 0#32
  let v590 : BitVec 32 := Scalar.addi v589 c0_i32_386
  let c256_i32_387 : BitVec 32 := 256#32
  let v591 : BitVec 32 := Scalar.muli v590 c256_i32_387
  v591
def k0_mult95 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_394 : BitVec 32 := 4#32
  let v603 : BitVec 32 := Scalar.muli v467 c4_i32_394
  let c2_i32_395 : BitVec 32 := 2#32
  let v604 : BitVec 32 := Scalar.addi v603 c2_i32_395
  let c256_i32_396 : BitVec 32 := 256#32
  let v605 : BitVec 32 := Scalar.muli v604 c256_i32_396
  v605
def k0_mult96 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_403 : BitVec 32 := 4#32
  let v617 : BitVec 32 := Scalar.muli v467 c4_i32_403
  let c2_i32_404 : BitVec 32 := 2#32
  let v618 : BitVec 32 := Scalar.addi v617 c2_i32_404
  let c256_i32_405 : BitVec 32 := 256#32
  let v619 : BitVec 32 := Scalar.muli v618 c256_i32_405
  v619
def k0_mult97 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_418 : BitVec 32 := 4#32
  let v639 : BitVec 32 := Scalar.muli v470 c4_i32_418
  let c1_i32_419 : BitVec 32 := 1#32
  let v640 : BitVec 32 := Scalar.addi v639 c1_i32_419
  let c256_i32_420 : BitVec 32 := 256#32
  let v641 : BitVec 32 := Scalar.muli v640 c256_i32_420
  v641
def k0_mult98 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_433 : BitVec 32 := 4#32
  let v661 : BitVec 32 := Scalar.muli v470 c4_i32_433
  let c1_i32_434 : BitVec 32 := 1#32
  let v662 : BitVec 32 := Scalar.addi v661 c1_i32_434
  let c256_i32_435 : BitVec 32 := 256#32
  let v663 : BitVec 32 := Scalar.muli v662 c256_i32_435
  v663
def k0_mult99 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_442 : BitVec 32 := 4#32
  let v675 : BitVec 32 := Scalar.muli v467 c4_i32_442
  let c3_i32_443 : BitVec 32 := 3#32
  let v676 : BitVec 32 := Scalar.addi v675 c3_i32_443
  let c256_i32_444 : BitVec 32 := 256#32
  let v677 : BitVec 32 := Scalar.muli v676 c256_i32_444
  v677
def k0_mult100 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c4_i32_451 : BitVec 32 := 4#32
  let v689 : BitVec 32 := Scalar.muli v467 c4_i32_451
  let c3_i32_452 : BitVec 32 := 3#32
  let v690 : BitVec 32 := Scalar.addi v689 c3_i32_452
  let c256_i32_453 : BitVec 32 := 256#32
  let v691 : BitVec 32 := Scalar.muli v690 c256_i32_453
  v691
def k0_mult101 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_472 : BitVec 32 := 4#32
  let v717 : BitVec 32 := Scalar.muli v470 c4_i32_472
  let c2_i32_473 : BitVec 32 := 2#32
  let v718 : BitVec 32 := Scalar.addi v717 c2_i32_473
  let c256_i32_474 : BitVec 32 := 256#32
  let v719 : BitVec 32 := Scalar.muli v718 c256_i32_474
  v719
def k0_mult102 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_487 : BitVec 32 := 4#32
  let v739 : BitVec 32 := Scalar.muli v470 c4_i32_487
  let c2_i32_488 : BitVec 32 := 2#32
  let v740 : BitVec 32 := Scalar.addi v739 c2_i32_488
  let c256_i32_489 : BitVec 32 := 256#32
  let v741 : BitVec 32 := Scalar.muli v740 c256_i32_489
  v741
def k0_mult103 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_502 : BitVec 32 := 4#32
  let v761 : BitVec 32 := Scalar.muli v470 c4_i32_502
  let c3_i32_503 : BitVec 32 := 3#32
  let v762 : BitVec 32 := Scalar.addi v761 c3_i32_503
  let c256_i32_504 : BitVec 32 := 256#32
  let v763 : BitVec 32 := Scalar.muli v762 c256_i32_504
  v763
def k0_mult104 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_294 : BitVec 32 := 4#32
  let v466 : BitVec 32 := Scalar.muli arg18 c4_i32_294
  let c1_i32_295 : BitVec 32 := 1#32
  let v467 : BitVec 32 := Scalar.addi v466 c1_i32_295
  let c0_i32_296 : BitVec 32 := 0#32
  let v468 : BitVec 1 := Scalar.cmpi .eq v467 c0_i32_296
  let c1_i32_297 : BitVec 32 := 1#32
  let v469 : BitVec 32 := Scalar.subi v467 c1_i32_297
  let v470 : BitVec 32 := Scalar.select v468 v31 v469
  let c4_i32_517 : BitVec 32 := 4#32
  let v783 : BitVec 32 := Scalar.muli v470 c4_i32_517
  let c3_i32_518 : BitVec 32 := 3#32
  let v784 : BitVec 32 := Scalar.addi v783 c3_i32_518
  let c256_i32_519 : BitVec 32 := 256#32
  let v785 : BitVec 32 := Scalar.muli v784 c256_i32_519
  v785
def k0_mult105 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_560 : BitVec 32 := 4#32
  let v836 : BitVec 32 := Scalar.muli v798 c4_i32_560
  let c0_i32_561 : BitVec 32 := 0#32
  let v837 : BitVec 32 := Scalar.addi v836 c0_i32_561
  let c256_i32_562 : BitVec 32 := 256#32
  let v838 : BitVec 32 := Scalar.muli v837 c256_i32_562
  v838
def k0_mult106 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_569 : BitVec 32 := 4#32
  let v849 : BitVec 32 := Scalar.muli v798 c4_i32_569
  let c0_i32_570 : BitVec 32 := 0#32
  let v850 : BitVec 32 := Scalar.addi v849 c0_i32_570
  let c256_i32_571 : BitVec 32 := 256#32
  let v851 : BitVec 32 := Scalar.muli v850 c256_i32_571
  v851
def k0_mult107 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_578 : BitVec 32 := 4#32
  let v862 : BitVec 32 := Scalar.muli v798 c4_i32_578
  let c1_i32_579 : BitVec 32 := 1#32
  let v863 : BitVec 32 := Scalar.addi v862 c1_i32_579
  let c256_i32_580 : BitVec 32 := 256#32
  let v864 : BitVec 32 := Scalar.muli v863 c256_i32_580
  v864
def k0_mult108 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_587 : BitVec 32 := 4#32
  let v876 : BitVec 32 := Scalar.muli v798 c4_i32_587
  let c1_i32_588 : BitVec 32 := 1#32
  let v877 : BitVec 32 := Scalar.addi v876 c1_i32_588
  let c256_i32_589 : BitVec 32 := 256#32
  let v878 : BitVec 32 := Scalar.muli v877 c256_i32_589
  v878
def k0_mult109 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_602 : BitVec 32 := 4#32
  let v898 : BitVec 32 := Scalar.muli v801 c4_i32_602
  let c0_i32_603 : BitVec 32 := 0#32
  let v899 : BitVec 32 := Scalar.addi v898 c0_i32_603
  let c256_i32_604 : BitVec 32 := 256#32
  let v900 : BitVec 32 := Scalar.muli v899 c256_i32_604
  v900
def k0_mult110 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_617 : BitVec 32 := 4#32
  let v920 : BitVec 32 := Scalar.muli v801 c4_i32_617
  let c0_i32_618 : BitVec 32 := 0#32
  let v921 : BitVec 32 := Scalar.addi v920 c0_i32_618
  let c256_i32_619 : BitVec 32 := 256#32
  let v922 : BitVec 32 := Scalar.muli v921 c256_i32_619
  v922
def k0_mult111 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_626 : BitVec 32 := 4#32
  let v934 : BitVec 32 := Scalar.muli v798 c4_i32_626
  let c2_i32_627 : BitVec 32 := 2#32
  let v935 : BitVec 32 := Scalar.addi v934 c2_i32_627
  let c256_i32_628 : BitVec 32 := 256#32
  let v936 : BitVec 32 := Scalar.muli v935 c256_i32_628
  v936
def k0_mult112 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_635 : BitVec 32 := 4#32
  let v948 : BitVec 32 := Scalar.muli v798 c4_i32_635
  let c2_i32_636 : BitVec 32 := 2#32
  let v949 : BitVec 32 := Scalar.addi v948 c2_i32_636
  let c256_i32_637 : BitVec 32 := 256#32
  let v950 : BitVec 32 := Scalar.muli v949 c256_i32_637
  v950
def k0_mult113 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_650 : BitVec 32 := 4#32
  let v970 : BitVec 32 := Scalar.muli v801 c4_i32_650
  let c1_i32_651 : BitVec 32 := 1#32
  let v971 : BitVec 32 := Scalar.addi v970 c1_i32_651
  let c256_i32_652 : BitVec 32 := 256#32
  let v972 : BitVec 32 := Scalar.muli v971 c256_i32_652
  v972
def k0_mult114 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_665 : BitVec 32 := 4#32
  let v992 : BitVec 32 := Scalar.muli v801 c4_i32_665
  let c1_i32_666 : BitVec 32 := 1#32
  let v993 : BitVec 32 := Scalar.addi v992 c1_i32_666
  let c256_i32_667 : BitVec 32 := 256#32
  let v994 : BitVec 32 := Scalar.muli v993 c256_i32_667
  v994
def k0_mult115 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_674 : BitVec 32 := 4#32
  let v1006 : BitVec 32 := Scalar.muli v798 c4_i32_674
  let c3_i32_675 : BitVec 32 := 3#32
  let v1007 : BitVec 32 := Scalar.addi v1006 c3_i32_675
  let c256_i32_676 : BitVec 32 := 256#32
  let v1008 : BitVec 32 := Scalar.muli v1007 c256_i32_676
  v1008
def k0_mult116 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c4_i32_683 : BitVec 32 := 4#32
  let v1020 : BitVec 32 := Scalar.muli v798 c4_i32_683
  let c3_i32_684 : BitVec 32 := 3#32
  let v1021 : BitVec 32 := Scalar.addi v1020 c3_i32_684
  let c256_i32_685 : BitVec 32 := 256#32
  let v1022 : BitVec 32 := Scalar.muli v1021 c256_i32_685
  v1022
def k0_mult117 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_704 : BitVec 32 := 4#32
  let v1048 : BitVec 32 := Scalar.muli v801 c4_i32_704
  let c2_i32_705 : BitVec 32 := 2#32
  let v1049 : BitVec 32 := Scalar.addi v1048 c2_i32_705
  let c256_i32_706 : BitVec 32 := 256#32
  let v1050 : BitVec 32 := Scalar.muli v1049 c256_i32_706
  v1050
def k0_mult118 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_719 : BitVec 32 := 4#32
  let v1070 : BitVec 32 := Scalar.muli v801 c4_i32_719
  let c2_i32_720 : BitVec 32 := 2#32
  let v1071 : BitVec 32 := Scalar.addi v1070 c2_i32_720
  let c256_i32_721 : BitVec 32 := 256#32
  let v1072 : BitVec 32 := Scalar.muli v1071 c256_i32_721
  v1072
def k0_mult119 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_734 : BitVec 32 := 4#32
  let v1092 : BitVec 32 := Scalar.muli v801 c4_i32_734
  let c3_i32_735 : BitVec 32 := 3#32
  let v1093 : BitVec 32 := Scalar.addi v1092 c3_i32_735
  let c256_i32_736 : BitVec 32 := 256#32
  let v1094 : BitVec 32 := Scalar.muli v1093 c256_i32_736
  v1094
def k0_mult120 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_526 : BitVec 32 := 4#32
  let v797 : BitVec 32 := Scalar.muli arg18 c4_i32_526
  let c2_i32_527 : BitVec 32 := 2#32
  let v798 : BitVec 32 := Scalar.addi v797 c2_i32_527
  let c0_i32_528 : BitVec 32 := 0#32
  let v799 : BitVec 1 := Scalar.cmpi .eq v798 c0_i32_528
  let c1_i32_529 : BitVec 32 := 1#32
  let v800 : BitVec 32 := Scalar.subi v798 c1_i32_529
  let v801 : BitVec 32 := Scalar.select v799 v31 v800
  let c4_i32_749 : BitVec 32 := 4#32
  let v1114 : BitVec 32 := Scalar.muli v801 c4_i32_749
  let c3_i32_750 : BitVec 32 := 3#32
  let v1115 : BitVec 32 := Scalar.addi v1114 c3_i32_750
  let c256_i32_751 : BitVec 32 := 256#32
  let v1116 : BitVec 32 := Scalar.muli v1115 c256_i32_751
  v1116
def k0_mult121 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_792 : BitVec 32 := 4#32
  let v1167 : BitVec 32 := Scalar.muli v1129 c4_i32_792
  let c0_i32_793 : BitVec 32 := 0#32
  let v1168 : BitVec 32 := Scalar.addi v1167 c0_i32_793
  let c256_i32_794 : BitVec 32 := 256#32
  let v1169 : BitVec 32 := Scalar.muli v1168 c256_i32_794
  v1169
def k0_mult122 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_801 : BitVec 32 := 4#32
  let v1180 : BitVec 32 := Scalar.muli v1129 c4_i32_801
  let c0_i32_802 : BitVec 32 := 0#32
  let v1181 : BitVec 32 := Scalar.addi v1180 c0_i32_802
  let c256_i32_803 : BitVec 32 := 256#32
  let v1182 : BitVec 32 := Scalar.muli v1181 c256_i32_803
  v1182
def k0_mult123 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_810 : BitVec 32 := 4#32
  let v1193 : BitVec 32 := Scalar.muli v1129 c4_i32_810
  let c1_i32_811 : BitVec 32 := 1#32
  let v1194 : BitVec 32 := Scalar.addi v1193 c1_i32_811
  let c256_i32_812 : BitVec 32 := 256#32
  let v1195 : BitVec 32 := Scalar.muli v1194 c256_i32_812
  v1195
def k0_mult124 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_819 : BitVec 32 := 4#32
  let v1207 : BitVec 32 := Scalar.muli v1129 c4_i32_819
  let c1_i32_820 : BitVec 32 := 1#32
  let v1208 : BitVec 32 := Scalar.addi v1207 c1_i32_820
  let c256_i32_821 : BitVec 32 := 256#32
  let v1209 : BitVec 32 := Scalar.muli v1208 c256_i32_821
  v1209
def k0_mult125 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_834 : BitVec 32 := 4#32
  let v1229 : BitVec 32 := Scalar.muli v1132 c4_i32_834
  let c0_i32_835 : BitVec 32 := 0#32
  let v1230 : BitVec 32 := Scalar.addi v1229 c0_i32_835
  let c256_i32_836 : BitVec 32 := 256#32
  let v1231 : BitVec 32 := Scalar.muli v1230 c256_i32_836
  v1231
def k0_mult126 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_849 : BitVec 32 := 4#32
  let v1251 : BitVec 32 := Scalar.muli v1132 c4_i32_849
  let c0_i32_850 : BitVec 32 := 0#32
  let v1252 : BitVec 32 := Scalar.addi v1251 c0_i32_850
  let c256_i32_851 : BitVec 32 := 256#32
  let v1253 : BitVec 32 := Scalar.muli v1252 c256_i32_851
  v1253
def k0_mult127 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_858 : BitVec 32 := 4#32
  let v1265 : BitVec 32 := Scalar.muli v1129 c4_i32_858
  let c2_i32_859 : BitVec 32 := 2#32
  let v1266 : BitVec 32 := Scalar.addi v1265 c2_i32_859
  let c256_i32_860 : BitVec 32 := 256#32
  let v1267 : BitVec 32 := Scalar.muli v1266 c256_i32_860
  v1267
def k0_mult128 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_867 : BitVec 32 := 4#32
  let v1279 : BitVec 32 := Scalar.muli v1129 c4_i32_867
  let c2_i32_868 : BitVec 32 := 2#32
  let v1280 : BitVec 32 := Scalar.addi v1279 c2_i32_868
  let c256_i32_869 : BitVec 32 := 256#32
  let v1281 : BitVec 32 := Scalar.muli v1280 c256_i32_869
  v1281
def k0_mult129 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_882 : BitVec 32 := 4#32
  let v1301 : BitVec 32 := Scalar.muli v1132 c4_i32_882
  let c1_i32_883 : BitVec 32 := 1#32
  let v1302 : BitVec 32 := Scalar.addi v1301 c1_i32_883
  let c256_i32_884 : BitVec 32 := 256#32
  let v1303 : BitVec 32 := Scalar.muli v1302 c256_i32_884
  v1303
def k0_mult130 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_897 : BitVec 32 := 4#32
  let v1323 : BitVec 32 := Scalar.muli v1132 c4_i32_897
  let c1_i32_898 : BitVec 32 := 1#32
  let v1324 : BitVec 32 := Scalar.addi v1323 c1_i32_898
  let c256_i32_899 : BitVec 32 := 256#32
  let v1325 : BitVec 32 := Scalar.muli v1324 c256_i32_899
  v1325
def k0_mult131 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_906 : BitVec 32 := 4#32
  let v1337 : BitVec 32 := Scalar.muli v1129 c4_i32_906
  let c3_i32_907 : BitVec 32 := 3#32
  let v1338 : BitVec 32 := Scalar.addi v1337 c3_i32_907
  let c256_i32_908 : BitVec 32 := 256#32
  let v1339 : BitVec 32 := Scalar.muli v1338 c256_i32_908
  v1339
def k0_mult132 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c4_i32_915 : BitVec 32 := 4#32
  let v1351 : BitVec 32 := Scalar.muli v1129 c4_i32_915
  let c3_i32_916 : BitVec 32 := 3#32
  let v1352 : BitVec 32 := Scalar.addi v1351 c3_i32_916
  let c256_i32_917 : BitVec 32 := 256#32
  let v1353 : BitVec 32 := Scalar.muli v1352 c256_i32_917
  v1353
def k0_mult133 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_936 : BitVec 32 := 4#32
  let v1379 : BitVec 32 := Scalar.muli v1132 c4_i32_936
  let c2_i32_937 : BitVec 32 := 2#32
  let v1380 : BitVec 32 := Scalar.addi v1379 c2_i32_937
  let c256_i32_938 : BitVec 32 := 256#32
  let v1381 : BitVec 32 := Scalar.muli v1380 c256_i32_938
  v1381
def k0_mult134 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_951 : BitVec 32 := 4#32
  let v1401 : BitVec 32 := Scalar.muli v1132 c4_i32_951
  let c2_i32_952 : BitVec 32 := 2#32
  let v1402 : BitVec 32 := Scalar.addi v1401 c2_i32_952
  let c256_i32_953 : BitVec 32 := 256#32
  let v1403 : BitVec 32 := Scalar.muli v1402 c256_i32_953
  v1403
def k0_mult135 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_966 : BitVec 32 := 4#32
  let v1423 : BitVec 32 := Scalar.muli v1132 c4_i32_966
  let c3_i32_967 : BitVec 32 := 3#32
  let v1424 : BitVec 32 := Scalar.addi v1423 c3_i32_967
  let c256_i32_968 : BitVec 32 := 256#32
  let v1425 : BitVec 32 := Scalar.muli v1424 c256_i32_968
  v1425
def k0_mult136 (i : grid0.Coords) (k0_t2 : Fin (k0_t2_loop i).trips) : BitVec 32 :=
  let c0_i32_24 : BitVec 32 := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg18 : BitVec 32 := Scf.iv v63 c1_i32_27 k0_t2
  let c4_i32_758 : BitVec 32 := 4#32
  let v1128 : BitVec 32 := Scalar.muli arg18 c4_i32_758
  let c3_i32_759 : BitVec 32 := 3#32
  let v1129 : BitVec 32 := Scalar.addi v1128 c3_i32_759
  let c0_i32_760 : BitVec 32 := 0#32
  let v1130 : BitVec 1 := Scalar.cmpi .eq v1129 c0_i32_760
  let c1_i32_761 : BitVec 32 := 1#32
  let v1131 : BitVec 32 := Scalar.subi v1129 c1_i32_761
  let v1132 : BitVec 32 := Scalar.select v1130 v31 v1131
  let c4_i32_981 : BitVec 32 := 4#32
  let v1445 : BitVec 32 := Scalar.muli v1132 c4_i32_981
  let c3_i32_982 : BitVec 32 := 3#32
  let v1446 : BitVec 32 := Scalar.addi v1445 c3_i32_982
  let c256_i32_983 : BitVec 32 := 256#32
  let v1447 : BitVec 32 := Scalar.muli v1446 c256_i32_983
  v1447
def k0_cond2 (i : grid0.Coords) : BitVec 1 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v65 : BitVec 32 := Scalar.subi v31 v64
  let c0_i32_29 : BitVec 32 := 0#32
  let v66 : BitVec 1 := Scalar.cmpi .eq v65 c0_i32_29
  let v67 : BitVec 32 := Scalar.extui v66
  let c0_i32_30 : BitVec 32 := 0#32
  let v68 : BitVec 1 := Scalar.cmpi .ne v67 c0_i32_30
  v68

def k0_mult137 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_109 : BitVec 32 := 4#32
  let v192 : BitVec 32 := Scalar.muli v138 c4_i32_109
  let c0_i32_110 : BitVec 32 := 0#32
  let v193 : BitVec 32 := Scalar.addi v192 c0_i32_110
  let c256_i32 : BitVec 32 := 256#32
  let v194 : BitVec 32 := Scalar.muli v193 c256_i32
  v194
def k0_off6 (i : grid0.Coords) (c0_i32_110 : BitVec 32) : Fin 2 → Nat :=
  let c0_111 : Index := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_109 : BitVec 32 := 4#32
  let v192 : BitVec 32 := Scalar.muli v138 c4_i32_109
  let v193 : BitVec 32 := Scalar.addi v192 c0_i32_110
  let c256_i32 : BitVec 32 := 256#32
  let v194 : BitVec 32 := Scalar.muli v193 c256_i32
  let v195 : BitVec 32 := v194
  let v196 : Index := Scalar.indexCast v195
  ![0, v196.toNat]
def k0_mult138 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_123 : BitVec 32 := 4#32
  let v214 : BitVec 32 := Scalar.muli v138 c4_i32_123
  let c0_i32_124 : BitVec 32 := 0#32
  let v215 : BitVec 32 := Scalar.addi v214 c0_i32_124
  let c256_i32_125 : BitVec 32 := 256#32
  let v216 : BitVec 32 := Scalar.muli v215 c256_i32_125
  v216
def k0_mult139 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_132 : BitVec 32 := 512#32
  let v228 : BitVec 32 := Scalar.muli v1 c512_i32_132
  let c0_i32_134 : BitVec 32 := 0#32
  let v230 : BitVec 1 := Scalar.cmpi .sgt v228 c0_i32_134
  let v231 : BitVec 32 := Scalar.extui v230
  let c0_i32_135 : BitVec 32 := 0#32
  let v232 : BitVec 1 := Scalar.cmpi .slt v228 c0_i32_135
  let v233 : BitVec 32 := Scalar.extui v232
  let v234 : BitVec 32 := Scalar.subi v231 v233
  let c1024_i32_133 : BitVec 32 := 1024#32
  let c0_i32_136 : BitVec 32 := 0#32
  let v235 : BitVec 1 := Scalar.cmpi .sgt c1024_i32_133 c0_i32_136
  let v236 : BitVec 32 := Scalar.extui v235
  let c0_i32_137 : BitVec 32 := 0#32
  let v237 : BitVec 1 := Scalar.cmpi .slt c1024_i32_133 c0_i32_137
  let v238 : BitVec 32 := Scalar.extui v237
  let v239 : BitVec 32 := Scalar.subi v236 v238
  let v240 : BitVec 1 := Scalar.cmpi .ne v234 v239
  let v241 : BitVec 32 := Scalar.remsi v228 c1024_i32_133
  let c0_i32_138 : BitVec 32 := 0#32
  let v242 : BitVec 1 := Scalar.cmpi .ne v241 c0_i32_138
  let v243 : BitVec 1 := Scalar.andi v240 v242
  let v229 : BitVec 32 := Scalar.divsi v228 c1024_i32_133
  let c1_i32_139 : BitVec 32 := 1#32
  let v244 : BitVec 32 := Scalar.subi v229 c1_i32_139
  let v245 : BitVec 32 := Scalar.select v243 v244 v229
  let c4_i32_144 : BitVec 32 := 4#32
  let v257 : BitVec 32 := Scalar.muli v245 c4_i32_144
  let c0_i32_145 : BitVec 32 := 0#32
  let v258 : BitVec 32 := Scalar.addi v257 c0_i32_145
  let c256_i32_146 : BitVec 32 := 256#32
  let v259 : BitVec 32 := Scalar.muli v258 c256_i32_146
  v259
def k0_off7 (i : grid0.Coords) (c0_i32_145 : BitVec 32) : Fin 2 → Nat :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_132 : BitVec 32 := 512#32
  let v228 : BitVec 32 := Scalar.muli v1 c512_i32_132
  let c0_i32_134 : BitVec 32 := 0#32
  let v230 : BitVec 1 := Scalar.cmpi .sgt v228 c0_i32_134
  let v231 : BitVec 32 := Scalar.extui v230
  let c0_i32_135 : BitVec 32 := 0#32
  let v232 : BitVec 1 := Scalar.cmpi .slt v228 c0_i32_135
  let v233 : BitVec 32 := Scalar.extui v232
  let v234 : BitVec 32 := Scalar.subi v231 v233
  let c1024_i32_133 : BitVec 32 := 1024#32
  let c0_i32_136 : BitVec 32 := 0#32
  let v235 : BitVec 1 := Scalar.cmpi .sgt c1024_i32_133 c0_i32_136
  let v236 : BitVec 32 := Scalar.extui v235
  let c0_i32_137 : BitVec 32 := 0#32
  let v237 : BitVec 1 := Scalar.cmpi .slt c1024_i32_133 c0_i32_137
  let v238 : BitVec 32 := Scalar.extui v237
  let v239 : BitVec 32 := Scalar.subi v236 v238
  let v240 : BitVec 1 := Scalar.cmpi .ne v234 v239
  let v241 : BitVec 32 := Scalar.remsi v228 c1024_i32_133
  let c0_i32_138 : BitVec 32 := 0#32
  let v242 : BitVec 1 := Scalar.cmpi .ne v241 c0_i32_138
  let v243 : BitVec 1 := Scalar.andi v240 v242
  let v229 : BitVec 32 := Scalar.divsi v228 c1024_i32_133
  let c1_i32_139 : BitVec 32 := 1#32
  let v244 : BitVec 32 := Scalar.subi v229 c1_i32_139
  let v245 : BitVec 32 := Scalar.select v243 v244 v229
  let c4_i32_144 : BitVec 32 := 4#32
  let v257 : BitVec 32 := Scalar.muli v245 c4_i32_144
  let v258 : BitVec 32 := Scalar.addi v257 c0_i32_145
  let c256_i32_146 : BitVec 32 := 256#32
  let v259 : BitVec 32 := Scalar.muli v258 c256_i32_146
  let v260 : BitVec 32 := v259
  let v261 : Index := Scalar.indexCast v260
  let c0_147 : Index := 0#32
  ![v261.toNat, 0]
def k0_mult140 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_154 : BitVec 32 := 512#32
  let v272 : BitVec 32 := Scalar.muli v1 c512_i32_154
  let c0_i32_156 : BitVec 32 := 0#32
  let v274 : BitVec 1 := Scalar.cmpi .sgt v272 c0_i32_156
  let v275 : BitVec 32 := Scalar.extui v274
  let c0_i32_157 : BitVec 32 := 0#32
  let v276 : BitVec 1 := Scalar.cmpi .slt v272 c0_i32_157
  let v277 : BitVec 32 := Scalar.extui v276
  let v278 : BitVec 32 := Scalar.subi v275 v277
  let c1024_i32_155 : BitVec 32 := 1024#32
  let c0_i32_158 : BitVec 32 := 0#32
  let v279 : BitVec 1 := Scalar.cmpi .sgt c1024_i32_155 c0_i32_158
  let v280 : BitVec 32 := Scalar.extui v279
  let c0_i32_159 : BitVec 32 := 0#32
  let v281 : BitVec 1 := Scalar.cmpi .slt c1024_i32_155 c0_i32_159
  let v282 : BitVec 32 := Scalar.extui v281
  let v283 : BitVec 32 := Scalar.subi v280 v282
  let v284 : BitVec 1 := Scalar.cmpi .ne v278 v283
  let v285 : BitVec 32 := Scalar.remsi v272 c1024_i32_155
  let c0_i32_160 : BitVec 32 := 0#32
  let v286 : BitVec 1 := Scalar.cmpi .ne v285 c0_i32_160
  let v287 : BitVec 1 := Scalar.andi v284 v286
  let v273 : BitVec 32 := Scalar.divsi v272 c1024_i32_155
  let c1_i32_161 : BitVec 32 := 1#32
  let v288 : BitVec 32 := Scalar.subi v273 c1_i32_161
  let v289 : BitVec 32 := Scalar.select v287 v288 v273
  let c4_i32_166 : BitVec 32 := 4#32
  let v301 : BitVec 32 := Scalar.muli v289 c4_i32_166
  let c0_i32_167 : BitVec 32 := 0#32
  let v302 : BitVec 32 := Scalar.addi v301 c0_i32_167
  let c256_i32_168 : BitVec 32 := 256#32
  let v303 : BitVec 32 := Scalar.muli v302 c256_i32_168
  v303
def k0_mult141 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_181 : BitVec 32 := 4#32
  let v324 : BitVec 32 := Scalar.muli v138 c4_i32_181
  let c1_i32_182 : BitVec 32 := 1#32
  let v325 : BitVec 32 := Scalar.addi v324 c1_i32_182
  let c256_i32_183 : BitVec 32 := 256#32
  let v326 : BitVec 32 := Scalar.muli v325 c256_i32_183
  v326
def k0_mult142 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_196 : BitVec 32 := 4#32
  let v346 : BitVec 32 := Scalar.muli v138 c4_i32_196
  let c1_i32_197 : BitVec 32 := 1#32
  let v347 : BitVec 32 := Scalar.addi v346 c1_i32_197
  let c256_i32_198 : BitVec 32 := 256#32
  let v348 : BitVec 32 := Scalar.muli v347 c256_i32_198
  v348
def k0_mult143 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_205 : BitVec 32 := 512#32
  let v360 : BitVec 32 := Scalar.muli v1 c512_i32_205
  let c0_i32_207 : BitVec 32 := 0#32
  let v362 : BitVec 1 := Scalar.cmpi .sgt v360 c0_i32_207
  let v363 : BitVec 32 := Scalar.extui v362
  let c0_i32_208 : BitVec 32 := 0#32
  let v364 : BitVec 1 := Scalar.cmpi .slt v360 c0_i32_208
  let v365 : BitVec 32 := Scalar.extui v364
  let v366 : BitVec 32 := Scalar.subi v363 v365
  let c1024_i32_206 : BitVec 32 := 1024#32
  let c0_i32_209 : BitVec 32 := 0#32
  let v367 : BitVec 1 := Scalar.cmpi .sgt c1024_i32_206 c0_i32_209
  let v368 : BitVec 32 := Scalar.extui v367
  let c0_i32_210 : BitVec 32 := 0#32
  let v369 : BitVec 1 := Scalar.cmpi .slt c1024_i32_206 c0_i32_210
  let v370 : BitVec 32 := Scalar.extui v369
  let v371 : BitVec 32 := Scalar.subi v368 v370
  let v372 : BitVec 1 := Scalar.cmpi .ne v366 v371
  let v373 : BitVec 32 := Scalar.remsi v360 c1024_i32_206
  let c0_i32_211 : BitVec 32 := 0#32
  let v374 : BitVec 1 := Scalar.cmpi .ne v373 c0_i32_211
  let v375 : BitVec 1 := Scalar.andi v372 v374
  let v361 : BitVec 32 := Scalar.divsi v360 c1024_i32_206
  let c1_i32_212 : BitVec 32 := 1#32
  let v376 : BitVec 32 := Scalar.subi v361 c1_i32_212
  let v377 : BitVec 32 := Scalar.select v375 v376 v361
  let c4_i32_217 : BitVec 32 := 4#32
  let v389 : BitVec 32 := Scalar.muli v377 c4_i32_217
  let c1_i32_218 : BitVec 32 := 1#32
  let v390 : BitVec 32 := Scalar.addi v389 c1_i32_218
  let c256_i32_219 : BitVec 32 := 256#32
  let v391 : BitVec 32 := Scalar.muli v390 c256_i32_219
  v391
def k0_mult144 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_227 : BitVec 32 := 512#32
  let v405 : BitVec 32 := Scalar.muli v1 c512_i32_227
  let c0_i32_229 : BitVec 32 := 0#32
  let v407 : BitVec 1 := Scalar.cmpi .sgt v405 c0_i32_229
  let v408 : BitVec 32 := Scalar.extui v407
  let c0_i32_230 : BitVec 32 := 0#32
  let v409 : BitVec 1 := Scalar.cmpi .slt v405 c0_i32_230
  let v410 : BitVec 32 := Scalar.extui v409
  let v411 : BitVec 32 := Scalar.subi v408 v410
  let c1024_i32_228 : BitVec 32 := 1024#32
  let c0_i32_231 : BitVec 32 := 0#32
  let v412 : BitVec 1 := Scalar.cmpi .sgt c1024_i32_228 c0_i32_231
  let v413 : BitVec 32 := Scalar.extui v412
  let c0_i32_232 : BitVec 32 := 0#32
  let v414 : BitVec 1 := Scalar.cmpi .slt c1024_i32_228 c0_i32_232
  let v415 : BitVec 32 := Scalar.extui v414
  let v416 : BitVec 32 := Scalar.subi v413 v415
  let v417 : BitVec 1 := Scalar.cmpi .ne v411 v416
  let v418 : BitVec 32 := Scalar.remsi v405 c1024_i32_228
  let c0_i32_233 : BitVec 32 := 0#32
  let v419 : BitVec 1 := Scalar.cmpi .ne v418 c0_i32_233
  let v420 : BitVec 1 := Scalar.andi v417 v419
  let v406 : BitVec 32 := Scalar.divsi v405 c1024_i32_228
  let c1_i32_234 : BitVec 32 := 1#32
  let v421 : BitVec 32 := Scalar.subi v406 c1_i32_234
  let v422 : BitVec 32 := Scalar.select v420 v421 v406
  let c4_i32_239 : BitVec 32 := 4#32
  let v434 : BitVec 32 := Scalar.muli v422 c4_i32_239
  let c1_i32_240 : BitVec 32 := 1#32
  let v435 : BitVec 32 := Scalar.addi v434 c1_i32_240
  let c256_i32_241 : BitVec 32 := 256#32
  let v436 : BitVec 32 := Scalar.muli v435 c256_i32_241
  v436
def k0_mult145 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_254 : BitVec 32 := 4#32
  let v458 : BitVec 32 := Scalar.muli v138 c4_i32_254
  let c2_i32_255 : BitVec 32 := 2#32
  let v459 : BitVec 32 := Scalar.addi v458 c2_i32_255
  let c256_i32_256 : BitVec 32 := 256#32
  let v460 : BitVec 32 := Scalar.muli v459 c256_i32_256
  v460
def k0_mult146 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_269 : BitVec 32 := 4#32
  let v480 : BitVec 32 := Scalar.muli v138 c4_i32_269
  let c2_i32_270 : BitVec 32 := 2#32
  let v481 : BitVec 32 := Scalar.addi v480 c2_i32_270
  let c256_i32_271 : BitVec 32 := 256#32
  let v482 : BitVec 32 := Scalar.muli v481 c256_i32_271
  v482
def k0_mult147 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_278 : BitVec 32 := 512#32
  let v494 : BitVec 32 := Scalar.muli v1 c512_i32_278
  let c0_i32_280 : BitVec 32 := 0#32
  let v496 : BitVec 1 := Scalar.cmpi .sgt v494 c0_i32_280
  let v497 : BitVec 32 := Scalar.extui v496
  let c0_i32_281 : BitVec 32 := 0#32
  let v498 : BitVec 1 := Scalar.cmpi .slt v494 c0_i32_281
  let v499 : BitVec 32 := Scalar.extui v498
  let v500 : BitVec 32 := Scalar.subi v497 v499
  let c1024_i32_279 : BitVec 32 := 1024#32
  let c0_i32_282 : BitVec 32 := 0#32
  let v501 : BitVec 1 := Scalar.cmpi .sgt c1024_i32_279 c0_i32_282
  let v502 : BitVec 32 := Scalar.extui v501
  let c0_i32_283 : BitVec 32 := 0#32
  let v503 : BitVec 1 := Scalar.cmpi .slt c1024_i32_279 c0_i32_283
  let v504 : BitVec 32 := Scalar.extui v503
  let v505 : BitVec 32 := Scalar.subi v502 v504
  let v506 : BitVec 1 := Scalar.cmpi .ne v500 v505
  let v507 : BitVec 32 := Scalar.remsi v494 c1024_i32_279
  let c0_i32_284 : BitVec 32 := 0#32
  let v508 : BitVec 1 := Scalar.cmpi .ne v507 c0_i32_284
  let v509 : BitVec 1 := Scalar.andi v506 v508
  let v495 : BitVec 32 := Scalar.divsi v494 c1024_i32_279
  let c1_i32_285 : BitVec 32 := 1#32
  let v510 : BitVec 32 := Scalar.subi v495 c1_i32_285
  let v511 : BitVec 32 := Scalar.select v509 v510 v495
  let c4_i32_290 : BitVec 32 := 4#32
  let v523 : BitVec 32 := Scalar.muli v511 c4_i32_290
  let c2_i32_291 : BitVec 32 := 2#32
  let v524 : BitVec 32 := Scalar.addi v523 c2_i32_291
  let c256_i32_292 : BitVec 32 := 256#32
  let v525 : BitVec 32 := Scalar.muli v524 c256_i32_292
  v525
def k0_mult148 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_300 : BitVec 32 := 512#32
  let v539 : BitVec 32 := Scalar.muli v1 c512_i32_300
  let c0_i32_302 : BitVec 32 := 0#32
  let v541 : BitVec 1 := Scalar.cmpi .sgt v539 c0_i32_302
  let v542 : BitVec 32 := Scalar.extui v541
  let c0_i32_303 : BitVec 32 := 0#32
  let v543 : BitVec 1 := Scalar.cmpi .slt v539 c0_i32_303
  let v544 : BitVec 32 := Scalar.extui v543
  let v545 : BitVec 32 := Scalar.subi v542 v544
  let c1024_i32_301 : BitVec 32 := 1024#32
  let c0_i32_304 : BitVec 32 := 0#32
  let v546 : BitVec 1 := Scalar.cmpi .sgt c1024_i32_301 c0_i32_304
  let v547 : BitVec 32 := Scalar.extui v546
  let c0_i32_305 : BitVec 32 := 0#32
  let v548 : BitVec 1 := Scalar.cmpi .slt c1024_i32_301 c0_i32_305
  let v549 : BitVec 32 := Scalar.extui v548
  let v550 : BitVec 32 := Scalar.subi v547 v549
  let v551 : BitVec 1 := Scalar.cmpi .ne v545 v550
  let v552 : BitVec 32 := Scalar.remsi v539 c1024_i32_301
  let c0_i32_306 : BitVec 32 := 0#32
  let v553 : BitVec 1 := Scalar.cmpi .ne v552 c0_i32_306
  let v554 : BitVec 1 := Scalar.andi v551 v553
  let v540 : BitVec 32 := Scalar.divsi v539 c1024_i32_301
  let c1_i32_307 : BitVec 32 := 1#32
  let v555 : BitVec 32 := Scalar.subi v540 c1_i32_307
  let v556 : BitVec 32 := Scalar.select v554 v555 v540
  let c4_i32_312 : BitVec 32 := 4#32
  let v568 : BitVec 32 := Scalar.muli v556 c4_i32_312
  let c2_i32_313 : BitVec 32 := 2#32
  let v569 : BitVec 32 := Scalar.addi v568 c2_i32_313
  let c256_i32_314 : BitVec 32 := 256#32
  let v570 : BitVec 32 := Scalar.muli v569 c256_i32_314
  v570
def k0_mult149 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_327 : BitVec 32 := 4#32
  let v592 : BitVec 32 := Scalar.muli v138 c4_i32_327
  let c3_i32_328 : BitVec 32 := 3#32
  let v593 : BitVec 32 := Scalar.addi v592 c3_i32_328
  let c256_i32_329 : BitVec 32 := 256#32
  let v594 : BitVec 32 := Scalar.muli v593 c256_i32_329
  v594
def k0_mult150 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_342 : BitVec 32 := 4#32
  let v614 : BitVec 32 := Scalar.muli v138 c4_i32_342
  let c3_i32_343 : BitVec 32 := 3#32
  let v615 : BitVec 32 := Scalar.addi v614 c3_i32_343
  let c256_i32_344 : BitVec 32 := 256#32
  let v616 : BitVec 32 := Scalar.muli v615 c256_i32_344
  v616
def k0_mult151 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_351 : BitVec 32 := 512#32
  let v628 : BitVec 32 := Scalar.muli v1 c512_i32_351
  let c0_i32_353 : BitVec 32 := 0#32
  let v630 : BitVec 1 := Scalar.cmpi .sgt v628 c0_i32_353
  let v631 : BitVec 32 := Scalar.extui v630
  let c0_i32_354 : BitVec 32 := 0#32
  let v632 : BitVec 1 := Scalar.cmpi .slt v628 c0_i32_354
  let v633 : BitVec 32 := Scalar.extui v632
  let v634 : BitVec 32 := Scalar.subi v631 v633
  let c1024_i32_352 : BitVec 32 := 1024#32
  let c0_i32_355 : BitVec 32 := 0#32
  let v635 : BitVec 1 := Scalar.cmpi .sgt c1024_i32_352 c0_i32_355
  let v636 : BitVec 32 := Scalar.extui v635
  let c0_i32_356 : BitVec 32 := 0#32
  let v637 : BitVec 1 := Scalar.cmpi .slt c1024_i32_352 c0_i32_356
  let v638 : BitVec 32 := Scalar.extui v637
  let v639 : BitVec 32 := Scalar.subi v636 v638
  let v640 : BitVec 1 := Scalar.cmpi .ne v634 v639
  let v641 : BitVec 32 := Scalar.remsi v628 c1024_i32_352
  let c0_i32_357 : BitVec 32 := 0#32
  let v642 : BitVec 1 := Scalar.cmpi .ne v641 c0_i32_357
  let v643 : BitVec 1 := Scalar.andi v640 v642
  let v629 : BitVec 32 := Scalar.divsi v628 c1024_i32_352
  let c1_i32_358 : BitVec 32 := 1#32
  let v644 : BitVec 32 := Scalar.subi v629 c1_i32_358
  let v645 : BitVec 32 := Scalar.select v643 v644 v629
  let c4_i32_363 : BitVec 32 := 4#32
  let v657 : BitVec 32 := Scalar.muli v645 c4_i32_363
  let c3_i32_364 : BitVec 32 := 3#32
  let v658 : BitVec 32 := Scalar.addi v657 c3_i32_364
  let c256_i32_365 : BitVec 32 := 256#32
  let v659 : BitVec 32 := Scalar.muli v658 c256_i32_365
  v659
def k0_mult152 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_373 : BitVec 32 := 512#32
  let v673 : BitVec 32 := Scalar.muli v1 c512_i32_373
  let c0_i32_375 : BitVec 32 := 0#32
  let v675 : BitVec 1 := Scalar.cmpi .sgt v673 c0_i32_375
  let v676 : BitVec 32 := Scalar.extui v675
  let c0_i32_376 : BitVec 32 := 0#32
  let v677 : BitVec 1 := Scalar.cmpi .slt v673 c0_i32_376
  let v678 : BitVec 32 := Scalar.extui v677
  let v679 : BitVec 32 := Scalar.subi v676 v678
  let c1024_i32_374 : BitVec 32 := 1024#32
  let c0_i32_377 : BitVec 32 := 0#32
  let v680 : BitVec 1 := Scalar.cmpi .sgt c1024_i32_374 c0_i32_377
  let v681 : BitVec 32 := Scalar.extui v680
  let c0_i32_378 : BitVec 32 := 0#32
  let v682 : BitVec 1 := Scalar.cmpi .slt c1024_i32_374 c0_i32_378
  let v683 : BitVec 32 := Scalar.extui v682
  let v684 : BitVec 32 := Scalar.subi v681 v683
  let v685 : BitVec 1 := Scalar.cmpi .ne v679 v684
  let v686 : BitVec 32 := Scalar.remsi v673 c1024_i32_374
  let c0_i32_379 : BitVec 32 := 0#32
  let v687 : BitVec 1 := Scalar.cmpi .ne v686 c0_i32_379
  let v688 : BitVec 1 := Scalar.andi v685 v687
  let v674 : BitVec 32 := Scalar.divsi v673 c1024_i32_374
  let c1_i32_380 : BitVec 32 := 1#32
  let v689 : BitVec 32 := Scalar.subi v674 c1_i32_380
  let v690 : BitVec 32 := Scalar.select v688 v689 v674
  let c4_i32_385 : BitVec 32 := 4#32
  let v702 : BitVec 32 := Scalar.muli v690 c4_i32_385
  let c3_i32_386 : BitVec 32 := 3#32
  let v703 : BitVec 32 := Scalar.addi v702 c3_i32_386
  let c256_i32_387 : BitVec 32 := 256#32
  let v704 : BitVec 32 := Scalar.muli v703 c256_i32_387
  v704
def k0_cond3 (i : grid0.Coords) : BitVec 1 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v65 : BitVec 32 := Scalar.subi v31 v64
  let c1_i32_31 : BitVec 32 := 1#32
  let v69 : BitVec 1 := Scalar.cmpi .eq v65 c1_i32_31
  let v70 : BitVec 32 := Scalar.extui v69
  let c0_i32_32 : BitVec 32 := 0#32
  let v71 : BitVec 1 := Scalar.cmpi .ne v70 c0_i32_32
  v71

def k0_mult153 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_99 : BitVec 32 := 4#32
  let v173 : BitVec 32 := Scalar.muli v135 c4_i32_99
  let c0_i32_100 : BitVec 32 := 0#32
  let v174 : BitVec 32 := Scalar.addi v173 c0_i32_100
  let c256_i32 : BitVec 32 := 256#32
  let v175 : BitVec 32 := Scalar.muli v174 c256_i32
  v175
def k0_off8 (i : grid0.Coords) (c0_i32_100 : BitVec 32) : Fin 2 → Nat :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_99 : BitVec 32 := 4#32
  let v173 : BitVec 32 := Scalar.muli v135 c4_i32_99
  let v174 : BitVec 32 := Scalar.addi v173 c0_i32_100
  let c256_i32 : BitVec 32 := 256#32
  let v175 : BitVec 32 := Scalar.muli v174 c256_i32
  let v176 : BitVec 32 := v175
  let v177 : Index := Scalar.indexCast v176
  let c0_101 : Index := 0#32
  ![v177.toNat, 0]
def k0_mult154 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_107 : BitVec 32 := 4#32
  let v186 : BitVec 32 := Scalar.muli v135 c4_i32_107
  let c0_i32_108 : BitVec 32 := 0#32
  let v187 : BitVec 32 := Scalar.addi v186 c0_i32_108
  let c256_i32_109 : BitVec 32 := 256#32
  let v188 : BitVec 32 := Scalar.muli v187 c256_i32_109
  v188
def k0_mult155 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_116 : BitVec 32 := 4#32
  let v199 : BitVec 32 := Scalar.muli v135 c4_i32_116
  let c1_i32_117 : BitVec 32 := 1#32
  let v200 : BitVec 32 := Scalar.addi v199 c1_i32_117
  let c256_i32_118 : BitVec 32 := 256#32
  let v201 : BitVec 32 := Scalar.muli v200 c256_i32_118
  v201
def k0_mult156 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_124 : BitVec 32 := 4#32
  let v213 : BitVec 32 := Scalar.muli v135 c4_i32_124
  let c1_i32_125 : BitVec 32 := 1#32
  let v214 : BitVec 32 := Scalar.addi v213 c1_i32_125
  let c256_i32_126 : BitVec 32 := 256#32
  let v215 : BitVec 32 := Scalar.muli v214 c256_i32_126
  v215
def k0_mult157 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let c0_i32_140 : BitVec 32 := 0#32
  let v236 : BitVec 32 := Scalar.addi v235 c0_i32_140
  let c256_i32_141 : BitVec 32 := 256#32
  let v237 : BitVec 32 := Scalar.muli v236 c256_i32_141
  v237
def k0_off9 (i : grid0.Coords) (c0_i32_66 : BitVec 32) (c0_i32_140 : BitVec 32) : Fin 2 → Nat :=
  let c0_142 : Index := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let v236 : BitVec 32 := Scalar.addi v235 c0_i32_140
  let c256_i32_141 : BitVec 32 := 256#32
  let v237 : BitVec 32 := Scalar.muli v236 c256_i32_141
  let v238 : BitVec 32 := v237
  let v239 : Index := Scalar.indexCast v238
  ![0, v239.toNat]
def k0_mult158 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_154 : BitVec 32 := 4#32
  let v257 : BitVec 32 := Scalar.muli v138 c4_i32_154
  let c0_i32_155 : BitVec 32 := 0#32
  let v258 : BitVec 32 := Scalar.addi v257 c0_i32_155
  let c256_i32_156 : BitVec 32 := 256#32
  let v259 : BitVec 32 := Scalar.muli v258 c256_i32_156
  v259
def k0_mult159 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_163 : BitVec 32 := 4#32
  let v271 : BitVec 32 := Scalar.muli v135 c4_i32_163
  let c2_i32_164 : BitVec 32 := 2#32
  let v272 : BitVec 32 := Scalar.addi v271 c2_i32_164
  let c256_i32_165 : BitVec 32 := 256#32
  let v273 : BitVec 32 := Scalar.muli v272 c256_i32_165
  v273
def k0_mult160 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_171 : BitVec 32 := 4#32
  let v285 : BitVec 32 := Scalar.muli v135 c4_i32_171
  let c2_i32_172 : BitVec 32 := 2#32
  let v286 : BitVec 32 := Scalar.addi v285 c2_i32_172
  let c256_i32_173 : BitVec 32 := 256#32
  let v287 : BitVec 32 := Scalar.muli v286 c256_i32_173
  v287
def k0_mult161 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_186 : BitVec 32 := 4#32
  let v307 : BitVec 32 := Scalar.muli v138 c4_i32_186
  let c1_i32_187 : BitVec 32 := 1#32
  let v308 : BitVec 32 := Scalar.addi v307 c1_i32_187
  let c256_i32_188 : BitVec 32 := 256#32
  let v309 : BitVec 32 := Scalar.muli v308 c256_i32_188
  v309
def k0_mult162 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_201 : BitVec 32 := 4#32
  let v329 : BitVec 32 := Scalar.muli v138 c4_i32_201
  let c1_i32_202 : BitVec 32 := 1#32
  let v330 : BitVec 32 := Scalar.addi v329 c1_i32_202
  let c256_i32_203 : BitVec 32 := 256#32
  let v331 : BitVec 32 := Scalar.muli v330 c256_i32_203
  v331
def k0_mult163 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_210 : BitVec 32 := 4#32
  let v343 : BitVec 32 := Scalar.muli v135 c4_i32_210
  let c3_i32_211 : BitVec 32 := 3#32
  let v344 : BitVec 32 := Scalar.addi v343 c3_i32_211
  let c256_i32_212 : BitVec 32 := 256#32
  let v345 : BitVec 32 := Scalar.muli v344 c256_i32_212
  v345
def k0_mult164 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_218 : BitVec 32 := 4#32
  let v357 : BitVec 32 := Scalar.muli v135 c4_i32_218
  let c3_i32_219 : BitVec 32 := 3#32
  let v358 : BitVec 32 := Scalar.addi v357 c3_i32_219
  let c256_i32_220 : BitVec 32 := 256#32
  let v359 : BitVec 32 := Scalar.muli v358 c256_i32_220
  v359
def k0_mult165 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_239 : BitVec 32 := 4#32
  let v385 : BitVec 32 := Scalar.muli v138 c4_i32_239
  let c2_i32_240 : BitVec 32 := 2#32
  let v386 : BitVec 32 := Scalar.addi v385 c2_i32_240
  let c256_i32_241 : BitVec 32 := 256#32
  let v387 : BitVec 32 := Scalar.muli v386 c256_i32_241
  v387
def k0_mult166 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_254 : BitVec 32 := 4#32
  let v407 : BitVec 32 := Scalar.muli v138 c4_i32_254
  let c2_i32_255 : BitVec 32 := 2#32
  let v408 : BitVec 32 := Scalar.addi v407 c2_i32_255
  let c256_i32_256 : BitVec 32 := 256#32
  let v409 : BitVec 32 := Scalar.muli v408 c256_i32_256
  v409
def k0_mult167 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_269 : BitVec 32 := 4#32
  let v429 : BitVec 32 := Scalar.muli v138 c4_i32_269
  let c3_i32_270 : BitVec 32 := 3#32
  let v430 : BitVec 32 := Scalar.addi v429 c3_i32_270
  let c256_i32_271 : BitVec 32 := 256#32
  let v431 : BitVec 32 := Scalar.muli v430 c256_i32_271
  v431
def k0_mult168 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_284 : BitVec 32 := 4#32
  let v451 : BitVec 32 := Scalar.muli v138 c4_i32_284
  let c3_i32_285 : BitVec 32 := 3#32
  let v452 : BitVec 32 := Scalar.addi v451 c3_i32_285
  let c256_i32_286 : BitVec 32 := 256#32
  let v453 : BitVec 32 := Scalar.muli v452 c256_i32_286
  v453
def k0_mult169 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_330 : BitVec 32 := 512#32
  let v514 : BitVec 32 := Scalar.muli v1 c512_i32_330
  let c0_i32_332 : BitVec 32 := 0#32
  let v516 : BitVec 1 := Scalar.cmpi .sgt v514 c0_i32_332
  let v517 : BitVec 32 := Scalar.extui v516
  let c0_i32_333 : BitVec 32 := 0#32
  let v518 : BitVec 1 := Scalar.cmpi .slt v514 c0_i32_333
  let v519 : BitVec 32 := Scalar.extui v518
  let v520 : BitVec 32 := Scalar.subi v517 v519
  let c1024_i32_331 : BitVec 32 := 1024#32
  let c0_i32_334 : BitVec 32 := 0#32
  let v521 : BitVec 1 := Scalar.cmpi .sgt c1024_i32_331 c0_i32_334
  let v522 : BitVec 32 := Scalar.extui v521
  let c0_i32_335 : BitVec 32 := 0#32
  let v523 : BitVec 1 := Scalar.cmpi .slt c1024_i32_331 c0_i32_335
  let v524 : BitVec 32 := Scalar.extui v523
  let v525 : BitVec 32 := Scalar.subi v522 v524
  let v526 : BitVec 1 := Scalar.cmpi .ne v520 v525
  let v527 : BitVec 32 := Scalar.remsi v514 c1024_i32_331
  let c0_i32_336 : BitVec 32 := 0#32
  let v528 : BitVec 1 := Scalar.cmpi .ne v527 c0_i32_336
  let v529 : BitVec 1 := Scalar.andi v526 v528
  let v515 : BitVec 32 := Scalar.divsi v514 c1024_i32_331
  let c1_i32_337 : BitVec 32 := 1#32
  let v530 : BitVec 32 := Scalar.subi v515 c1_i32_337
  let v531 : BitVec 32 := Scalar.select v529 v530 v515
  let c4_i32_342 : BitVec 32 := 4#32
  let v543 : BitVec 32 := Scalar.muli v531 c4_i32_342
  let c0_i32_343 : BitVec 32 := 0#32
  let v544 : BitVec 32 := Scalar.addi v543 c0_i32_343
  let c256_i32_344 : BitVec 32 := 256#32
  let v545 : BitVec 32 := Scalar.muli v544 c256_i32_344
  v545
def k0_off10 (i : grid0.Coords) (c0_i32_343 : BitVec 32) : Fin 2 → Nat :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_330 : BitVec 32 := 512#32
  let v514 : BitVec 32 := Scalar.muli v1 c512_i32_330
  let c0_i32_332 : BitVec 32 := 0#32
  let v516 : BitVec 1 := Scalar.cmpi .sgt v514 c0_i32_332
  let v517 : BitVec 32 := Scalar.extui v516
  let c0_i32_333 : BitVec 32 := 0#32
  let v518 : BitVec 1 := Scalar.cmpi .slt v514 c0_i32_333
  let v519 : BitVec 32 := Scalar.extui v518
  let v520 : BitVec 32 := Scalar.subi v517 v519
  let c1024_i32_331 : BitVec 32 := 1024#32
  let c0_i32_334 : BitVec 32 := 0#32
  let v521 : BitVec 1 := Scalar.cmpi .sgt c1024_i32_331 c0_i32_334
  let v522 : BitVec 32 := Scalar.extui v521
  let c0_i32_335 : BitVec 32 := 0#32
  let v523 : BitVec 1 := Scalar.cmpi .slt c1024_i32_331 c0_i32_335
  let v524 : BitVec 32 := Scalar.extui v523
  let v525 : BitVec 32 := Scalar.subi v522 v524
  let v526 : BitVec 1 := Scalar.cmpi .ne v520 v525
  let v527 : BitVec 32 := Scalar.remsi v514 c1024_i32_331
  let c0_i32_336 : BitVec 32 := 0#32
  let v528 : BitVec 1 := Scalar.cmpi .ne v527 c0_i32_336
  let v529 : BitVec 1 := Scalar.andi v526 v528
  let v515 : BitVec 32 := Scalar.divsi v514 c1024_i32_331
  let c1_i32_337 : BitVec 32 := 1#32
  let v530 : BitVec 32 := Scalar.subi v515 c1_i32_337
  let v531 : BitVec 32 := Scalar.select v529 v530 v515
  let c4_i32_342 : BitVec 32 := 4#32
  let v543 : BitVec 32 := Scalar.muli v531 c4_i32_342
  let v544 : BitVec 32 := Scalar.addi v543 c0_i32_343
  let c256_i32_344 : BitVec 32 := 256#32
  let v545 : BitVec 32 := Scalar.muli v544 c256_i32_344
  let v546 : BitVec 32 := v545
  let v547 : Index := Scalar.indexCast v546
  let c0_345 : Index := 0#32
  ![v547.toNat, 0]
def k0_mult170 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_352 : BitVec 32 := 512#32
  let v558 : BitVec 32 := Scalar.muli v1 c512_i32_352
  let c0_i32_354 : BitVec 32 := 0#32
  let v560 : BitVec 1 := Scalar.cmpi .sgt v558 c0_i32_354
  let v561 : BitVec 32 := Scalar.extui v560
  let c0_i32_355 : BitVec 32 := 0#32
  let v562 : BitVec 1 := Scalar.cmpi .slt v558 c0_i32_355
  let v563 : BitVec 32 := Scalar.extui v562
  let v564 : BitVec 32 := Scalar.subi v561 v563
  let c1024_i32_353 : BitVec 32 := 1024#32
  let c0_i32_356 : BitVec 32 := 0#32
  let v565 : BitVec 1 := Scalar.cmpi .sgt c1024_i32_353 c0_i32_356
  let v566 : BitVec 32 := Scalar.extui v565
  let c0_i32_357 : BitVec 32 := 0#32
  let v567 : BitVec 1 := Scalar.cmpi .slt c1024_i32_353 c0_i32_357
  let v568 : BitVec 32 := Scalar.extui v567
  let v569 : BitVec 32 := Scalar.subi v566 v568
  let v570 : BitVec 1 := Scalar.cmpi .ne v564 v569
  let v571 : BitVec 32 := Scalar.remsi v558 c1024_i32_353
  let c0_i32_358 : BitVec 32 := 0#32
  let v572 : BitVec 1 := Scalar.cmpi .ne v571 c0_i32_358
  let v573 : BitVec 1 := Scalar.andi v570 v572
  let v559 : BitVec 32 := Scalar.divsi v558 c1024_i32_353
  let c1_i32_359 : BitVec 32 := 1#32
  let v574 : BitVec 32 := Scalar.subi v559 c1_i32_359
  let v575 : BitVec 32 := Scalar.select v573 v574 v559
  let c4_i32_364 : BitVec 32 := 4#32
  let v587 : BitVec 32 := Scalar.muli v575 c4_i32_364
  let c0_i32_365 : BitVec 32 := 0#32
  let v588 : BitVec 32 := Scalar.addi v587 c0_i32_365
  let c256_i32_366 : BitVec 32 := 256#32
  let v589 : BitVec 32 := Scalar.muli v588 c256_i32_366
  v589
def k0_mult171 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_374 : BitVec 32 := 512#32
  let v602 : BitVec 32 := Scalar.muli v1 c512_i32_374
  let c0_i32_376 : BitVec 32 := 0#32
  let v604 : BitVec 1 := Scalar.cmpi .sgt v602 c0_i32_376
  let v605 : BitVec 32 := Scalar.extui v604
  let c0_i32_377 : BitVec 32 := 0#32
  let v606 : BitVec 1 := Scalar.cmpi .slt v602 c0_i32_377
  let v607 : BitVec 32 := Scalar.extui v606
  let v608 : BitVec 32 := Scalar.subi v605 v607
  let c1024_i32_375 : BitVec 32 := 1024#32
  let c0_i32_378 : BitVec 32 := 0#32
  let v609 : BitVec 1 := Scalar.cmpi .sgt c1024_i32_375 c0_i32_378
  let v610 : BitVec 32 := Scalar.extui v609
  let c0_i32_379 : BitVec 32 := 0#32
  let v611 : BitVec 1 := Scalar.cmpi .slt c1024_i32_375 c0_i32_379
  let v612 : BitVec 32 := Scalar.extui v611
  let v613 : BitVec 32 := Scalar.subi v610 v612
  let v614 : BitVec 1 := Scalar.cmpi .ne v608 v613
  let v615 : BitVec 32 := Scalar.remsi v602 c1024_i32_375
  let c0_i32_380 : BitVec 32 := 0#32
  let v616 : BitVec 1 := Scalar.cmpi .ne v615 c0_i32_380
  let v617 : BitVec 1 := Scalar.andi v614 v616
  let v603 : BitVec 32 := Scalar.divsi v602 c1024_i32_375
  let c1_i32_381 : BitVec 32 := 1#32
  let v618 : BitVec 32 := Scalar.subi v603 c1_i32_381
  let v619 : BitVec 32 := Scalar.select v617 v618 v603
  let c4_i32_386 : BitVec 32 := 4#32
  let v631 : BitVec 32 := Scalar.muli v619 c4_i32_386
  let c1_i32_387 : BitVec 32 := 1#32
  let v632 : BitVec 32 := Scalar.addi v631 c1_i32_387
  let c256_i32_388 : BitVec 32 := 256#32
  let v633 : BitVec 32 := Scalar.muli v632 c256_i32_388
  v633
def k0_mult172 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_396 : BitVec 32 := 512#32
  let v647 : BitVec 32 := Scalar.muli v1 c512_i32_396
  let c0_i32_398 : BitVec 32 := 0#32
  let v649 : BitVec 1 := Scalar.cmpi .sgt v647 c0_i32_398
  let v650 : BitVec 32 := Scalar.extui v649
  let c0_i32_399 : BitVec 32 := 0#32
  let v651 : BitVec 1 := Scalar.cmpi .slt v647 c0_i32_399
  let v652 : BitVec 32 := Scalar.extui v651
  let v653 : BitVec 32 := Scalar.subi v650 v652
  let c1024_i32_397 : BitVec 32 := 1024#32
  let c0_i32_400 : BitVec 32 := 0#32
  let v654 : BitVec 1 := Scalar.cmpi .sgt c1024_i32_397 c0_i32_400
  let v655 : BitVec 32 := Scalar.extui v654
  let c0_i32_401 : BitVec 32 := 0#32
  let v656 : BitVec 1 := Scalar.cmpi .slt c1024_i32_397 c0_i32_401
  let v657 : BitVec 32 := Scalar.extui v656
  let v658 : BitVec 32 := Scalar.subi v655 v657
  let v659 : BitVec 1 := Scalar.cmpi .ne v653 v658
  let v660 : BitVec 32 := Scalar.remsi v647 c1024_i32_397
  let c0_i32_402 : BitVec 32 := 0#32
  let v661 : BitVec 1 := Scalar.cmpi .ne v660 c0_i32_402
  let v662 : BitVec 1 := Scalar.andi v659 v661
  let v648 : BitVec 32 := Scalar.divsi v647 c1024_i32_397
  let c1_i32_403 : BitVec 32 := 1#32
  let v663 : BitVec 32 := Scalar.subi v648 c1_i32_403
  let v664 : BitVec 32 := Scalar.select v662 v663 v648
  let c4_i32_408 : BitVec 32 := 4#32
  let v676 : BitVec 32 := Scalar.muli v664 c4_i32_408
  let c1_i32_409 : BitVec 32 := 1#32
  let v677 : BitVec 32 := Scalar.addi v676 c1_i32_409
  let c256_i32_410 : BitVec 32 := 256#32
  let v678 : BitVec 32 := Scalar.muli v677 c256_i32_410
  v678
def k0_mult173 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_424 : BitVec 32 := 4#32
  let v700 : BitVec 32 := Scalar.muli v468 c4_i32_424
  let c0_i32_425 : BitVec 32 := 0#32
  let v701 : BitVec 32 := Scalar.addi v700 c0_i32_425
  let c256_i32_426 : BitVec 32 := 256#32
  let v702 : BitVec 32 := Scalar.muli v701 c256_i32_426
  v702
def k0_mult174 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_439 : BitVec 32 := 4#32
  let v722 : BitVec 32 := Scalar.muli v468 c4_i32_439
  let c0_i32_440 : BitVec 32 := 0#32
  let v723 : BitVec 32 := Scalar.addi v722 c0_i32_440
  let c256_i32_441 : BitVec 32 := 256#32
  let v724 : BitVec 32 := Scalar.muli v723 c256_i32_441
  v724
def k0_mult175 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_448 : BitVec 32 := 512#32
  let v736 : BitVec 32 := Scalar.muli v1 c512_i32_448
  let c0_i32_450 : BitVec 32 := 0#32
  let v738 : BitVec 1 := Scalar.cmpi .sgt v736 c0_i32_450
  let v739 : BitVec 32 := Scalar.extui v738
  let c0_i32_451 : BitVec 32 := 0#32
  let v740 : BitVec 1 := Scalar.cmpi .slt v736 c0_i32_451
  let v741 : BitVec 32 := Scalar.extui v740
  let v742 : BitVec 32 := Scalar.subi v739 v741
  let c1024_i32_449 : BitVec 32 := 1024#32
  let c0_i32_452 : BitVec 32 := 0#32
  let v743 : BitVec 1 := Scalar.cmpi .sgt c1024_i32_449 c0_i32_452
  let v744 : BitVec 32 := Scalar.extui v743
  let c0_i32_453 : BitVec 32 := 0#32
  let v745 : BitVec 1 := Scalar.cmpi .slt c1024_i32_449 c0_i32_453
  let v746 : BitVec 32 := Scalar.extui v745
  let v747 : BitVec 32 := Scalar.subi v744 v746
  let v748 : BitVec 1 := Scalar.cmpi .ne v742 v747
  let v749 : BitVec 32 := Scalar.remsi v736 c1024_i32_449
  let c0_i32_454 : BitVec 32 := 0#32
  let v750 : BitVec 1 := Scalar.cmpi .ne v749 c0_i32_454
  let v751 : BitVec 1 := Scalar.andi v748 v750
  let v737 : BitVec 32 := Scalar.divsi v736 c1024_i32_449
  let c1_i32_455 : BitVec 32 := 1#32
  let v752 : BitVec 32 := Scalar.subi v737 c1_i32_455
  let v753 : BitVec 32 := Scalar.select v751 v752 v737
  let c4_i32_460 : BitVec 32 := 4#32
  let v765 : BitVec 32 := Scalar.muli v753 c4_i32_460
  let c2_i32_461 : BitVec 32 := 2#32
  let v766 : BitVec 32 := Scalar.addi v765 c2_i32_461
  let c256_i32_462 : BitVec 32 := 256#32
  let v767 : BitVec 32 := Scalar.muli v766 c256_i32_462
  v767
def k0_mult176 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_470 : BitVec 32 := 512#32
  let v781 : BitVec 32 := Scalar.muli v1 c512_i32_470
  let c0_i32_472 : BitVec 32 := 0#32
  let v783 : BitVec 1 := Scalar.cmpi .sgt v781 c0_i32_472
  let v784 : BitVec 32 := Scalar.extui v783
  let c0_i32_473 : BitVec 32 := 0#32
  let v785 : BitVec 1 := Scalar.cmpi .slt v781 c0_i32_473
  let v786 : BitVec 32 := Scalar.extui v785
  let v787 : BitVec 32 := Scalar.subi v784 v786
  let c1024_i32_471 : BitVec 32 := 1024#32
  let c0_i32_474 : BitVec 32 := 0#32
  let v788 : BitVec 1 := Scalar.cmpi .sgt c1024_i32_471 c0_i32_474
  let v789 : BitVec 32 := Scalar.extui v788
  let c0_i32_475 : BitVec 32 := 0#32
  let v790 : BitVec 1 := Scalar.cmpi .slt c1024_i32_471 c0_i32_475
  let v791 : BitVec 32 := Scalar.extui v790
  let v792 : BitVec 32 := Scalar.subi v789 v791
  let v793 : BitVec 1 := Scalar.cmpi .ne v787 v792
  let v794 : BitVec 32 := Scalar.remsi v781 c1024_i32_471
  let c0_i32_476 : BitVec 32 := 0#32
  let v795 : BitVec 1 := Scalar.cmpi .ne v794 c0_i32_476
  let v796 : BitVec 1 := Scalar.andi v793 v795
  let v782 : BitVec 32 := Scalar.divsi v781 c1024_i32_471
  let c1_i32_477 : BitVec 32 := 1#32
  let v797 : BitVec 32 := Scalar.subi v782 c1_i32_477
  let v798 : BitVec 32 := Scalar.select v796 v797 v782
  let c4_i32_482 : BitVec 32 := 4#32
  let v810 : BitVec 32 := Scalar.muli v798 c4_i32_482
  let c2_i32_483 : BitVec 32 := 2#32
  let v811 : BitVec 32 := Scalar.addi v810 c2_i32_483
  let c256_i32_484 : BitVec 32 := 256#32
  let v812 : BitVec 32 := Scalar.muli v811 c256_i32_484
  v812
def k0_mult177 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_498 : BitVec 32 := 4#32
  let v834 : BitVec 32 := Scalar.muli v468 c4_i32_498
  let c1_i32_499 : BitVec 32 := 1#32
  let v835 : BitVec 32 := Scalar.addi v834 c1_i32_499
  let c256_i32_500 : BitVec 32 := 256#32
  let v836 : BitVec 32 := Scalar.muli v835 c256_i32_500
  v836
def k0_mult178 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_513 : BitVec 32 := 4#32
  let v856 : BitVec 32 := Scalar.muli v468 c4_i32_513
  let c1_i32_514 : BitVec 32 := 1#32
  let v857 : BitVec 32 := Scalar.addi v856 c1_i32_514
  let c256_i32_515 : BitVec 32 := 256#32
  let v858 : BitVec 32 := Scalar.muli v857 c256_i32_515
  v858
def k0_mult179 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_522 : BitVec 32 := 512#32
  let v870 : BitVec 32 := Scalar.muli v1 c512_i32_522
  let c0_i32_524 : BitVec 32 := 0#32
  let v872 : BitVec 1 := Scalar.cmpi .sgt v870 c0_i32_524
  let v873 : BitVec 32 := Scalar.extui v872
  let c0_i32_525 : BitVec 32 := 0#32
  let v874 : BitVec 1 := Scalar.cmpi .slt v870 c0_i32_525
  let v875 : BitVec 32 := Scalar.extui v874
  let v876 : BitVec 32 := Scalar.subi v873 v875
  let c1024_i32_523 : BitVec 32 := 1024#32
  let c0_i32_526 : BitVec 32 := 0#32
  let v877 : BitVec 1 := Scalar.cmpi .sgt c1024_i32_523 c0_i32_526
  let v878 : BitVec 32 := Scalar.extui v877
  let c0_i32_527 : BitVec 32 := 0#32
  let v879 : BitVec 1 := Scalar.cmpi .slt c1024_i32_523 c0_i32_527
  let v880 : BitVec 32 := Scalar.extui v879
  let v881 : BitVec 32 := Scalar.subi v878 v880
  let v882 : BitVec 1 := Scalar.cmpi .ne v876 v881
  let v883 : BitVec 32 := Scalar.remsi v870 c1024_i32_523
  let c0_i32_528 : BitVec 32 := 0#32
  let v884 : BitVec 1 := Scalar.cmpi .ne v883 c0_i32_528
  let v885 : BitVec 1 := Scalar.andi v882 v884
  let v871 : BitVec 32 := Scalar.divsi v870 c1024_i32_523
  let c1_i32_529 : BitVec 32 := 1#32
  let v886 : BitVec 32 := Scalar.subi v871 c1_i32_529
  let v887 : BitVec 32 := Scalar.select v885 v886 v871
  let c4_i32_534 : BitVec 32 := 4#32
  let v899 : BitVec 32 := Scalar.muli v887 c4_i32_534
  let c3_i32_535 : BitVec 32 := 3#32
  let v900 : BitVec 32 := Scalar.addi v899 c3_i32_535
  let c256_i32_536 : BitVec 32 := 256#32
  let v901 : BitVec 32 := Scalar.muli v900 c256_i32_536
  v901
def k0_mult180 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_544 : BitVec 32 := 512#32
  let v915 : BitVec 32 := Scalar.muli v1 c512_i32_544
  let c0_i32_546 : BitVec 32 := 0#32
  let v917 : BitVec 1 := Scalar.cmpi .sgt v915 c0_i32_546
  let v918 : BitVec 32 := Scalar.extui v917
  let c0_i32_547 : BitVec 32 := 0#32
  let v919 : BitVec 1 := Scalar.cmpi .slt v915 c0_i32_547
  let v920 : BitVec 32 := Scalar.extui v919
  let v921 : BitVec 32 := Scalar.subi v918 v920
  let c1024_i32_545 : BitVec 32 := 1024#32
  let c0_i32_548 : BitVec 32 := 0#32
  let v922 : BitVec 1 := Scalar.cmpi .sgt c1024_i32_545 c0_i32_548
  let v923 : BitVec 32 := Scalar.extui v922
  let c0_i32_549 : BitVec 32 := 0#32
  let v924 : BitVec 1 := Scalar.cmpi .slt c1024_i32_545 c0_i32_549
  let v925 : BitVec 32 := Scalar.extui v924
  let v926 : BitVec 32 := Scalar.subi v923 v925
  let v927 : BitVec 1 := Scalar.cmpi .ne v921 v926
  let v928 : BitVec 32 := Scalar.remsi v915 c1024_i32_545
  let c0_i32_550 : BitVec 32 := 0#32
  let v929 : BitVec 1 := Scalar.cmpi .ne v928 c0_i32_550
  let v930 : BitVec 1 := Scalar.andi v927 v929
  let v916 : BitVec 32 := Scalar.divsi v915 c1024_i32_545
  let c1_i32_551 : BitVec 32 := 1#32
  let v931 : BitVec 32 := Scalar.subi v916 c1_i32_551
  let v932 : BitVec 32 := Scalar.select v930 v931 v916
  let c4_i32_556 : BitVec 32 := 4#32
  let v944 : BitVec 32 := Scalar.muli v932 c4_i32_556
  let c3_i32_557 : BitVec 32 := 3#32
  let v945 : BitVec 32 := Scalar.addi v944 c3_i32_557
  let c256_i32_558 : BitVec 32 := 256#32
  let v946 : BitVec 32 := Scalar.muli v945 c256_i32_558
  v946
def k0_mult181 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_578 : BitVec 32 := 4#32
  let v974 : BitVec 32 := Scalar.muli v468 c4_i32_578
  let c2_i32_579 : BitVec 32 := 2#32
  let v975 : BitVec 32 := Scalar.addi v974 c2_i32_579
  let c256_i32_580 : BitVec 32 := 256#32
  let v976 : BitVec 32 := Scalar.muli v975 c256_i32_580
  v976
def k0_mult182 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_593 : BitVec 32 := 4#32
  let v996 : BitVec 32 := Scalar.muli v468 c4_i32_593
  let c2_i32_594 : BitVec 32 := 2#32
  let v997 : BitVec 32 := Scalar.addi v996 c2_i32_594
  let c256_i32_595 : BitVec 32 := 256#32
  let v998 : BitVec 32 := Scalar.muli v997 c256_i32_595
  v998
def k0_mult183 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_608 : BitVec 32 := 4#32
  let v1018 : BitVec 32 := Scalar.muli v468 c4_i32_608
  let c3_i32_609 : BitVec 32 := 3#32
  let v1019 : BitVec 32 := Scalar.addi v1018 c3_i32_609
  let c256_i32_610 : BitVec 32 := 256#32
  let v1020 : BitVec 32 := Scalar.muli v1019 c256_i32_610
  v1020
def k0_mult184 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_623 : BitVec 32 := 4#32
  let v1040 : BitVec 32 := Scalar.muli v468 c4_i32_623
  let c3_i32_624 : BitVec 32 := 3#32
  let v1041 : BitVec 32 := Scalar.addi v1040 c3_i32_624
  let c256_i32_625 : BitVec 32 := 256#32
  let v1042 : BitVec 32 := Scalar.muli v1041 c256_i32_625
  v1042
def k0_cond4 (i : grid0.Coords) : BitVec 1 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v65 : BitVec 32 := Scalar.subi v31 v64
  let c2_i32 : BitVec 32 := 2#32
  let v72 : BitVec 1 := Scalar.cmpi .eq v65 c2_i32
  let v73 : BitVec 32 := Scalar.extui v72
  let c0_i32_33 : BitVec 32 := 0#32
  let v74 : BitVec 1 := Scalar.cmpi .ne v73 c0_i32_33
  v74

def k0_mult185 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_99 : BitVec 32 := 4#32
  let v173 : BitVec 32 := Scalar.muli v135 c4_i32_99
  let c0_i32_100 : BitVec 32 := 0#32
  let v174 : BitVec 32 := Scalar.addi v173 c0_i32_100
  let c256_i32 : BitVec 32 := 256#32
  let v175 : BitVec 32 := Scalar.muli v174 c256_i32
  v175
def k0_off11 (i : grid0.Coords) (c0_i32_66 : BitVec 32) (c0_i32_100 : BitVec 32) : Fin 2 → Nat :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v135 : BitVec 32 := Scalar.addi v64 c0_i32_66
  let c4_i32_99 : BitVec 32 := 4#32
  let v173 : BitVec 32 := Scalar.muli v135 c4_i32_99
  let v174 : BitVec 32 := Scalar.addi v173 c0_i32_100
  let c256_i32 : BitVec 32 := 256#32
  let v175 : BitVec 32 := Scalar.muli v174 c256_i32
  let v176 : BitVec 32 := v175
  let v177 : Index := Scalar.indexCast v176
  let c0_101 : Index := 0#32
  ![v177.toNat, 0]
def k0_mult186 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_107 : BitVec 32 := 4#32
  let v186 : BitVec 32 := Scalar.muli v135 c4_i32_107
  let c0_i32_108 : BitVec 32 := 0#32
  let v187 : BitVec 32 := Scalar.addi v186 c0_i32_108
  let c256_i32_109 : BitVec 32 := 256#32
  let v188 : BitVec 32 := Scalar.muli v187 c256_i32_109
  v188
def k0_mult187 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_116 : BitVec 32 := 4#32
  let v199 : BitVec 32 := Scalar.muli v135 c4_i32_116
  let c1_i32_117 : BitVec 32 := 1#32
  let v200 : BitVec 32 := Scalar.addi v199 c1_i32_117
  let c256_i32_118 : BitVec 32 := 256#32
  let v201 : BitVec 32 := Scalar.muli v200 c256_i32_118
  v201
def k0_mult188 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_124 : BitVec 32 := 4#32
  let v213 : BitVec 32 := Scalar.muli v135 c4_i32_124
  let c1_i32_125 : BitVec 32 := 1#32
  let v214 : BitVec 32 := Scalar.addi v213 c1_i32_125
  let c256_i32_126 : BitVec 32 := 256#32
  let v215 : BitVec 32 := Scalar.muli v214 c256_i32_126
  v215
def k0_mult189 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let c0_i32_140 : BitVec 32 := 0#32
  let v236 : BitVec 32 := Scalar.addi v235 c0_i32_140
  let c256_i32_141 : BitVec 32 := 256#32
  let v237 : BitVec 32 := Scalar.muli v236 c256_i32_141
  v237
def k0_off12 (i : grid0.Coords) (c0_i32_66 : BitVec 32) (c0_i32_140 : BitVec 32) : Fin 2 → Nat :=
  let c0_142 : Index := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let v236 : BitVec 32 := Scalar.addi v235 c0_i32_140
  let c256_i32_141 : BitVec 32 := 256#32
  let v237 : BitVec 32 := Scalar.muli v236 c256_i32_141
  let v238 : BitVec 32 := v237
  let v239 : Index := Scalar.indexCast v238
  ![0, v239.toNat]
def k0_mult190 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_154 : BitVec 32 := 4#32
  let v257 : BitVec 32 := Scalar.muli v138 c4_i32_154
  let c0_i32_155 : BitVec 32 := 0#32
  let v258 : BitVec 32 := Scalar.addi v257 c0_i32_155
  let c256_i32_156 : BitVec 32 := 256#32
  let v259 : BitVec 32 := Scalar.muli v258 c256_i32_156
  v259
def k0_mult191 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_163 : BitVec 32 := 4#32
  let v271 : BitVec 32 := Scalar.muli v135 c4_i32_163
  let c2_i32_164 : BitVec 32 := 2#32
  let v272 : BitVec 32 := Scalar.addi v271 c2_i32_164
  let c256_i32_165 : BitVec 32 := 256#32
  let v273 : BitVec 32 := Scalar.muli v272 c256_i32_165
  v273
def k0_mult192 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_171 : BitVec 32 := 4#32
  let v285 : BitVec 32 := Scalar.muli v135 c4_i32_171
  let c2_i32_172 : BitVec 32 := 2#32
  let v286 : BitVec 32 := Scalar.addi v285 c2_i32_172
  let c256_i32_173 : BitVec 32 := 256#32
  let v287 : BitVec 32 := Scalar.muli v286 c256_i32_173
  v287
def k0_mult193 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_186 : BitVec 32 := 4#32
  let v307 : BitVec 32 := Scalar.muli v138 c4_i32_186
  let c1_i32_187 : BitVec 32 := 1#32
  let v308 : BitVec 32 := Scalar.addi v307 c1_i32_187
  let c256_i32_188 : BitVec 32 := 256#32
  let v309 : BitVec 32 := Scalar.muli v308 c256_i32_188
  v309
def k0_mult194 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_201 : BitVec 32 := 4#32
  let v329 : BitVec 32 := Scalar.muli v138 c4_i32_201
  let c1_i32_202 : BitVec 32 := 1#32
  let v330 : BitVec 32 := Scalar.addi v329 c1_i32_202
  let c256_i32_203 : BitVec 32 := 256#32
  let v331 : BitVec 32 := Scalar.muli v330 c256_i32_203
  v331
def k0_mult195 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_210 : BitVec 32 := 4#32
  let v343 : BitVec 32 := Scalar.muli v135 c4_i32_210
  let c3_i32_211 : BitVec 32 := 3#32
  let v344 : BitVec 32 := Scalar.addi v343 c3_i32_211
  let c256_i32_212 : BitVec 32 := 256#32
  let v345 : BitVec 32 := Scalar.muli v344 c256_i32_212
  v345
def k0_mult196 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_218 : BitVec 32 := 4#32
  let v357 : BitVec 32 := Scalar.muli v135 c4_i32_218
  let c3_i32_219 : BitVec 32 := 3#32
  let v358 : BitVec 32 := Scalar.addi v357 c3_i32_219
  let c256_i32_220 : BitVec 32 := 256#32
  let v359 : BitVec 32 := Scalar.muli v358 c256_i32_220
  v359
def k0_mult197 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_239 : BitVec 32 := 4#32
  let v385 : BitVec 32 := Scalar.muli v138 c4_i32_239
  let c2_i32_240 : BitVec 32 := 2#32
  let v386 : BitVec 32 := Scalar.addi v385 c2_i32_240
  let c256_i32_241 : BitVec 32 := 256#32
  let v387 : BitVec 32 := Scalar.muli v386 c256_i32_241
  v387
def k0_mult198 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_254 : BitVec 32 := 4#32
  let v407 : BitVec 32 := Scalar.muli v138 c4_i32_254
  let c2_i32_255 : BitVec 32 := 2#32
  let v408 : BitVec 32 := Scalar.addi v407 c2_i32_255
  let c256_i32_256 : BitVec 32 := 256#32
  let v409 : BitVec 32 := Scalar.muli v408 c256_i32_256
  v409
def k0_mult199 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_269 : BitVec 32 := 4#32
  let v429 : BitVec 32 := Scalar.muli v138 c4_i32_269
  let c3_i32_270 : BitVec 32 := 3#32
  let v430 : BitVec 32 := Scalar.addi v429 c3_i32_270
  let c256_i32_271 : BitVec 32 := 256#32
  let v431 : BitVec 32 := Scalar.muli v430 c256_i32_271
  v431
def k0_mult200 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_284 : BitVec 32 := 4#32
  let v451 : BitVec 32 := Scalar.muli v138 c4_i32_284
  let c3_i32_285 : BitVec 32 := 3#32
  let v452 : BitVec 32 := Scalar.addi v451 c3_i32_285
  let c256_i32_286 : BitVec 32 := 256#32
  let v453 : BitVec 32 := Scalar.muli v452 c256_i32_286
  v453
def k0_mult201 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_326 : BitVec 32 := 4#32
  let v503 : BitVec 32 := Scalar.muli v465 c4_i32_326
  let c0_i32_327 : BitVec 32 := 0#32
  let v504 : BitVec 32 := Scalar.addi v503 c0_i32_327
  let c256_i32_328 : BitVec 32 := 256#32
  let v505 : BitVec 32 := Scalar.muli v504 c256_i32_328
  v505
def k0_mult202 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_335 : BitVec 32 := 4#32
  let v516 : BitVec 32 := Scalar.muli v465 c4_i32_335
  let c0_i32_336 : BitVec 32 := 0#32
  let v517 : BitVec 32 := Scalar.addi v516 c0_i32_336
  let c256_i32_337 : BitVec 32 := 256#32
  let v518 : BitVec 32 := Scalar.muli v517 c256_i32_337
  v518
def k0_mult203 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_344 : BitVec 32 := 4#32
  let v529 : BitVec 32 := Scalar.muli v465 c4_i32_344
  let c1_i32_345 : BitVec 32 := 1#32
  let v530 : BitVec 32 := Scalar.addi v529 c1_i32_345
  let c256_i32_346 : BitVec 32 := 256#32
  let v531 : BitVec 32 := Scalar.muli v530 c256_i32_346
  v531
def k0_mult204 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_353 : BitVec 32 := 4#32
  let v543 : BitVec 32 := Scalar.muli v465 c4_i32_353
  let c1_i32_354 : BitVec 32 := 1#32
  let v544 : BitVec 32 := Scalar.addi v543 c1_i32_354
  let c256_i32_355 : BitVec 32 := 256#32
  let v545 : BitVec 32 := Scalar.muli v544 c256_i32_355
  v545
def k0_mult205 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_368 : BitVec 32 := 4#32
  let v565 : BitVec 32 := Scalar.muli v468 c4_i32_368
  let c0_i32_369 : BitVec 32 := 0#32
  let v566 : BitVec 32 := Scalar.addi v565 c0_i32_369
  let c256_i32_370 : BitVec 32 := 256#32
  let v567 : BitVec 32 := Scalar.muli v566 c256_i32_370
  v567
def k0_mult206 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_383 : BitVec 32 := 4#32
  let v587 : BitVec 32 := Scalar.muli v468 c4_i32_383
  let c0_i32_384 : BitVec 32 := 0#32
  let v588 : BitVec 32 := Scalar.addi v587 c0_i32_384
  let c256_i32_385 : BitVec 32 := 256#32
  let v589 : BitVec 32 := Scalar.muli v588 c256_i32_385
  v589
def k0_mult207 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_392 : BitVec 32 := 4#32
  let v601 : BitVec 32 := Scalar.muli v465 c4_i32_392
  let c2_i32_393 : BitVec 32 := 2#32
  let v602 : BitVec 32 := Scalar.addi v601 c2_i32_393
  let c256_i32_394 : BitVec 32 := 256#32
  let v603 : BitVec 32 := Scalar.muli v602 c256_i32_394
  v603
def k0_mult208 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_401 : BitVec 32 := 4#32
  let v615 : BitVec 32 := Scalar.muli v465 c4_i32_401
  let c2_i32_402 : BitVec 32 := 2#32
  let v616 : BitVec 32 := Scalar.addi v615 c2_i32_402
  let c256_i32_403 : BitVec 32 := 256#32
  let v617 : BitVec 32 := Scalar.muli v616 c256_i32_403
  v617
def k0_mult209 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_416 : BitVec 32 := 4#32
  let v637 : BitVec 32 := Scalar.muli v468 c4_i32_416
  let c1_i32_417 : BitVec 32 := 1#32
  let v638 : BitVec 32 := Scalar.addi v637 c1_i32_417
  let c256_i32_418 : BitVec 32 := 256#32
  let v639 : BitVec 32 := Scalar.muli v638 c256_i32_418
  v639
def k0_mult210 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_431 : BitVec 32 := 4#32
  let v659 : BitVec 32 := Scalar.muli v468 c4_i32_431
  let c1_i32_432 : BitVec 32 := 1#32
  let v660 : BitVec 32 := Scalar.addi v659 c1_i32_432
  let c256_i32_433 : BitVec 32 := 256#32
  let v661 : BitVec 32 := Scalar.muli v660 c256_i32_433
  v661
def k0_mult211 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_440 : BitVec 32 := 4#32
  let v673 : BitVec 32 := Scalar.muli v465 c4_i32_440
  let c3_i32_441 : BitVec 32 := 3#32
  let v674 : BitVec 32 := Scalar.addi v673 c3_i32_441
  let c256_i32_442 : BitVec 32 := 256#32
  let v675 : BitVec 32 := Scalar.muli v674 c256_i32_442
  v675
def k0_mult212 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_449 : BitVec 32 := 4#32
  let v687 : BitVec 32 := Scalar.muli v465 c4_i32_449
  let c3_i32_450 : BitVec 32 := 3#32
  let v688 : BitVec 32 := Scalar.addi v687 c3_i32_450
  let c256_i32_451 : BitVec 32 := 256#32
  let v689 : BitVec 32 := Scalar.muli v688 c256_i32_451
  v689
def k0_mult213 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_470 : BitVec 32 := 4#32
  let v715 : BitVec 32 := Scalar.muli v468 c4_i32_470
  let c2_i32_471 : BitVec 32 := 2#32
  let v716 : BitVec 32 := Scalar.addi v715 c2_i32_471
  let c256_i32_472 : BitVec 32 := 256#32
  let v717 : BitVec 32 := Scalar.muli v716 c256_i32_472
  v717
def k0_mult214 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_485 : BitVec 32 := 4#32
  let v737 : BitVec 32 := Scalar.muli v468 c4_i32_485
  let c2_i32_486 : BitVec 32 := 2#32
  let v738 : BitVec 32 := Scalar.addi v737 c2_i32_486
  let c256_i32_487 : BitVec 32 := 256#32
  let v739 : BitVec 32 := Scalar.muli v738 c256_i32_487
  v739
def k0_mult215 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_500 : BitVec 32 := 4#32
  let v759 : BitVec 32 := Scalar.muli v468 c4_i32_500
  let c3_i32_501 : BitVec 32 := 3#32
  let v760 : BitVec 32 := Scalar.addi v759 c3_i32_501
  let c256_i32_502 : BitVec 32 := 256#32
  let v761 : BitVec 32 := Scalar.muli v760 c256_i32_502
  v761
def k0_mult216 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_515 : BitVec 32 := 4#32
  let v781 : BitVec 32 := Scalar.muli v468 c4_i32_515
  let c3_i32_516 : BitVec 32 := 3#32
  let v782 : BitVec 32 := Scalar.addi v781 c3_i32_516
  let c256_i32_517 : BitVec 32 := 256#32
  let v783 : BitVec 32 := Scalar.muli v782 c256_i32_517
  v783
def k0_mult217 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_567 : BitVec 32 := 4#32
  let v852 : BitVec 32 := Scalar.muli v798 c4_i32_567
  let c0_i32_568 : BitVec 32 := 0#32
  let v853 : BitVec 32 := Scalar.addi v852 c0_i32_568
  let c256_i32_569 : BitVec 32 := 256#32
  let v854 : BitVec 32 := Scalar.muli v853 c256_i32_569
  v854
def k0_mult218 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_582 : BitVec 32 := 4#32
  let v874 : BitVec 32 := Scalar.muli v798 c4_i32_582
  let c0_i32_583 : BitVec 32 := 0#32
  let v875 : BitVec 32 := Scalar.addi v874 c0_i32_583
  let c256_i32_584 : BitVec 32 := 256#32
  let v876 : BitVec 32 := Scalar.muli v875 c256_i32_584
  v876
def k0_mult219 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_591 : BitVec 32 := 512#32
  let v888 : BitVec 32 := Scalar.muli v1 c512_i32_591
  let c0_i32_593 : BitVec 32 := 0#32
  let v890 : BitVec 1 := Scalar.cmpi .sgt v888 c0_i32_593
  let v891 : BitVec 32 := Scalar.extui v890
  let c0_i32_594 : BitVec 32 := 0#32
  let v892 : BitVec 1 := Scalar.cmpi .slt v888 c0_i32_594
  let v893 : BitVec 32 := Scalar.extui v892
  let v894 : BitVec 32 := Scalar.subi v891 v893
  let c1024_i32_592 : BitVec 32 := 1024#32
  let c0_i32_595 : BitVec 32 := 0#32
  let v895 : BitVec 1 := Scalar.cmpi .sgt c1024_i32_592 c0_i32_595
  let v896 : BitVec 32 := Scalar.extui v895
  let c0_i32_596 : BitVec 32 := 0#32
  let v897 : BitVec 1 := Scalar.cmpi .slt c1024_i32_592 c0_i32_596
  let v898 : BitVec 32 := Scalar.extui v897
  let v899 : BitVec 32 := Scalar.subi v896 v898
  let v900 : BitVec 1 := Scalar.cmpi .ne v894 v899
  let v901 : BitVec 32 := Scalar.remsi v888 c1024_i32_592
  let c0_i32_597 : BitVec 32 := 0#32
  let v902 : BitVec 1 := Scalar.cmpi .ne v901 c0_i32_597
  let v903 : BitVec 1 := Scalar.andi v900 v902
  let v889 : BitVec 32 := Scalar.divsi v888 c1024_i32_592
  let c1_i32_598 : BitVec 32 := 1#32
  let v904 : BitVec 32 := Scalar.subi v889 c1_i32_598
  let v905 : BitVec 32 := Scalar.select v903 v904 v889
  let c4_i32_603 : BitVec 32 := 4#32
  let v917 : BitVec 32 := Scalar.muli v905 c4_i32_603
  let c0_i32_604 : BitVec 32 := 0#32
  let v918 : BitVec 32 := Scalar.addi v917 c0_i32_604
  let c256_i32_605 : BitVec 32 := 256#32
  let v919 : BitVec 32 := Scalar.muli v918 c256_i32_605
  v919
def k0_off13 (i : grid0.Coords) (c0_i32_604 : BitVec 32) : Fin 2 → Nat :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_591 : BitVec 32 := 512#32
  let v888 : BitVec 32 := Scalar.muli v1 c512_i32_591
  let c0_i32_593 : BitVec 32 := 0#32
  let v890 : BitVec 1 := Scalar.cmpi .sgt v888 c0_i32_593
  let v891 : BitVec 32 := Scalar.extui v890
  let c0_i32_594 : BitVec 32 := 0#32
  let v892 : BitVec 1 := Scalar.cmpi .slt v888 c0_i32_594
  let v893 : BitVec 32 := Scalar.extui v892
  let v894 : BitVec 32 := Scalar.subi v891 v893
  let c1024_i32_592 : BitVec 32 := 1024#32
  let c0_i32_595 : BitVec 32 := 0#32
  let v895 : BitVec 1 := Scalar.cmpi .sgt c1024_i32_592 c0_i32_595
  let v896 : BitVec 32 := Scalar.extui v895
  let c0_i32_596 : BitVec 32 := 0#32
  let v897 : BitVec 1 := Scalar.cmpi .slt c1024_i32_592 c0_i32_596
  let v898 : BitVec 32 := Scalar.extui v897
  let v899 : BitVec 32 := Scalar.subi v896 v898
  let v900 : BitVec 1 := Scalar.cmpi .ne v894 v899
  let v901 : BitVec 32 := Scalar.remsi v888 c1024_i32_592
  let c0_i32_597 : BitVec 32 := 0#32
  let v902 : BitVec 1 := Scalar.cmpi .ne v901 c0_i32_597
  let v903 : BitVec 1 := Scalar.andi v900 v902
  let v889 : BitVec 32 := Scalar.divsi v888 c1024_i32_592
  let c1_i32_598 : BitVec 32 := 1#32
  let v904 : BitVec 32 := Scalar.subi v889 c1_i32_598
  let v905 : BitVec 32 := Scalar.select v903 v904 v889
  let c4_i32_603 : BitVec 32 := 4#32
  let v917 : BitVec 32 := Scalar.muli v905 c4_i32_603
  let v918 : BitVec 32 := Scalar.addi v917 c0_i32_604
  let c256_i32_605 : BitVec 32 := 256#32
  let v919 : BitVec 32 := Scalar.muli v918 c256_i32_605
  let v920 : BitVec 32 := v919
  let v921 : Index := Scalar.indexCast v920
  let c0_606 : Index := 0#32
  ![v921.toNat, 0]
def k0_mult220 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_613 : BitVec 32 := 512#32
  let v932 : BitVec 32 := Scalar.muli v1 c512_i32_613
  let c0_i32_615 : BitVec 32 := 0#32
  let v934 : BitVec 1 := Scalar.cmpi .sgt v932 c0_i32_615
  let v935 : BitVec 32 := Scalar.extui v934
  let c0_i32_616 : BitVec 32 := 0#32
  let v936 : BitVec 1 := Scalar.cmpi .slt v932 c0_i32_616
  let v937 : BitVec 32 := Scalar.extui v936
  let v938 : BitVec 32 := Scalar.subi v935 v937
  let c1024_i32_614 : BitVec 32 := 1024#32
  let c0_i32_617 : BitVec 32 := 0#32
  let v939 : BitVec 1 := Scalar.cmpi .sgt c1024_i32_614 c0_i32_617
  let v940 : BitVec 32 := Scalar.extui v939
  let c0_i32_618 : BitVec 32 := 0#32
  let v941 : BitVec 1 := Scalar.cmpi .slt c1024_i32_614 c0_i32_618
  let v942 : BitVec 32 := Scalar.extui v941
  let v943 : BitVec 32 := Scalar.subi v940 v942
  let v944 : BitVec 1 := Scalar.cmpi .ne v938 v943
  let v945 : BitVec 32 := Scalar.remsi v932 c1024_i32_614
  let c0_i32_619 : BitVec 32 := 0#32
  let v946 : BitVec 1 := Scalar.cmpi .ne v945 c0_i32_619
  let v947 : BitVec 1 := Scalar.andi v944 v946
  let v933 : BitVec 32 := Scalar.divsi v932 c1024_i32_614
  let c1_i32_620 : BitVec 32 := 1#32
  let v948 : BitVec 32 := Scalar.subi v933 c1_i32_620
  let v949 : BitVec 32 := Scalar.select v947 v948 v933
  let c4_i32_625 : BitVec 32 := 4#32
  let v961 : BitVec 32 := Scalar.muli v949 c4_i32_625
  let c0_i32_626 : BitVec 32 := 0#32
  let v962 : BitVec 32 := Scalar.addi v961 c0_i32_626
  let c256_i32_627 : BitVec 32 := 256#32
  let v963 : BitVec 32 := Scalar.muli v962 c256_i32_627
  v963
def k0_mult221 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_641 : BitVec 32 := 4#32
  let v984 : BitVec 32 := Scalar.muli v798 c4_i32_641
  let c1_i32_642 : BitVec 32 := 1#32
  let v985 : BitVec 32 := Scalar.addi v984 c1_i32_642
  let c256_i32_643 : BitVec 32 := 256#32
  let v986 : BitVec 32 := Scalar.muli v985 c256_i32_643
  v986
def k0_mult222 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_656 : BitVec 32 := 4#32
  let v1006 : BitVec 32 := Scalar.muli v798 c4_i32_656
  let c1_i32_657 : BitVec 32 := 1#32
  let v1007 : BitVec 32 := Scalar.addi v1006 c1_i32_657
  let c256_i32_658 : BitVec 32 := 256#32
  let v1008 : BitVec 32 := Scalar.muli v1007 c256_i32_658
  v1008
def k0_mult223 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_665 : BitVec 32 := 512#32
  let v1020 : BitVec 32 := Scalar.muli v1 c512_i32_665
  let c0_i32_667 : BitVec 32 := 0#32
  let v1022 : BitVec 1 := Scalar.cmpi .sgt v1020 c0_i32_667
  let v1023 : BitVec 32 := Scalar.extui v1022
  let c0_i32_668 : BitVec 32 := 0#32
  let v1024 : BitVec 1 := Scalar.cmpi .slt v1020 c0_i32_668
  let v1025 : BitVec 32 := Scalar.extui v1024
  let v1026 : BitVec 32 := Scalar.subi v1023 v1025
  let c1024_i32_666 : BitVec 32 := 1024#32
  let c0_i32_669 : BitVec 32 := 0#32
  let v1027 : BitVec 1 := Scalar.cmpi .sgt c1024_i32_666 c0_i32_669
  let v1028 : BitVec 32 := Scalar.extui v1027
  let c0_i32_670 : BitVec 32 := 0#32
  let v1029 : BitVec 1 := Scalar.cmpi .slt c1024_i32_666 c0_i32_670
  let v1030 : BitVec 32 := Scalar.extui v1029
  let v1031 : BitVec 32 := Scalar.subi v1028 v1030
  let v1032 : BitVec 1 := Scalar.cmpi .ne v1026 v1031
  let v1033 : BitVec 32 := Scalar.remsi v1020 c1024_i32_666
  let c0_i32_671 : BitVec 32 := 0#32
  let v1034 : BitVec 1 := Scalar.cmpi .ne v1033 c0_i32_671
  let v1035 : BitVec 1 := Scalar.andi v1032 v1034
  let v1021 : BitVec 32 := Scalar.divsi v1020 c1024_i32_666
  let c1_i32_672 : BitVec 32 := 1#32
  let v1036 : BitVec 32 := Scalar.subi v1021 c1_i32_672
  let v1037 : BitVec 32 := Scalar.select v1035 v1036 v1021
  let c4_i32_677 : BitVec 32 := 4#32
  let v1049 : BitVec 32 := Scalar.muli v1037 c4_i32_677
  let c1_i32_678 : BitVec 32 := 1#32
  let v1050 : BitVec 32 := Scalar.addi v1049 c1_i32_678
  let c256_i32_679 : BitVec 32 := 256#32
  let v1051 : BitVec 32 := Scalar.muli v1050 c256_i32_679
  v1051
def k0_mult224 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_687 : BitVec 32 := 512#32
  let v1065 : BitVec 32 := Scalar.muli v1 c512_i32_687
  let c0_i32_689 : BitVec 32 := 0#32
  let v1067 : BitVec 1 := Scalar.cmpi .sgt v1065 c0_i32_689
  let v1068 : BitVec 32 := Scalar.extui v1067
  let c0_i32_690 : BitVec 32 := 0#32
  let v1069 : BitVec 1 := Scalar.cmpi .slt v1065 c0_i32_690
  let v1070 : BitVec 32 := Scalar.extui v1069
  let v1071 : BitVec 32 := Scalar.subi v1068 v1070
  let c1024_i32_688 : BitVec 32 := 1024#32
  let c0_i32_691 : BitVec 32 := 0#32
  let v1072 : BitVec 1 := Scalar.cmpi .sgt c1024_i32_688 c0_i32_691
  let v1073 : BitVec 32 := Scalar.extui v1072
  let c0_i32_692 : BitVec 32 := 0#32
  let v1074 : BitVec 1 := Scalar.cmpi .slt c1024_i32_688 c0_i32_692
  let v1075 : BitVec 32 := Scalar.extui v1074
  let v1076 : BitVec 32 := Scalar.subi v1073 v1075
  let v1077 : BitVec 1 := Scalar.cmpi .ne v1071 v1076
  let v1078 : BitVec 32 := Scalar.remsi v1065 c1024_i32_688
  let c0_i32_693 : BitVec 32 := 0#32
  let v1079 : BitVec 1 := Scalar.cmpi .ne v1078 c0_i32_693
  let v1080 : BitVec 1 := Scalar.andi v1077 v1079
  let v1066 : BitVec 32 := Scalar.divsi v1065 c1024_i32_688
  let c1_i32_694 : BitVec 32 := 1#32
  let v1081 : BitVec 32 := Scalar.subi v1066 c1_i32_694
  let v1082 : BitVec 32 := Scalar.select v1080 v1081 v1066
  let c4_i32_699 : BitVec 32 := 4#32
  let v1094 : BitVec 32 := Scalar.muli v1082 c4_i32_699
  let c1_i32_700 : BitVec 32 := 1#32
  let v1095 : BitVec 32 := Scalar.addi v1094 c1_i32_700
  let c256_i32_701 : BitVec 32 := 256#32
  let v1096 : BitVec 32 := Scalar.muli v1095 c256_i32_701
  v1096
def k0_mult225 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_715 : BitVec 32 := 4#32
  let v1118 : BitVec 32 := Scalar.muli v798 c4_i32_715
  let c2_i32_716 : BitVec 32 := 2#32
  let v1119 : BitVec 32 := Scalar.addi v1118 c2_i32_716
  let c256_i32_717 : BitVec 32 := 256#32
  let v1120 : BitVec 32 := Scalar.muli v1119 c256_i32_717
  v1120
def k0_mult226 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_730 : BitVec 32 := 4#32
  let v1140 : BitVec 32 := Scalar.muli v798 c4_i32_730
  let c2_i32_731 : BitVec 32 := 2#32
  let v1141 : BitVec 32 := Scalar.addi v1140 c2_i32_731
  let c256_i32_732 : BitVec 32 := 256#32
  let v1142 : BitVec 32 := Scalar.muli v1141 c256_i32_732
  v1142
def k0_mult227 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_739 : BitVec 32 := 512#32
  let v1154 : BitVec 32 := Scalar.muli v1 c512_i32_739
  let c0_i32_741 : BitVec 32 := 0#32
  let v1156 : BitVec 1 := Scalar.cmpi .sgt v1154 c0_i32_741
  let v1157 : BitVec 32 := Scalar.extui v1156
  let c0_i32_742 : BitVec 32 := 0#32
  let v1158 : BitVec 1 := Scalar.cmpi .slt v1154 c0_i32_742
  let v1159 : BitVec 32 := Scalar.extui v1158
  let v1160 : BitVec 32 := Scalar.subi v1157 v1159
  let c1024_i32_740 : BitVec 32 := 1024#32
  let c0_i32_743 : BitVec 32 := 0#32
  let v1161 : BitVec 1 := Scalar.cmpi .sgt c1024_i32_740 c0_i32_743
  let v1162 : BitVec 32 := Scalar.extui v1161
  let c0_i32_744 : BitVec 32 := 0#32
  let v1163 : BitVec 1 := Scalar.cmpi .slt c1024_i32_740 c0_i32_744
  let v1164 : BitVec 32 := Scalar.extui v1163
  let v1165 : BitVec 32 := Scalar.subi v1162 v1164
  let v1166 : BitVec 1 := Scalar.cmpi .ne v1160 v1165
  let v1167 : BitVec 32 := Scalar.remsi v1154 c1024_i32_740
  let c0_i32_745 : BitVec 32 := 0#32
  let v1168 : BitVec 1 := Scalar.cmpi .ne v1167 c0_i32_745
  let v1169 : BitVec 1 := Scalar.andi v1166 v1168
  let v1155 : BitVec 32 := Scalar.divsi v1154 c1024_i32_740
  let c1_i32_746 : BitVec 32 := 1#32
  let v1170 : BitVec 32 := Scalar.subi v1155 c1_i32_746
  let v1171 : BitVec 32 := Scalar.select v1169 v1170 v1155
  let c4_i32_751 : BitVec 32 := 4#32
  let v1183 : BitVec 32 := Scalar.muli v1171 c4_i32_751
  let c2_i32_752 : BitVec 32 := 2#32
  let v1184 : BitVec 32 := Scalar.addi v1183 c2_i32_752
  let c256_i32_753 : BitVec 32 := 256#32
  let v1185 : BitVec 32 := Scalar.muli v1184 c256_i32_753
  v1185
def k0_mult228 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_761 : BitVec 32 := 512#32
  let v1199 : BitVec 32 := Scalar.muli v1 c512_i32_761
  let c0_i32_763 : BitVec 32 := 0#32
  let v1201 : BitVec 1 := Scalar.cmpi .sgt v1199 c0_i32_763
  let v1202 : BitVec 32 := Scalar.extui v1201
  let c0_i32_764 : BitVec 32 := 0#32
  let v1203 : BitVec 1 := Scalar.cmpi .slt v1199 c0_i32_764
  let v1204 : BitVec 32 := Scalar.extui v1203
  let v1205 : BitVec 32 := Scalar.subi v1202 v1204
  let c1024_i32_762 : BitVec 32 := 1024#32
  let c0_i32_765 : BitVec 32 := 0#32
  let v1206 : BitVec 1 := Scalar.cmpi .sgt c1024_i32_762 c0_i32_765
  let v1207 : BitVec 32 := Scalar.extui v1206
  let c0_i32_766 : BitVec 32 := 0#32
  let v1208 : BitVec 1 := Scalar.cmpi .slt c1024_i32_762 c0_i32_766
  let v1209 : BitVec 32 := Scalar.extui v1208
  let v1210 : BitVec 32 := Scalar.subi v1207 v1209
  let v1211 : BitVec 1 := Scalar.cmpi .ne v1205 v1210
  let v1212 : BitVec 32 := Scalar.remsi v1199 c1024_i32_762
  let c0_i32_767 : BitVec 32 := 0#32
  let v1213 : BitVec 1 := Scalar.cmpi .ne v1212 c0_i32_767
  let v1214 : BitVec 1 := Scalar.andi v1211 v1213
  let v1200 : BitVec 32 := Scalar.divsi v1199 c1024_i32_762
  let c1_i32_768 : BitVec 32 := 1#32
  let v1215 : BitVec 32 := Scalar.subi v1200 c1_i32_768
  let v1216 : BitVec 32 := Scalar.select v1214 v1215 v1200
  let c4_i32_773 : BitVec 32 := 4#32
  let v1228 : BitVec 32 := Scalar.muli v1216 c4_i32_773
  let c2_i32_774 : BitVec 32 := 2#32
  let v1229 : BitVec 32 := Scalar.addi v1228 c2_i32_774
  let c256_i32_775 : BitVec 32 := 256#32
  let v1230 : BitVec 32 := Scalar.muli v1229 c256_i32_775
  v1230
def k0_mult229 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_789 : BitVec 32 := 4#32
  let v1252 : BitVec 32 := Scalar.muli v798 c4_i32_789
  let c3_i32_790 : BitVec 32 := 3#32
  let v1253 : BitVec 32 := Scalar.addi v1252 c3_i32_790
  let c256_i32_791 : BitVec 32 := 256#32
  let v1254 : BitVec 32 := Scalar.muli v1253 c256_i32_791
  v1254
def k0_mult230 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_804 : BitVec 32 := 4#32
  let v1274 : BitVec 32 := Scalar.muli v798 c4_i32_804
  let c3_i32_805 : BitVec 32 := 3#32
  let v1275 : BitVec 32 := Scalar.addi v1274 c3_i32_805
  let c256_i32_806 : BitVec 32 := 256#32
  let v1276 : BitVec 32 := Scalar.muli v1275 c256_i32_806
  v1276
def k0_mult231 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_813 : BitVec 32 := 512#32
  let v1288 : BitVec 32 := Scalar.muli v1 c512_i32_813
  let c0_i32_815 : BitVec 32 := 0#32
  let v1290 : BitVec 1 := Scalar.cmpi .sgt v1288 c0_i32_815
  let v1291 : BitVec 32 := Scalar.extui v1290
  let c0_i32_816 : BitVec 32 := 0#32
  let v1292 : BitVec 1 := Scalar.cmpi .slt v1288 c0_i32_816
  let v1293 : BitVec 32 := Scalar.extui v1292
  let v1294 : BitVec 32 := Scalar.subi v1291 v1293
  let c1024_i32_814 : BitVec 32 := 1024#32
  let c0_i32_817 : BitVec 32 := 0#32
  let v1295 : BitVec 1 := Scalar.cmpi .sgt c1024_i32_814 c0_i32_817
  let v1296 : BitVec 32 := Scalar.extui v1295
  let c0_i32_818 : BitVec 32 := 0#32
  let v1297 : BitVec 1 := Scalar.cmpi .slt c1024_i32_814 c0_i32_818
  let v1298 : BitVec 32 := Scalar.extui v1297
  let v1299 : BitVec 32 := Scalar.subi v1296 v1298
  let v1300 : BitVec 1 := Scalar.cmpi .ne v1294 v1299
  let v1301 : BitVec 32 := Scalar.remsi v1288 c1024_i32_814
  let c0_i32_819 : BitVec 32 := 0#32
  let v1302 : BitVec 1 := Scalar.cmpi .ne v1301 c0_i32_819
  let v1303 : BitVec 1 := Scalar.andi v1300 v1302
  let v1289 : BitVec 32 := Scalar.divsi v1288 c1024_i32_814
  let c1_i32_820 : BitVec 32 := 1#32
  let v1304 : BitVec 32 := Scalar.subi v1289 c1_i32_820
  let v1305 : BitVec 32 := Scalar.select v1303 v1304 v1289
  let c4_i32_825 : BitVec 32 := 4#32
  let v1317 : BitVec 32 := Scalar.muli v1305 c4_i32_825
  let c3_i32_826 : BitVec 32 := 3#32
  let v1318 : BitVec 32 := Scalar.addi v1317 c3_i32_826
  let c256_i32_827 : BitVec 32 := 256#32
  let v1319 : BitVec 32 := Scalar.muli v1318 c256_i32_827
  v1319
def k0_mult232 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_835 : BitVec 32 := 512#32
  let v1333 : BitVec 32 := Scalar.muli v1 c512_i32_835
  let c0_i32_837 : BitVec 32 := 0#32
  let v1335 : BitVec 1 := Scalar.cmpi .sgt v1333 c0_i32_837
  let v1336 : BitVec 32 := Scalar.extui v1335
  let c0_i32_838 : BitVec 32 := 0#32
  let v1337 : BitVec 1 := Scalar.cmpi .slt v1333 c0_i32_838
  let v1338 : BitVec 32 := Scalar.extui v1337
  let v1339 : BitVec 32 := Scalar.subi v1336 v1338
  let c1024_i32_836 : BitVec 32 := 1024#32
  let c0_i32_839 : BitVec 32 := 0#32
  let v1340 : BitVec 1 := Scalar.cmpi .sgt c1024_i32_836 c0_i32_839
  let v1341 : BitVec 32 := Scalar.extui v1340
  let c0_i32_840 : BitVec 32 := 0#32
  let v1342 : BitVec 1 := Scalar.cmpi .slt c1024_i32_836 c0_i32_840
  let v1343 : BitVec 32 := Scalar.extui v1342
  let v1344 : BitVec 32 := Scalar.subi v1341 v1343
  let v1345 : BitVec 1 := Scalar.cmpi .ne v1339 v1344
  let v1346 : BitVec 32 := Scalar.remsi v1333 c1024_i32_836
  let c0_i32_841 : BitVec 32 := 0#32
  let v1347 : BitVec 1 := Scalar.cmpi .ne v1346 c0_i32_841
  let v1348 : BitVec 1 := Scalar.andi v1345 v1347
  let v1334 : BitVec 32 := Scalar.divsi v1333 c1024_i32_836
  let c1_i32_842 : BitVec 32 := 1#32
  let v1349 : BitVec 32 := Scalar.subi v1334 c1_i32_842
  let v1350 : BitVec 32 := Scalar.select v1348 v1349 v1334
  let c4_i32_847 : BitVec 32 := 4#32
  let v1362 : BitVec 32 := Scalar.muli v1350 c4_i32_847
  let c3_i32_848 : BitVec 32 := 3#32
  let v1363 : BitVec 32 := Scalar.addi v1362 c3_i32_848
  let c256_i32_849 : BitVec 32 := 256#32
  let v1364 : BitVec 32 := Scalar.muli v1363 c256_i32_849
  v1364
def k0_cond5 (i : grid0.Coords) : BitVec 1 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v65 : BitVec 32 := Scalar.subi v31 v64
  let c3_i32 : BitVec 32 := 3#32
  let v75 : BitVec 1 := Scalar.cmpi .eq v65 c3_i32
  let v76 : BitVec 32 := Scalar.extui v75
  let c0_i32_34 : BitVec 32 := 0#32
  let v77 : BitVec 1 := Scalar.cmpi .ne v76 c0_i32_34
  v77

def k0_mult233 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_99 : BitVec 32 := 4#32
  let v173 : BitVec 32 := Scalar.muli v135 c4_i32_99
  let c0_i32_100 : BitVec 32 := 0#32
  let v174 : BitVec 32 := Scalar.addi v173 c0_i32_100
  let c256_i32 : BitVec 32 := 256#32
  let v175 : BitVec 32 := Scalar.muli v174 c256_i32
  v175
def k0_off14 (i : grid0.Coords) (c0_i32_66 : BitVec 32) (c0_i32_100 : BitVec 32) : Fin 2 → Nat :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v135 : BitVec 32 := Scalar.addi v64 c0_i32_66
  let c4_i32_99 : BitVec 32 := 4#32
  let v173 : BitVec 32 := Scalar.muli v135 c4_i32_99
  let v174 : BitVec 32 := Scalar.addi v173 c0_i32_100
  let c256_i32 : BitVec 32 := 256#32
  let v175 : BitVec 32 := Scalar.muli v174 c256_i32
  let v176 : BitVec 32 := v175
  let v177 : Index := Scalar.indexCast v176
  let c0_101 : Index := 0#32
  ![v177.toNat, 0]
def k0_mult234 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_107 : BitVec 32 := 4#32
  let v186 : BitVec 32 := Scalar.muli v135 c4_i32_107
  let c0_i32_108 : BitVec 32 := 0#32
  let v187 : BitVec 32 := Scalar.addi v186 c0_i32_108
  let c256_i32_109 : BitVec 32 := 256#32
  let v188 : BitVec 32 := Scalar.muli v187 c256_i32_109
  v188
def k0_mult235 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_116 : BitVec 32 := 4#32
  let v199 : BitVec 32 := Scalar.muli v135 c4_i32_116
  let c1_i32_117 : BitVec 32 := 1#32
  let v200 : BitVec 32 := Scalar.addi v199 c1_i32_117
  let c256_i32_118 : BitVec 32 := 256#32
  let v201 : BitVec 32 := Scalar.muli v200 c256_i32_118
  v201
def k0_mult236 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_124 : BitVec 32 := 4#32
  let v213 : BitVec 32 := Scalar.muli v135 c4_i32_124
  let c1_i32_125 : BitVec 32 := 1#32
  let v214 : BitVec 32 := Scalar.addi v213 c1_i32_125
  let c256_i32_126 : BitVec 32 := 256#32
  let v215 : BitVec 32 := Scalar.muli v214 c256_i32_126
  v215
def k0_mult237 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let c0_i32_140 : BitVec 32 := 0#32
  let v236 : BitVec 32 := Scalar.addi v235 c0_i32_140
  let c256_i32_141 : BitVec 32 := 256#32
  let v237 : BitVec 32 := Scalar.muli v236 c256_i32_141
  v237
def k0_off15 (i : grid0.Coords) (c0_i32_66 : BitVec 32) (c0_i32_140 : BitVec 32) : Fin 2 → Nat :=
  let c0_142 : Index := 0#32
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_139 : BitVec 32 := 4#32
  let v235 : BitVec 32 := Scalar.muli v138 c4_i32_139
  let v236 : BitVec 32 := Scalar.addi v235 c0_i32_140
  let c256_i32_141 : BitVec 32 := 256#32
  let v237 : BitVec 32 := Scalar.muli v236 c256_i32_141
  let v238 : BitVec 32 := v237
  let v239 : Index := Scalar.indexCast v238
  ![0, v239.toNat]
def k0_mult238 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_154 : BitVec 32 := 4#32
  let v257 : BitVec 32 := Scalar.muli v138 c4_i32_154
  let c0_i32_155 : BitVec 32 := 0#32
  let v258 : BitVec 32 := Scalar.addi v257 c0_i32_155
  let c256_i32_156 : BitVec 32 := 256#32
  let v259 : BitVec 32 := Scalar.muli v258 c256_i32_156
  v259
def k0_mult239 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_163 : BitVec 32 := 4#32
  let v271 : BitVec 32 := Scalar.muli v135 c4_i32_163
  let c2_i32_164 : BitVec 32 := 2#32
  let v272 : BitVec 32 := Scalar.addi v271 c2_i32_164
  let c256_i32_165 : BitVec 32 := 256#32
  let v273 : BitVec 32 := Scalar.muli v272 c256_i32_165
  v273
def k0_mult240 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_171 : BitVec 32 := 4#32
  let v285 : BitVec 32 := Scalar.muli v135 c4_i32_171
  let c2_i32_172 : BitVec 32 := 2#32
  let v286 : BitVec 32 := Scalar.addi v285 c2_i32_172
  let c256_i32_173 : BitVec 32 := 256#32
  let v287 : BitVec 32 := Scalar.muli v286 c256_i32_173
  v287
def k0_mult241 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_186 : BitVec 32 := 4#32
  let v307 : BitVec 32 := Scalar.muli v138 c4_i32_186
  let c1_i32_187 : BitVec 32 := 1#32
  let v308 : BitVec 32 := Scalar.addi v307 c1_i32_187
  let c256_i32_188 : BitVec 32 := 256#32
  let v309 : BitVec 32 := Scalar.muli v308 c256_i32_188
  v309
def k0_mult242 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_201 : BitVec 32 := 4#32
  let v329 : BitVec 32 := Scalar.muli v138 c4_i32_201
  let c1_i32_202 : BitVec 32 := 1#32
  let v330 : BitVec 32 := Scalar.addi v329 c1_i32_202
  let c256_i32_203 : BitVec 32 := 256#32
  let v331 : BitVec 32 := Scalar.muli v330 c256_i32_203
  v331
def k0_mult243 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_210 : BitVec 32 := 4#32
  let v343 : BitVec 32 := Scalar.muli v135 c4_i32_210
  let c3_i32_211 : BitVec 32 := 3#32
  let v344 : BitVec 32 := Scalar.addi v343 c3_i32_211
  let c256_i32_212 : BitVec 32 := 256#32
  let v345 : BitVec 32 := Scalar.muli v344 c256_i32_212
  v345
def k0_mult244 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c4_i32_218 : BitVec 32 := 4#32
  let v357 : BitVec 32 := Scalar.muli v135 c4_i32_218
  let c3_i32_219 : BitVec 32 := 3#32
  let v358 : BitVec 32 := Scalar.addi v357 c3_i32_219
  let c256_i32_220 : BitVec 32 := 256#32
  let v359 : BitVec 32 := Scalar.muli v358 c256_i32_220
  v359
def k0_mult245 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_239 : BitVec 32 := 4#32
  let v385 : BitVec 32 := Scalar.muli v138 c4_i32_239
  let c2_i32_240 : BitVec 32 := 2#32
  let v386 : BitVec 32 := Scalar.addi v385 c2_i32_240
  let c256_i32_241 : BitVec 32 := 256#32
  let v387 : BitVec 32 := Scalar.muli v386 c256_i32_241
  v387
def k0_mult246 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_254 : BitVec 32 := 4#32
  let v407 : BitVec 32 := Scalar.muli v138 c4_i32_254
  let c2_i32_255 : BitVec 32 := 2#32
  let v408 : BitVec 32 := Scalar.addi v407 c2_i32_255
  let c256_i32_256 : BitVec 32 := 256#32
  let v409 : BitVec 32 := Scalar.muli v408 c256_i32_256
  v409
def k0_mult247 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_269 : BitVec 32 := 4#32
  let v429 : BitVec 32 := Scalar.muli v138 c4_i32_269
  let c3_i32_270 : BitVec 32 := 3#32
  let v430 : BitVec 32 := Scalar.addi v429 c3_i32_270
  let c256_i32_271 : BitVec 32 := 256#32
  let v431 : BitVec 32 := Scalar.muli v430 c256_i32_271
  v431
def k0_mult248 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c0_i32_66 : BitVec 32 := 0#32
  let v135 : BitVec 32 := Scalar.addi v64 c0_i32_66
  let c0_i32_67 : BitVec 32 := 0#32
  let v136 : BitVec 1 := Scalar.cmpi .eq v135 c0_i32_67
  let c1_i32_68 : BitVec 32 := 1#32
  let v137 : BitVec 32 := Scalar.subi v135 c1_i32_68
  let v138 : BitVec 32 := Scalar.select v136 v31 v137
  let c4_i32_284 : BitVec 32 := 4#32
  let v451 : BitVec 32 := Scalar.muli v138 c4_i32_284
  let c3_i32_285 : BitVec 32 := 3#32
  let v452 : BitVec 32 := Scalar.addi v451 c3_i32_285
  let c256_i32_286 : BitVec 32 := 256#32
  let v453 : BitVec 32 := Scalar.muli v452 c256_i32_286
  v453
def k0_mult249 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_326 : BitVec 32 := 4#32
  let v503 : BitVec 32 := Scalar.muli v465 c4_i32_326
  let c0_i32_327 : BitVec 32 := 0#32
  let v504 : BitVec 32 := Scalar.addi v503 c0_i32_327
  let c256_i32_328 : BitVec 32 := 256#32
  let v505 : BitVec 32 := Scalar.muli v504 c256_i32_328
  v505
def k0_mult250 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_335 : BitVec 32 := 4#32
  let v516 : BitVec 32 := Scalar.muli v465 c4_i32_335
  let c0_i32_336 : BitVec 32 := 0#32
  let v517 : BitVec 32 := Scalar.addi v516 c0_i32_336
  let c256_i32_337 : BitVec 32 := 256#32
  let v518 : BitVec 32 := Scalar.muli v517 c256_i32_337
  v518
def k0_mult251 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_344 : BitVec 32 := 4#32
  let v529 : BitVec 32 := Scalar.muli v465 c4_i32_344
  let c1_i32_345 : BitVec 32 := 1#32
  let v530 : BitVec 32 := Scalar.addi v529 c1_i32_345
  let c256_i32_346 : BitVec 32 := 256#32
  let v531 : BitVec 32 := Scalar.muli v530 c256_i32_346
  v531
def k0_mult252 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_353 : BitVec 32 := 4#32
  let v543 : BitVec 32 := Scalar.muli v465 c4_i32_353
  let c1_i32_354 : BitVec 32 := 1#32
  let v544 : BitVec 32 := Scalar.addi v543 c1_i32_354
  let c256_i32_355 : BitVec 32 := 256#32
  let v545 : BitVec 32 := Scalar.muli v544 c256_i32_355
  v545
def k0_mult253 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_368 : BitVec 32 := 4#32
  let v565 : BitVec 32 := Scalar.muli v468 c4_i32_368
  let c0_i32_369 : BitVec 32 := 0#32
  let v566 : BitVec 32 := Scalar.addi v565 c0_i32_369
  let c256_i32_370 : BitVec 32 := 256#32
  let v567 : BitVec 32 := Scalar.muli v566 c256_i32_370
  v567
def k0_mult254 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_383 : BitVec 32 := 4#32
  let v587 : BitVec 32 := Scalar.muli v468 c4_i32_383
  let c0_i32_384 : BitVec 32 := 0#32
  let v588 : BitVec 32 := Scalar.addi v587 c0_i32_384
  let c256_i32_385 : BitVec 32 := 256#32
  let v589 : BitVec 32 := Scalar.muli v588 c256_i32_385
  v589
def k0_mult255 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_392 : BitVec 32 := 4#32
  let v601 : BitVec 32 := Scalar.muli v465 c4_i32_392
  let c2_i32_393 : BitVec 32 := 2#32
  let v602 : BitVec 32 := Scalar.addi v601 c2_i32_393
  let c256_i32_394 : BitVec 32 := 256#32
  let v603 : BitVec 32 := Scalar.muli v602 c256_i32_394
  v603
def k0_mult256 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_401 : BitVec 32 := 4#32
  let v615 : BitVec 32 := Scalar.muli v465 c4_i32_401
  let c2_i32_402 : BitVec 32 := 2#32
  let v616 : BitVec 32 := Scalar.addi v615 c2_i32_402
  let c256_i32_403 : BitVec 32 := 256#32
  let v617 : BitVec 32 := Scalar.muli v616 c256_i32_403
  v617
def k0_mult257 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_416 : BitVec 32 := 4#32
  let v637 : BitVec 32 := Scalar.muli v468 c4_i32_416
  let c1_i32_417 : BitVec 32 := 1#32
  let v638 : BitVec 32 := Scalar.addi v637 c1_i32_417
  let c256_i32_418 : BitVec 32 := 256#32
  let v639 : BitVec 32 := Scalar.muli v638 c256_i32_418
  v639
def k0_mult258 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_431 : BitVec 32 := 4#32
  let v659 : BitVec 32 := Scalar.muli v468 c4_i32_431
  let c1_i32_432 : BitVec 32 := 1#32
  let v660 : BitVec 32 := Scalar.addi v659 c1_i32_432
  let c256_i32_433 : BitVec 32 := 256#32
  let v661 : BitVec 32 := Scalar.muli v660 c256_i32_433
  v661
def k0_mult259 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_440 : BitVec 32 := 4#32
  let v673 : BitVec 32 := Scalar.muli v465 c4_i32_440
  let c3_i32_441 : BitVec 32 := 3#32
  let v674 : BitVec 32 := Scalar.addi v673 c3_i32_441
  let c256_i32_442 : BitVec 32 := 256#32
  let v675 : BitVec 32 := Scalar.muli v674 c256_i32_442
  v675
def k0_mult260 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c4_i32_449 : BitVec 32 := 4#32
  let v687 : BitVec 32 := Scalar.muli v465 c4_i32_449
  let c3_i32_450 : BitVec 32 := 3#32
  let v688 : BitVec 32 := Scalar.addi v687 c3_i32_450
  let c256_i32_451 : BitVec 32 := 256#32
  let v689 : BitVec 32 := Scalar.muli v688 c256_i32_451
  v689
def k0_mult261 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_470 : BitVec 32 := 4#32
  let v715 : BitVec 32 := Scalar.muli v468 c4_i32_470
  let c2_i32_471 : BitVec 32 := 2#32
  let v716 : BitVec 32 := Scalar.addi v715 c2_i32_471
  let c256_i32_472 : BitVec 32 := 256#32
  let v717 : BitVec 32 := Scalar.muli v716 c256_i32_472
  v717
def k0_mult262 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_485 : BitVec 32 := 4#32
  let v737 : BitVec 32 := Scalar.muli v468 c4_i32_485
  let c2_i32_486 : BitVec 32 := 2#32
  let v738 : BitVec 32 := Scalar.addi v737 c2_i32_486
  let c256_i32_487 : BitVec 32 := 256#32
  let v739 : BitVec 32 := Scalar.muli v738 c256_i32_487
  v739
def k0_mult263 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_500 : BitVec 32 := 4#32
  let v759 : BitVec 32 := Scalar.muli v468 c4_i32_500
  let c3_i32_501 : BitVec 32 := 3#32
  let v760 : BitVec 32 := Scalar.addi v759 c3_i32_501
  let c256_i32_502 : BitVec 32 := 256#32
  let v761 : BitVec 32 := Scalar.muli v760 c256_i32_502
  v761
def k0_mult264 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c1_i32_293 : BitVec 32 := 1#32
  let v465 : BitVec 32 := Scalar.addi v64 c1_i32_293
  let c0_i32_294 : BitVec 32 := 0#32
  let v466 : BitVec 1 := Scalar.cmpi .eq v465 c0_i32_294
  let c1_i32_295 : BitVec 32 := 1#32
  let v467 : BitVec 32 := Scalar.subi v465 c1_i32_295
  let v468 : BitVec 32 := Scalar.select v466 v31 v467
  let c4_i32_515 : BitVec 32 := 4#32
  let v781 : BitVec 32 := Scalar.muli v468 c4_i32_515
  let c3_i32_516 : BitVec 32 := 3#32
  let v782 : BitVec 32 := Scalar.addi v781 c3_i32_516
  let c256_i32_517 : BitVec 32 := 256#32
  let v783 : BitVec 32 := Scalar.muli v782 c256_i32_517
  v783
def k0_mult265 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_557 : BitVec 32 := 4#32
  let v833 : BitVec 32 := Scalar.muli v795 c4_i32_557
  let c0_i32_558 : BitVec 32 := 0#32
  let v834 : BitVec 32 := Scalar.addi v833 c0_i32_558
  let c256_i32_559 : BitVec 32 := 256#32
  let v835 : BitVec 32 := Scalar.muli v834 c256_i32_559
  v835
def k0_mult266 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_566 : BitVec 32 := 4#32
  let v846 : BitVec 32 := Scalar.muli v795 c4_i32_566
  let c0_i32_567 : BitVec 32 := 0#32
  let v847 : BitVec 32 := Scalar.addi v846 c0_i32_567
  let c256_i32_568 : BitVec 32 := 256#32
  let v848 : BitVec 32 := Scalar.muli v847 c256_i32_568
  v848
def k0_mult267 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_575 : BitVec 32 := 4#32
  let v859 : BitVec 32 := Scalar.muli v795 c4_i32_575
  let c1_i32_576 : BitVec 32 := 1#32
  let v860 : BitVec 32 := Scalar.addi v859 c1_i32_576
  let c256_i32_577 : BitVec 32 := 256#32
  let v861 : BitVec 32 := Scalar.muli v860 c256_i32_577
  v861
def k0_mult268 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_584 : BitVec 32 := 4#32
  let v873 : BitVec 32 := Scalar.muli v795 c4_i32_584
  let c1_i32_585 : BitVec 32 := 1#32
  let v874 : BitVec 32 := Scalar.addi v873 c1_i32_585
  let c256_i32_586 : BitVec 32 := 256#32
  let v875 : BitVec 32 := Scalar.muli v874 c256_i32_586
  v875
def k0_mult269 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_599 : BitVec 32 := 4#32
  let v895 : BitVec 32 := Scalar.muli v798 c4_i32_599
  let c0_i32_600 : BitVec 32 := 0#32
  let v896 : BitVec 32 := Scalar.addi v895 c0_i32_600
  let c256_i32_601 : BitVec 32 := 256#32
  let v897 : BitVec 32 := Scalar.muli v896 c256_i32_601
  v897
def k0_mult270 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_614 : BitVec 32 := 4#32
  let v917 : BitVec 32 := Scalar.muli v798 c4_i32_614
  let c0_i32_615 : BitVec 32 := 0#32
  let v918 : BitVec 32 := Scalar.addi v917 c0_i32_615
  let c256_i32_616 : BitVec 32 := 256#32
  let v919 : BitVec 32 := Scalar.muli v918 c256_i32_616
  v919
def k0_mult271 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_623 : BitVec 32 := 4#32
  let v931 : BitVec 32 := Scalar.muli v795 c4_i32_623
  let c2_i32_624 : BitVec 32 := 2#32
  let v932 : BitVec 32 := Scalar.addi v931 c2_i32_624
  let c256_i32_625 : BitVec 32 := 256#32
  let v933 : BitVec 32 := Scalar.muli v932 c256_i32_625
  v933
def k0_mult272 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_632 : BitVec 32 := 4#32
  let v945 : BitVec 32 := Scalar.muli v795 c4_i32_632
  let c2_i32_633 : BitVec 32 := 2#32
  let v946 : BitVec 32 := Scalar.addi v945 c2_i32_633
  let c256_i32_634 : BitVec 32 := 256#32
  let v947 : BitVec 32 := Scalar.muli v946 c256_i32_634
  v947
def k0_mult273 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_647 : BitVec 32 := 4#32
  let v967 : BitVec 32 := Scalar.muli v798 c4_i32_647
  let c1_i32_648 : BitVec 32 := 1#32
  let v968 : BitVec 32 := Scalar.addi v967 c1_i32_648
  let c256_i32_649 : BitVec 32 := 256#32
  let v969 : BitVec 32 := Scalar.muli v968 c256_i32_649
  v969
def k0_mult274 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_662 : BitVec 32 := 4#32
  let v989 : BitVec 32 := Scalar.muli v798 c4_i32_662
  let c1_i32_663 : BitVec 32 := 1#32
  let v990 : BitVec 32 := Scalar.addi v989 c1_i32_663
  let c256_i32_664 : BitVec 32 := 256#32
  let v991 : BitVec 32 := Scalar.muli v990 c256_i32_664
  v991
def k0_mult275 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_671 : BitVec 32 := 4#32
  let v1003 : BitVec 32 := Scalar.muli v795 c4_i32_671
  let c3_i32_672 : BitVec 32 := 3#32
  let v1004 : BitVec 32 := Scalar.addi v1003 c3_i32_672
  let c256_i32_673 : BitVec 32 := 256#32
  let v1005 : BitVec 32 := Scalar.muli v1004 c256_i32_673
  v1005
def k0_mult276 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c4_i32_680 : BitVec 32 := 4#32
  let v1017 : BitVec 32 := Scalar.muli v795 c4_i32_680
  let c3_i32_681 : BitVec 32 := 3#32
  let v1018 : BitVec 32 := Scalar.addi v1017 c3_i32_681
  let c256_i32_682 : BitVec 32 := 256#32
  let v1019 : BitVec 32 := Scalar.muli v1018 c256_i32_682
  v1019
def k0_mult277 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_701 : BitVec 32 := 4#32
  let v1045 : BitVec 32 := Scalar.muli v798 c4_i32_701
  let c2_i32_702 : BitVec 32 := 2#32
  let v1046 : BitVec 32 := Scalar.addi v1045 c2_i32_702
  let c256_i32_703 : BitVec 32 := 256#32
  let v1047 : BitVec 32 := Scalar.muli v1046 c256_i32_703
  v1047
def k0_mult278 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_716 : BitVec 32 := 4#32
  let v1067 : BitVec 32 := Scalar.muli v798 c4_i32_716
  let c2_i32_717 : BitVec 32 := 2#32
  let v1068 : BitVec 32 := Scalar.addi v1067 c2_i32_717
  let c256_i32_718 : BitVec 32 := 256#32
  let v1069 : BitVec 32 := Scalar.muli v1068 c256_i32_718
  v1069
def k0_mult279 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_731 : BitVec 32 := 4#32
  let v1089 : BitVec 32 := Scalar.muli v798 c4_i32_731
  let c3_i32_732 : BitVec 32 := 3#32
  let v1090 : BitVec 32 := Scalar.addi v1089 c3_i32_732
  let c256_i32_733 : BitVec 32 := 256#32
  let v1091 : BitVec 32 := Scalar.muli v1090 c256_i32_733
  v1091
def k0_mult280 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c2_i32_524 : BitVec 32 := 2#32
  let v795 : BitVec 32 := Scalar.addi v64 c2_i32_524
  let c0_i32_525 : BitVec 32 := 0#32
  let v796 : BitVec 1 := Scalar.cmpi .eq v795 c0_i32_525
  let c1_i32_526 : BitVec 32 := 1#32
  let v797 : BitVec 32 := Scalar.subi v795 c1_i32_526
  let v798 : BitVec 32 := Scalar.select v796 v31 v797
  let c4_i32_746 : BitVec 32 := 4#32
  let v1111 : BitVec 32 := Scalar.muli v798 c4_i32_746
  let c3_i32_747 : BitVec 32 := 3#32
  let v1112 : BitVec 32 := Scalar.addi v1111 c3_i32_747
  let c256_i32_748 : BitVec 32 := 256#32
  let v1113 : BitVec 32 := Scalar.muli v1112 c256_i32_748
  v1113
def k0_mult281 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_792 : BitVec 32 := 512#32
  let v1174 : BitVec 32 := Scalar.muli v1 c512_i32_792
  let c0_i32_794 : BitVec 32 := 0#32
  let v1176 : BitVec 1 := Scalar.cmpi .sgt v1174 c0_i32_794
  let v1177 : BitVec 32 := Scalar.extui v1176
  let c0_i32_795 : BitVec 32 := 0#32
  let v1178 : BitVec 1 := Scalar.cmpi .slt v1174 c0_i32_795
  let v1179 : BitVec 32 := Scalar.extui v1178
  let v1180 : BitVec 32 := Scalar.subi v1177 v1179
  let c1024_i32_793 : BitVec 32 := 1024#32
  let c0_i32_796 : BitVec 32 := 0#32
  let v1181 : BitVec 1 := Scalar.cmpi .sgt c1024_i32_793 c0_i32_796
  let v1182 : BitVec 32 := Scalar.extui v1181
  let c0_i32_797 : BitVec 32 := 0#32
  let v1183 : BitVec 1 := Scalar.cmpi .slt c1024_i32_793 c0_i32_797
  let v1184 : BitVec 32 := Scalar.extui v1183
  let v1185 : BitVec 32 := Scalar.subi v1182 v1184
  let v1186 : BitVec 1 := Scalar.cmpi .ne v1180 v1185
  let v1187 : BitVec 32 := Scalar.remsi v1174 c1024_i32_793
  let c0_i32_798 : BitVec 32 := 0#32
  let v1188 : BitVec 1 := Scalar.cmpi .ne v1187 c0_i32_798
  let v1189 : BitVec 1 := Scalar.andi v1186 v1188
  let v1175 : BitVec 32 := Scalar.divsi v1174 c1024_i32_793
  let c1_i32_799 : BitVec 32 := 1#32
  let v1190 : BitVec 32 := Scalar.subi v1175 c1_i32_799
  let v1191 : BitVec 32 := Scalar.select v1189 v1190 v1175
  let c4_i32_804 : BitVec 32 := 4#32
  let v1203 : BitVec 32 := Scalar.muli v1191 c4_i32_804
  let c0_i32_805 : BitVec 32 := 0#32
  let v1204 : BitVec 32 := Scalar.addi v1203 c0_i32_805
  let c256_i32_806 : BitVec 32 := 256#32
  let v1205 : BitVec 32 := Scalar.muli v1204 c256_i32_806
  v1205
def k0_off16 (i : grid0.Coords) (c0_i32_805 : BitVec 32) : Fin 2 → Nat :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_792 : BitVec 32 := 512#32
  let v1174 : BitVec 32 := Scalar.muli v1 c512_i32_792
  let c0_i32_794 : BitVec 32 := 0#32
  let v1176 : BitVec 1 := Scalar.cmpi .sgt v1174 c0_i32_794
  let v1177 : BitVec 32 := Scalar.extui v1176
  let c0_i32_795 : BitVec 32 := 0#32
  let v1178 : BitVec 1 := Scalar.cmpi .slt v1174 c0_i32_795
  let v1179 : BitVec 32 := Scalar.extui v1178
  let v1180 : BitVec 32 := Scalar.subi v1177 v1179
  let c1024_i32_793 : BitVec 32 := 1024#32
  let c0_i32_796 : BitVec 32 := 0#32
  let v1181 : BitVec 1 := Scalar.cmpi .sgt c1024_i32_793 c0_i32_796
  let v1182 : BitVec 32 := Scalar.extui v1181
  let c0_i32_797 : BitVec 32 := 0#32
  let v1183 : BitVec 1 := Scalar.cmpi .slt c1024_i32_793 c0_i32_797
  let v1184 : BitVec 32 := Scalar.extui v1183
  let v1185 : BitVec 32 := Scalar.subi v1182 v1184
  let v1186 : BitVec 1 := Scalar.cmpi .ne v1180 v1185
  let v1187 : BitVec 32 := Scalar.remsi v1174 c1024_i32_793
  let c0_i32_798 : BitVec 32 := 0#32
  let v1188 : BitVec 1 := Scalar.cmpi .ne v1187 c0_i32_798
  let v1189 : BitVec 1 := Scalar.andi v1186 v1188
  let v1175 : BitVec 32 := Scalar.divsi v1174 c1024_i32_793
  let c1_i32_799 : BitVec 32 := 1#32
  let v1190 : BitVec 32 := Scalar.subi v1175 c1_i32_799
  let v1191 : BitVec 32 := Scalar.select v1189 v1190 v1175
  let c4_i32_804 : BitVec 32 := 4#32
  let v1203 : BitVec 32 := Scalar.muli v1191 c4_i32_804
  let v1204 : BitVec 32 := Scalar.addi v1203 c0_i32_805
  let c256_i32_806 : BitVec 32 := 256#32
  let v1205 : BitVec 32 := Scalar.muli v1204 c256_i32_806
  let v1206 : BitVec 32 := v1205
  let v1207 : Index := Scalar.indexCast v1206
  let c0_807 : Index := 0#32
  ![v1207.toNat, 0]
def k0_mult282 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_814 : BitVec 32 := 512#32
  let v1218 : BitVec 32 := Scalar.muli v1 c512_i32_814
  let c0_i32_816 : BitVec 32 := 0#32
  let v1220 : BitVec 1 := Scalar.cmpi .sgt v1218 c0_i32_816
  let v1221 : BitVec 32 := Scalar.extui v1220
  let c0_i32_817 : BitVec 32 := 0#32
  let v1222 : BitVec 1 := Scalar.cmpi .slt v1218 c0_i32_817
  let v1223 : BitVec 32 := Scalar.extui v1222
  let v1224 : BitVec 32 := Scalar.subi v1221 v1223
  let c1024_i32_815 : BitVec 32 := 1024#32
  let c0_i32_818 : BitVec 32 := 0#32
  let v1225 : BitVec 1 := Scalar.cmpi .sgt c1024_i32_815 c0_i32_818
  let v1226 : BitVec 32 := Scalar.extui v1225
  let c0_i32_819 : BitVec 32 := 0#32
  let v1227 : BitVec 1 := Scalar.cmpi .slt c1024_i32_815 c0_i32_819
  let v1228 : BitVec 32 := Scalar.extui v1227
  let v1229 : BitVec 32 := Scalar.subi v1226 v1228
  let v1230 : BitVec 1 := Scalar.cmpi .ne v1224 v1229
  let v1231 : BitVec 32 := Scalar.remsi v1218 c1024_i32_815
  let c0_i32_820 : BitVec 32 := 0#32
  let v1232 : BitVec 1 := Scalar.cmpi .ne v1231 c0_i32_820
  let v1233 : BitVec 1 := Scalar.andi v1230 v1232
  let v1219 : BitVec 32 := Scalar.divsi v1218 c1024_i32_815
  let c1_i32_821 : BitVec 32 := 1#32
  let v1234 : BitVec 32 := Scalar.subi v1219 c1_i32_821
  let v1235 : BitVec 32 := Scalar.select v1233 v1234 v1219
  let c4_i32_826 : BitVec 32 := 4#32
  let v1247 : BitVec 32 := Scalar.muli v1235 c4_i32_826
  let c0_i32_827 : BitVec 32 := 0#32
  let v1248 : BitVec 32 := Scalar.addi v1247 c0_i32_827
  let c256_i32_828 : BitVec 32 := 256#32
  let v1249 : BitVec 32 := Scalar.muli v1248 c256_i32_828
  v1249
def k0_mult283 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_836 : BitVec 32 := 512#32
  let v1262 : BitVec 32 := Scalar.muli v1 c512_i32_836
  let c0_i32_838 : BitVec 32 := 0#32
  let v1264 : BitVec 1 := Scalar.cmpi .sgt v1262 c0_i32_838
  let v1265 : BitVec 32 := Scalar.extui v1264
  let c0_i32_839 : BitVec 32 := 0#32
  let v1266 : BitVec 1 := Scalar.cmpi .slt v1262 c0_i32_839
  let v1267 : BitVec 32 := Scalar.extui v1266
  let v1268 : BitVec 32 := Scalar.subi v1265 v1267
  let c1024_i32_837 : BitVec 32 := 1024#32
  let c0_i32_840 : BitVec 32 := 0#32
  let v1269 : BitVec 1 := Scalar.cmpi .sgt c1024_i32_837 c0_i32_840
  let v1270 : BitVec 32 := Scalar.extui v1269
  let c0_i32_841 : BitVec 32 := 0#32
  let v1271 : BitVec 1 := Scalar.cmpi .slt c1024_i32_837 c0_i32_841
  let v1272 : BitVec 32 := Scalar.extui v1271
  let v1273 : BitVec 32 := Scalar.subi v1270 v1272
  let v1274 : BitVec 1 := Scalar.cmpi .ne v1268 v1273
  let v1275 : BitVec 32 := Scalar.remsi v1262 c1024_i32_837
  let c0_i32_842 : BitVec 32 := 0#32
  let v1276 : BitVec 1 := Scalar.cmpi .ne v1275 c0_i32_842
  let v1277 : BitVec 1 := Scalar.andi v1274 v1276
  let v1263 : BitVec 32 := Scalar.divsi v1262 c1024_i32_837
  let c1_i32_843 : BitVec 32 := 1#32
  let v1278 : BitVec 32 := Scalar.subi v1263 c1_i32_843
  let v1279 : BitVec 32 := Scalar.select v1277 v1278 v1263
  let c4_i32_848 : BitVec 32 := 4#32
  let v1291 : BitVec 32 := Scalar.muli v1279 c4_i32_848
  let c1_i32_849 : BitVec 32 := 1#32
  let v1292 : BitVec 32 := Scalar.addi v1291 c1_i32_849
  let c256_i32_850 : BitVec 32 := 256#32
  let v1293 : BitVec 32 := Scalar.muli v1292 c256_i32_850
  v1293
def k0_mult284 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_858 : BitVec 32 := 512#32
  let v1307 : BitVec 32 := Scalar.muli v1 c512_i32_858
  let c0_i32_860 : BitVec 32 := 0#32
  let v1309 : BitVec 1 := Scalar.cmpi .sgt v1307 c0_i32_860
  let v1310 : BitVec 32 := Scalar.extui v1309
  let c0_i32_861 : BitVec 32 := 0#32
  let v1311 : BitVec 1 := Scalar.cmpi .slt v1307 c0_i32_861
  let v1312 : BitVec 32 := Scalar.extui v1311
  let v1313 : BitVec 32 := Scalar.subi v1310 v1312
  let c1024_i32_859 : BitVec 32 := 1024#32
  let c0_i32_862 : BitVec 32 := 0#32
  let v1314 : BitVec 1 := Scalar.cmpi .sgt c1024_i32_859 c0_i32_862
  let v1315 : BitVec 32 := Scalar.extui v1314
  let c0_i32_863 : BitVec 32 := 0#32
  let v1316 : BitVec 1 := Scalar.cmpi .slt c1024_i32_859 c0_i32_863
  let v1317 : BitVec 32 := Scalar.extui v1316
  let v1318 : BitVec 32 := Scalar.subi v1315 v1317
  let v1319 : BitVec 1 := Scalar.cmpi .ne v1313 v1318
  let v1320 : BitVec 32 := Scalar.remsi v1307 c1024_i32_859
  let c0_i32_864 : BitVec 32 := 0#32
  let v1321 : BitVec 1 := Scalar.cmpi .ne v1320 c0_i32_864
  let v1322 : BitVec 1 := Scalar.andi v1319 v1321
  let v1308 : BitVec 32 := Scalar.divsi v1307 c1024_i32_859
  let c1_i32_865 : BitVec 32 := 1#32
  let v1323 : BitVec 32 := Scalar.subi v1308 c1_i32_865
  let v1324 : BitVec 32 := Scalar.select v1322 v1323 v1308
  let c4_i32_870 : BitVec 32 := 4#32
  let v1336 : BitVec 32 := Scalar.muli v1324 c4_i32_870
  let c1_i32_871 : BitVec 32 := 1#32
  let v1337 : BitVec 32 := Scalar.addi v1336 c1_i32_871
  let c256_i32_872 : BitVec 32 := 256#32
  let v1338 : BitVec 32 := Scalar.muli v1337 c256_i32_872
  v1338
def k0_mult285 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_886 : BitVec 32 := 4#32
  let v1360 : BitVec 32 := Scalar.muli v1128 c4_i32_886
  let c0_i32_887 : BitVec 32 := 0#32
  let v1361 : BitVec 32 := Scalar.addi v1360 c0_i32_887
  let c256_i32_888 : BitVec 32 := 256#32
  let v1362 : BitVec 32 := Scalar.muli v1361 c256_i32_888
  v1362
def k0_mult286 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_901 : BitVec 32 := 4#32
  let v1382 : BitVec 32 := Scalar.muli v1128 c4_i32_901
  let c0_i32_902 : BitVec 32 := 0#32
  let v1383 : BitVec 32 := Scalar.addi v1382 c0_i32_902
  let c256_i32_903 : BitVec 32 := 256#32
  let v1384 : BitVec 32 := Scalar.muli v1383 c256_i32_903
  v1384
def k0_mult287 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_910 : BitVec 32 := 512#32
  let v1396 : BitVec 32 := Scalar.muli v1 c512_i32_910
  let c0_i32_912 : BitVec 32 := 0#32
  let v1398 : BitVec 1 := Scalar.cmpi .sgt v1396 c0_i32_912
  let v1399 : BitVec 32 := Scalar.extui v1398
  let c0_i32_913 : BitVec 32 := 0#32
  let v1400 : BitVec 1 := Scalar.cmpi .slt v1396 c0_i32_913
  let v1401 : BitVec 32 := Scalar.extui v1400
  let v1402 : BitVec 32 := Scalar.subi v1399 v1401
  let c1024_i32_911 : BitVec 32 := 1024#32
  let c0_i32_914 : BitVec 32 := 0#32
  let v1403 : BitVec 1 := Scalar.cmpi .sgt c1024_i32_911 c0_i32_914
  let v1404 : BitVec 32 := Scalar.extui v1403
  let c0_i32_915 : BitVec 32 := 0#32
  let v1405 : BitVec 1 := Scalar.cmpi .slt c1024_i32_911 c0_i32_915
  let v1406 : BitVec 32 := Scalar.extui v1405
  let v1407 : BitVec 32 := Scalar.subi v1404 v1406
  let v1408 : BitVec 1 := Scalar.cmpi .ne v1402 v1407
  let v1409 : BitVec 32 := Scalar.remsi v1396 c1024_i32_911
  let c0_i32_916 : BitVec 32 := 0#32
  let v1410 : BitVec 1 := Scalar.cmpi .ne v1409 c0_i32_916
  let v1411 : BitVec 1 := Scalar.andi v1408 v1410
  let v1397 : BitVec 32 := Scalar.divsi v1396 c1024_i32_911
  let c1_i32_917 : BitVec 32 := 1#32
  let v1412 : BitVec 32 := Scalar.subi v1397 c1_i32_917
  let v1413 : BitVec 32 := Scalar.select v1411 v1412 v1397
  let c4_i32_922 : BitVec 32 := 4#32
  let v1425 : BitVec 32 := Scalar.muli v1413 c4_i32_922
  let c2_i32_923 : BitVec 32 := 2#32
  let v1426 : BitVec 32 := Scalar.addi v1425 c2_i32_923
  let c256_i32_924 : BitVec 32 := 256#32
  let v1427 : BitVec 32 := Scalar.muli v1426 c256_i32_924
  v1427
def k0_mult288 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_932 : BitVec 32 := 512#32
  let v1441 : BitVec 32 := Scalar.muli v1 c512_i32_932
  let c0_i32_934 : BitVec 32 := 0#32
  let v1443 : BitVec 1 := Scalar.cmpi .sgt v1441 c0_i32_934
  let v1444 : BitVec 32 := Scalar.extui v1443
  let c0_i32_935 : BitVec 32 := 0#32
  let v1445 : BitVec 1 := Scalar.cmpi .slt v1441 c0_i32_935
  let v1446 : BitVec 32 := Scalar.extui v1445
  let v1447 : BitVec 32 := Scalar.subi v1444 v1446
  let c1024_i32_933 : BitVec 32 := 1024#32
  let c0_i32_936 : BitVec 32 := 0#32
  let v1448 : BitVec 1 := Scalar.cmpi .sgt c1024_i32_933 c0_i32_936
  let v1449 : BitVec 32 := Scalar.extui v1448
  let c0_i32_937 : BitVec 32 := 0#32
  let v1450 : BitVec 1 := Scalar.cmpi .slt c1024_i32_933 c0_i32_937
  let v1451 : BitVec 32 := Scalar.extui v1450
  let v1452 : BitVec 32 := Scalar.subi v1449 v1451
  let v1453 : BitVec 1 := Scalar.cmpi .ne v1447 v1452
  let v1454 : BitVec 32 := Scalar.remsi v1441 c1024_i32_933
  let c0_i32_938 : BitVec 32 := 0#32
  let v1455 : BitVec 1 := Scalar.cmpi .ne v1454 c0_i32_938
  let v1456 : BitVec 1 := Scalar.andi v1453 v1455
  let v1442 : BitVec 32 := Scalar.divsi v1441 c1024_i32_933
  let c1_i32_939 : BitVec 32 := 1#32
  let v1457 : BitVec 32 := Scalar.subi v1442 c1_i32_939
  let v1458 : BitVec 32 := Scalar.select v1456 v1457 v1442
  let c4_i32_944 : BitVec 32 := 4#32
  let v1470 : BitVec 32 := Scalar.muli v1458 c4_i32_944
  let c2_i32_945 : BitVec 32 := 2#32
  let v1471 : BitVec 32 := Scalar.addi v1470 c2_i32_945
  let c256_i32_946 : BitVec 32 := 256#32
  let v1472 : BitVec 32 := Scalar.muli v1471 c256_i32_946
  v1472
def k0_mult289 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_960 : BitVec 32 := 4#32
  let v1494 : BitVec 32 := Scalar.muli v1128 c4_i32_960
  let c1_i32_961 : BitVec 32 := 1#32
  let v1495 : BitVec 32 := Scalar.addi v1494 c1_i32_961
  let c256_i32_962 : BitVec 32 := 256#32
  let v1496 : BitVec 32 := Scalar.muli v1495 c256_i32_962
  v1496
def k0_mult290 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_975 : BitVec 32 := 4#32
  let v1516 : BitVec 32 := Scalar.muli v1128 c4_i32_975
  let c1_i32_976 : BitVec 32 := 1#32
  let v1517 : BitVec 32 := Scalar.addi v1516 c1_i32_976
  let c256_i32_977 : BitVec 32 := 256#32
  let v1518 : BitVec 32 := Scalar.muli v1517 c256_i32_977
  v1518
def k0_mult291 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_984 : BitVec 32 := 512#32
  let v1530 : BitVec 32 := Scalar.muli v1 c512_i32_984
  let c0_i32_986 : BitVec 32 := 0#32
  let v1532 : BitVec 1 := Scalar.cmpi .sgt v1530 c0_i32_986
  let v1533 : BitVec 32 := Scalar.extui v1532
  let c0_i32_987 : BitVec 32 := 0#32
  let v1534 : BitVec 1 := Scalar.cmpi .slt v1530 c0_i32_987
  let v1535 : BitVec 32 := Scalar.extui v1534
  let v1536 : BitVec 32 := Scalar.subi v1533 v1535
  let c1024_i32_985 : BitVec 32 := 1024#32
  let c0_i32_988 : BitVec 32 := 0#32
  let v1537 : BitVec 1 := Scalar.cmpi .sgt c1024_i32_985 c0_i32_988
  let v1538 : BitVec 32 := Scalar.extui v1537
  let c0_i32_989 : BitVec 32 := 0#32
  let v1539 : BitVec 1 := Scalar.cmpi .slt c1024_i32_985 c0_i32_989
  let v1540 : BitVec 32 := Scalar.extui v1539
  let v1541 : BitVec 32 := Scalar.subi v1538 v1540
  let v1542 : BitVec 1 := Scalar.cmpi .ne v1536 v1541
  let v1543 : BitVec 32 := Scalar.remsi v1530 c1024_i32_985
  let c0_i32_990 : BitVec 32 := 0#32
  let v1544 : BitVec 1 := Scalar.cmpi .ne v1543 c0_i32_990
  let v1545 : BitVec 1 := Scalar.andi v1542 v1544
  let v1531 : BitVec 32 := Scalar.divsi v1530 c1024_i32_985
  let c1_i32_991 : BitVec 32 := 1#32
  let v1546 : BitVec 32 := Scalar.subi v1531 c1_i32_991
  let v1547 : BitVec 32 := Scalar.select v1545 v1546 v1531
  let c4_i32_996 : BitVec 32 := 4#32
  let v1559 : BitVec 32 := Scalar.muli v1547 c4_i32_996
  let c3_i32_997 : BitVec 32 := 3#32
  let v1560 : BitVec 32 := Scalar.addi v1559 c3_i32_997
  let c256_i32_998 : BitVec 32 := 256#32
  let v1561 : BitVec 32 := Scalar.muli v1560 c256_i32_998
  v1561
def k0_mult292 (i : grid0.Coords) : BitVec 32 :=
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c512_i32_1006 : BitVec 32 := 512#32
  let v1575 : BitVec 32 := Scalar.muli v1 c512_i32_1006
  let c0_i32_1008 : BitVec 32 := 0#32
  let v1577 : BitVec 1 := Scalar.cmpi .sgt v1575 c0_i32_1008
  let v1578 : BitVec 32 := Scalar.extui v1577
  let c0_i32_1009 : BitVec 32 := 0#32
  let v1579 : BitVec 1 := Scalar.cmpi .slt v1575 c0_i32_1009
  let v1580 : BitVec 32 := Scalar.extui v1579
  let v1581 : BitVec 32 := Scalar.subi v1578 v1580
  let c1024_i32_1007 : BitVec 32 := 1024#32
  let c0_i32_1010 : BitVec 32 := 0#32
  let v1582 : BitVec 1 := Scalar.cmpi .sgt c1024_i32_1007 c0_i32_1010
  let v1583 : BitVec 32 := Scalar.extui v1582
  let c0_i32_1011 : BitVec 32 := 0#32
  let v1584 : BitVec 1 := Scalar.cmpi .slt c1024_i32_1007 c0_i32_1011
  let v1585 : BitVec 32 := Scalar.extui v1584
  let v1586 : BitVec 32 := Scalar.subi v1583 v1585
  let v1587 : BitVec 1 := Scalar.cmpi .ne v1581 v1586
  let v1588 : BitVec 32 := Scalar.remsi v1575 c1024_i32_1007
  let c0_i32_1012 : BitVec 32 := 0#32
  let v1589 : BitVec 1 := Scalar.cmpi .ne v1588 c0_i32_1012
  let v1590 : BitVec 1 := Scalar.andi v1587 v1589
  let v1576 : BitVec 32 := Scalar.divsi v1575 c1024_i32_1007
  let c1_i32_1013 : BitVec 32 := 1#32
  let v1591 : BitVec 32 := Scalar.subi v1576 c1_i32_1013
  let v1592 : BitVec 32 := Scalar.select v1590 v1591 v1576
  let c4_i32_1018 : BitVec 32 := 4#32
  let v1604 : BitVec 32 := Scalar.muli v1592 c4_i32_1018
  let c3_i32_1019 : BitVec 32 := 3#32
  let v1605 : BitVec 32 := Scalar.addi v1604 c3_i32_1019
  let c256_i32_1020 : BitVec 32 := 256#32
  let v1606 : BitVec 32 := Scalar.muli v1605 c256_i32_1020
  v1606
def k0_mult293 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_1040 : BitVec 32 := 4#32
  let v1634 : BitVec 32 := Scalar.muli v1128 c4_i32_1040
  let c2_i32_1041 : BitVec 32 := 2#32
  let v1635 : BitVec 32 := Scalar.addi v1634 c2_i32_1041
  let c256_i32_1042 : BitVec 32 := 256#32
  let v1636 : BitVec 32 := Scalar.muli v1635 c256_i32_1042
  v1636
def k0_mult294 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_1055 : BitVec 32 := 4#32
  let v1656 : BitVec 32 := Scalar.muli v1128 c4_i32_1055
  let c2_i32_1056 : BitVec 32 := 2#32
  let v1657 : BitVec 32 := Scalar.addi v1656 c2_i32_1056
  let c256_i32_1057 : BitVec 32 := 256#32
  let v1658 : BitVec 32 := Scalar.muli v1657 c256_i32_1057
  v1658
def k0_mult295 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_1070 : BitVec 32 := 4#32
  let v1678 : BitVec 32 := Scalar.muli v1128 c4_i32_1070
  let c3_i32_1071 : BitVec 32 := 3#32
  let v1679 : BitVec 32 := Scalar.addi v1678 c3_i32_1071
  let c256_i32_1072 : BitVec 32 := 256#32
  let v1680 : BitVec 32 := Scalar.muli v1679 c256_i32_1072
  v1680
def k0_mult296 (i : grid0.Coords) : BitVec 32 :=
  let arg1 : BitVec 32 := BitVec.ofNat 32 (i 1).val
  let c512_i32 : BitVec 32 := 512#32
  let v14 : BitVec 32 := Scalar.muli arg1 c512_i32
  let c0_i32_2 : BitVec 32 := 0#32
  let v16 : BitVec 1 := Scalar.cmpi .sgt v14 c0_i32_2
  let v17 : BitVec 32 := Scalar.extui v16
  let c0_i32_3 : BitVec 32 := 0#32
  let v18 : BitVec 1 := Scalar.cmpi .slt v14 c0_i32_3
  let v19 : BitVec 32 := Scalar.extui v18
  let v20 : BitVec 32 := Scalar.subi v17 v19
  let c1024_i32 : BitVec 32 := 1024#32
  let c0_i32_4 : BitVec 32 := 0#32
  let v21 : BitVec 1 := Scalar.cmpi .sgt c1024_i32 c0_i32_4
  let v22 : BitVec 32 := Scalar.extui v21
  let c0_i32_5 : BitVec 32 := 0#32
  let v23 : BitVec 1 := Scalar.cmpi .slt c1024_i32 c0_i32_5
  let v24 : BitVec 32 := Scalar.extui v23
  let v25 : BitVec 32 := Scalar.subi v22 v24
  let v26 : BitVec 1 := Scalar.cmpi .ne v20 v25
  let v27 : BitVec 32 := Scalar.remsi v14 c1024_i32
  let c0_i32_6 : BitVec 32 := 0#32
  let v28 : BitVec 1 := Scalar.cmpi .ne v27 c0_i32_6
  let v29 : BitVec 1 := Scalar.andi v26 v28
  let v15 : BitVec 32 := Scalar.divsi v14 c1024_i32
  let c1_i32_7 : BitVec 32 := 1#32
  let v30 : BitVec 32 := Scalar.subi v15 c1_i32_7
  let v31 : BitVec 32 := Scalar.select v29 v30 v15
  let c0_i32_17 : BitVec 32 := 0#32
  let v43 : BitVec 1 := Scalar.cmpi .sgt v31 c0_i32_17
  let v44 : BitVec 32 := Scalar.extui v43
  let c0_i32_18 : BitVec 32 := 0#32
  let v45 : BitVec 1 := Scalar.cmpi .slt v31 c0_i32_18
  let v46 : BitVec 32 := Scalar.extui v45
  let v47 : BitVec 32 := Scalar.subi v44 v46
  let c4_i32 : BitVec 32 := 4#32
  let c0_i32_19 : BitVec 32 := 0#32
  let v48 : BitVec 1 := Scalar.cmpi .sgt c4_i32 c0_i32_19
  let v49 : BitVec 32 := Scalar.extui v48
  let c0_i32_20 : BitVec 32 := 0#32
  let v50 : BitVec 1 := Scalar.cmpi .slt c4_i32 c0_i32_20
  let v51 : BitVec 32 := Scalar.extui v50
  let v52 : BitVec 32 := Scalar.subi v49 v51
  let v53 : BitVec 1 := Scalar.cmpi .ne v47 v52
  let v54 : BitVec 32 := Scalar.remsi v31 c4_i32
  let c0_i32_21 : BitVec 32 := 0#32
  let v55 : BitVec 1 := Scalar.cmpi .ne v54 c0_i32_21
  let v56 : BitVec 1 := Scalar.andi v53 v55
  let v42 : BitVec 32 := Scalar.divsi v31 c4_i32
  let c1_i32_22 : BitVec 32 := 1#32
  let v57 : BitVec 32 := Scalar.subi v42 c1_i32_22
  let v58 : BitVec 32 := Scalar.select v56 v57 v42
  let c4_i32_28 : BitVec 32 := 4#32
  let v64 : BitVec 32 := Scalar.muli v58 c4_i32_28
  let c3_i32_755 : BitVec 32 := 3#32
  let v1125 : BitVec 32 := Scalar.addi v64 c3_i32_755
  let c0_i32_756 : BitVec 32 := 0#32
  let v1126 : BitVec 1 := Scalar.cmpi .eq v1125 c0_i32_756
  let c1_i32_757 : BitVec 32 := 1#32
  let v1127 : BitVec 32 := Scalar.subi v1125 c1_i32_757
  let v1128 : BitVec 32 := Scalar.select v1126 v31 v1127
  let c4_i32_1085 : BitVec 32 := 4#32
  let v1700 : BitVec 32 := Scalar.muli v1128 c4_i32_1085
  let c3_i32_1086 : BitVec 32 := 3#32
  let v1701 : BitVec 32 := Scalar.addi v1700 c3_i32_1086
  let c256_i32_1087 : BitVec 32 := 256#32
  let v1702 : BitVec 32 := Scalar.muli v1701 c256_i32_1087
  v1702
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let v1 : BitVec 32 := Scalar.addi arg1 c1_i32
  let c31_i32 : BitVec 32 := 31#32
  let v2 : BitVec 32 := Scalar.minsi v1 c31_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | "scale2" => some (((1 / 8) * (Real.log 2)⁻¹ : ℝ) : EReal)
  | _ => none
-- ==== ReferenceIdeal.lean ====
abbrev S1x4x16384x64 : Shape := ⟨4, ![1, 4, 16384, 64]⟩
abbrev S1x4x16384x128 : Shape := ⟨4, ![1, 4, 16384, 128]⟩
abbrev S64 : Shape := ⟨1, ![64]⟩
abbrev S128 : Shape := ⟨1, ![128]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x4x16384x16384 : Shape := ⟨4, ![1, 4, 16384, 16384]⟩
abbrev S1x4x16384 : Shape := ⟨3, ![1, 4, 16384]⟩
abbrev S1x4x16384x1 : Shape := ⟨4, ![1, 4, 16384, 1]⟩
abbrev S1x1x1x128 : Shape := ⟨4, ![1, 1, 1, 128]⟩
abbrev S1x16384x4x128 : Shape := ⟨4, ![1, 16384, 4, 128]⟩
abbrev S16384x512 : Shape := ⟨2, ![16384, 512]⟩

abbrev nBuf : Space → Nat
  | .hbm => 99
  | .vmem => 0
  | .smem => 0
  | _ => 0

abbrev bufTy : (tb : Table) → Fin (tcTables nBuf tb) → BufTy
  | .hbm, ⟨0, _⟩ => ⟨S1x4x16384x64, .f32⟩
  | .hbm, ⟨1, _⟩ => ⟨S1x4x16384x64, .f32⟩
  | .hbm, ⟨2, _⟩ => ⟨S1x4x16384x64, .f32⟩
  | .hbm, ⟨3, _⟩ => ⟨S1x4x16384x64, .f32⟩
  | .hbm, ⟨4, _⟩ => ⟨S1x4x16384x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x4x16384x16384, .f32⟩
  | .hbm, ⟨28, _⟩ => ⟨S_, .f32⟩
  | .hbm, ⟨29, _⟩ => ⟨S1x4x16384x16384, .f32⟩
  | .hbm, ⟨30, _⟩ => ⟨S1x4x16384x16384, .f32⟩
  | .hbm, ⟨31, _⟩ => ⟨S_, .f32⟩
  | .hbm, ⟨32, _⟩ => ⟨S_, .f32⟩
  | .hbm, ⟨33, _⟩ => ⟨S1x4x16384x16384, .i1⟩
  | .hbm, ⟨34, _⟩ => ⟨S1x4x16384x16384, .f32⟩
  | .hbm, ⟨35, _⟩ => ⟨S1x4x16384x16384, .f32⟩
  | .hbm, ⟨36, _⟩ => ⟨S_, .f32⟩
  | .hbm, ⟨37, _⟩ => ⟨S1x4x16384, .f32⟩
  | .hbm, ⟨38, _⟩ => ⟨S_, .f32⟩
  | .hbm, ⟨39, _⟩ => ⟨S1x4x16384, .f32⟩
  | .hbm, ⟨40, _⟩ => ⟨S1x4x16384, .f32⟩
  | .hbm, ⟨41, _⟩ => ⟨S1x4x16384x1, .f32⟩
  | .hbm, ⟨42, _⟩ => ⟨S1x4x16384x16384, .f32⟩
  | .hbm, ⟨43, _⟩ => ⟨S1x4x16384x16384, .f32⟩
  | .hbm, ⟨44, _⟩ => ⟨S1x4x16384x16384, .f32⟩
  | .hbm, ⟨45, _⟩ => ⟨S_, .f32⟩
  | .hbm, ⟨46, _⟩ => ⟨S1x4x16384, .f32⟩
  | .hbm, ⟨47, _⟩ => ⟨S1x4x16384x1, .f32⟩
  | .hbm, ⟨48, _⟩ => ⟨S1x4x16384x16384, .f32⟩
  | .hbm, ⟨49, _⟩ => ⟨S1x4x16384x16384, .f32⟩
  | .hbm, ⟨50, _⟩ => ⟨S1x4x16384x16384, .f32⟩
  | .hbm, ⟨51, _⟩ => ⟨S_, .f32⟩
  | .hbm, ⟨52, _⟩ => ⟨S1x4x16384x16384, .f32⟩
  | .hbm, ⟨53, _⟩ => ⟨S1x4x16384x16384, .f32⟩
  | .hbm, ⟨54, _⟩ => ⟨S_, .f32⟩
  | .hbm, ⟨55, _⟩ => ⟨S_, .f32⟩
  | .hbm, ⟨56, _⟩ => ⟨S1x4x16384x16384, .i1⟩
  | .hbm, ⟨57, _⟩ => ⟨S1x4x16384x16384, .f32⟩
  | .hbm, ⟨58, _⟩ => ⟨S1x4x16384x16384, .f32⟩
  | .hbm, ⟨59, _⟩ => ⟨S_, .f32⟩
  | .hbm, ⟨60, _⟩ => ⟨S1x4x16384, .f32⟩
  | .hbm, ⟨61, _⟩ => ⟨S_, .f32⟩
  | .hbm, ⟨62, _⟩ => ⟨S1x4x16384, .f32⟩
  | .hbm, ⟨63, _⟩ => ⟨S1x4x16384, .f32⟩
  | .hbm, ⟨64, _⟩ => ⟨S1x4x16384x1, .f32⟩
  | .hbm, ⟨65, _⟩ => ⟨S1x4x16384x16384, .f32⟩
  | .hbm, ⟨66, _⟩ => ⟨S1x4x16384x16384, .f32⟩
  | .hbm, ⟨67, _⟩ => ⟨S1x4x16384x16384, .f32⟩
  | .hbm, ⟨68, _⟩ => ⟨S_, .f32⟩
  | .hbm, ⟨69, _⟩ => ⟨S1x4x16384, .f32⟩
  | .hbm, ⟨70, _⟩ => ⟨S1x4x16384x1, .f32⟩
  | .hbm, ⟨71, _⟩ => ⟨S1x4x16384x16384, .f32⟩
  | .hbm, ⟨72, _⟩ => ⟨S1x4x16384x16384, .f32⟩
  | .hbm, ⟨73, _⟩ => ⟨S1x4x16384x16384, .f32⟩
  | .hbm, ⟨74, _⟩ => ⟨S1x4x16384x16384, .f32⟩
  | .hbm, ⟨75, _⟩ => ⟨S1x4x16384x16384, .f32⟩
  | .hbm, ⟨76, _⟩ => ⟨S1x4x16384x128, .f32⟩
  | .hbm, ⟨77, _⟩ => ⟨S1x4x16384x128, .f32⟩
  | .hbm, ⟨78, _⟩ => ⟨S_, .f32⟩
  | .hbm, ⟨79, _⟩ => ⟨S1x4x16384, .f32⟩
  | .hbm, ⟨80, _⟩ => ⟨S1x4x16384x1, .f32⟩
  | .hbm, ⟨81, _⟩ => ⟨S_, .f32⟩
  | .hbm, ⟨82, _⟩ => ⟨S1x4x16384x1, .f32⟩
  | .hbm, ⟨83, _⟩ => ⟨S1x4x16384x1, .f32⟩
  | .hbm, ⟨84, _⟩ => ⟨S_, .f32⟩
  | .hbm, ⟨85, _⟩ => ⟨S1x4x16384x1, .f32⟩
  | .hbm, ⟨86, _⟩ => ⟨S1x4x16384x1, .f32⟩
  | .hbm, ⟨87, _⟩ => ⟨S1x4x16384x1, .f32⟩
  | .hbm, ⟨88, _⟩ => ⟨S1x4x16384x128, .f32⟩
  | .hbm, ⟨89, _⟩ => ⟨S1x4x16384x128, .f32⟩
  | .hbm, ⟨90, _⟩ => ⟨S1x1x1x128, .f32⟩
  | .hbm, ⟨91, _⟩ => ⟨S1x4x16384x128, .f32⟩
  | .hbm, ⟨92, _⟩ => ⟨S1x4x16384x128, .f32⟩
  | .hbm, ⟨93, _⟩ => ⟨S_, .f32⟩
  | .hbm, ⟨94, _⟩ => ⟨S1x4x16384x128, .f32⟩
  | .hbm, ⟨95, _⟩ => ⟨S1x4x16384x128, .f32⟩
  | .hbm, ⟨96, _⟩ => ⟨S1x16384x4x128, .f32⟩
  | .hbm, ⟨97, _⟩ => ⟨S16384x512, .f32⟩
  | .hbm, ⟨98, _⟩ => ⟨S16384x512, .bf16⟩
  | _, _ => ⟨S1x4x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_cst_10 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel2.lean ====
abbrev S1x16384x1024 : Shape := ⟨3, ![1, 16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x2816, .bf16⟩
  | .hbm, ⟨6, _⟩ => ⟨S2x1024x2816, .bf16⟩
  | .hbm, ⟨7, _⟩ => ⟨S2x2816x1024, .bf16⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x16384x1024 : Shape := ⟨3, ![1, 16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S_ : Shape := ⟨0, ![]⟩
abbrev S1x16384 : Shape := ⟨2, ![1, 16384]⟩
abbrev S1x16384x1 : Shape := ⟨3, ![1, 16384, 1]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x16384x2816 : Shape := ⟨3, ![1, 16384, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S1x1024x2816, .f32⟩
  | .hbm, ⟨24, _⟩ => ⟨S1024x2816, .f32⟩
  | .hbm, ⟨25, _⟩ => ⟨S1x16384x2816, .f32⟩
  | .hbm, ⟨26, _⟩ => ⟨S1x16384x2816, .f32⟩
  | .hbm, ⟨27, _⟩ => ⟨S1x16384x2816, .f32⟩
  | .hbm, ⟨28, _⟩ => ⟨S_, .f32⟩
  | .hbm, ⟨29, _⟩ => ⟨S1x16384x2816, .f32⟩
  | .hbm, ⟨30, _⟩ => ⟨S1x16384x2816, .f32⟩
  | .hbm, ⟨31, _⟩ => ⟨S_, .f32⟩
  | .hbm, ⟨32, _⟩ => ⟨S1x16384x2816, .f32⟩
  | .hbm, ⟨33, _⟩ => ⟨S1x16384x2816, .f32⟩
  | .hbm, ⟨34, _⟩ => ⟨S1x16384x2816, .f32⟩
  | .hbm, ⟨35, _⟩ => ⟨S1x1024x2816, .f32⟩
  | .hbm, ⟨36, _⟩ => ⟨S1024x2816, .f32⟩
  | .hbm, ⟨37, _⟩ => ⟨S1x16384x2816, .f32⟩
  | .hbm, ⟨38, _⟩ => ⟨S1x16384x2816, .f32⟩
  | .hbm, ⟨39, _⟩ => ⟨S1x2816x1024, .f32⟩
  | .hbm, ⟨40, _⟩ => ⟨S2816x1024, .f32⟩
  | .hbm, ⟨41, _⟩ => ⟨S1x16384x1024, .f32⟩
  | .hbm, ⟨42, _⟩ => ⟨S_, .f32⟩
  | .hbm, ⟨43, _⟩ => ⟨S1x16384x1024, .f32⟩
  | .hbm, ⟨44, _⟩ => ⟨S1x16384x1024, .f32⟩
  | .hbm, ⟨45, _⟩ => ⟨S1x16384x1024, .f32⟩
  | .hbm, ⟨46, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S1x16384x1024 : Shape := ⟨3, ![1, 16384, 1024]⟩
abbrev S2x1024 : Shape := ⟨2, ![2, 1024]⟩
abbrev S2x1024x5888 : Shape := ⟨3, ![2, 1024, 5888]⟩
abbrev S16384x256 : Shape := ⟨2, ![16384, 256]⟩
abbrev S16384x512 : Shape := ⟨2, ![16384, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S1x1024x5888 : Shape := ⟨3, ![1, 1024, 5888]⟩
abbrev S1024x5888 : Shape := ⟨2, ![1024, 5888]⟩
abbrev S1024x3072 : Shape := ⟨2, ![1024, 3072]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1024x1 : Shape := ⟨2, ![1024, 1]⟩
abbrev S256x1024 : Shape := ⟨2, ![256, 1024]⟩
abbrev S512x1024 : Shape := ⟨2, ![512, 1024]⟩

abbrev nBuf : Space → Nat
  | .hbm => 23
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S2x1024x5888, .f32⟩
  | .hbm, ⟨3, _⟩ => ⟨S16384x256, .bf16⟩
  | .hbm, ⟨4, _⟩ => ⟨S16384x256, .bf16⟩
  | .hbm, ⟨5, _⟩ => ⟨S16384x512, .bf16⟩
  | .hbm, ⟨6, _⟩ => ⟨S2x256x1024, .f32⟩
  | .hbm, ⟨7, _⟩ => ⟨S2x256x1024, .f32⟩
  | .hbm, ⟨8, _⟩ => ⟨S2x512x1024, .f32⟩
  | .hbm, ⟨9, _⟩ => ⟨S2x1024x1024, .f32⟩
  | .hbm, ⟨10, _⟩ => ⟨S2x256x1024, .bf16⟩
  | .hbm, ⟨11, _⟩ => ⟨S2x256x1024, .bf16⟩
  | .hbm, ⟨12, _⟩ => ⟨S2x512x1024, .bf16⟩
  | .hbm, ⟨13, _⟩ => ⟨S2x1024x1024, .bf16⟩
  | .hbm, ⟨14, _⟩ => ⟨S2x1024x5888, .bf16⟩
  | .hbm, ⟨15, _⟩ => ⟨S1x1024x5888, .bf16⟩
  | .hbm, ⟨16, _⟩ => ⟨S1024x5888, .bf16⟩
  | .hbm, ⟨17, _⟩ => ⟨S1024x3072, .bf16⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S1x16384x1024 : Shape := ⟨3, ![1, 16384, 1024]⟩
abbrev S2x1024 : Shape := ⟨2, ![2, 1024]⟩
abbrev S2x1024x5888 : Shape := ⟨3, ![2, 1024, 5888]⟩
abbrev S16384x256 : Shape := ⟨2, ![16384, 256]⟩
abbrev S16384x512 : Shape := ⟨2, ![16384, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x5888 : Shape := ⟨3, ![1, 1024, 5888]⟩
abbrev S1024x5888 : Shape := ⟨2, ![1024, 5888]⟩
abbrev S16384x5888 : Shape := ⟨2, ![16384, 5888]⟩
abbrev S16384x3072 : Shape := ⟨2, ![16384, 3072]⟩
abbrev S16384x3x1024 : Shape := ⟨3, ![16384, 3, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S16384x1x1024 : Shape := ⟨3, ![16384, 1, 1024]⟩
abbrev S1x1024x1024 : Shape := ⟨3, ![1, 1024, 1024]⟩
abbrev S1024x1024 : Shape := ⟨2, ![1024, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x1024, .f32⟩
  | .hbm, ⟨2, _⟩ => ⟨S2x1024x5888, .f32⟩
  | .hbm, ⟨3, _⟩ => ⟨S16384x256, .bf16⟩
  | .hbm, ⟨4, _⟩ => ⟨S16384x256, .bf16⟩
  | .hbm, ⟨5, _⟩ => ⟨S16384x512, .bf16⟩
  | .hbm, ⟨6, _⟩ => ⟨S2x256x1024, .f32⟩
  | .hbm, ⟨7, _⟩ => ⟨S2x256x1024, .f32⟩
  | .hbm, ⟨8, _⟩ => ⟨S2x512x1024, .f32⟩
  | .hbm, ⟨9, _⟩ => ⟨S2x1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x5888, .f32⟩
  | .hbm, ⟨30, _⟩ => ⟨S1024x5888, .f32⟩
  | .hbm, ⟨31, _⟩ => ⟨S16384x5888, .f32⟩
  | .hbm, ⟨32, _⟩ => ⟨S16384x3072, .f32⟩
  | .hbm, ⟨33, _⟩ => ⟨S16384x3072, .f32⟩
  | .hbm, ⟨34, _⟩ => ⟨S16384x3072, .f32⟩
  | .hbm, ⟨35, _⟩ => ⟨S_, .f32⟩
  | .hbm, ⟨36, _⟩ => ⟨S16384x3072, .f32⟩
  | .hbm, ⟨37, _⟩ => ⟨S16384x3072, .f32⟩
  | .hbm, ⟨38, _⟩ => ⟨S_, .f32⟩
  | .hbm, ⟨39, _⟩ => ⟨S16384x3072, .f32⟩
  | .hbm, ⟨40, _⟩ => ⟨S16384x3072, .f32⟩
  | .hbm, ⟨41, _⟩ => ⟨S16384x3x1024, .f32⟩
  | .hbm, ⟨42, _⟩ => ⟨S16384x256, .f32⟩
  | .hbm, ⟨43, _⟩ => ⟨S1x256x1024, .f32⟩
  | .hbm, ⟨44, _⟩ => ⟨S256x1024, .f32⟩
  | .hbm, ⟨45, _⟩ => ⟨S16384x1024, .f32⟩
  | .hbm, ⟨46, _⟩ => ⟨S16384x256, .f32⟩
  | .hbm, ⟨47, _⟩ => ⟨S1x256x1024, .f32⟩
  | .hbm, ⟨48, _⟩ => ⟨S256x1024, .f32⟩
  | .hbm, ⟨49, _⟩ => ⟨S16384x1024, .f32⟩
  | .hbm, ⟨50, _⟩ => ⟨S16384x512, .f32⟩
  | .hbm, ⟨51, _⟩ => ⟨S1x512x1024, .f32⟩
  | .hbm, ⟨52, _⟩ => ⟨S512x1024, .f32⟩
  | .hbm, ⟨53, _⟩ => ⟨S16384x1024, .f32⟩
  | .hbm, ⟨54, _⟩ => ⟨S16384x1x1024, .f32⟩
  | .hbm, ⟨55, _⟩ => ⟨S16384x1024, .f32⟩
  | .hbm, ⟨56, _⟩ => ⟨S16384x1024, .f32⟩
  | .hbm, ⟨57, _⟩ => ⟨S16384x1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1024x1024, .f32⟩
  | .hbm, ⟨66, _⟩ => ⟨S1024x1024, .f32⟩
  | .hbm, ⟨67, _⟩ => ⟨S16384x1024, .f32⟩
  | .hbm, ⟨68, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.Diff.Stage.lean ====
/- One stage of the kernel's pipeline, written once.

   A stage takes the scores of one group of 1024 keys (four blocks of 256) out of one slot, folds them into the running
   maximum and the running weighted sum of the values, and in between writes the scores of another group into a slot.
   The printed body contains nineteen copies of it; each is one of the three programs below at its own rows. Every
   program takes what follows it as its last argument. -/
module

public import proofs.«01_k».proof.Proof.Gen.KernelIdeal.Frame

@[expose] public section

noncomputable section

namespace Cert.Diff

open Cert.KernelIdeal Cert.KernelIdeal.Facts₀ Cert.KernelIdeal.Facts Idealize.ShloMosaic Idealize.ShloMosaic.TcCoe Idealize.SL.Sem

variable {F : FTy → Type} [FloatOps F] [Named F]

/-- The kernel body's programs, and its references in vector memory. -/
abbrev Pg (F : FTy → Type) := Prog (TpuEff nD τ sig (Elt F) Λ₀ .tc) PUnit
abbrev Mr (s : Shape) (e : EltTy) := Memref sig .tc .vmem s e

/-- Where map `h`'s row of maxima, its sum, and its block `b` of scores begin in their buffers. -/
abbrev oM (h : Fin 2) : Fin 3 → ℕ := ![h.val, 0, 0]
abbrev oS (h : Fin 2) (b : Fin 4) : Fin 3 → ℕ := ![h.val, 256 * b.val, 0]

theorem inbM (h : Fin 2) : ∀ a, oM h a + S1x1x512.size a ≤ S2x1x512.size a := by
  intro a; fin_cases h <;> fin_cases a <;> decide
theorem inbA (h : Fin 2) : ∀ a, oM h a + S1x144x512.size a ≤ S2x144x512.size a := by
  intro a; fin_cases h <;> fin_cases a <;> decide
theorem inbS (h : Fin 2) (b : Fin 4) : ∀ a, oS h b a + S1x256x512.size a ≤ S2x1024x512.size a := by
  intro a; fin_cases h <;> fin_cases b <;> fin_cases a <;> decide

/-- A load of a row of maxima, of a sum, of a block of scores, of 256 rows of keys, of 256 columns of values. -/
abbrev ldM (m : Mr S2x1x512 .f32) (h : Fin 2) (K : Vec F S1x1x512 .f32 → Pg F) : Pg F :=
  .op (.load m (Rect.unit (s := S2x1x512) (oM h) S1x1x512.size (inbM h)).toLoadRect (View.loadsAt_vmem h_S1x1x512)) K
abbrev ldA (m : Mr S2x144x512 .f32) (h : Fin 2) (K : Vec F S1x144x512 .f32 → Pg F) : Pg F :=
  .op (.load m (Rect.unit (s := S2x144x512) (oM h) S1x144x512.size (inbA h)).toLoadRect (View.loadsAt_vmem h_S1x144x512)) K
abbrev ldS (m : Mr S2x1024x512 .f32) (h : Fin 2) (b : Fin 4) (K : Vec F S1x256x512 .f32 → Pg F) : Pg F :=
  .op (.load m (Rect.unit (s := S2x1024x512) (oS h b) S1x256x512.size (inbS h b)).toLoadRect (View.loadsAt_vmem h_S1x256x512)) K
abbrev ldK (m : Mr S16384x128 .bf16) (o : Fin 2 → ℕ) (hi : ∀ a, o a + S256x128.size a ≤ S16384x128.size a)
    (K : Vec F S256x128 .bf16 → Pg F) : Pg F :=
  .op (.load m (Rect.unit (s := S16384x128) o S256x128.size hi).toLoadRect (View.loadsAt_vmem h_S256x128)) K
abbrev ldV (m : Mr S128x16384 .bf16) (o : Fin 2 → ℕ) (hi : ∀ a, o a + S128x256.size a ≤ S128x16384.size a)
    (K : Vec F S128x256 .bf16 → Pg F) : Pg F :=
  .op (.load m (Rect.unit (s := S128x16384) o S128x256.size hi).toLoadRect (View.loadsAt_vmem h_S128x256)) K

/-- The stores of the same pieces. -/
abbrev stM (m : Mr S2x1x512 .f32) (h : Fin 2) (v : FVec F S1x1x512 .f32) (K : Pg F) : Pg F :=
  .op (.store m (Rect.unit (s := S2x1x512) (oM h) S1x1x512.size (inbM h)) v Finset.univ
    (View.stores_vmem_bits_univ h_S1x1x512 rfl) (.inl rfl)) fun _ => K
abbrev stA (m : Mr S2x144x512 .f32) (h : Fin 2) (v : FVec F S1x144x512 .f32) (K : Pg F) : Pg F :=
  .op (.store m (Rect.unit (s := S2x144x512) (oM h) S1x144x512.size (inbA h)) v Finset.univ
    (View.stores_vmem_bits_univ h_S1x144x512 rfl) (.inl rfl)) fun _ => K
abbrev stS (m : Mr S2x1024x512 .f32) (h : Fin 2) (b : Fin 4) (v : FVec F S1x256x512 .f32) (K : Pg F) : Pg F :=
  .op (.store m (Rect.unit (s := S2x1024x512) (oS h b) S1x256x512.size (inbS h b)) v Finset.univ
    (View.stores_vmem_bits_univ h_S1x256x512 rfl) (.inl rfl)) fun _ => K

/-- The new maximum of a map: the old one and the group's. -/
def newM (m mx : Vec F S1x1x512 .f32) : FVec F S1x512 .f32 :=
  maximumf (shapeCast S1x512 m shapeCasts_S1x1x512_S1x512) (shapeCast S1x512 mx shapeCasts_S1x1x512_S1x512)
/-- A map's sum rescaled from the old maximum to the new one. -/
def rescaled (m : Vec F S1x1x512 .f32) (mn : FVec F S1x512 .f32) (a : Vec F S1x144x512 .f32) : FVec F S1x144x512 .f32 :=
  shapeCast S1x144x512 (mulf (broadcastTo S144x512 (exp2 (subf (shapeCast S1x512 m shapeCasts_S1x1x512_S1x512) mn)) broadcasts_S1x512_S144x512)
    (shapeCast S144x512 a shapeCasts_S1x144x512_S144x512)) shapeCasts_S144x512_S1x144x512
/-- A row of maxima as it is stored. -/
abbrev rowM (v : FVec F S1x512 .f32) : FVec F S1x1x512 .f32 := shapeCast S1x1x512 v shapeCasts_S1x512_S1x1x512
/-- The products of 256 rows of keys with the tile's queries. -/
def dots (k : Vec F S256x128 .bf16) (q : FVec F S128x512 .bf16) : FVec F S256x512 .f32 :=
  matmul dot_S256x128_S128x512_S256x512_1_0_0_1_n_n none (shapeCast S256x128 k shapeCasts_S256x128_S256x128) q
    (constant S256x512 .f32 0x00000000#32)
/-- Scores as they are stored, and the maximum over a block's keys. -/
abbrev blkS (s : FVec F S256x512 .f32) : FVec F S1x256x512 .f32 := shapeCast S1x256x512 s shapeCasts_S256x512_S1x256x512
def top (s : FVec F S256x512 .f32) : FVec F S1x512 .f32 :=
  shapeCast S1x512 (multiReduction .maximumf [0] S512 s 0xFF800000#32 reduces_S256x512_S512 (.inl rfl) rfl) shapeCasts_S512_S1x512
/-- A map's sum with one block added: the block's weights against its values, over sixteen rows of ones. -/
def added (a : Vec F S1x144x512 .f32) (v : Vec F S128x256 .bf16) (s : Vec F S1x256x512 .f32) (mn : FVec F S1x512 .f32) : FVec F S1x144x512 .f32 :=
  shapeCast S1x144x512 (addf (shapeCast S144x512 a shapeCasts_S1x144x512_S144x512)
    (matmul dot_S144x256_S256x512_S144x512_1_0_0_1_n_n none
      (concatenate S144x256 0 [⟨S128x256, shapeCast S128x256 v shapeCasts_S128x256_S128x256⟩,
        ⟨S16x256, broadcast S16x256 (Scalar.ofBits .bf16 0x3F80#16)⟩] concatenates_S128x256_S16x256_S144x256_d0)
      (truncf .bf16 (exp2 (subf (shapeCast S256x512 s shapeCasts_S1x256x512_S256x512) (broadcastTo S256x512 mn broadcasts_S1x512_S256x512))) bitsLt_bf16_f32)
      (constant S144x512 .f32 0x00000000#32))) shapeCasts_S144x512_S1x144x512

/-- The scores after the causal mask, in a block whose first key is `kp`, for the queries from `qp` on. -/
def maskedAt (kp qp : BitVec 32) (s : FVec F S256x512 .f32) : FVec F S256x512 .f32 :=
  select (cmpi .sle (addi (broadcast S256x512 kp) (iota .tc S256x512 32 [0] iota_S256x512_d0_w32))
      (addi (broadcast S256x512 qp) (iota .tc S256x512 32 [1] iota_S256x512_d1_w32)))
    s (broadcast S256x512 (Named.named κ "mask" 0xF149F2CA#32))

/-- The buffers a stage works on: the maxima, the sums, the keys, the values. -/
structure Bufs where
  m : Mr S2x1x512 .f32
  acc : Mr S2x144x512 .f32
  k : Mr S16384x128 .bf16
  v : Mr S128x16384 .bf16

/-- A slot: scores and their maxima. -/
structure Slot where
  s : Mr S2x1024x512 .f32
  mx : Mr S2x1x512 .f32

/-- The rows of one group of keys and of one group of values, block by block. -/
abbrev KOff := { o : Fin 4 → Fin 2 → ℕ // ∀ b a, o b a + S256x128.size a ≤ S16384x128.size a }
abbrev VOff := { o : Fin 4 → Fin 2 → ℕ // ∀ b a, o b a + S128x256.size a ≤ S128x16384.size a }

/-- The two maps' queries. -/
structure Qs (F : FTy → Type) where
  q0 : FVec F S128x512 .bf16
  q1 : FVec F S128x512 .bf16

/-- The start of a stage: maxima renewed, sums rescaled. -/
def rescale (B : Bufs) (cur : Slot) (K : FVec F S1x512 .f32 → FVec F S1x512 .f32 → Pg F) : Pg F :=
  ldM B.m 0 fun m0 => ldM B.m 1 fun m1 => ldM cur.mx 0 fun x0 => ldM cur.mx 1 fun x1 =>
  ldA B.acc 0 fun a0 => ldA B.acc 0 fun _ => stA B.acc 0 (rescaled m0 (newM m0 x0) a0) <|
  ldM B.m 0 fun _ => stM B.m 0 (rowM (newM m0 x0)) <|
  ldA B.acc 1 fun a1 => ldA B.acc 1 fun _ => stA B.acc 1 (rescaled m1 (newM m1 x1) a1) <|
  ldM B.m 1 fun _ => stM B.m 1 (rowM (newM m1 x1)) <| K (newM m0 x0) (newM m1 x1)

/-- Block `b` of a group's scores written into a slot, for both maps. -/
def park (B : Bufs) (nxt : Slot) (ko : KOff) (post : Fin 4 → FVec F S256x512 .f32 → FVec F S256x512 .f32) (Q : Qs F) (b : Fin 4)
    (K : FVec F S256x512 .f32 → FVec F S256x512 .f32 → Pg F) : Pg F :=
  ldK B.k (ko.1 b) (ko.2 b) fun k0 => ldS nxt.s 0 b fun _ => stS nxt.s 0 b (blkS (post b (dots k0 Q.q0))) <|
  ldK B.k (ko.1 b) (ko.2 b) fun k1 => ldS nxt.s 1 b fun _ => stS nxt.s 1 b (blkS (post b (dots k1 Q.q1))) <|
  K (post b (dots k0 Q.q0)) (post b (dots k1 Q.q1))

/-- Block `b` of a slot folded into the sums, for both maps. -/
def consume (B : Bufs) (cur : Slot) (vo : VOff) (n0 n1 : FVec F S1x512 .f32) (b : Fin 4) (K : Pg F) : Pg F :=
  ldS cur.s 0 b fun s0 => ldA B.acc 0 fun a0 => ldV B.v (vo.1 b) (vo.2 b) fun v0 => ldA B.acc 0 fun _ =>
  stA B.acc 0 (added a0 v0 s0 n0) <|
  ldS cur.s 1 b fun s1 => ldA B.acc 1 fun a1 => ldV B.v (vo.1 b) (vo.2 b) fun v1 => ldA B.acc 1 fun _ =>
  stA B.acc 1 (added a1 v1 s1 n1) <| K

/-- The maxima of a group's scores written into its slot. -/
def parkMax (nxt : Slot) (t0 t1 : FVec F S1x512 .f32) (K : Pg F) : Pg F :=
  ldM nxt.mx 0 fun _ => stM nxt.mx 0 (rowM t0) <| ldM nxt.mx 1 fun _ => stM nxt.mx 1 (rowM t1) <| K

/-- A group's scores written into a slot, alone. -/
def parkStage (B : Bufs) (nxt : Slot) (ko : KOff) (post : Fin 4 → FVec F S256x512 .f32 → FVec F S256x512 .f32) (Q : Qs F)
    (K : Pg F) : Pg F :=
  park B nxt ko post Q 0 fun s00 s10 => park B nxt ko post Q 1 fun s01 s11 =>
  park B nxt ko post Q 2 fun s02 s12 => park B nxt ko post Q 3 fun s03 s13 =>
  parkMax nxt (maximumf (maximumf (maximumf (top s00) (top s01)) (top s02)) (top s03))
    (maximumf (maximumf (maximumf (top s10) (top s11)) (top s12)) (top s13)) K

/-- A stage whose two slots differ. -/
def stage (B : Bufs) (cur nxt : Slot) (ko : KOff) (vo : VOff) (post : Fin 4 → FVec F S256x512 .f32 → FVec F S256x512 .f32) (Q : Qs F)
    (K : Pg F) : Pg F :=
  rescale B cur fun n0 n1 =>
  park B nxt ko post Q 0 fun s00 s10 => park B nxt ko post Q 1 fun s01 s11 => consume B cur vo n0 n1 0 <|
  park B nxt ko post Q 2 fun s02 s12 => consume B cur vo n0 n1 1 <|
  park B nxt ko post Q 3 fun s03 s13 =>
  parkMax nxt (maximumf (maximumf (maximumf (top s00) (top s01)) (top s02)) (top s03))
    (maximumf (maximumf (maximumf (top s10) (top s11)) (top s12)) (top s13)) <|
  consume B cur vo n0 n1 2 <| consume B cur vo n0 n1 3 <| K

/-- A stage that writes into the slot it takes from. -/
def stageSame (B : Bufs) (cur : Slot) (ko : KOff) (vo : VOff) (post : Fin 4 → FVec F S256x512 .f32 → FVec F S256x512 .f32) (Q : Qs F)
    (K : Pg F) : Pg F :=
  rescale B cur fun n0 n1 =>
  consume B cur vo n0 n1 0 <| park B cur ko post Q 0 fun s00 s10 =>
  consume B cur vo n0 n1 1 <| park B cur ko post Q 1 fun s01 s11 =>
  consume B cur vo n0 n1 2 <| park B cur ko post Q 2 fun s02 s12 =>
  consume B cur vo n0 n1 3 <| park B cur ko post Q 3 fun s03 s13 =>
  parkMax cur (maximumf (maximumf (maximumf (top s00) (top s01)) (top s02)) (top s03))
    (maximumf (maximumf (maximumf (top s10) (top s11)) (top s12)) (top s13)) K

end Cert.Diff
-- ==== Proof.Diff.Own.lean ====
/- What the body owns: every buffer at known pieces.

   The body reads and writes its scratch buffers piece by piece, a piece being one map's row of maxima, one map's sum, or
   one block of scores. So a buffer is owned here together with what each of its pieces holds, and a load gives the
   piece while a store renews it. -/
module

public import proofs.«01_k».proof.Proof.Diff.Stage

@[expose] public section

noncomputable section

namespace Cert.Diff

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's assertions, and the weakest precondition they are about. -/
abbrev SP (F : FTy → Type) := sProp (MT nD τ sig Unit (Elt F) ℕ (UR sig nD τ) ℕ)
abbrev Wp (c : Dev nD) (p : Pg F) (Q : PUnit → SP F) : SP F :=
  wp frame (wpE (defs₀ (F := F)) Variants.none (c : Thread nD τ) none) Set.univ p Q

section Prims

variable {s : Shape} {e : EltTy} (c : Dev nD)

/-- A load from an owned buffer. -/
theorem ld_owns {m : Mr s e} {X : s.Idx → Elt F e} {r : Rect s} {hl : m.view.LoadsAt r.toLoadRect}
    {K : (r.shape.Idx → Elt F e) → Pg F} {Q : PUnit → SP F} :
    owns (c : Thread nD τ) m fullShare X
      ⊢ iprop((owns (c : Thread nD τ) m fullShare X -∗ Wp c (K (View.ld X r)) Q) -∗ Wp c (.op (.load m r.toLoadRect hl) K) Q) := by
  unfold owns
  iintro ⟨%f, %hf, H⟩ Hk
  subst hf
  iapply (wp_load Variants.none (c : Thread nD τ) none Set.univ (m := m) (r := r.toLoadRect) (hl := hl) (k := K)
    (S := m.view.set) (q := fullShare) (f := f) (m.view.setOn_subset_set _)) $$ H
  iintro H
  iapply Hk
  iexists f
  isplitr [H]
  · ipureintro; rfl
  · iexact H

/-- A store into an owned buffer: the stored rectangle holds what was stored, the rest what it held. -/
theorem st_owns {m : Mr s e} {X : s.Idx → Elt F e} {r : Rect s} {w : r.shape.Idx → Elt F e}
    {hx : (m.access r).Stores Finset.univ} {hm : Finset.univ = Finset.univ ∨ ∀ a, r.stride a = 1} {K : PUnit → Pg F} {Q : PUnit → SP F} :
    owns (c : Thread nD τ) m fullShare X
      ⊢ iprop((∀ X', ⌜(∀ x, X' (r.emb x) = w x) ∧ ∀ y, y ∉ r.set → X' y = X y⌝ -∗ owns (c : Thread nD τ) m fullShare X' -∗ Wp c (K ⟨⟩) Q)
        -∗ Wp c (.op (.store m r w Finset.univ hx hm) K) Q) := by
  unfold owns
  iintro ⟨%f, %hf, H⟩ Hk
  subst hf
  iapply (wp_store Variants.none (c : Thread nD τ) none Set.univ (m := m) (r := r) (w := w) (Mk := Finset.univ) (hx := hx) (hm := hm)
    (k := K) (S := m.view.set) (f := f) (m.setOn_access_subset r _)) $$ H
  iintro H
  iapply Hk $$ %(m.view.read (Elt F) (m.view.writes (Elt F) f [⟨r, w⟩]))
  · ipureintro
    exact ⟨fun x => View.read_writes_cons_emb m.view f r w [] x,
      fun y hy => View.read_writes_apply_of_forall_not_mem m.view f y [⟨r, w⟩] fun p hp => by
        rw [List.mem_singleton] at hp; subst hp; exact hy⟩
  · iexists _
    isplitr [H]
    · ipureintro; rfl
    · iexact H

/-- A buffer owned with what each of a family of its rectangles holds. -/
def cells {ι : Type} (m : Mr s e) (r : ι → Rect s) (X : (i : ι) → (r i).shape.Idx → Elt F e) : SP F :=
  iprop(∃ Y, ⌜∀ i x, Y ((r i).emb x) = X i x⌝ ∗ owns (c : Thread nD τ) m fullShare Y)

theorem ld_cells {ι : Type} {m : Mr s e} {r : ι → Rect s} {X : (i : ι) → (r i).shape.Idx → Elt F e} (i : ι)
    {hl : m.view.LoadsAt (r i).toLoadRect} {K : ((r i).shape.Idx → Elt F e) → Pg F} {Q : PUnit → SP F} :
    cells c m r X ⊢ iprop((cells c m r X -∗ Wp c (K (X i)) Q) -∗ Wp c (.op (.load m (r i).toLoadRect hl) K) Q) := by
  unfold cells
  iintro ⟨%Y, %hY, H⟩ Hk
  iapply (ld_owns c) $$ H
  iintro H
  have e : View.ld Y (r i) = X i := funext (hY i)
  rw [e]
  iapply Hk
  iexists Y
  isplitr [H]
  · ipureintro; exact hY
  · iexact H

theorem st_cells {ι : Type} [DecidableEq ι] {m : Mr s e} {r : ι → Rect s} {X : (i : ι) → (r i).shape.Idx → Elt F e}
    (hr : ∀ i j, i ≠ j → ∀ x, (r i).emb x ∉ (r j).set) (i : ι) {w : (r i).shape.Idx → Elt F e}
    {hx : (m.access (r i)).Stores Finset.univ} {hm : Finset.univ = Finset.univ ∨ ∀ a, (r i).stride a = 1} {K : PUnit → Pg F}
    {Q : PUnit → SP F} :
    cells c m r X
      ⊢ iprop((cells c m r (Function.update X i w) -∗ Wp c (K ⟨⟩) Q) -∗ Wp c (.op (.store m (r i) w Finset.univ hx hm) K) Q) := by
  unfold cells
  iintro ⟨%Y, %hY, H⟩ Hk
  iapply (st_owns c) $$ H
  iintro %Y' %hY' H
  iapply Hk
  iexists Y'
  isplitr [H]
  · ipureintro
    intro j x
    by_cases h : j = i
    · subst h; rw [Function.update_self]; exact hY'.1 x
    · rw [Function.update_of_ne h, hY'.2 _ (hr j i h x)]; exact hY j x
  · iexact H

end Prims

end Cert.Diff
-- ==== Proof.Diff.State.lean ====
/- The scratch as a state, and what each stage does to it.

   The body's scratch is a state with the running maxima, the running sums, and two slots of scores with their maxima. The
   body owns all of it together; each load reads a component and each store renews one, and so a stage is a function
   from states to states. -/
module

public import proofs.«01_k».proof.Proof.Diff.Own

@[expose] public section

noncomputable section

namespace Cert.Diff

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pieces of the buffers. -/
abbrev rM (h : Fin 2) : Rect S2x1x512 := Rect.unit (oM h) S1x1x512.size (inbM h)
abbrev rA (h : Fin 2) : Rect S2x144x512 := Rect.unit (oM h) S1x144x512.size (inbA h)
abbrev rS (p : Fin 2 × Fin 4) : Rect S2x1024x512 := Rect.unit (oS p.1 p.2) S1x256x512.size (inbS p.1 p.2)

theorem rM_ne (i j : Fin 2) (hij : i ≠ j) (x : (rM i).shape.Idx) : (rM i).emb x ∉ (rM j).set := by
  refine Rect.not_mem_set_of_axis (rM j) _ 0 j.val 1 rfl rfl rfl ?_
  have h : ((rM i).emb x 0).val = i.val + 1 * (x 0).val := rfl
  have h0 : (x 0).val < 1 := (x 0).isLt
  have := fun e => hij (Fin.ext e)
  rw [h]; omega
theorem rA_ne (i j : Fin 2) (hij : i ≠ j) (x : (rA i).shape.Idx) : (rA i).emb x ∉ (rA j).set := by
  refine Rect.not_mem_set_of_axis (rA j) _ 0 j.val 1 rfl rfl rfl ?_
  have h : ((rA i).emb x 0).val = i.val + 1 * (x 0).val := rfl
  have h0 : (x 0).val < 1 := (x 0).isLt
  have := fun e => hij (Fin.ext e)
  rw [h]; omega
theorem rS_ne (i j : Fin 2 × Fin 4) (hij : i ≠ j) (x : (rS i).shape.Idx) : (rS i).emb x ∉ (rS j).set := by
  have h : ((rS i).emb x 0).val = i.1.val + 1 * (x 0).val := rfl
  have h' : ((rS i).emb x 1).val = 256 * i.2.val + 1 * (x 1).val := rfl
  have h0 : (x 0).val < 1 := (x 0).isLt
  have h1 : (x 1).val < 256 := (x 1).isLt
  by_cases e : i.1.val = j.1.val
  · refine Rect.not_mem_set_of_axis (rS j) _ 1 (256 * j.2.val) 256 rfl rfl rfl ?_
    have : i.2.val ≠ j.2.val := fun e' => hij (Prod.ext (Fin.ext e) (Fin.ext e'))
    rw [h']; omega
  · refine Rect.not_mem_set_of_axis (rS j) _ 0 j.1.val 1 rfl rfl rfl ?_
    rw [h]; omega

/-- The scratch's contents: maxima and sums of the two maps, scores and maxima of the two slots. -/
@[ext] structure St (F : FTy → Type) where
  m : Fin 2 → Vec F S1x1x512 .f32
  a : Fin 2 → Vec F S1x144x512 .f32
  s : Fin 2 → Fin 2 × Fin 4 → Vec F S1x256x512 .f32
  x : Fin 2 → Fin 2 → Vec F S1x1x512 .f32

namespace St
def setM (σ : St F) (h : Fin 2) (v : Vec F S1x1x512 .f32) : St F := { σ with m := Function.update σ.m h v }
def setA (σ : St F) (h : Fin 2) (v : Vec F S1x144x512 .f32) : St F := { σ with a := Function.update σ.a h v }
def setS (σ : St F) (j : Fin 2) (h : Fin 2) (b : Fin 4) (v : Vec F S1x256x512 .f32) : St F :=
  { σ with s := Function.update σ.s j (Function.update (σ.s j) (h, b) v) }
def setX (σ : St F) (j h : Fin 2) (v : Vec F S1x1x512 .f32) : St F := { σ with x := Function.update σ.x j (Function.update (σ.x j) h v) }
end St

variable (R : SP F) (c : Dev nD) (B : Bufs) (S : Fin 2 → Slot) (kX : Vec F S16384x128 .bf16) (vX : Vec F S128x16384 .bf16)

/-- The body's ownership at a scratch state: the scratch, the head's keys and values, and the rest. -/
def Own (σ : St F) : SP F :=
  iprop(R ∗ cells c B.m rM σ.m ∗ cells c B.acc rA σ.a ∗ cells c (S 0).s rS (σ.s 0) ∗ cells c (S 0).mx rM (σ.x 0)
    ∗ cells c (S 1).s rS (σ.s 1) ∗ cells c (S 1).mx rM (σ.x 1)
    ∗ owns (c : Thread nD τ) B.k fullShare kX ∗ owns (c : Thread nD τ) B.v fullShare vX)

variable {R c B S kX vX} {σ : St F} {Q : PUnit → SP F}

/-- Reading a row of maxima. -/
theorem ldM_own {h : Fin 2} {K : Vec F S1x1x512 .f32 → Pg F} (H : Own R c B S kX vX σ ⊢ Wp c (K (σ.m h)) Q) :
    Own R c B S kX vX σ ⊢ Wp c (ldM B.m h K) Q := by
  unfold Own at H ⊢
  iintro ⟨HR, Hm, Ha, Hs0, Hx0, Hs1, Hx1, Hk, Hv⟩
  iapply (ld_cells c (r := rM) h) $$ Hm
  iintro Hm
  iapply H
  iframe

theorem ldA_own {h : Fin 2} {K : Vec F S1x144x512 .f32 → Pg F} (H : Own R c B S kX vX σ ⊢ Wp c (K (σ.a h)) Q) :
    Own R c B S kX vX σ ⊢ Wp c (ldA B.acc h K) Q := by
  unfold Own at H ⊢
  iintro ⟨HR, Hm, Ha, Hs0, Hx0, Hs1, Hx1, Hk, Hv⟩
  iapply (ld_cells c (r := rA) h) $$ Ha
  iintro Ha
  iapply H
  iframe

theorem ldS_own {j h : Fin 2} {b : Fin 4} {K : Vec F S1x256x512 .f32 → Pg F} (H : Own R c B S kX vX σ ⊢ Wp c (K (σ.s j (h, b))) Q) :
    Own R c B S kX vX σ ⊢ Wp c (ldS (S j).s h b K) Q := by
  unfold Own at H ⊢
  obtain rfl | rfl : j = 0 ∨ j = 1 := by omega
  · iintro ⟨HR, Hm, Ha, Hs0, Hx0, Hs1, Hx1, Hk, Hv⟩
    iapply (ld_cells c (r := rS) (h, b)) $$ Hs0
    iintro Hs0
    iapply H
    iframe
  · iintro ⟨HR, Hm, Ha, Hs0, Hx0, Hs1, Hx1, Hk, Hv⟩
    iapply (ld_cells c (r := rS) (h, b)) $$ Hs1
    iintro Hs1
    iapply H
    iframe

theorem ldX_own {j h : Fin 2} {K : Vec F S1x1x512 .f32 → Pg F} (H : Own R c B S kX vX σ ⊢ Wp c (K (σ.x j h)) Q) :
    Own R c B S kX vX σ ⊢ Wp c (ldM (S j).mx h K) Q := by
  unfold Own at H ⊢
  obtain rfl | rfl : j = 0 ∨ j = 1 := by omega
  · iintro ⟨HR, Hm, Ha, Hs0, Hx0, Hs1, Hx1, Hk, Hv⟩
    iapply (ld_cells c (r := rM) h) $$ Hx0
    iintro Hx0
    iapply H
    iframe
  · iintro ⟨HR, Hm, Ha, Hs0, Hx0, Hs1, Hx1, Hk, Hv⟩
    iapply (ld_cells c (r := rM) h) $$ Hx1
    iintro Hx1
    iapply H
    iframe

/-- 256 rows of the keys from a row on, and 256 columns of the values from a column on. -/
abbrev kRect (o : Fin 2 → ℕ) (hi : ∀ a, o a + S256x128.size a ≤ S16384x128.size a) : Rect S16384x128 := Rect.unit o S256x128.size hi
abbrev vRect (o : Fin 2 → ℕ) (hi : ∀ a, o a + S128x256.size a ≤ S128x16384.size a) : Rect S128x16384 := Rect.unit o S128x256.size hi

theorem ldK_own {o} {hi} {K : Vec F S256x128 .bf16 → Pg F} (H : Own R c B S kX vX σ ⊢ Wp c (K (View.ld kX (kRect o hi))) Q) :
    Own R c B S kX vX σ ⊢ Wp c (ldK B.k o hi K) Q := by
  unfold Own at H ⊢
  iintro ⟨HR, Hm, Ha, Hs0, Hx0, Hs1, Hx1, Hk, Hv⟩
  iapply (ld_owns c (r := kRect o hi)) $$ Hk
  iintro Hk
  iapply H
  iframe

theorem ldV_own {o} {hi} {K : Vec F S128x256 .bf16 → Pg F} (H : Own R c B S kX vX σ ⊢ Wp c (K (View.ld vX (vRect o hi))) Q) :
    Own R c B S kX vX σ ⊢ Wp c (ldV B.v o hi K) Q := by
  unfold Own at H ⊢
  iintro ⟨HR, Hm, Ha, Hs0, Hx0, Hs1, Hx1, Hk, Hv⟩
  iapply (ld_owns c (r := vRect o hi)) $$ Hv
  iintro Hv
  iapply H
  iframe

/-- Renewing a row of maxima; -/
theorem stM_own {h : Fin 2} {v : FVec F S1x1x512 .f32} {K : Pg F} (H : Own R c B S kX vX (σ.setM h v) ⊢ Wp c K Q) :
    Own R c B S kX vX σ ⊢ Wp c (stM B.m h v K) Q := by
  unfold Own St.setM at H
  unfold Own
  iintro ⟨HR, Hm, Ha, Hs0, Hx0, Hs1, Hx1, Hk, Hv⟩
  iapply (st_cells c rM_ne h) $$ Hm
  iintro Hm
  iapply H
  iframe

/-- a sum; -/
theorem stA_own {h : Fin 2} {v : FVec F S1x144x512 .f32} {K : Pg F} (H : Own R c B S kX vX (σ.setA h v) ⊢ Wp c K Q) :
    Own R c B S kX vX σ ⊢ Wp c (stA B.acc h v K) Q := by
  unfold Own St.setA at H
  unfold Own
  iintro ⟨HR, Hm, Ha, Hs0, Hx0, Hs1, Hx1, Hk, Hv⟩
  iapply (st_cells c rA_ne h) $$ Ha
  iintro Ha
  iapply H
  iframe

/-- a block of scores; -/
theorem stS_own {j h : Fin 2} {b : Fin 4} {v : FVec F S1x256x512 .f32} {K : Pg F} (H : Own R c B S kX vX (σ.setS j h b v) ⊢ Wp c K Q) :
    Own R c B S kX vX σ ⊢ Wp c (stS (S j).s h b v K) Q := by
  unfold Own St.setS at H
  unfold Own
  obtain rfl | rfl : j = 0 ∨ j = 1 := by omega
  · simp only [Function.update_self, Function.update_of_ne (show (1 : Fin 2) ≠ 0 by decide)] at H
    iintro ⟨HR, Hm, Ha, Hs0, Hx0, Hs1, Hx1, Hk, Hv⟩
    iapply (st_cells c rS_ne (h, b)) $$ Hs0
    iintro Hs0
    iapply H
    iframe
  · simp only [Function.update_self, Function.update_of_ne (show (0 : Fin 2) ≠ 1 by decide)] at H
    iintro ⟨HR, Hm, Ha, Hs0, Hx0, Hs1, Hx1, Hk, Hv⟩
    iapply (st_cells c rS_ne (h, b)) $$ Hs1
    iintro Hs1
    iapply H
    iframe

/-- a slot's row of maxima. -/
theorem stX_own {j h : Fin 2} {v : FVec F S1x1x512 .f32} {K : Pg F} (H : Own R c B S kX vX (σ.setX j h v) ⊢ Wp c K Q) :
    Own R c B S kX vX σ ⊢ Wp c (stM (S j).mx h v K) Q := by
  unfold Own St.setX at H
  unfold Own
  obtain rfl | rfl : j = 0 ∨ j = 1 := by omega
  · simp only [Function.update_self, Function.update_of_ne (show (1 : Fin 2) ≠ 0 by decide)] at H
    iintro ⟨HR, Hm, Ha, Hs0, Hx0, Hs1, Hx1, Hk, Hv⟩
    iapply (st_cells c rM_ne h) $$ Hx0
    iintro Hx0
    iapply H
    iframe
  · simp only [Function.update_self, Function.update_of_ne (show (0 : Fin 2) ≠ 1 by decide)] at H
    iintro ⟨HR, Hm, Ha, Hs0, Hx0, Hs1, Hx1, Hk, Hv⟩
    iapply (st_cells c rM_ne h) $$ Hx1
    iintro Hx1
    iapply H
    iframe

/-! ## The stages -/

/-- The queries of a map. -/
def Qs.q (Q : Qs F) : Fin 2 → FVec F S128x512 .bf16 := ![Q.q0, Q.q1]

/-- What a stage begins with: maxima renewed from slot `j`, sums rescaled. -/
def St.newMax (σ : St F) (j : Fin 2) (h : Fin 2) : FVec F S1x512 .f32 := newM (σ.m h) (σ.x j h)
def St.rescaleT (σ : St F) (j : Fin 2) : St F :=
  (((σ.setA 0 (rescaled (σ.m 0) (σ.newMax j 0) (σ.a 0))).setM 0 (rowM (σ.newMax j 0))).setA 1
    (rescaled (σ.m 1) (σ.newMax j 1) (σ.a 1))).setM 1 (rowM (σ.newMax j 1))
/-- Two blocks of scores parked. -/
def St.parkT (σ : St F) (j : Fin 2) (b : Fin 4) (f : Fin 2 → FVec F S256x512 .f32) : St F :=
  (σ.setS j 0 b (blkS (f 0))).setS j 1 b (blkS (f 1))
/-- Two blocks of scores folded in. -/
def St.consumeT (σ : St F) (j : Fin 2) (b : Fin 4) (v : Vec F S128x256 .bf16) (n : Fin 2 → FVec F S1x512 .f32) : St F :=
  (σ.setA 0 (added (σ.a 0) v (σ.s j (0, b)) (n 0))).setA 1 (added (σ.a 1) v (σ.s j (1, b)) (n 1))
/-- The maxima of parked scores. -/
def St.parkMaxT (σ : St F) (j : Fin 2) (t : Fin 2 → FVec F S1x512 .f32) : St F := (σ.setX j 0 (rowM (t 0))).setX j 1 (rowM (t 1))

/-- The scores of block `b` for the two maps. -/
def scores (kX : Vec F S16384x128 .bf16) (ko : KOff) (post : Fin 4 → FVec F S256x512 .f32 → FVec F S256x512 .f32) (Q : Qs F) (b : Fin 4)
    (h : Fin 2) : FVec F S256x512 .f32 := post b (dots (View.ld kX (kRect (ko.1 b) (ko.2 b))) (Q.q h))
/-- The maximum over four blocks. -/
def top4 (f : Fin 4 → FVec F S256x512 .f32) : FVec F S1x512 .f32 :=
  maximumf (maximumf (maximumf (top (f 0)) (top (f 1))) (top (f 2))) (top (f 3))
/-- A block of values. -/
def vals (vX : Vec F S128x16384 .bf16) (vo : VOff) (b : Fin 4) : Vec F S128x256 .bf16 := View.ld vX (vRect (vo.1 b) (vo.2 b))

theorem rescale_own {j : Fin 2} {K : FVec F S1x512 .f32 → FVec F S1x512 .f32 → Pg F}
    (H : Own R c B S kX vX (σ.rescaleT j) ⊢ Wp c (K (σ.newMax j 0) (σ.newMax j 1)) Q) :
    Own R c B S kX vX σ ⊢ Wp c (rescale B (S j) K) Q := by
  unfold rescale
  exact ldM_own <| ldM_own <| ldX_own <| ldX_own <| ldA_own <| ldA_own <| stA_own <| ldM_own <| stM_own <|
    ldA_own <| ldA_own <| stA_own <| ldM_own <| stM_own H

theorem park_own {j : Fin 2} {ko : KOff} {post : Fin 4 → FVec F S256x512 .f32 → FVec F S256x512 .f32} {q : Qs F} {b : Fin 4}
    {K : FVec F S256x512 .f32 → FVec F S256x512 .f32 → Pg F}
    (H : Own R c B S kX vX (σ.parkT j b (scores kX ko post q b)) ⊢ Wp c (K (scores kX ko post q b 0) (scores kX ko post q b 1)) Q) :
    Own R c B S kX vX σ ⊢ Wp c (park B (S j) ko post q b K) Q := by
  unfold park
  exact ldK_own <| ldS_own <| stS_own <| ldK_own <| ldS_own <| stS_own H

theorem consume_own {j : Fin 2} {vo : VOff} {n : Fin 2 → FVec F S1x512 .f32} {b : Fin 4} {K : Pg F}
    (H : Own R c B S kX vX (σ.consumeT j b (vals vX vo b) n) ⊢ Wp c K Q) :
    Own R c B S kX vX σ ⊢ Wp c (consume B (S j) vo (n 0) (n 1) b K) Q := by
  unfold consume
  exact ldS_own <| ldA_own <| ldV_own <| ldA_own <| stA_own <| ldS_own <| ldA_own <| ldV_own <| ldA_own <| stA_own H

theorem parkMax_own {j : Fin 2} {t : Fin 2 → FVec F S1x512 .f32} {K : Pg F}
    (H : Own R c B S kX vX (σ.parkMaxT j t) ⊢ Wp c K Q) : Own R c B S kX vX σ ⊢ Wp c (parkMax (S j) (t 0) (t 1) K) Q := by
  unfold parkMax
  exact ldX_own <| stX_own <| ldX_own <| stX_own H

/-- A group of scores parked. -/
def St.parkStageT (σ : St F) (j : Fin 2) (f : Fin 4 → Fin 2 → FVec F S256x512 .f32) : St F :=
  ((((σ.parkT j 0 (f 0)).parkT j 1 (f 1)).parkT j 2 (f 2)).parkT j 3 (f 3)).parkMaxT j fun h => top4 fun b => f b h
/-- A stage from slot `i` to slot `j`. -/
def St.stageT (σ : St F) (i j : Fin 2) (f : Fin 4 → Fin 2 → FVec F S256x512 .f32) (v : Fin 4 → Vec F S128x256 .bf16) : St F :=
  let n := σ.newMax i
  let σ := ((σ.rescaleT i).parkT j 0 (f 0)).parkT j 1 (f 1)
  let σ := (σ.consumeT i 0 (v 0) n).parkT j 2 (f 2)
  let σ := (σ.consumeT i 1 (v 1) n).parkT j 3 (f 3)
  ((σ.parkMaxT j fun h => top4 fun b => f b h).consumeT i 2 (v 2) n).consumeT i 3 (v 3) n
/-- A stage within slot `j`. -/
def St.stageSameT (σ : St F) (j : Fin 2) (f : Fin 4 → Fin 2 → FVec F S256x512 .f32) (v : Fin 4 → Vec F S128x256 .bf16) : St F :=
  let n := σ.newMax j
  let σ := ((σ.rescaleT j).consumeT j 0 (v 0) n).parkT j 0 (f 0)
  let σ := (σ.consumeT j 1 (v 1) n).parkT j 1 (f 1)
  let σ := (σ.consumeT j 2 (v 2) n).parkT j 2 (f 2)
  ((σ.consumeT j 3 (v 3) n).parkT j 3 (f 3)).parkMaxT j fun h => top4 fun b => f b h

theorem parkStage_own {j : Fin 2} {ko : KOff} {post : Fin 4 → FVec F S256x512 .f32 → FVec F S256x512 .f32} {q : Qs F} {K : Pg F}
    (H : Own R c B S kX vX (σ.parkStageT j (scores kX ko post q)) ⊢ Wp c K Q) :
    Own R c B S kX vX σ ⊢ Wp c (parkStage B (S j) ko post q K) Q := by
  unfold parkStage
  exact park_own <| park_own <| park_own <| park_own <| parkMax_own (t := fun h => top4 fun b => scores kX ko post q b h) H

theorem stage_own {i j : Fin 2} {ko : KOff} {vo : VOff} {post : Fin 4 → FVec F S256x512 .f32 → FVec F S256x512 .f32} {q : Qs F} {K : Pg F}
    (H : Own R c B S kX vX (σ.stageT i j (scores kX ko post q) (vals vX vo)) ⊢ Wp c K Q) :
    Own R c B S kX vX σ ⊢ Wp c (stage B (S i) (S j) ko vo post q K) Q := by
  unfold stage
  exact rescale_own <| park_own <| park_own <| consume_own (n := σ.newMax i) <| park_own <| consume_own (n := σ.newMax i) <| park_own <|
    parkMax_own (t := fun h => top4 fun b => scores kX ko post q b h) <| consume_own (n := σ.newMax i) <| consume_own (n := σ.newMax i) H

theorem stageSame_own {j : Fin 2} {ko : KOff} {vo : VOff} {post : Fin 4 → FVec F S256x512 .f32 → FVec F S256x512 .f32} {q : Qs F} {K : Pg F}
    (H : Own R c B S kX vX (σ.stageSameT j (scores kX ko post q) (vals vX vo)) ⊢ Wp c K Q) :
    Own R c B S kX vX σ ⊢ Wp c (stageSame B (S j) ko vo post q K) Q := by
  unfold stageSame
  exact rescale_own <| consume_own (n := σ.newMax j) <| park_own <| consume_own (n := σ.newMax j) <| park_own <|
    consume_own (n := σ.newMax j) <| park_own <| consume_own (n := σ.newMax j) <| park_own <|
    parkMax_own (t := fun h => top4 fun b => scores kX ko post q b h) H

end Cert.Diff
-- ==== Proof.Diff.Fold.lean ====
/- What the stages amount to: a fold over groups of scores.

   A step takes one group's scores, their maximum and the group's values into the running maximum and the running sum.
   A stage is a step together with the parking of another group. -/
module

public import proofs.«01_k».proof.Proof.Diff.State

@[expose] public section

noncomputable section

namespace Cert.Diff

open Cert.KernelIdeal Cert.KernelIdeal.Gen Idealize.ShloMosaic Idealize.ShloMosaic.TcCoe

variable {F : FTy → Type} [FloatOps F] [Named F]

/-- One step on the maximum, and on the sum. -/
def stepM (m x : Vec F S1x1x512 .f32) : Vec F S1x1x512 .f32 := rowM (newM m x)
def stepA (m x : Vec F S1x1x512 .f32) (a : Vec F S1x144x512 .f32) (s : Fin 4 → Vec F S1x256x512 .f32) (v : Fin 4 → Vec F S128x256 .bf16) :
    Vec F S1x144x512 .f32 :=
  added (added (added (added (rescaled m (newM m x) a) (v 0) (s 0) (newM m x)) (v 1) (s 1) (newM m x)) (v 2) (s 2) (newM m x)) (v 3) (s 3) (newM m x)

/-- A group of scores: four blocks, for the two maps. -/
abbrev Grp (F : FTy → Type) := Fin 4 → Fin 2 → FVec F S256x512 .f32

/-- Slot `j` holds a group's scores and maxima. -/
structure St.Holds (σ : St F) (j : Fin 2) (f : Grp F) : Prop where
  s : ∀ h b, σ.s j (h, b) = blkS (f b h)
  x : ∀ h, σ.x j h = rowM (top4 fun b => f b h)

section Lens
variable (σ : St F) (j h : Fin 2) (b : Fin 4)

@[simp] theorem setM_m {v} (h' : Fin 2) : (σ.setM h v).m h' = if h' = h then v else σ.m h' := by
  simp only [St.setM, Function.update_apply]
@[simp] theorem setM_a {v} : (σ.setM h v).a = σ.a := rfl
@[simp] theorem setM_s {v} : (σ.setM h v).s = σ.s := rfl
@[simp] theorem setM_x {v} : (σ.setM h v).x = σ.x := rfl
@[simp] theorem setA_a {v} (h' : Fin 2) : (σ.setA h v).a h' = if h' = h then v else σ.a h' := by
  simp only [St.setA, Function.update_apply]
@[simp] theorem setA_m {v} : (σ.setA h v).m = σ.m := rfl
@[simp] theorem setA_s {v} : (σ.setA h v).s = σ.s := rfl
@[simp] theorem setA_x {v} : (σ.setA h v).x = σ.x := rfl
@[simp] theorem setS_s {v} (j' h' : Fin 2) (b' : Fin 4) :
    (σ.setS j h b v).s j' (h', b') = if j' = j ∧ h' = h ∧ b' = b then v else σ.s j' (h', b') := by
  unfold St.setS
  by_cases e : j' = j
  · subst e
    simp only [Function.update_self, Function.update_apply, Prod.mk.injEq, true_and]
  · simp only [Function.update_of_ne e, e, false_and, if_false]
@[simp] theorem setS_m {v} : (σ.setS j h b v).m = σ.m := rfl
@[simp] theorem setS_a {v} : (σ.setS j h b v).a = σ.a := rfl
@[simp] theorem setS_x {v} : (σ.setS j h b v).x = σ.x := rfl
@[simp] theorem setX_x {v} (j' h' : Fin 2) : (σ.setX j h v).x j' h' = if j' = j ∧ h' = h then v else σ.x j' h' := by
  unfold St.setX
  by_cases e : j' = j
  · subst e
    simp only [Function.update_self, Function.update_apply, true_and]
  · simp only [Function.update_of_ne e, e, false_and, if_false]
@[simp] theorem setX_m {v} : (σ.setX j h v).m = σ.m := rfl
@[simp] theorem setX_a {v} : (σ.setX j h v).a = σ.a := rfl
@[simp] theorem setX_s {v} : (σ.setX j h v).s = σ.s := rfl
end Lens

section Blocks
variable (σ : St F) (j : Fin 2) (b : Fin 4) (n t : Fin 2 → FVec F S1x512 .f32) (f : Fin 2 → FVec F S256x512 .f32) (v : Vec F S128x256 .bf16)

theorem rescaleT_m (h : Fin 2) : (σ.rescaleT j).m h = rowM (σ.newMax j h) := by
  fin_cases h <;> simp [St.rescaleT]
theorem rescaleT_a (h : Fin 2) : (σ.rescaleT j).a h = rescaled (σ.m h) (σ.newMax j h) (σ.a h) := by
  fin_cases h <;> simp [St.rescaleT]
@[simp] theorem rescaleT_s : (σ.rescaleT j).s = σ.s := rfl
@[simp] theorem rescaleT_x : (σ.rescaleT j).x = σ.x := rfl
theorem consumeT_a (h : Fin 2) : (σ.consumeT j b v n).a h = added (σ.a h) v (σ.s j (h, b)) (n h) := by
  fin_cases h <;> simp [St.consumeT]
@[simp] theorem consumeT_m : (σ.consumeT j b v n).m = σ.m := rfl
@[simp] theorem consumeT_s : (σ.consumeT j b v n).s = σ.s := rfl
@[simp] theorem consumeT_x : (σ.consumeT j b v n).x = σ.x := rfl
theorem parkT_s (j' h : Fin 2) (b' : Fin 4) :
    (σ.parkT j b f).s j' (h, b') = if j' = j ∧ b' = b then blkS (f h) else σ.s j' (h, b') := by
  fin_cases h <;> simp [St.parkT]
@[simp] theorem parkT_m : (σ.parkT j b f).m = σ.m := rfl
@[simp] theorem parkT_a : (σ.parkT j b f).a = σ.a := rfl
@[simp] theorem parkT_x : (σ.parkT j b f).x = σ.x := rfl
theorem parkMaxT_x (j' h : Fin 2) : (σ.parkMaxT j t).x j' h = if j' = j then rowM (t h) else σ.x j' h := by
  fin_cases h <;> simp [St.parkMaxT]
@[simp] theorem parkMaxT_m : (σ.parkMaxT j t).m = σ.m := rfl
@[simp] theorem parkMaxT_a : (σ.parkMaxT j t).a = σ.a := rfl
@[simp] theorem parkMaxT_s : (σ.parkMaxT j t).s = σ.s := rfl
end Blocks

variable {σ : St F} {i j : Fin 2} {f : Grp F} {v : Fin 4 → Vec F S128x256 .bf16}

theorem parkStageT_holds : (σ.parkStageT j f).Holds j f := by
  constructor
  · intro h b
    fin_cases b <;> simp [St.parkStageT, parkT_s]
  · intro h
    simp [St.parkStageT, parkMaxT_x]
theorem parkStageT_m : (σ.parkStageT j f).m = σ.m := by simp only [St.parkStageT, parkMaxT_m, parkT_m]
theorem parkStageT_a : (σ.parkStageT j f).a = σ.a := by simp only [St.parkStageT, parkMaxT_a, parkT_a]

theorem stageT_m (h : Fin 2) : (σ.stageT i j f v).m h = stepM (σ.m h) (σ.x i h) := rescaleT_m σ i h
theorem stageT_a (hij : i ≠ j) (h : Fin 2) :
    (σ.stageT i j f v).a h = stepA (σ.m h) (σ.x i h) (σ.a h) (fun b => σ.s i (h, b)) v := by
  simp only [St.stageT, consumeT_a, parkMaxT_a, parkMaxT_s, parkT_a, parkT_s, consumeT_s, rescaleT_a, rescaleT_s, hij, false_and, if_false]
  rfl
theorem stageT_holds : (σ.stageT i j f v).Holds j f := by
  constructor
  · intro h b
    fin_cases b <;> simp [St.stageT, parkT_s]
  · intro h
    simp [St.stageT, parkMaxT_x]

theorem stageSameT_m (h : Fin 2) : (σ.stageSameT j f v).m h = stepM (σ.m h) (σ.x j h) := rescaleT_m σ j h
theorem stageSameT_a (h : Fin 2) :
    (σ.stageSameT j f v).a h = stepA (σ.m h) (σ.x j h) (σ.a h) (fun b => σ.s j (h, b)) v := by
  simp only [St.stageSameT, consumeT_a, parkMaxT_a, parkT_a, parkT_s, consumeT_s, rescaleT_a, rescaleT_s, true_and,
    show ((1 : Fin 4) = 0) = False by decide, show ((2 : Fin 4) = 0) = False by decide, show ((2 : Fin 4) = 1) = False by decide,
    show ((3 : Fin 4) = 0) = False by decide, show ((3 : Fin 4) = 1) = False by decide, show ((3 : Fin 4) = 2) = False by decide, if_false]
  rfl
theorem stageSameT_holds : (σ.stageSameT j f v).Holds j f := by
  constructor
  · intro h b
    fin_cases b <;> simp [St.stageSameT, parkT_s]
  · intro h
    simp [St.stageSameT, parkMaxT_x]

/-! ## The fold -/

/-- The values the scratch starts from. -/
def m₀ : Vec F S1x1x512 .f32 := fun _ => (Named.named κ "mask" 0xF149F2CA#32 : F .f32)
def a₀ : Vec F S1x144x512 .f32 := fun _ => (Scalar.ofBits .f32 0x00000000#32 : F .f32)

/-- The maxima and the sums after `n` groups. -/
def seqM (f : ℕ → Grp F) : ℕ → Fin 2 → Vec F S1x1x512 .f32
  | 0, _ => m₀
  | n + 1, h => stepM (seqM f n h) (rowM (top4 fun b => f n b h))
def seqA (f : ℕ → Grp F) (v : ℕ → Fin 4 → Vec F S128x256 .bf16) : ℕ → Fin 2 → Vec F S1x144x512 .f32
  | 0, _ => a₀
  | n + 1, h => stepA (seqM f n h) (rowM (top4 fun b => f n b h)) (seqA f v n h) (fun b => blkS (f n b h)) (v n)

/-- The slot group `n` is parked in. -/
def slotOf (n : ℕ) : Fin 2 := if n % 2 = 0 then 0 else 1

/-- The scratch after `n` groups, the next one parked. -/
structure Done (f : ℕ → Grp F) (v : ℕ → Fin 4 → Vec F S128x256 .bf16) (n : ℕ) (σ : St F) : Prop where
  m : ∀ h, σ.m h = seqM f n h
  a : ∀ h, σ.a h = seqA f v n h
  holds : σ.Holds (slotOf n) (f n)

/-- The scratch after the tile: every group folded in, and slot 0 holding what the next tile begins with. -/
structure Ended (f : ℕ → Grp F) (v : ℕ → Fin 4 → Vec F S128x256 .bf16) (n : ℕ) (g : Grp F) (σ : St F) : Prop where
  a : ∀ h, σ.a h = seqA f v (n + 1) h
  holds : σ.Holds 0 g

variable {fs : ℕ → Grp F} {vs : ℕ → Fin 4 → Vec F S128x256 .bf16} {n : ℕ}

theorem Done.stage (h : Done fs vs n σ) (hi : slotOf n = i) (hj : slotOf (n + 1) = j) (hij : i ≠ j) :
    Done fs vs (n + 1) (σ.stageT i j (fs (n + 1)) (vs n)) where
  m h' := by rw [stageT_m, h.m, ← hi, h.holds.x]; rfl
  a h' := by
    rw [stageT_a hij, h.m, h.a, ← hi, h.holds.x]
    simp only [h.holds.s]
    rfl
  holds := by rw [hj]; exact stageT_holds

theorem Done.last (h : Done fs vs n σ) (hi : slotOf n = 1) (g : Grp F) : Ended fs vs n g (σ.stageT 1 0 g (vs n)) where
  a h' := by
    rw [stageT_a (by decide), h.m, h.a, ← hi, h.holds.x]
    simp only [h.holds.s]
    rfl
  holds := stageT_holds

theorem Done.lastSame (h : Done fs vs n σ) (hi : slotOf n = 0) (g : Grp F) : Ended fs vs n g (σ.stageSameT 0 g (vs n)) where
  a h' := by
    rw [stageSameT_a, h.m, h.a, ← hi, h.holds.x]
    simp only [h.holds.s]
    rfl
  holds := stageSameT_holds

end Cert.Diff
-- ==== Proof.Diff.Text.lean ====
/- The kernel's body, said with the stages.

   The printed body begins with the tile's queries and cleared sums, parks the first group of scores if the tile is
   the head's first, goes four stages at a time through the groups of keys before the tile's own, takes the rest of
   them (none, one, two or three) and the tile's own group, and ends with the two maps' difference and its norm. -/
module

public import proofs.«01_k».proof.Proof.Diff.Stage

@[expose] public section

noncomputable section

namespace Cert.Diff

open Cert.KernelIdeal Cert.KernelIdeal.Facts₀ Cert.KernelIdeal.Facts Idealize.ShloMosaic Idealize.ShloMosaic.TcCoe Idealize.SL.Sem

variable {F : FTy → Type} [FloatOps F] [Named F]

/-- A tile's queries, scaled, and split into the two maps': the other map's 64 rows are zero. -/
def qscaled (x : Vec F S128x512 .bf16) : FVec F S128x512 .bf16 :=
  truncf .bf16 (mulf (extf .f32 (shapeCast S128x512 x shapeCasts_S128x512_S128x512) bitsLt_bf16_f32)
    (broadcast S128x512 (Named.named κ "scale2" 0x3E38AA3B#32))) bitsLt_bf16_f32
def qmaps (x : Vec F S128x512 .bf16) : Qs F :=
  ⟨concatenate S128x512 0 [⟨S64x512, extractStridedSlice S64x512 ![0, 0] (qscaled x) slices_S128x512_o0_0_S64x512⟩,
      ⟨S64x512, broadcast S64x512 (Scalar.ofBits .bf16 0x0000#16)⟩] concatenates_S64x512_S64x512_S128x512_d0,
   concatenate S128x512 0 [⟨S64x512, broadcast S64x512 (Scalar.ofBits .bf16 0x0000#16)⟩,
      ⟨S64x512, extractStridedSlice S64x512 ![64, 0] (qscaled x) slices_S128x512_o64_0_S64x512⟩] concatenates_S64x512_S64x512_S128x512_d0⟩

/-- The number of the tile, and of the one after it (the last one's is itself). -/
abbrev tileOf (i : grid0.Coords) : BitVec 32 := BitVec.ofNat 32 (i 1).val
abbrev nextOf (i : grid0.Coords) : BitVec 32 := Scalar.minsi (Scalar.addi (tileOf i) 1#32) 31#32

/-- The group of keys a tile's own positions lie in, as the body computes it. -/
def ownGroup (t : BitVec 32) : BitVec 32 :=
  Scalar.select
    (Scalar.andi
      (Scalar.cmpi .ne
        (Scalar.subi (Scalar.extui (Scalar.cmpi .sgt (Scalar.muli t 512#32) 0#32) : BitVec 32) (Scalar.extui (Scalar.cmpi .slt (Scalar.muli t 512#32) 0#32)))
        (Scalar.subi (Scalar.extui (Scalar.cmpi .sgt (1024#32 : BitVec 32) 0#32) : BitVec 32) (Scalar.extui (Scalar.cmpi .slt (1024#32 : BitVec 32) 0#32))))
      (Scalar.cmpi .ne (Scalar.remsi (Scalar.muli t 512#32) 1024#32) 0#32))
    (Scalar.subi (Scalar.divsi (Scalar.muli t 512#32) 1024#32) 1#32)
    (Scalar.divsi (Scalar.muli t 512#32) 1024#32)

/-- A tile's own scores after the mask. -/
def ownPost (t : BitVec 32) (b : Fin 4) (s : FVec F S256x512 .f32) : FVec F S256x512 .f32 :=
  maskedAt (Scalar.muli (Scalar.addi (Scalar.muli (ownGroup t) 4#32) (BitVec.ofNat 32 b.val)) 256#32) (Scalar.muli t 512#32) s

/-- The scores of earlier keys are not masked. -/
abbrev pastPost : Fin 4 → FVec F S256x512 .f32 → FVec F S256x512 .f32 := fun _ s => s

/-- The rows of keys and the columns of values of the stages, case by case. -/
abbrev ko1 (i : grid0.Coords) (h : k0_cond1 i = 1#1) : KOff := ⟨fun b => k0_off1 i (BitVec.ofNat 32 b.val), k0_off1_inb i h⟩
abbrev ko2 (i : grid0.Coords) (k : Fin (k0_t1_loop i).trips) (s : Fin 4) : KOff :=
  ⟨fun b => k0_off2 i k (BitVec.ofNat 32 s.val) (BitVec.ofNat 32 b.val), k0_off2_inb i k s⟩
abbrev vo3 (i : grid0.Coords) (k : Fin (k0_t1_loop i).trips) (s : Fin 4) : VOff :=
  ⟨fun b => k0_off3 i k (BitVec.ofNat 32 s.val) (BitVec.ofNat 32 b.val), k0_off3_inb i k s⟩
abbrev ko4 (i : grid0.Coords) (k : Fin (k0_t2_loop i).trips) (s : Fin 4) : KOff :=
  ⟨fun b => k0_off4 i k (BitVec.ofNat 32 s.val) (BitVec.ofNat 32 b.val), k0_off4_inb i k s⟩
abbrev vo5 (i : grid0.Coords) (k : Fin (k0_t2_loop i).trips) (s : Fin 4) : VOff :=
  ⟨fun b => k0_off5 i k (BitVec.ofNat 32 s.val) (BitVec.ofNat 32 b.val), k0_off5_inb i k s⟩
abbrev vo6 (i : grid0.Coords) (h : k0_cond2 i = 1#1) : VOff := ⟨fun b => k0_off6 i (BitVec.ofNat 32 b.val), k0_off6_inb i h⟩
abbrev ko7 (i : grid0.Coords) (h : k0_cond2 i = 1#1) : KOff := ⟨fun b => k0_off7 i (BitVec.ofNat 32 b.val), k0_off7_inb i h⟩
abbrev ko8 (i : grid0.Coords) (h : k0_cond3 i = 1#1) : KOff := ⟨fun b => k0_off8 i (BitVec.ofNat 32 b.val), k0_off8_inb i h⟩
abbrev vo9 (i : grid0.Coords) (h : k0_cond3 i = 1#1) (s : Fin 2) : VOff :=
  ⟨fun b => k0_off9 i (BitVec.ofNat 32 s.val) (BitVec.ofNat 32 b.val), k0_off9_inb i h s⟩
abbrev ko10 (i : grid0.Coords) (h : k0_cond3 i = 1#1) : KOff := ⟨fun b => k0_off10 i (BitVec.ofNat 32 b.val), k0_off10_inb i h⟩
abbrev ko11 (i : grid0.Coords) (h : k0_cond4 i = 1#1) (s : Fin 2) : KOff :=
  ⟨fun b => k0_off11 i (BitVec.ofNat 32 s.val) (BitVec.ofNat 32 b.val), k0_off11_inb i h s⟩
abbrev vo12 (i : grid0.Coords) (h : k0_cond4 i = 1#1) (s : Fin 3) : VOff :=
  ⟨fun b => k0_off12 i (BitVec.ofNat 32 s.val) (BitVec.ofNat 32 b.val), k0_off12_inb i h s⟩
abbrev ko13 (i : grid0.Coords) (h : k0_cond4 i = 1#1) : KOff := ⟨fun b => k0_off13 i (BitVec.ofNat 32 b.val), k0_off13_inb i h⟩
abbrev ko14 (i : grid0.Coords) (h : k0_cond5 i = 1#1) (s : Fin 3) : KOff :=
  ⟨fun b => k0_off14 i (BitVec.ofNat 32 s.val) (BitVec.ofNat 32 b.val), k0_off14_inb i h s⟩
abbrev vo15 (i : grid0.Coords) (h : k0_cond5 i = 1#1) (s : Fin 4) : VOff :=
  ⟨fun b => k0_off15 i (BitVec.ofNat 32 s.val) (BitVec.ofNat 32 b.val), k0_off15_inb i h s⟩
abbrev ko16 (i : grid0.Coords) (h : k0_cond5 i = 1#1) : KOff := ⟨fun b => k0_off16 i (BitVec.ofNat 32 b.val), k0_off16_inb i h⟩

/-- A load of a tile's queries. -/
abbrev ldQ (m : Mr S128x512 .bf16) (K : Vec F S128x512 .bf16 → Pg F) : Pg F :=
  .op (.load m (Rect.unit (s := S128x512) ![0, 0] S128x512.size inb_S128x512_S128x512_0_0).toLoadRect (View.loadsAt_vmem h_S128x512)) K
/-- The clearing of the maxima, and of the sums. -/
def clearM (B : Bufs) (K : Pg F) : Pg F :=
  .op (.load B.m (Rect.unit (s := S2x1x512) ![0, 0, 0] S2x1x512.size inb_S2x1x512_S2x1x512_0_0_0).toLoadRect (View.loadsAt_vmem h_S2x1x512)) fun _ =>
  .op (.store B.m (Rect.unit (s := S2x1x512) ![0, 0, 0] S2x1x512.size inb_S2x1x512_S2x1x512_0_0_0)
    (shapeCast S2x1x512 (broadcast S2x1x512 (Named.named κ "mask" 0xF149F2CA#32) : FVec F S2x1x512 .f32) shapeCasts_S2x1x512_S2x1x512) Finset.univ
    (View.stores_vmem_bits_univ h_S2x1x512 rfl) (.inl rfl)) fun _ => K
def clearA (B : Bufs) (K : Pg F) : Pg F :=
  .op (.load B.acc (Rect.unit (s := S2x144x512) ![0, 0, 0] S2x144x512.size inb_S2x144x512_S2x144x512_0_0_0).toLoadRect (View.loadsAt_vmem h_S2x144x512)) fun _ =>
  .op (.store B.acc (Rect.unit (s := S2x144x512) ![0, 0, 0] S2x144x512.size inb_S2x144x512_S2x144x512_0_0_0)
    (shapeCast S2x144x512 (broadcast S2x144x512 (Scalar.ofBits .f32 0x00000000#32) : FVec F S2x144x512 .f32) shapeCasts_S2x144x512_S2x144x512) Finset.univ
    (View.stores_vmem_bits_univ h_S2x144x512 rfl) (.inl rfl)) fun _ => K

/-- Four stages over earlier groups, the slots alternating. -/
def trip (B : Bufs) (S0 S1 : Slot) (Q : Qs F) (ko : Fin 4 → KOff) (vo : Fin 4 → VOff) : Pg F :=
  stage B S0 S1 (ko 0) (vo 0) pastPost Q <| stage B S1 S0 (ko 1) (vo 1) pastPost Q <|
  stage B S0 S1 (ko 2) (vo 2) pastPost Q <| stage B S1 S0 (ko 3) (vo 3) pastPost Q <| .ret ⟨⟩

/-- One map's weighted mean of the values, from its sum's rows and from the row of the weights' sums. -/
def meanOf (a : Vec F S1x128x512 .f32) (l : Vec F S1x1x512 .f32) : FVec F S128x512 .f32 :=
  mulf (shapeCast S128x512 a shapeCasts_S1x128x512_S128x512)
    (broadcastTo S128x512 (divf (broadcast S1x512 (Scalar.ofBits .f32 0x3F800000#32)) (shapeCast S1x512 l shapeCasts_S1x1x512_S1x512))
      broadcasts_S1x512_S128x512)
/-- Exp of the product of two vectors. -/
def expDot (x y : Vec F S1x64 .f32) : FVec F S1x1 .f32 :=
  exp (shapeCast S1x1 (multiReduction .add [1] S1 (mulf (shapeCast S1x64 x shapeCasts_S1x64_S1x64) (shapeCast S1x64 y shapeCasts_S1x64_S1x64))
    0x00000000#32 reduces_S1x64_S1 (.inl rfl) rfl) shapeCasts_S1_S1x1)
/-- Lambda. -/
def lamOf (w x y z : Vec F S1x64 .f32) : FVec F S1x1 .f32 :=
  addf (subf (expDot w x) (expDot y z)) (broadcast S1x1 (Scalar.ofBits .f32 0x3E4CCCCD#32))
/-- The difference of the two maps' means. -/
def diffOf (lam : FVec F S1x1 .f32) (u v : FVec F S128x512 .f32) : FVec F S128x512 .f32 :=
  subf u (mulf (broadcastTo S128x512 lam broadcasts_S1x1_S128x512) v)
/-- The norm of a tile's difference, and its gains. -/
def normOf (d : FVec F S128x512 .f32) (g : Vec F S1x128 .f32) : FVec F S512x128 .bf16 :=
  truncf .bf16 (mulf (transpose S512x128 [1, 0]
    (mulf d (broadcastTo S128x512
      (mulf (rsqrt (addf (divf (shapeCast S1x512 (multiReduction .add [0] S512 (mulf d d) 0x00000000#32 reduces_S128x512_S512 (.inl rfl) rfl) shapeCasts_S512_S1x512)
          (broadcast S1x512 (Scalar.ofBits .f32 0x43000000#32))) (broadcast S1x512 (Scalar.ofBits .f32 0x358637BD#32))))
        (broadcast S1x512 (Scalar.ofBits .f32 0x3F4CCCCD#32)))
      broadcasts_S1x512_S128x512)) transposes_S128x512_p1_0_S512x128)
    (broadcastTo S512x128 (shapeCast S1x128 g shapeCasts_S1x128_S1x128) broadcasts_S1x128_S512x128)) bitsLt_bf16_f32

/-- Loads of one map's sum, without the rows of ones, and of the first of those. -/
theorem inbT (h : Fin 2) : ∀ a, oM h a + S1x128x512.size a ≤ S2x144x512.size a := by
  intro a; fin_cases h <;> fin_cases a <;> decide
abbrev oL (h : Fin 2) : Fin 3 → ℕ := ![h.val, 128, 0]
theorem inbL (h : Fin 2) : ∀ a, oL h a + S1x1x512.size a ≤ S2x144x512.size a := by
  intro a; fin_cases h <;> fin_cases a <;> decide
abbrev ldT (m : Mr S2x144x512 .f32) (h : Fin 2) (K : Vec F S1x128x512 .f32 → Pg F) : Pg F :=
  .op (.load m (Rect.unit (s := S2x144x512) (oM h) S1x128x512.size (inbT h)).toLoadRect (View.loadsAt_vmem h_S1x128x512)) K
abbrev ldR (m : Mr S2x144x512 .f32) (h : Fin 2) (K : Vec F S1x1x512 .f32 → Pg F) : Pg F :=
  .op (.load m (Rect.unit (s := S2x144x512) (oL h) S1x1x512.size (inbL h)).toLoadRect (View.loadsAt_vmem h_S1x1x512)) K

/-- The end of the body: lambda and the first map's mean; -/
def means {α : Type} (B : Bufs) (a6 a7 a8 a9 : Mr S1x64 .f32)
    (K : FVec F S1x1 .f32 → FVec F S128x512 .f32 → Prog (TpuEff nD τ sig (Elt F) Λ₀ .tc) α) : Prog (TpuEff nD τ sig (Elt F) Λ₀ .tc) α :=
  .op (.load a6 (Rect.unit (s := S1x64) ![0, 0] S1x64.size inb_S1x64_S1x64_0_0).toLoadRect (View.loadsAt_vmem h_S1x64)) fun w =>
  .op (.load a7 (Rect.unit (s := S1x64) ![0, 0] S1x64.size inb_S1x64_S1x64_0_0).toLoadRect (View.loadsAt_vmem h_S1x64)) fun x =>
  .op (.load a8 (Rect.unit (s := S1x64) ![0, 0] S1x64.size inb_S1x64_S1x64_0_0).toLoadRect (View.loadsAt_vmem h_S1x64)) fun y =>
  .op (.load a9 (Rect.unit (s := S1x64) ![0, 0] S1x64.size inb_S1x64_S1x64_0_0).toLoadRect (View.loadsAt_vmem h_S1x64)) fun z =>
  .op (.load B.acc (Rect.unit (s := S2x144x512) (oM 0) S1x128x512.size (inbT 0)).toLoadRect (View.loadsAt_vmem h_S1x128x512)) fun t =>
  .op (.load B.acc (Rect.unit (s := S2x144x512) (oL 0) S1x1x512.size (inbL 0)).toLoadRect (View.loadsAt_vmem h_S1x1x512)) fun l =>
  K (lamOf w x y z) (meanOf t l)
/-- the second map's mean, the difference and its norm, stored. -/
def finish (B : Bufs) (a10 : Mr S1x128 .f32) (a11 : Mr S512x128 .bf16) (h11 : a11.IsWhole) (lam : FVec F S1x1 .f32) (u : FVec F S128x512 .f32) : Pg F :=
  ldT B.acc 1 fun t => ldR B.acc 1 fun l =>
  .op (.load a10 (Rect.unit (s := S1x128) ![0, 0] S1x128.size inb_S1x128_S1x128_0_0).toLoadRect (View.loadsAt_vmem h_S1x128)) fun g =>
  .op (.load a11 (Rect.unit (s := S512x128) ![0, 0] S512x128.size inb_S512x128_S512x128_0_0).toLoadRect (View.loadsAt_vmem h_S512x128)) fun _ =>
  .op (.store a11 (Rect.unit (s := S512x128) ![0, 0] S512x128.size inb_S512x128_S512x128_0_0)
    (normOf (diffOf lam u (meanOf t l)) g : FVec F S512x128 .bf16) Finset.univ
    (View.stores_vmem h_S512x128 (h11.storeExact_slice rfl _ packedbf16_S512x128_S512x128_0_0) (fun _ => rfl)) (.inl rfl)) fun _ => .ret ⟨⟩

/-- The four endings: none, one, two or three earlier groups are left, then the tile's own, while the next tile's own
    scores are parked. -/
def left0 (i : grid0.Coords) (B : Bufs) (S0 : Slot) (a3 : Mr S128x512 .bf16) (K : Pg F) : Pg F :=
  if h : k0_cond2 i = 1#1 then
    ldQ a3 fun x => stageSame B S0 (ko7 i h) (vo6 i h) (ownPost (nextOf i)) (qmaps x) K
  else K
def left1 (i : grid0.Coords) (B : Bufs) (S0 S1 : Slot) (a3 : Mr S128x512 .bf16) (Q : Qs F) (K : Pg F) : Pg F :=
  if h : k0_cond3 i = 1#1 then
    stage B S0 S1 (ko8 i h) (vo9 i h 0) pastPost Q <|
    ldQ a3 fun x => stage B S1 S0 (ko10 i h) (vo9 i h 1) (ownPost (nextOf i)) (qmaps x) K
  else K
def left2 (i : grid0.Coords) (B : Bufs) (S0 S1 : Slot) (a3 : Mr S128x512 .bf16) (Q : Qs F) (K : Pg F) : Pg F :=
  if h : k0_cond4 i = 1#1 then
    stage B S0 S1 (ko11 i h 0) (vo12 i h 0) pastPost Q <| stage B S1 S0 (ko11 i h 1) (vo12 i h 1) pastPost Q <|
    ldQ a3 fun x => stageSame B S0 (ko13 i h) (vo12 i h 2) (ownPost (nextOf i)) (qmaps x) K
  else K
def left3 (i : grid0.Coords) (B : Bufs) (S0 S1 : Slot) (a3 : Mr S128x512 .bf16) (Q : Qs F) (K : Pg F) : Pg F :=
  if h : k0_cond5 i = 1#1 then
    stage B S0 S1 (ko14 i h 0) (vo15 i h 0) pastPost Q <| stage B S1 S0 (ko14 i h 1) (vo15 i h 1) pastPost Q <|
    stage B S0 S1 (ko14 i h 2) (vo15 i h 2) pastPost Q <|
    ldQ a3 fun x => stage B S1 S0 (ko16 i h) (vo15 i h 3) (ownPost (nextOf i)) (qmaps x) K
  else K

/-- The first scores of a head, parked by its first tile. -/
def first (i : grid0.Coords) (B : Bufs) (S0 : Slot) (Q : Qs F) (K : Pg F) : Pg F :=
  if h : k0_cond1 i = 1#1 then parkStage B S0 (ko1 i h) (ownPost (tileOf i)) Q K else K
/-- The loops over earlier groups: the second makes no trip. -/
def loop1 (i : grid0.Coords) (B : Bufs) (S0 S1 : Slot) (Q : Qs F) : Pg F :=
  Scf.Loop.for (k0_t1_loop i) (k0_t1_ok i) ⟨⟩ fun k _ => trip B S0 S1 Q (ko2 i k) (vo3 i k)
def loop2 (i : grid0.Coords) (B : Bufs) (S0 S1 : Slot) (Q : Qs F) : Pg F :=
  Scf.Loop.for (k0_t2_loop i) (k0_t2_ok i) ⟨⟩ fun k _ => trip B S0 S1 Q (ko4 i k) (vo5 i k)

/-- The body. -/
def bodyText (i : grid0.Coords) (B : Bufs) (S0 S1 : Slot) (a2 a3 : Mr S128x512 .bf16) (a6 a7 a8 a9 : Mr S1x64 .f32) (a10 : Mr S1x128 .f32)
    (a11 : Mr S512x128 .bf16) (h11 : a11.IsWhole) : Pg F :=
  ldQ a2 fun x => clearM B <| clearA B <| first i B S0 (qmaps x) <|
  Prog.bind (loop1 i B S0 S1 (qmaps x)) fun _ => Prog.bind (loop2 i B S0 S1 (qmaps x)) fun _ =>
  left0 i B S0 a3 <| left1 i B S0 S1 a3 (qmaps x) <| left2 i B S0 S1 a3 (qmaps x) <| left3 i B S0 S1 a3 (qmaps x) <|
  means B a6 a7 a8 a9 fun lam u => finish B a10 a11 h11 lam u

/-- A program in two parts and what follows them, in either grouping. -/
theorem bind_assoc' {α β γ : Type} (p : Prog (TpuEff nD τ sig (Elt F) Λ₀ .tc) α) (f : α → Prog (TpuEff nD τ sig (Elt F) Λ₀ .tc) β)
    (g : β → Prog (TpuEff nD τ sig (Elt F) Λ₀ .tc) γ) : Prog.bind (Prog.bind p f) g = Prog.bind p fun a => Prog.bind (f a) g :=
  Prog.bind_assoc p f g

/-- A branch that goes on in both cases with the same rest. -/
theorem if_step {α : Type} {c : Prop} [Decidable c] {A : c → Prog (TpuEff nD τ sig (Elt F) Λ₀ .tc) α}
    {J : Prog (TpuEff nD τ sig (Elt F) Λ₀ .tc) α} {K : α → Pg F} {R : Pg F} (T : c → Pg F → Pg F)
    (hA : ∀ h, Prog.bind (A h) K = T h (Prog.bind J K)) (hJ : Prog.bind J K = R) :
    Prog.bind (dite c A fun _ => J) K = dite c (fun h => T h R) fun _ => R := by
  subst hJ
  by_cases h : c
  · rw [dif_pos h, dif_pos h, hA]
  · rw [dif_neg h, dif_neg h]

section Parts

variable (i : grid0.Coords) (arg2 : Mr S128x512 .bf16) (h2 : arg2.IsWhole) (arg3 : Mr S128x512 .bf16) (h3 : arg3.IsWhole)
  (arg4 : Mr S16384x128 .bf16) (h4 : arg4.IsWhole) (arg5 : Mr S128x16384 .bf16) (h5 : arg5.IsWhole) (arg6 : Mr S1x64 .f32) (h6 : arg6.IsWhole)
  (arg7 : Mr S1x64 .f32) (h7 : arg7.IsWhole) (arg8 : Mr S1x64 .f32) (h8 : arg8.IsWhole) (arg9 : Mr S1x64 .f32) (h9 : arg9.IsWhole)
  (arg10 : Mr S1x128 .f32) (h10 : arg10.IsWhole) (arg11 : Mr S512x128 .bf16) (h11 : arg11.IsWhole) (arg12 : Mr S2x1x512 .f32) (h12 : arg12.IsWhole)
  (arg13 : Mr S2x144x512 .f32) (h13 : arg13.IsWhole) (arg14 : Mr S2x1024x512 .f32) (h14 : arg14.IsWhole) (arg15 : Mr S2x1x512 .f32)
  (h15 : arg15.IsWhole) (arg16 : Mr S2x1024x512 .f32) (h16 : arg16.IsWhole) (arg17 : Mr S2x1x512 .f32) (h17 : arg17.IsWhole)

set_option maxRecDepth 100000 in
set_option maxHeartbeats 0 in
/-- The printed body's second part: from the clearing of the sums to the first of the endings. -/
theorem part210_eq (x : Vec F S128x512 .bf16) (v13 : BitVec 1) (v31 : BitVec 32) (K : _ → Pg F) (R : Pg F)
    (hK : ∀ r, K r = R) : Prog.bind (k0_part210 i arg2 h2 arg3 h3 arg4 h4 arg5 h5 arg6 h6 arg7 h7 arg8 h8 arg9 h9 arg10 h10 arg11 h11 arg12 h12 arg13 h13 arg14 h14 arg15 h15 arg16 h16 arg17 h17 (tileOf i) (nextOf i) (qmaps x).q0 (qmaps x).q1 v13 v31
          (broadcast S2x144x512 (Scalar.ofBits .f32 0x00000000#32))) K
      = (clearA ⟨arg12, arg13, arg4, arg5⟩ <| first i ⟨arg12, arg13, arg4, arg5⟩ ⟨arg14, arg15⟩ (qmaps x) <|
        Prog.bind (loop1 i ⟨arg12, arg13, arg4, arg5⟩ ⟨arg14, arg15⟩ ⟨arg16, arg17⟩ (qmaps x)) fun _ => Prog.bind (loop2 i ⟨arg12, arg13, arg4, arg5⟩ ⟨arg14, arg15⟩ ⟨arg16, arg17⟩ (qmaps x)) fun _ =>
        left0 i ⟨arg12, arg13, arg4, arg5⟩ ⟨arg14, arg15⟩ arg3 R) := by
  unfold k0_part210
  refine congrArg (Prog.op _) (funext fun x1 => ?_)
  refine congrArg (Prog.op _) (funext fun x2 => ?_)
  refine if_step (fun h K => parkStage _ _ (ko1 i h) (ownPost (tileOf i)) (qmaps x) K) (fun h => rfl) ?_
  refine (bind_assoc' _ _ _).trans (congrArg₂ Prog.bind rfl (funext fun _ => ?_))
  refine (bind_assoc' _ _ _).trans (congrArg₂ Prog.bind rfl (funext fun _ => ?_))
  refine if_step (fun h K => ldQ _ fun x => stageSame _ _ (ko7 i h) (vo6 i h) (ownPost (nextOf i)) (qmaps x) K) (fun h => rfl) ?_
  exact hK _

set_option maxRecDepth 100000 in
set_option maxHeartbeats 0 in
/-- The third: the other endings, lambda and the first mean. -/
theorem part211_eq (x : Vec F S128x512 .bf16) (v31 v64 v65 v70 c : BitVec 32) (K : _ → Pg F) :
    Prog.bind (k0_part211 i arg2 h2 arg3 h3 arg4 h4 arg5 h5 arg6 h6 arg7 h7 arg8 h8 arg9 h9 arg10 h10 arg11 h11 arg12 h12 arg13 h13 arg14 h14 arg15 h15 arg16 h16 arg17 h17 (nextOf i) (qmaps x).q0 (qmaps x).q1 v31 v64 v65 v70 c) K
      = (left1 i ⟨arg12, arg13, arg4, arg5⟩ ⟨arg14, arg15⟩ ⟨arg16, arg17⟩ arg3 (qmaps x) <| left2 i ⟨arg12, arg13, arg4, arg5⟩ ⟨arg14, arg15⟩ ⟨arg16, arg17⟩ arg3 (qmaps x) <| left3 i ⟨arg12, arg13, arg4, arg5⟩ ⟨arg14, arg15⟩ ⟨arg16, arg17⟩ arg3 (qmaps x) <|
        means ⟨arg12, arg13, arg4, arg5⟩ arg6 arg7 arg8 arg9 fun lam u => K ⟨lam, u⟩) := by
  unfold k0_part211
  refine if_step (fun h K => stage _ _ _ (ko8 i h) (vo9 i h 0) pastPost (qmaps x) <|
    ldQ _ fun x => stage _ _ _ (ko10 i h) (vo9 i h 1) (ownPost (nextOf i)) (qmaps x) K) (fun h => rfl) ?_
  refine if_step (fun h K => stage _ _ _ (ko11 i h 0) (vo12 i h 0) pastPost (qmaps x) <|
    stage _ _ _ (ko11 i h 1) (vo12 i h 1) pastPost (qmaps x) <|
    ldQ _ fun x => stageSame _ _ (ko13 i h) (vo12 i h 2) (ownPost (nextOf i)) (qmaps x) K) (fun h => rfl) ?_
  refine if_step (fun h K => stage _ _ _ (ko14 i h 0) (vo15 i h 0) pastPost (qmaps x) <|
    stage _ _ _ (ko14 i h 1) (vo15 i h 1) pastPost (qmaps x) <| stage _ _ _ (ko14 i h 2) (vo15 i h 2) pastPost (qmaps x) <|
    ldQ _ fun x => stage _ _ _ (ko16 i h) (vo15 i h 3) (ownPost (nextOf i)) (qmaps x) K) (fun h => rfl) ?_
  rfl

set_option maxRecDepth 100000 in
set_option maxHeartbeats 0 in
/-- The printed body is this text. -/
theorem body_eq :
    (cc0_diff_attention i arg2 h2 arg3 h3 arg4 h4 arg5 h5 arg6 h6 arg7 h7 arg8 h8 arg9 h9 arg10 h10 arg11 h11 arg12 h12 arg13 h13 arg14 h14 arg15 h15 arg16 h16 arg17 h17 : Pg F)
      = bodyText i ⟨arg12, arg13, arg4, arg5⟩ ⟨arg14, arg15⟩ ⟨arg16, arg17⟩ arg2 arg3 arg6 arg7 arg8 arg9 arg10 arg11 h11 := by
  have e : (cc0_diff_attention i arg2 h2 arg3 h3 arg4 h4 arg5 h5 arg6 h6 arg7 h7 arg8 h8 arg9 h9 arg10 h10 arg11 h11 arg12 h12 arg13 h13 arg14 h14 arg15 h15 arg16 h16 arg17 h17 : Pg F)
      = ldQ arg2 fun x => clearM ⟨arg12, arg13, arg4, arg5⟩ <|
        Prog.bind (k0_part210 i arg2 h2 arg3 h3 arg4 h4 arg5 h5 arg6 h6 arg7 h7 arg8 h8 arg9 h9 arg10 h10 arg11 h11 arg12 h12 arg13 h13 arg14 h14 arg15 h15 arg16 h16 arg17 h17 (tileOf i) (nextOf i) (qmaps x).q0 (qmaps x).q1 (Scalar.cmpi .eq (tileOf i) 0#32) (ownGroup (tileOf i))
          (broadcast S2x144x512 (Scalar.ofBits .f32 0x00000000#32))) fun r =>
        Prog.bind (k0_part211 i arg2 h2 arg3 h3 arg4 h4 arg5 h5 arg6 h6 arg7 h7 arg8 h8 arg9 h9 arg10 h10 arg11 h11 arg12 h12 arg13 h13 arg14 h14 arg15 h15 arg16 h16 arg17 h17 (nextOf i) (qmaps x).q0 (qmaps x).q1 (ownGroup (tileOf i)) r.1 r.2.1 r.2.2.1 r.2.2.2) fun r' =>
        finish ⟨arg12, arg13, arg4, arg5⟩ arg10 arg11 h11 r'.1 r'.2 := rfl
  rw [e]
  refine congrArg (Prog.op _) (funext fun x => ?_)
  refine congrArg (clearM _) ?_
  exact part210_eq i arg2 h2 arg3 h3 arg4 h4 arg5 h5 arg6 h6 arg7 h7 arg8 h8 arg9 h9 arg10 h10 arg11 h11 arg12 h12 arg13 h13 arg14 h14 arg15 h15 arg16 h16 arg17 h17 x _ _ _ _ fun r => part211_eq i arg2 h2 arg3 h3 arg4 h4 arg5 h5 arg6 h6 arg7 h7 arg8 h8 arg9 h9 arg10 h10 arg11 h11 arg12 h12 arg13 h13 arg14 h14 arg15 h15 arg16 h16 arg17 h17 x _ _ _ _ _ _

end Parts

end Cert.Diff
-- ==== Proof.Diff.Offsets.lean ====
/- The groups of keys the stages read, in closed form.

   Tile `t` has its own group `t / 2` of 1024 keys. Stage number `n` of the tile takes in the group parked before it -
   the tile's own for the first stage, group `n - 1` after it - and parks group `n`. -/
module

public import proofs.«01_k».proof.Proof.Diff.Text

@[expose] public section

namespace Cert.Diff

open Cert.KernelIdeal Cert.KernelIdeal.Gen Idealize.ShloMosaic

/-- The group a tile's own positions lie in; -/
def own (i : grid0.Coords) : ℕ := (i 1).val / 2
/-- the one the next tile's lie in; -/
def nextOwn (i : grid0.Coords) : ℕ := min ((i 1).val + 1) 31 / 2
/-- the group stage `n` takes in. -/
def grp (i : grid0.Coords) (n : ℕ) : ℕ := if n = 0 then own i else n - 1

theorem own_lt (i : grid0.Coords) : own i < 16 := by
  have : (i 1).val < 32 := (i 1).isLt
  unfold own; omega
theorem nextOwn_lt (i : grid0.Coords) : nextOwn i < 16 := by unfold nextOwn; omega

theorem trips1 : ∀ i : grid0.Coords, (k0_t1_loop i).trips = own i / 4 := by decide +kernel
theorem trips2 : ∀ i : grid0.Coords, (k0_t2_loop i).trips = 0 := by decide +kernel
theorem cond1_iff : ∀ i : grid0.Coords, k0_cond1 i = 1#1 ↔ (i 1).val = 0 := by decide +kernel
theorem cond2_iff : ∀ i : grid0.Coords, k0_cond2 i = 1#1 ↔ own i % 4 = 0 := by decide +kernel
theorem cond3_iff : ∀ i : grid0.Coords, k0_cond3 i = 1#1 ↔ own i % 4 = 1 := by decide +kernel
theorem cond4_iff : ∀ i : grid0.Coords, k0_cond4 i = 1#1 ↔ own i % 4 = 2 := by decide +kernel
theorem cond5_iff : ∀ i : grid0.Coords, k0_cond5 i = 1#1 ↔ own i % 4 = 3 := by decide +kernel

theorem off1_eq : ∀ i : grid0.Coords, k0_cond1 i = 1#1 → ∀ b : Fin 4, k0_off1 i (BitVec.ofNat 32 b.val) = ![1024 * own i + 256 * b.val, 0] := by
  decide +kernel
theorem off2_eq : ∀ i : grid0.Coords, ∀ k : Fin (k0_t1_loop i).trips, ∀ s b : Fin 4,
    k0_off2 i k (BitVec.ofNat 32 s.val) (BitVec.ofNat 32 b.val) = ![1024 * (4 * k.val + s.val) + 256 * b.val, 0] := by decide +kernel
theorem off3_eq : ∀ i : grid0.Coords, ∀ k : Fin (k0_t1_loop i).trips, ∀ s b : Fin 4,
    k0_off3 i k (BitVec.ofNat 32 s.val) (BitVec.ofNat 32 b.val) = ![0, 1024 * grp i (4 * k.val + s.val) + 256 * b.val] := by decide +kernel
theorem off6_eq : ∀ i : grid0.Coords, k0_cond2 i = 1#1 → ∀ b : Fin 4,
    k0_off6 i (BitVec.ofNat 32 b.val) = ![0, 1024 * grp i (own i) + 256 * b.val] := by decide +kernel
theorem off7_eq : ∀ i : grid0.Coords, ∀ b : Fin 4, k0_off7 i (BitVec.ofNat 32 b.val) = ![1024 * nextOwn i + 256 * b.val, 0] := by decide +kernel
theorem off8_eq : ∀ i : grid0.Coords, k0_cond3 i = 1#1 → ∀ b : Fin 4,
    k0_off8 i (BitVec.ofNat 32 b.val) = ![1024 * (own i - 1) + 256 * b.val, 0] := by decide +kernel
theorem off9_eq : ∀ i : grid0.Coords, k0_cond3 i = 1#1 → ∀ s : Fin 2, ∀ b : Fin 4,
    k0_off9 i (BitVec.ofNat 32 s.val) (BitVec.ofNat 32 b.val) = ![0, 1024 * grp i (own i - 1 + s.val) + 256 * b.val] := by decide +kernel
theorem off10_eq : ∀ i : grid0.Coords, ∀ b : Fin 4, k0_off10 i (BitVec.ofNat 32 b.val) = ![1024 * nextOwn i + 256 * b.val, 0] := by decide +kernel
theorem off11_eq : ∀ i : grid0.Coords, k0_cond4 i = 1#1 → ∀ s : Fin 2, ∀ b : Fin 4,
    k0_off11 i (BitVec.ofNat 32 s.val) (BitVec.ofNat 32 b.val) = ![1024 * (own i - 2 + s.val) + 256 * b.val, 0] := by decide +kernel
theorem off12_eq : ∀ i : grid0.Coords, k0_cond4 i = 1#1 → ∀ s : Fin 3, ∀ b : Fin 4,
    k0_off12 i (BitVec.ofNat 32 s.val) (BitVec.ofNat 32 b.val) = ![0, 1024 * grp i (own i - 2 + s.val) + 256 * b.val] := by decide +kernel
theorem off13_eq : ∀ i : grid0.Coords, ∀ b : Fin 4, k0_off13 i (BitVec.ofNat 32 b.val) = ![1024 * nextOwn i + 256 * b.val, 0] := by decide +kernel
theorem off14_eq : ∀ i : grid0.Coords, k0_cond5 i = 1#1 → ∀ s : Fin 3, ∀ b : Fin 4,
    k0_off14 i (BitVec.ofNat 32 s.val) (BitVec.ofNat 32 b.val) = ![1024 * (own i - 3 + s.val) + 256 * b.val, 0] := by decide +kernel
theorem off15_eq : ∀ i : grid0.Coords, k0_cond5 i = 1#1 → ∀ s b : Fin 4,
    k0_off15 i (BitVec.ofNat 32 s.val) (BitVec.ofNat 32 b.val) = ![0, 1024 * grp i (own i - 3 + s.val) + 256 * b.val] := by decide +kernel
theorem off16_eq : ∀ i : grid0.Coords, ∀ b : Fin 4, k0_off16 i (BitVec.ofNat 32 b.val) = ![1024 * nextOwn i + 256 * b.val, 0] := by decide +kernel

end Cert.Diff
-- ==== Proof.Diff.Body.lean ====
/- What the body leaves: the norm of the difference of the two maps' folds, and the next tile's scores parked. -/
module

public import proofs.«01_k».proof.Proof.Diff.Fold
public import proofs.«01_k».proof.Proof.Diff.Offsets
public import Idealize.ShloMosaic.Lib.Pipeline.Value

@[expose] public section

noncomputable section

namespace Cert.Diff

open Cert.KernelIdeal Cert.KernelIdeal.Gen Cert.KernelIdeal.Facts₀ Cert.KernelIdeal.Facts Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Four blocks of 256 rows of the keys, and of 256 columns of the values, from a group on. -/
def kOff (g : ℕ) : KOff := ⟨fun b => ![1024 * (g % 16) + 256 * b.val, 0], by
  intro b a
  fin_cases a
  · show 1024 * (g % 16) + 256 * b.val + 256 ≤ 16384; omega
  · show 0 + 128 ≤ 128; omega⟩
def vOff (g : ℕ) : VOff := ⟨fun b => ![0, 1024 * (g % 16) + 256 * b.val], by
  intro b a
  fin_cases a
  · show 0 + 128 ≤ 128; omega
  · show 1024 * (g % 16) + 256 * b.val + 256 ≤ 16384; omega⟩

theorem kOff_eq {k : KOff} {g : ℕ} (hg : g < 16) (h : ∀ b, k.1 b = ![1024 * g + 256 * b.val, 0]) : k = kOff g :=
  Subtype.ext (funext fun b => (h b).trans (by show _ = ![1024 * (g % 16) + 256 * b.val, 0]; rw [Nat.mod_eq_of_lt hg]))
theorem vOff_eq {k : VOff} {g : ℕ} (hg : g < 16) (h : ∀ b, k.1 b = ![0, 1024 * g + 256 * b.val]) : k = vOff g :=
  Subtype.ext (funext fun b => (h b).trans (by show _ = ![0, 1024 * (g % 16) + 256 * b.val]; rw [Nat.mod_eq_of_lt hg]))

/-- A tile's own scores, masked. -/
def ownScores (kX : Vec F S16384x128 .bf16) (g : ℕ) (t : BitVec 32) (x : Vec F S128x512 .bf16) : Grp F := scores kX (kOff g) (ownPost t) (qmaps x)
/-- The groups of scores a tile folds in, its own first; -/
def fsOf (i : grid0.Coords) (kX : Vec F S16384x128 .bf16) (x : Vec F S128x512 .bf16) : ℕ → Grp F
  | 0 => ownScores kX (own i) (tileOf i) x
  | n + 1 => scores kX (kOff n) pastPost (qmaps x)
/-- their values; -/
def vsOf (i : grid0.Coords) (vX : Vec F S128x16384 .bf16) (n : ℕ) : Fin 4 → Vec F S128x256 .bf16 := vals vX (vOff (grp i n))
/-- the next tile's own scores. -/
def nextScores (i : grid0.Coords) (kX : Vec F S16384x128 .bf16) (x : Vec F S128x512 .bf16) : Grp F := ownScores kX (nextOwn i) (nextOf i) x

theorem grp_lt (i : grid0.Coords) {n : ℕ} (h : n ≤ own i) : grp i n < 16 := by
  have := own_lt i
  unfold grp; split <;> omega

/-- A sum's first 128 rows, and the row after them. -/
theorem inbTop : ∀ a, (![0, 0, 0] : Fin 3 → ℕ) a + S1x128x512.size a ≤ S1x144x512.size a := by
  intro a; fin_cases a <;> decide
theorem inbSum : ∀ a, (![0, 128, 0] : Fin 3 → ℕ) a + S1x1x512.size a ≤ S1x144x512.size a := by
  intro a; fin_cases a <;> decide
def topRect : Rect S1x144x512 := Rect.unit ![0, 0, 0] S1x128x512.size inbTop
def sumRect : Rect S1x144x512 := Rect.unit ![0, 128, 0] S1x1x512.size inbSum
/-- A map's weighted mean, from its sum. -/
def meanA (A : Vec F S1x144x512 .f32) : FVec F S128x512 .f32 := meanOf (View.ld A topRect) (View.ld A sumRect)
/-- The tile's output. -/
def outOf (w x y z : Vec F S1x64 .f32) (g : Vec F S1x128 .f32) (A : Fin 2 → Vec F S1x144x512 .f32) : FVec F S512x128 .bf16 :=
  normOf (diffOf (lamOf w x y z) (meanA (A 0)) (meanA (A 1))) g

variable {R : SP F} {c : Dev nD} {B : Bufs} {S : Fin 2 → Slot} {kX : Vec F S16384x128 .bf16} {vX : Vec F S128x16384 .bf16}
  {σ : St F} {Q : PUnit → SP F} {i : grid0.Coords}

/-- Reading a tile's queries. -/
theorem ldQ_own {m : Mr S128x512 .bf16} {X : Vec F S128x512 .bf16} {K : Vec F S128x512 .bf16 → Pg F}
    (hR : R ⊢ iprop(owns (c : Thread nD τ) m fullShare X ∗ (owns (c : Thread nD τ) m fullShare X -∗ R)))
    (H : Own R c B S kX vX σ ⊢ Wp c (K X) Q) : Own R c B S kX vX σ ⊢ Wp c (ldQ m K) Q := by
  unfold Own at H ⊢
  iintro ⟨HR, Hm, Ha, Hs0, Hx0, Hs1, Hx1, Hk, Hv⟩
  ihave HR := hR $$ HR
  icases HR with ⟨H2, HR⟩
  iapply (ld_owns c) $$ H2
  iintro H2
  rw [View.ld_unit_zero (by funext a; fin_cases a <;> rfl)]
  ihave HR := HR $$ H2
  iapply H
  iframe

/-- The clearing. -/
theorem clearM_own {K : Pg F} (H : Own R c B S kX vX { σ with m := fun _ => m₀ } ⊢ Wp c K Q) :
    Own R c B S kX vX σ ⊢ Wp c (clearM B K) Q := by
  unfold Own at H ⊢
  unfold clearM cells
  iintro ⟨HR, ⟨%Y, %hY, Hm⟩, Ha, Hs0, Hx0, Hs1, Hx1, Hk, Hv⟩
  iapply (ld_owns c) $$ Hm
  iintro Hm
  iapply (st_owns c) $$ Hm
  iintro %Y' %hY' Hm
  iapply H
  unfold cells
  have e : ∀ j x, Y' ((rM j).emb x) = m₀ (F := F) x := by
    intro j x
    have := hY'.1 ((rM j).emb x)
    rw [← show (Rect.unit (s := S2x1x512) ![0, 0, 0] S2x1x512.size Facts₀.inb_S2x1x512_S2x1x512_0_0_0).emb ((rM j).emb x) = (rM j).emb x from
      funext fun a => Fin.ext (by fin_cases a <;> exact (Nat.zero_add _).trans (Nat.one_mul _))]
    exact this
  isplitl [HR]
  · iexact HR
  isplitl [Hm]
  · iexists Y'
    isplitr [Hm]
    · ipureintro; exact e
    · iexact Hm
  iframe
theorem clearA_own {K : Pg F} (H : Own R c B S kX vX { σ with a := fun _ => a₀ } ⊢ Wp c K Q) :
    Own R c B S kX vX σ ⊢ Wp c (clearA B K) Q := by
  unfold Own at H ⊢
  unfold clearA cells
  iintro ⟨HR, Hm, ⟨%Y, %hY, Ha⟩, Hs0, Hx0, Hs1, Hx1, Hk, Hv⟩
  iapply (ld_owns c) $$ Ha
  iintro Ha
  iapply (st_owns c) $$ Ha
  iintro %Y' %hY' Ha
  iapply H
  unfold cells
  have e : ∀ j x, Y' ((rA j).emb x) = a₀ (F := F) x := by
    intro j x
    have := hY'.1 ((rA j).emb x)
    rw [← show (Rect.unit (s := S2x144x512) ![0, 0, 0] S2x144x512.size Facts₀.inb_S2x144x512_S2x144x512_0_0_0).emb ((rA j).emb x) = (rA j).emb x from
      funext fun a => Fin.ext (by fin_cases a <;> exact (Nat.zero_add _).trans (Nat.one_mul _))]
    exact this
  isplitl [HR]
  · iexact HR
  isplitl [Hm]
  · iexact Hm
  isplitl [Ha]
  · iexists Y'
    isplitr [Ha]
    · ipureintro; exact e
    · iexact Ha
  iframe

variable {x x' : Vec F S128x512 .bf16}

/-- A stage over an earlier group. -/
theorem stage_done {n : ℕ} {a b : Fin 2} {ko : KOff} {vo : VOff} {K : Pg F} (h : Done (fsOf i kX x) (vsOf i vX) n σ)
    (ha : slotOf n = a) (hb : slotOf (n + 1) = b) (hab : a ≠ b) (hk : ko = kOff n) (hv : vo = vOff (grp i n))
    (H : ∀ σ', Done (fsOf i kX x) (vsOf i vX) (n + 1) σ' → Own R c B S kX vX σ' ⊢ Wp c K Q) :
    Own R c B S kX vX σ ⊢ Wp c (stage B (S a) (S b) ko vo pastPost (qmaps x) K) Q := by
  subst hk hv
  exact stage_own (H _ (h.stage ha hb hab))

theorem slot_even {n : ℕ} (h : n % 2 = 0) : slotOf n = 0 := if_pos h
theorem slot_odd {n : ℕ} (h : n % 2 = 1) : slotOf n = 1 := if_neg (by omega)

/-- Four stages over earlier groups. -/
theorem trip_done (k : Fin (k0_t1_loop i).trips) (h : Done (fsOf i kX x) (vsOf i vX) (4 * k.val) σ)
    (H : ∀ σ', Done (fsOf i kX x) (vsOf i vX) (4 * (k.val + 1)) σ' → Own R c B S kX vX σ' ⊢ Q ⟨⟩) :
    Own R c B S kX vX σ ⊢ Wp c (trip B (S 0) (S 1) (qmaps x) (ko2 i k) (vo3 i k)) Q := by
  have hlt : k.val < own i / 4 := Nat.lt_of_lt_of_eq k.isLt (trips1 i)
  have hown := own_lt i
  unfold trip
  refine stage_done h (slot_even (by omega)) (slot_odd (by omega)) (by decide) (kOff_eq (by omega) fun b => off2_eq i k 0 b)
    (vOff_eq (grp_lt i (by omega)) fun b => off3_eq i k 0 b) fun σ h => ?_
  refine stage_done h (slot_odd (by omega)) (slot_even (by omega)) (by decide) (kOff_eq (by omega) fun b => off2_eq i k 1 b)
    (vOff_eq (grp_lt i (by omega)) fun b => off3_eq i k 1 b) fun σ h => ?_
  refine stage_done h (slot_even (by omega)) (slot_odd (by omega)) (by decide) (kOff_eq (by omega) fun b => off2_eq i k 2 b)
    (vOff_eq (grp_lt i (by omega)) fun b => off3_eq i k 2 b) fun σ h => ?_
  refine stage_done h (slot_odd (by omega)) (slot_even (by omega)) (by decide) (kOff_eq (by omega) fun b => off2_eq i k 3 b)
    (vOff_eq (grp_lt i (by omega)) fun b => off3_eq i k 3 b) fun σ h => ?_
  exact (H σ h).trans fupd_intro

/-- The last stages. -/
theorem left_done {a3 : Mr S128x512 .bf16} {K : Pg F}
    (hR : R ⊢ iprop(owns (c : Thread nD τ) a3 fullShare x' ∗ (owns (c : Thread nD τ) a3 fullShare x' -∗ R)))
    (h : Done (fsOf i kX x) (vsOf i vX) (4 * (own i / 4)) σ)
    (H : ∀ σ', Ended (fsOf i kX x) (vsOf i vX) (own i) (nextScores i kX x') σ' → Own R c B S kX vX σ' ⊢ Wp c K Q) :
    Own R c B S kX vX σ ⊢ Wp c (left0 i B (S 0) a3 <| left1 i B (S 0) (S 1) a3 (qmaps x) <| left2 i B (S 0) (S 1) a3 (qmaps x) <|
      left3 i B (S 0) (S 1) a3 (qmaps x) K) Q := by
  have hown := own_lt i
  have hnext := nextOwn_lt i
  unfold left0 left1 left2 left3
  have hc : own i % 4 = 0 ∨ own i % 4 = 1 ∨ own i % 4 = 2 ∨ own i % 4 = 3 := by omega
  rcases hc with hc | hc | hc | hc
  · have h2 := (cond2_iff i).2 hc
    rw [dif_pos h2, dif_neg (fun e => by have := (cond3_iff i).1 e; omega), dif_neg (fun e => by have := (cond4_iff i).1 e; omega),
      dif_neg (fun e => by have := (cond5_iff i).1 e; omega)]
    rw [show 4 * (own i / 4) = own i by omega] at h
    refine ldQ_own hR ?_
    rw [kOff_eq (k := ko7 i h2) hnext fun b => off7_eq i b, vOff_eq (k := vo6 i h2) (grp_lt i le_rfl) fun b => off6_eq i h2 b]
    exact stageSame_own (H _ (h.lastSame (slot_even (by omega)) _))
  · have h3 := (cond3_iff i).2 hc
    rw [dif_neg (fun e => by have := (cond2_iff i).1 e; omega), dif_pos h3, dif_neg (fun e => by have := (cond4_iff i).1 e; omega),
      dif_neg (fun e => by have := (cond5_iff i).1 e; omega)]
    rw [show 4 * (own i / 4) = own i - 1 by omega] at h
    refine stage_done h (slot_even (by omega)) (slot_odd (by omega)) (by decide) (kOff_eq (by omega) fun b => off8_eq i h3 b)
      (vOff_eq (grp_lt i (by omega)) fun b => off9_eq i h3 0 b) fun σ h => ?_
    rw [show own i - 1 + 1 = own i by omega] at h
    refine ldQ_own hR ?_
    rw [kOff_eq (k := ko10 i h3) hnext fun b => off10_eq i b, vOff_eq (k := vo9 i h3 1) (g := grp i (own i)) (grp_lt i le_rfl) fun b => by
      rw [show own i = own i - 1 + (1 : Fin 2).val by show _ = _ - 1 + 1; omega]; exact off9_eq i h3 1 b]
    exact stage_own (H _ (h.last (slot_odd (by omega)) _))
  · have h4 := (cond4_iff i).2 hc
    rw [dif_neg (fun e => by have := (cond2_iff i).1 e; omega), dif_neg (fun e => by have := (cond3_iff i).1 e; omega), dif_pos h4,
      dif_neg (fun e => by have := (cond5_iff i).1 e; omega)]
    rw [show 4 * (own i / 4) = own i - 2 by omega] at h
    refine stage_done h (slot_even (by omega)) (slot_odd (by omega)) (by decide) (kOff_eq (by omega) fun b => off11_eq i h4 0 b)
      (vOff_eq (grp_lt i (by omega)) fun b => off12_eq i h4 0 b) fun σ h => ?_
    refine stage_done h (slot_odd (by omega)) (slot_even (by omega)) (by decide) (kOff_eq (by omega) fun b => off11_eq i h4 1 b)
      (vOff_eq (grp_lt i (by omega)) fun b => off12_eq i h4 1 b) fun σ h => ?_
    rw [show own i - 2 + 1 + 1 = own i by omega] at h
    refine ldQ_own hR ?_
    rw [kOff_eq (k := ko13 i h4) hnext fun b => off13_eq i b, vOff_eq (k := vo12 i h4 2) (g := grp i (own i)) (grp_lt i le_rfl) fun b => by
      rw [show own i = own i - 2 + (2 : Fin 3).val by show _ = _ - 2 + 2; omega]; exact off12_eq i h4 2 b]
    exact stageSame_own (H _ (h.lastSame (slot_even (by omega)) _))
  · have h5 := (cond5_iff i).2 hc
    rw [dif_neg (fun e => by have := (cond2_iff i).1 e; omega), dif_neg (fun e => by have := (cond3_iff i).1 e; omega),
      dif_neg (fun e => by have := (cond4_iff i).1 e; omega), dif_pos h5]
    rw [show 4 * (own i / 4) = own i - 3 by omega] at h
    refine stage_done h (slot_even (by omega)) (slot_odd (by omega)) (by decide) (kOff_eq (by omega) fun b => off14_eq i h5 0 b)
      (vOff_eq (grp_lt i (by omega)) fun b => off15_eq i h5 0 b) fun σ h => ?_
    refine stage_done h (slot_odd (by omega)) (slot_even (by omega)) (by decide) (kOff_eq (by omega) fun b => off14_eq i h5 1 b)
      (vOff_eq (grp_lt i (by omega)) fun b => off15_eq i h5 1 b) fun σ h => ?_
    refine stage_done h (slot_even (by omega)) (slot_odd (by omega)) (by decide) (kOff_eq (by omega) fun b => off14_eq i h5 2 b)
      (vOff_eq (grp_lt i (by omega)) fun b => off15_eq i h5 2 b) fun σ h => ?_
    rw [show own i - 3 + 1 + 1 + 1 = own i by omega] at h
    refine ldQ_own hR ?_
    rw [kOff_eq (k := ko16 i h5) hnext fun b => off16_eq i b, vOff_eq (k := vo15 i h5 3) (g := grp i (own i)) (grp_lt i le_rfl) fun b => by
      rw [show own i = own i - 3 + (3 : Fin 4).val by show _ = _ - 3 + 3; omega]; exact off15_eq i h5 3 b]
    exact stage_own (H _ (h.last (slot_odd (by omega)) _))

end Cert.Diff
-- ==== Proof.Diff.Whole.lean ====
/- The whole body: from its windows and a scratch that holds the tile's own scores (or, for a head's first tile, anything)
   to the tile's output and a scratch that holds the next tile's. -/
module

public import proofs.«01_k».proof.Proof.Diff.Body

@[expose] public section

noncomputable section

namespace Cert.Diff

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section Windows
variable {R R' : SP F} {c : Dev nD} {B : Bufs} {S : Fin 2 → Slot} {kX : Vec F S16384x128 .bf16} {vX : Vec F S128x16384 .bf16}
  {σ : St F} {Q : PUnit → SP F}

/-- A load of a window. -/
theorem ldW_own {s : Shape} {e : EltTy} {m : Mr s e} {X : s.Idx → Elt F e} {r : Rect s} {hl : m.view.LoadsAt r.toLoadRect}
    {K : (r.shape.Idx → Elt F e) → Pg F}
    (hR : R ⊢ iprop(owns (c : Thread nD τ) m fullShare X ∗ (owns (c : Thread nD τ) m fullShare X -∗ R)))
    (H : Own R c B S kX vX σ ⊢ Wp c (K (View.ld X r)) Q) : Own R c B S kX vX σ ⊢ Wp c (.op (.load m r.toLoadRect hl) K) Q := by
  unfold Own at H ⊢
  iintro ⟨HR, Hm, Ha, Hs0, Hx0, Hs1, Hx1, Hk, Hv⟩
  ihave HR := hR $$ HR
  icases HR with ⟨H2, HR⟩
  iapply (ld_owns c) $$ H2
  iintro H2
  ihave HR := HR $$ H2
  iapply H
  iframe

/-- A store over a whole window. -/
theorem stW_own {s : Shape} {e : EltTy} {m : Mr s e} {X : s.Idx → Elt F e} {off : Fin s.rank → ℕ} (h0 : off = fun _ => 0)
    {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {K : PUnit → Pg F}
    (hR : R ⊢ iprop(owns (c : Thread nD τ) m fullShare X ∗ (owns (c : Thread nD τ) m fullShare w -∗ R')))
    (H : Own R' c B S kX vX σ ⊢ Wp c (K ⟨⟩) Q) :
    Own R c B S kX vX σ ⊢ Wp c (.op (.store m (Rect.unit off s.size inb) w Finset.univ hx hm) K) Q := by
  unfold Own at H ⊢
  iintro ⟨HR, Hm, Ha, Hs0, Hx0, Hs1, Hx1, Hk, Hv⟩
  ihave HR := hR $$ HR
  icases HR with ⟨H2, HR⟩
  iapply (st_owns c) $$ H2
  iintro %X' %hX H2
  have e : X' = w := by
    have := View.ld_unit_zero h0 inb X'
    rw [← this]
    exact funext hX.1
  subst e
  ihave HR := HR $$ H2
  iapply H
  iframe

/-- Loads of a sum's first rows and of the row after them. -/
theorem ldT_own {h : Fin 2} {K : Vec F S1x128x512 .f32 → Pg F} (H : Own R c B S kX vX σ ⊢ Wp c (K (View.ld (σ.a h) topRect)) Q) :
    Own R c B S kX vX σ ⊢ Wp c (ldT B.acc h K) Q := by
  unfold Own at H ⊢
  unfold cells
  iintro ⟨HR, Hm, ⟨%Y, %hY, Ha⟩, Hs0, Hx0, Hs1, Hx1, Hk, Hv⟩
  iapply (ld_owns c) $$ Ha
  iintro Ha
  have e : View.ld Y (Rect.unit (oM h) S1x128x512.size (inbT h)) = View.ld (σ.a h) topRect := by
    funext x
    refine Eq.trans ?_ (hY h (topRect.emb x))
    refine congrArg Y (funext fun a => Fin.ext ?_)
    show oM h a + 1 * (x a).val = oM h a + 1 * ((![0, 0, 0] : Fin 3 → ℕ) a + 1 * (x a).val)
    fin_cases a <;> simp
  rw [e]
  iapply H
  unfold cells
  isplitl [HR]
  · iexact HR
  isplitl [Hm]
  · iexact Hm
  isplitl [Ha]
  · iexists Y
    isplitr [Ha]
    · ipureintro; exact hY
    · iexact Ha
  iframe
theorem ldR_own {h : Fin 2} {K : Vec F S1x1x512 .f32 → Pg F} (H : Own R c B S kX vX σ ⊢ Wp c (K (View.ld (σ.a h) sumRect)) Q) :
    Own R c B S kX vX σ ⊢ Wp c (ldR B.acc h K) Q := by
  unfold Own at H ⊢
  unfold cells
  iintro ⟨HR, Hm, ⟨%Y, %hY, Ha⟩, Hs0, Hx0, Hs1, Hx1, Hk, Hv⟩
  iapply (ld_owns c) $$ Ha
  iintro Ha
  have e : View.ld Y (Rect.unit (oL h) S1x1x512.size (inbL h)) = View.ld (σ.a h) sumRect := by
    funext x
    refine Eq.trans ?_ (hY h (sumRect.emb x))
    refine congrArg Y (funext fun a => Fin.ext ?_)
    show oL h a + 1 * (x a).val = oM h a + 1 * ((![0, 128, 0] : Fin 3 → ℕ) a + 1 * (x a).val)
    fin_cases a <;> simp
  rw [e]
  iapply H
  unfold cells
  isplitl [HR]
  · iexact HR
  isplitl [Hm]
  · iexact Hm
  isplitl [Ha]
  · iexists Y
    isplitr [Ha]
    · ipureintro; exact hY
    · iexact Ha
  iframe

end Windows

section Whole
variable (c : Dev nD) (B : Bufs) (S : Fin 2 → Slot) (kX : Vec F S16384x128 .bf16) (vX : Vec F S128x16384 .bf16)
  (a2 a3 : Mr S128x512 .bf16) (a6 a7 a8 a9 : Mr S1x64 .f32) (a10 : Mr S1x128 .f32) (a11 : Mr S512x128 .bf16) (h11 : a11.IsWhole)
  (x x' : Vec F S128x512 .bf16) (l6 l7 l8 l9 : Vec F S1x64 .f32) (g : Vec F S1x128 .f32)

/-- The other windows: the queries, the next tile's, the four vectors of lambda, the gains and the output. -/
def Wins (o : Vec F S512x128 .bf16) : SP F :=
  iprop(owns (c : Thread nD τ) a2 fullShare x ∗ owns (c : Thread nD τ) a3 fullShare x' ∗ owns (c : Thread nD τ) a6 fullShare l6
    ∗ owns (c : Thread nD τ) a7 fullShare l7 ∗ owns (c : Thread nD τ) a8 fullShare l8 ∗ owns (c : Thread nD τ) a9 fullShare l9
    ∗ owns (c : Thread nD τ) a10 fullShare g ∗ owns (c : Thread nD τ) a11 fullShare o)

variable {σ : St F} {Q : PUnit → SP F} (i : grid0.Coords) (o : Vec F S512x128 .bf16)

/-- The end of the body. -/
theorem finish_own {f : ℕ → Grp F} {v : ℕ → Fin 4 → Vec F S128x256 .bf16} {n : ℕ} {gr : Grp F} (h : Ended f v n gr σ)
    (H : Own (Wins c a2 a3 a6 a7 a8 a9 a10 a11 x x' l6 l7 l8 l9 g (outOf l6 l7 l8 l9 g (seqA f v (n + 1)))) c B S kX vX σ ⊢ Q ⟨⟩) :
    Own (Wins c a2 a3 a6 a7 a8 a9 a10 a11 x x' l6 l7 l8 l9 g o) c B S kX vX σ
      ⊢ Wp c (means B a6 a7 a8 a9 fun lam u => finish B a10 a11 h11 lam u) Q := by
  have z2 : (![0, 0] : Fin 2 → ℕ) = fun _ => 0 := by funext a; fin_cases a <;> rfl
  unfold means finish
  refine ldW_own (X := l6) (by unfold Wins; iintro ⟨H2, H3, H6, H7, H8, H9, H10, H11⟩; isplitl [H6]; iexact H6; iintro H6; iframe) ?_
  refine ldW_own (X := l7) (by unfold Wins; iintro ⟨H2, H3, H6, H7, H8, H9, H10, H11⟩; isplitl [H7]; iexact H7; iintro H7; iframe) ?_
  refine ldW_own (X := l8) (by unfold Wins; iintro ⟨H2, H3, H6, H7, H8, H9, H10, H11⟩; isplitl [H8]; iexact H8; iintro H8; iframe) ?_
  refine ldW_own (X := l9) (by unfold Wins; iintro ⟨H2, H3, H6, H7, H8, H9, H10, H11⟩; isplitl [H9]; iexact H9; iintro H9; iframe) ?_
  refine ldT_own (h := 0) ?_
  refine ldR_own (h := 0) ?_
  refine ldT_own (h := 1) ?_
  refine ldR_own (h := 1) ?_
  refine ldW_own (X := g) (by unfold Wins; iintro ⟨H2, H3, H6, H7, H8, H9, H10, H11⟩; isplitl [H10]; iexact H10; iintro H10; iframe) ?_
  refine ldW_own (X := o) (by unfold Wins; iintro ⟨H2, H3, H6, H7, H8, H9, H10, H11⟩; isplitl [H11]; iexact H11; iintro H11; iframe) ?_
  rw [View.ld_unit_zero z2, View.ld_unit_zero z2, View.ld_unit_zero z2, View.ld_unit_zero z2, View.ld_unit_zero z2]
  rw [h.a 0, h.a 1]
  refine stW_own z2 (X := o) (R' := Wins c a2 a3 a6 a7 a8 a9 a10 a11 x x' l6 l7 l8 l9 g (outOf l6 l7 l8 l9 g (seqA f v (n + 1))))
    (by unfold Wins; iintro ⟨H2, H3, H6, H7, H8, H9, H10, H11⟩; isplitl [H11]; iexact H11; iintro H11; iframe; iexact H11) ?_
  exact H.trans fupd_intro

/-- The body. -/
theorem body_own (hσ : (i 1).val ≠ 0 → σ.Holds 0 (ownScores kX (own i) (tileOf i) x))
    (H : ∀ σ', Ended (fsOf i kX x) (vsOf i vX) (own i) (nextScores i kX x') σ' →
      Own (Wins c a2 a3 a6 a7 a8 a9 a10 a11 x x' l6 l7 l8 l9 g
        (outOf l6 l7 l8 l9 g (seqA (fsOf i kX x) (vsOf i vX) (own i + 1)))) c B S kX vX σ' ⊢ Q ⟨⟩) :
    Own (Wins c a2 a3 a6 a7 a8 a9 a10 a11 x x' l6 l7 l8 l9 g o) c B S kX vX σ
      ⊢ Wp c (bodyText i B (S 0) (S 1) a2 a3 a6 a7 a8 a9 a10 a11 h11) Q := by
  have h2 : Wins c a2 a3 a6 a7 a8 a9 a10 a11 x x' l6 l7 l8 l9 g o
      ⊢ iprop(owns (c : Thread nD τ) a2 fullShare x ∗ (owns (c : Thread nD τ) a2 fullShare x -∗ Wins c a2 a3 a6 a7 a8 a9 a10 a11 x x' l6 l7 l8 l9 g o)) := by
    unfold Wins; iintro ⟨H2, H3, H6, H7, H8, H9, H10, H11⟩; isplitl [H2]; iexact H2; iintro H2; iframe
  have h3 : Wins c a2 a3 a6 a7 a8 a9 a10 a11 x x' l6 l7 l8 l9 g o
      ⊢ iprop(owns (c : Thread nD τ) a3 fullShare x' ∗ (owns (c : Thread nD τ) a3 fullShare x' -∗ Wins c a2 a3 a6 a7 a8 a9 a10 a11 x x' l6 l7 l8 l9 g o)) := by
    unfold Wins; iintro ⟨H2, H3, H6, H7, H8, H9, H10, H11⟩; isplitl [H3]; iexact H3; iintro H3; iframe
  generalize hR : Wins c a2 a3 a6 a7 a8 a9 a10 a11 x x' l6 l7 l8 l9 g o = R at h2 h3 ⊢
  unfold bodyText
  refine ldQ_own h2 (clearM_own (clearA_own ?_))
  -- what follows the first parking
  have main : ∀ σ, Done (fsOf i kX x) (vsOf i vX) 0 σ → Own R c B S kX vX σ ⊢
      Wp c (Prog.bind (loop1 i B (S 0) (S 1) (qmaps x)) fun _ => Prog.bind (loop2 i B (S 0) (S 1) (qmaps x)) fun _ =>
        left0 i B (S 0) a3 <| left1 i B (S 0) (S 1) a3 (qmaps x) <| left2 i B (S 0) (S 1) a3 (qmaps x) <| left3 i B (S 0) (S 1) a3 (qmaps x) <|
        means B a6 a7 a8 a9 fun lam u => finish B a10 a11 h11 lam u) Q := by
    intro σ hd
    have after : ∀ σ, Done (fsOf i kX x) (vsOf i vX) (4 * (own i / 4)) σ → Own R c B S kX vX σ ⊢
        Wp c (left0 i B (S 0) a3 <| left1 i B (S 0) (S 1) a3 (qmaps x) <| left2 i B (S 0) (S 1) a3 (qmaps x) <| left3 i B (S 0) (S 1) a3 (qmaps x) <|
          means B a6 a7 a8 a9 fun lam u => finish B a10 a11 h11 lam u) Q := by
      intro σ hd
      refine left_done h3 hd fun σ' he => ?_
      subst hR
      exact finish_own c B S kX vX a2 a3 a6 a7 a8 a9 a10 a11 h11 x x' l6 l7 l8 l9 g o he (H σ' he)
    let I : ℕ → PUnit → SP F := fun k _ => iprop(∃ σ, ⌜Done (fsOf i kX x) (vsOf i vX) (4 * k) σ⌝ ∗ Own R c B S kX vX σ)
    have I0 : Own R c B S kX vX σ ⊢ I 0 ⟨⟩ := by
      iintro HO
      iexists σ
      isplitr [HO]
      · ipureintro; exact hd
      · iexact HO
    refine I0.trans ?_
    iintro HI
    iapply (Scf.wp_for_bind (Fr := frame) (wpE := wpE (defs₀ (F := F)) Variants.none (c : Thread nD τ) none) (Es := Set.univ)
      (hok := k0_t1_ok i) (I := I) (hbody := by
        intro k _
        iintro ⟨%σ, %hd, HO⟩
        iapply (trip_done (x := x) k hd (Q := I (k.val + 1)) (by
          intro σ' hd'
          iintro HO
          iexists σ'
          isplitr [HO]
          · ipureintro; exact hd'
          · iexact HO)) $$ HO)) $$ HI
    iintro %_ ⟨%σ', %hd', HO⟩
    rw [show (Scf.trips _ _ _ : ℕ) = own i / 4 from trips1 i] at hd'
    iapply (Scf.wp_for_bind (Fr := frame) (wpE := wpE (defs₀ (F := F)) Variants.none (c : Thread nD τ) none) (Es := Set.univ)
      (hok := k0_t2_ok i) (I := fun _ _ => Own R c B S kX vX σ') (hbody := by
        intro k _
        exact absurd (Nat.lt_of_lt_of_eq k.isLt (trips2 i)) (Nat.not_lt_zero _))) $$ HO
    iintro %_ HO
    iapply (after σ' hd') $$ HO
  unfold first
  by_cases h1 : k0_cond1 i = 1#1
  · rw [dif_pos h1]
    refine parkStage_own (main _ ⟨?_, ?_, ?_⟩)
    · intro h; rw [parkStageT_m]; rfl
    · intro h; rw [parkStageT_a]; rfl
    · rw [kOff_eq (k := ko1 i h1) (own_lt i) fun b => off1_eq i h1 b]; exact parkStageT_holds
  · rw [dif_neg h1]
    have hh := hσ fun e => h1 ((cond1_iff i).2 e)
    exact main _ ⟨fun _ => rfl, fun _ => rfl, ⟨hh.s, hh.x⟩⟩

end Whole

end Cert.Diff
-- ==== Proof.Diff.Run.lean ====
/- The run: at every grid point the body finds its head's keys and values, its tile's queries and the next tile's, and a
   scratch that holds its own scores unless the tile is its head's first; it leaves the tile's output. -/
module

public import proofs.«01_k».proof.Proof.Diff.Whole
public import proofs.«01_k».proof.Proof.Gen.KernelIdeal.Frame
public import Idealize.ShloMosaic.Lib.Pipeline.ValueKit
public import Idealize.ShloMosaic.Lib.Claim

@[expose] public section

noncomputable section

namespace Cert.Diff

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The grid -/

theorem coord0 : ∀ t : Fin cfg0.N, (grid0.coords t 0).val = t.val / 32 := (by decide +kernel : ∀ t : Fin grid0.N, (grid0.coords t 0).val = t.val / 32)
theorem coord1 : ∀ t : Fin cfg0.N, (grid0.coords t 1).val = t.val % 32 := (by decide +kernel : ∀ t : Fin grid0.N, (grid0.coords t 1).val = t.val % 32)
theorem index0 : ∀ t : Fin cfg0.N, win0_0.index t = ![2 + t.val / 32, t.val % 32] :=
  (by decide +kernel : ∀ t : Fin grid0.N, win0_0.index t = ![2 + t.val / 32, t.val % 32])
theorem index1 : ∀ t : Fin cfg0.N, win0_1.index t = ![2 + t.val / 32, min (t.val % 32 + 1) 31] :=
  (by decide +kernel : ∀ t : Fin grid0.N, win0_1.index t = ![2 + t.val / 32, min (t.val % 32 + 1) 31])
theorem index2 : ∀ t : Fin cfg0.N, win0_2.index t = ![0, 2 + t.val / 32] :=
  (by decide +kernel : ∀ t : Fin grid0.N, win0_2.index t = ![0, 2 + t.val / 32])
theorem index3 : ∀ t : Fin cfg0.N, win0_3.index t = ![2 + t.val / 32, 0] :=
  (by decide +kernel : ∀ t : Fin grid0.N, win0_3.index t = ![2 + t.val / 32, 0])
theorem nextTile : ∀ t t' : Fin cfg0.N, t'.val = t.val + 1 → t'.val % 32 ≠ 0 →
    own (grid0.coords t') = nextOwn (grid0.coords t) ∧ tileOf (grid0.coords t') = nextOf (grid0.coords t) := by
  have key : ∀ t : Fin grid0.N, t.val % 32 ≠ 31 → nextOf (grid0.coords t) = BitVec.ofNat 32 (t.val % 32 + 1) := by decide +kernel
  intro t t' h h'
  have e := coord1 t; have e' := coord1 t'
  refine ⟨?_, ?_⟩
  · unfold own nextOwn; rw [e, e']; omega
  · rw [key t (by omega)]; show BitVec.ofNat 32 (grid0.coords t' 1).val = _; rw [e', show t'.val % 32 = t.val % 32 + 1 by omega]

/-! ## The windows' blocks -/

theorem iblk0_apply (c : Dev nD) (t : Fin cfg0.N) (y : S128x512.Idx) (z : S768x16384.Idx) (h0 : (z 0).val = (2 + t.val / 32) * 128 + (y 0).val)
    (h1 : (z 1).val = t.val % 32 * 512 + (y 1).val) : iblk m c 0 t y = V m c main_v15 z := by
  unfold iblk
  show V m c main_v15 _ = V m c main_v15 z
  congr 1
  have e := index0 t
  funext a; apply Fin.ext
  fin_cases a
  · blk_simp; rw [e]; exact h0.symm
  · blk_simp; rw [e]; exact h1.symm
theorem iblk1_apply (c : Dev nD) (t : Fin cfg0.N) (y : S128x512.Idx) (z : S768x16384.Idx) (h0 : (z 0).val = (2 + t.val / 32) * 128 + (y 0).val)
    (h1 : (z 1).val = min (t.val % 32 + 1) 31 * 512 + (y 1).val) : iblk m c 1 t y = V m c main_v15 z := by
  unfold iblk
  show V m c main_v15 _ = V m c main_v15 z
  congr 1
  have e := index1 t
  funext a; apply Fin.ext
  fin_cases a
  · blk_simp; rw [e]; exact h0.symm
  · blk_simp; rw [e]; exact h1.symm
theorem iblk2_apply (c : Dev nD) (t : Fin cfg0.N) (y : S16384x128.Idx) (z : S16384x1536.Idx) (h0 : (z 0).val = (y 0).val)
    (h1 : (z 1).val = (2 + t.val / 32) * 128 + (y 1).val) : iblk m c 2 t y = V m c main_v21 z := by
  unfold iblk
  show V m c main_v21 _ = V m c main_v21 z
  congr 1
  have e := index2 t
  funext a; apply Fin.ext
  fin_cases a
  · blk_simp; rw [e]; exact (Nat.zero_mul _ ▸ Nat.zero_add _).trans h0.symm
  · blk_simp; rw [e]; exact h1.symm
theorem iblk3_apply (c : Dev nD) (t : Fin cfg0.N) (y : S128x16384.Idx) (z : S768x16384.Idx) (h0 : (z 0).val = (2 + t.val / 32) * 128 + (y 0).val)
    (h1 : (z 1).val = (y 1).val) : iblk m c 3 t y = V m c main_v17 z := by
  unfold iblk
  show V m c main_v17 _ = V m c main_v17 z
  congr 1
  have e := index3 t
  funext a; apply Fin.ext
  fin_cases a
  · blk_simp; rw [e]; exact h0.symm
  · blk_simp; rw [e]; exact (Nat.zero_mul _ ▸ Nat.zero_add _).trans h1.symm

/-- A head's keys, values and queries at a point, and the next tile's queries. -/
abbrev qAt (c : Dev nD) (t : Fin cfg0.N) : Vec F S128x512 .bf16 := iblk m c 0 t
abbrev qnAt (c : Dev nD) (t : Fin cfg0.N) : Vec F S128x512 .bf16 := iblk m c 1 t
abbrev kAt (c : Dev nD) (t : Fin cfg0.N) : Vec F S16384x128 .bf16 := iblk m c 2 t
abbrev vAt (c : Dev nD) (t : Fin cfg0.N) : Vec F S128x16384 .bf16 := iblk m c 3 t

theorem kAt_next (c : Dev nD) (t t' : Fin cfg0.N) (h : t'.val = t.val + 1) (h' : t'.val % 32 ≠ 0) : kAt m c t' = kAt m c t := by
  funext y
  have hy : (y 1).val < 128 := (y 1).isLt
  have hN : t'.val < 128 := Nat.lt_of_lt_of_eq t'.isLt N_0
  let z : S16384x1536.Idx := fun | 0 => ⟨(y 0).val, (y 0).isLt⟩ | 1 => ⟨(2 + t.val / 32) * 128 + (y 1).val, by show _ < 1536; omega⟩
  exact (iblk2_apply m c t' y z rfl (by show (2 + t.val / 32) * 128 + _ = _; rw [show t'.val / 32 = t.val / 32 by omega])).trans
    (iblk2_apply m c t y z rfl rfl).symm
theorem qAt_next (c : Dev nD) (t t' : Fin cfg0.N) (h : t'.val = t.val + 1) (h' : t'.val % 32 ≠ 0) : qAt m c t' = qnAt m c t := by
  funext y
  have hy : (y 0).val < 128 := (y 0).isLt
  have hy1 : (y 1).val < 512 := (y 1).isLt
  have hN : t'.val < 128 := Nat.lt_of_lt_of_eq t'.isLt N_0
  let z : S768x16384.Idx := fun
    | 0 => ⟨(2 + t.val / 32) * 128 + (y 0).val, by show _ < 768; omega⟩
    | 1 => ⟨min (t.val % 32 + 1) 31 * 512 + (y 1).val, by show _ < 16384; omega⟩
  exact (iblk0_apply m c t' y z (by show (2 + t.val / 32) * 128 + _ = _; rw [show t'.val / 32 = t.val / 32 by omega])
    (by show min (t.val % 32 + 1) 31 * 512 + _ = _; rw [show t'.val % 32 = min (t.val % 32 + 1) 31 by omega])).trans
    (iblk1_apply m c t y z rfl rfl).symm

/-- A point's own scores, and what its tile leaves. -/
def ownAt (c : Dev nD) (t : Fin cfg0.N) : Grp F := ownScores (kAt m c t) (own (grid0.coords t)) (tileOf (grid0.coords t)) (qAt m c t)
def outAt (c : Dev nD) (t : Fin cfg0.N) : Vec F S512x128 .bf16 :=
  outOf (iblk m c 4 t) (iblk m c 5 t) (iblk m c 6 t) (iblk m c 7 t) (iblk m c 8 t)
    (seqA (fsOf (grid0.coords t) (kAt m c t) (qAt m c t)) (vsOf (grid0.coords t) (vAt m c t)) (own (grid0.coords t) + 1))

theorem nextScores_eq (c : Dev nD) (t t' : Fin cfg0.N) (h : t'.val = t.val + 1) (h' : t'.val % 32 ≠ 0) :
    nextScores (grid0.coords t) (kAt m c t) (qnAt m c t) = ownAt m c t' := by
  unfold nextScores ownAt
  rw [kAt_next m c t t' h h', qAt_next m c t t' h h', (nextTile t t' h h').1, (nextTile t t' h h').2]

/-! ## The scratch -/

/-- The scratch at a state. -/
def Scr (c : Dev nD) (σ : St F) : SP F :=
  iprop(cells c (Memref.whole cc0_scratch0) rM σ.m ∗ cells c (Memref.whole cc0_scratch1) rA σ.a
    ∗ cells c (Memref.whole cc0_scratch2) rS (σ.s 0) ∗ cells c (Memref.whole cc0_scratch3) rM (σ.x 0)
    ∗ cells c (Memref.whole cc0_scratch4) rS (σ.s 1) ∗ cells c (Memref.whole cc0_scratch5) rM (σ.x 1))

theorem cells_intro {ι : Type} {s : Shape} {e : EltTy} (c : Dev nD) (b : Mr s e) (r : ι → Rect s) (Y : s.Idx → Elt F e) :
    owns (c : Thread nD τ) b fullShare Y ⊢ cells c b r fun i x => Y ((r i).emb x) := by
  unfold cells
  iintro H
  iexists Y
  isplitr [H]
  · ipureintro; exact fun _ _ => rfl
  · iexact H
theorem cells_elim {ι : Type} {s : Shape} {e : EltTy} (c : Dev nD) (b : Mr s e) (r : ι → Rect s) (X : (i : ι) → (r i).shape.Idx → Elt F e) :
    cells c b r X ⊢ iprop(∃ Y, owns (c : Thread nD τ) b fullShare Y) := by
  unfold cells
  iintro ⟨%Y, -, H⟩
  iexists Y
  iexact H

/-- The scratch between points: a state that holds the coming point's own scores, if that is not a head's first, and the
    generator register. -/
def Inv (c : Dev nD) (n : ℕ) : SP F :=
  iprop((∃ σ, ⌜∀ h : n < cfg0.N, n % 32 ≠ 0 → σ.Holds 0 (ownAt m c ⟨n, h⟩)⌝ ∗ Scr c σ) ∗ ∃ r, prngReg c r)

theorem inv_in (c : Dev nD) : Pipeline.ΦA spec0 c ⊢ Inv m c 0 := by
  unfold Pipeline.ΦA Inv Scr
  rw [scopedRest0_eq c]
  simp only [← owns_whole (Val := Elt F) (c : Thread nD τ)]
  iintro ⟨⟨⟨%f0, H0⟩, ⟨%f1, H1⟩, ⟨%f2, H2⟩, ⟨%f3, H3⟩, ⟨%f4, H4⟩, ⟨%f5, H5⟩⟩, Hp⟩
  isplitr [Hp]
  · iexists (⟨fun h x => f0 ((rM h).emb x), fun h x => f1 ((rA h).emb x), fun j p x => if j = 0 then f2 ((rS p).emb x) else f4 ((rS p).emb x),
      fun j h x => if j = 0 then f3 ((rM h).emb x) else f5 ((rM h).emb x)⟩ : St F)
    isplitr
    · ipureintro; exact fun _ h => absurd rfl h
    isplitl [H0]
    · iapply (cells_intro c _ rM f0) $$ H0
    isplitl [H1]
    · iapply (cells_intro c _ rA f1) $$ H1
    isplitl [H2]
    · iapply (cells_intro c _ rS f2) $$ H2
    isplitl [H3]
    · iapply (cells_intro c _ rM f3) $$ H3
    isplitl [H4]
    · iapply (cells_intro c _ rS f4) $$ H4
    · iapply (cells_intro c _ rM f5) $$ H5
  · iexact Hp

theorem inv_out (c : Dev nD) (n : ℕ) : Inv m c n ⊢ Pipeline.ΦA spec0 c := by
  unfold Pipeline.ΦA Inv Scr
  rw [scopedRest0_eq c]
  simp only [← owns_whole (Val := Elt F) (c : Thread nD τ)]
  iintro ⟨⟨%σ, -, H0, H1, H2, H3, H4, H5⟩, Hp⟩
  isplitr [Hp]
  · isplitl [H0]
    · iapply (cells_elim c) $$ H0
    isplitl [H1]
    · iapply (cells_elim c) $$ H1
    isplitl [H2]
    · iapply (cells_elim c) $$ H2
    isplitl [H3]
    · iapply (cells_elim c) $$ H3
    isplitl [H4]
    · iapply (cells_elim c) $$ H4
    · iapply (cells_elim c) $$ H5
  · iexact Hp

/-! ## The pipeline's proof data -/

/-- The arrays as the region finds them; after the body each input's buffer at its block and the output's at the tile's
    output; between points the scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Inv m c t.val
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-! ## The body at a point -/

/-- What the body is called with at point `t`, -/
def bodyPre (c : Dev nD) (t : Fin cfg0.N) : SP F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : SP F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The scratch the body works in at a point. -/
abbrev bufsAt (t : Fin cfg0.N) : Bufs := ⟨Memref.whole cc0_scratch0, Memref.whole cc0_scratch1, st0_2 t, st0_3 t⟩
abbrev slotsAt : Fin 2 → Slot :=
  ![⟨Memref.whole cc0_scratch2, Memref.whole cc0_scratch3⟩, ⟨Memref.whole cc0_scratch4, Memref.whole cc0_scratch5⟩]

/-- The windows' buffers at a point, the output's at `o`. -/
abbrev winsAt (c : Dev nD) (t : Fin cfg0.N) (o : Vec F S512x128 .bf16) : SP F :=
  Wins c (st0_0 t) (st0_1 t) (st0_4 t) (st0_5 t) (st0_6 t) (st0_7 t) (st0_8 t) (st0_9 t) (qAt m c t) (qnAt m c t)
    (iblk m c 4 t) (iblk m c 5 t) (iblk m c 6 t) (iblk m c 7 t) (iblk m c 8 t) o

theorem bodyAt0_eq (t : Fin cfg0.N) : bodyAt0 (F := F) t = bodyText (grid0.coords t) (bufsAt t) (slotsAt 0) (slotsAt 1) (st0_0 t) (st0_1 t)
    (st0_4 t) (st0_5 t) (st0_6 t) (st0_7 t) (st0_8 t) (st0_9 t) (hstage0_9 ((cfg0.slots t 9).cast nbuf0_9)) := body_eq ..

/-- The body from a state that holds the point's own scores, if it is not a head's first: it leaves the tile's output, and a
    state that holds the next point's own scores, if that is not a head's first. -/
theorem sound_text (c : Dev nD) (t : Fin cfg0.N) (o : Vec F S512x128 .bf16) (σ : St F) (hσ : t.val % 32 ≠ 0 → σ.Holds 0 (ownAt m c t)) :
    iprop(winsAt m c t o ∗ Scr c σ ∗ owns (c : Thread nD τ) (st0_2 t) fullShare (kAt m c t) ∗ owns (c : Thread nD τ) (st0_3 t) fullShare (vAt m c t))
      ⊢ Wp c (bodyAt0 t) fun _ => iprop(winsAt m c t (outAt m c t)
        ∗ (∃ σ', ⌜∀ h : t.val + 1 < cfg0.N, (t.val + 1) % 32 ≠ 0 → σ'.Holds 0 (ownAt m c ⟨t.val + 1, h⟩)⌝ ∗ Scr c σ')
        ∗ owns (c : Thread nD τ) (st0_2 t) fullShare (kAt m c t) ∗ owns (c : Thread nD τ) (st0_3 t) fullShare (vAt m c t)) := by
  rw [bodyAt0_eq]
  refine BIBase.Entails.trans ?_ (body_own c (bufsAt t) slotsAt (kAt m c t) (vAt m c t) (st0_0 t) (st0_1 t) (st0_4 t) (st0_5 t) (st0_6 t) (st0_7 t)
    (st0_8 t) (st0_9 t) (hstage0_9 ((cfg0.slots t 9).cast nbuf0_9)) (qAt m c t) (qnAt m c t)
    (iblk m c 4 t) (iblk m c 5 t) (iblk m c 6 t) (iblk m c 7 t) (iblk m c 8 t) (grid0.coords t) o
    (σ := σ) (fun h => hσ (coord1 t ▸ h)) fun σ' hσ' => ?_)
  · unfold Own Scr
    change _ ⊢ iprop(winsAt m c t o ∗ cells c (Memref.whole cc0_scratch0) rM σ.m ∗ cells c (Memref.whole cc0_scratch1) rA σ.a
      ∗ cells c (Memref.whole cc0_scratch2) rS (σ.s 0) ∗ cells c (Memref.whole cc0_scratch3) rM (σ.x 0)
      ∗ cells c (Memref.whole cc0_scratch4) rS (σ.s 1) ∗ cells c (Memref.whole cc0_scratch5) rM (σ.x 1)
      ∗ owns (c : Thread nD τ) (st0_2 t) fullShare (kAt m c t) ∗ owns (c : Thread nD τ) (st0_3 t) fullShare (vAt m c t))
    iintro ⟨HW, ⟨H0, H1, H2, H3, H4, H5⟩, Hk, Hv⟩
    iframe
  · unfold Own Scr
    change iprop(winsAt m c t (outAt m c t) ∗ cells c (Memref.whole cc0_scratch0) rM σ'.m ∗ cells c (Memref.whole cc0_scratch1) rA σ'.a
      ∗ cells c (Memref.whole cc0_scratch2) rS (σ'.s 0) ∗ cells c (Memref.whole cc0_scratch3) rM (σ'.x 0)
      ∗ cells c (Memref.whole cc0_scratch4) rS (σ'.s 1) ∗ cells c (Memref.whole cc0_scratch5) rM (σ'.x 1)
      ∗ owns (c : Thread nD τ) (st0_2 t) fullShare (kAt m c t) ∗ owns (c : Thread nD τ) (st0_3 t) fullShare (vAt m c t)) ⊢ _
    iintro ⟨HW, H0, H1, H2, H3, H4, H5, Hk, Hv⟩
    isplitl [HW]
    · iexact HW
    isplitr [Hk Hv]
    · iexists σ'
      isplitr
      · ipureintro
        intro h h'
        rw [← nextScores_eq m c t ⟨t.val + 1, h⟩ rfl h']
        exact hσ'.holds
      · iframe
    · iframe

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0_0, after0_1, after0_2, after0_3, after0_4, after0_5, after0_6, after0_7, after0_8, after0_9]
  unfold Inv
  iintro ⟨⟨⟨%σ, %hσ, HS⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none c none) Set.univ)
  isplitl [HS H0 H1 H2 H3 H4 H5 H6 H7 H8 H9]
  · iapply (sound_text m c t ((dats m 0 c).before 9 t d9) σ (hσ t.isLt)) $$ [HS H0 H1 H2 H3 H4 H5 H6 H7 H8 H9]
    unfold winsAt Wins
    iframe
  · iintro %a HQ
    unfold winsAt Wins
    icases HQ with ⟨⟨H0, H1, H4, H5, H6, H7, H8, H9⟩, HS, H2, H3⟩
    iframe

/-- Each row's body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- At the end each window's array is the fold of its body's blocks, every other array as the host left it, and no
    semaphore is set. -/
theorem run_main_quiescent :
    θ_run defs (onTc (τ := τ) (main (F := F))) (s₀ m ρ)
      (fun r => Pipeline.FramePost cfgs (dats m) 0 (V m) r ∧ r.2.sem = fun _ => 0) :=
  Pipeline.θ_run_frame_track_shared cfgs (dats m) 0 launch₀0 defs₀ Variants.none m ρ main
    (hbody := fun c => (body_obligation m c).loose) (hq := fun _ _ _ => rfl) (howed := fun _ _ => rfl) (V := V m)
    (hmain := hmain m Variants.none) (hA := A_eq m) (hin := fun c => inv_in m c) (hout := fun c => inv_out m c _)
    (Q' := fun r => Pipeline.FramePost cfgs (dats m) 0 (V m) r ∧ r.2.sem = fun _ => 0) (hQ' := fun _ h => h)

theorem run_main :
    θ_run defs (onTc (τ := τ) (main (F := F))) (s₀ m ρ) (fun r => Pipeline.FramePost cfgs (dats m) 0 (V m) r) :=
  (θ_run defs _ _).mono (fun _ h => h.1) (run_main_quiescent m ρ)

/-- The program runs, leaves its arguments alone and no semaphore set. -/
theorem frame_main :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (A_eq m) (run_main m ρ))
    ((θ_run defs _ _).mono (fun _ h => h.2) (run_main_quiescent m ρ))

end Cert.Diff
-- ==== Proof.Frames.lean ====
/- Each program runs, leaves its arguments alone and no semaphore set; the named constants are the printed ones. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Diff.Run

@[expose] public section

noncomputable section

namespace Cert.Frames

open Idealize.ShloMosaic Idealize.SL.Sem

theorem frame_ideal : Cert.quiescent_KernelIdeal := fun m g _ => Cert.Diff.frame_main (F := Ideal) m g

/-- A named constant at the machine's floats is its printed bits. -/
@[reducible] def namedBits : Named Bits where
  named _ _ {φ} bits := FloatOps.ofBits φ bits

attribute [local instance] namedBits

theorem body_bits : @Cert.KernelIdeal.cc0_diff_attention Bits _ _ _ = @Cert.Kernel.cc0_diff_attention Bits _ _ := rfl

/-- The two programs' bodies are the same text, label by label, -/
theorem defs₀_bits : Cert.KernelIdeal.defs₀ (F := Bits) = Cert.Kernel.defs₀ (F := Bits) := by
  unfold Cert.KernelIdeal.defs₀ Cert.Kernel.defs₀
  refine congrArg Defs.onTc ?_
  funext b x
  match b with
  | ⟨0, _⟩ => rfl
  | ⟨_ + 1, h⟩ => exact absurd h (Nat.not_lt.2 (Nat.le_add_left _ _))

theorem defs_bits : Cert.KernelIdeal.defs (F := Bits) = Cert.Kernel.defs (F := Bits) :=
  congrArg (Pipeline.defs Cert.KernelIdeal.pcfgs) defs₀_bits

/-- The printed kernel is the idealized text with its constants at their printed bits, so the same run is its run. -/
theorem frame_kernel : Cert.quiescent_Kernel := fun m g _ => by
  have h := Cert.Diff.frame_main (F := Bits) m g
  rw [defs_bits] at h
  exact h

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem preserves : Cert.preserves_Kernel_KernelIdeal :=
  ⟨IdealRules.named_const.statement _ _ _ _ _ rfl, IdealRules.named_const.statement _ _ _ _ _ rfl⟩

end Cert.Frames
-- ==== Proof.Diff.Arrays.lean ====
/- The arrays the call finds, at an index, in terms of the queries, keys, values and vectors it was given. -/
module

public import proofs.«01_k».proof.Proof.Diff.Run
public import Idealize.ShloMosaic.Lib.Pointwise

@[expose] public section

noncomputable section

namespace Cert.Diff

open Cert.KernelIdeal Cert.KernelIdeal.Gen Idealize.ShloMosaic Idealize.ShloMosaic.TcCoe

variable (m : (ℓ : Loc nD τ sig) → Buf (Elt Ideal) ℓ) (c : Dev nD)

/-- The arguments: the queries and keys of the two maps, the values, lambda's vectors, the gains. -/
def argQ : Fin 2 → S1x4x16384x64.Idx → EReal
  | 0 => m (c, main_arg0)
  | 1 => m (c, main_arg1)
def argK : Fin 2 → S1x4x16384x64.Idx → EReal
  | 0 => m (c, main_arg2)
  | 1 => m (c, main_arg3)
def argV : S1x4x16384x128.Idx → EReal := m (c, main_arg4)

/-- The queries' array: head `h`'s 128 rows, the first map's 64 and then the second's. -/
theorem V_q0 (z : S768x16384.Idx) (h : Fin 4) (r : Fin 64) (hz : (z 0).val = (2 + h.val) * 128 + r.val) :
    (V m c main_v15 : S768x16384.Idx → EReal) z = argQ m c 0 (ix4 0 h (z 1) r) := by
  entry_read
  pointwise
  rw [dif_neg (by omega)]
  rw [dif_pos (by omega)]
  exact congrArg (argQ m c 0) (congr_arg₂ (fun a b => ix4 0 a (z 1) b) (Fin.ext (by show ((z 0).val - 256) / 128 = h.val; omega))
    (Fin.ext (by show ((z 0).val - 256) % 128 = r.val; omega)))
theorem V_q1 (z : S768x16384.Idx) (h : Fin 4) (r : Fin 64) (hz : (z 0).val = (2 + h.val) * 128 + 64 + r.val) :
    (V m c main_v15 : S768x16384.Idx → EReal) z = argQ m c 1 (ix4 0 h (z 1) r) := by
  entry_read
  pointwise
  rw [dif_neg (by omega)]
  rw [dif_neg (by omega)]
  exact congrArg (argQ m c 1) (congr_arg₂ (fun a b => ix4 0 a (z 1) b) (Fin.ext (by show ((z 0).val - 256) / 128 = h.val; omega))
    (Fin.ext (by show ((z 0).val - 256) % 128 - 64 = r.val; omega)))

/-- The values' array: head `h`'s 128 rows. -/
theorem V_v (z : S768x16384.Idx) (h : Fin 4) (d : Fin 128) (hz : (z 0).val = (2 + h.val) * 128 + d.val) :
    (V m c main_v17 : S768x16384.Idx → EReal) z = argV m c (ix4 0 h (z 1) d) := by
  entry_read
  pointwise
  rw [dif_neg (by omega)]
  exact congrArg (argV m c) (congr_arg₂ (fun a b => ix4 0 a (z 1) b) (Fin.ext (by show ((z 0).val - 256) / 128 = h.val; omega))
    (Fin.ext (by show ((z 0).val - 256) % 128 = d.val; omega)))

/-- The keys' array before its columns of zeros: the heads' 128 columns, the first map's 64 and then the second's. -/
theorem V_k9_0 (z : S16384x512.Idx) (h : Fin 4) (r : Fin 64) (hz : (z 1).val = (h.val) * 128 + r.val) :
    (V m c main_v9 : S16384x512.Idx → EReal) z = argK m c 0 (ix4 0 h (z 0) r) := by
  entry_read
  pointwise
  rw [dif_pos (by omega)]
  exact congrArg (argK m c 0) (congr_arg₂ (fun a b => ix4 0 a (z 0) b) (Fin.ext (by show ((z 1).val) / 128 = h.val; omega))
    (Fin.ext (by show ((z 1).val) % 128 = r.val; omega)))
theorem V_k9_1 (z : S16384x512.Idx) (h : Fin 4) (r : Fin 64) (hz : (z 1).val = (h.val) * 128 + 64 + r.val) :
    (V m c main_v9 : S16384x512.Idx → EReal) z = argK m c 1 (ix4 0 h (z 0) r) := by
  entry_read
  pointwise
  rw [dif_neg (by omega)]
  exact congrArg (argK m c 1) (congr_arg₂ (fun a b => ix4 0 a (z 0) b) (Fin.ext (by show ((z 1).val) / 128 = h.val; omega))
    (Fin.ext (by show ((z 1).val) % 128 - 64 = r.val; omega)))

open StableHlo in
theorem V_k_eq : ∃ a d, (V m c main_v21 : S16384x1536.Idx → EReal)
    = concatenate (α := EReal) S16384x1536 1 [⟨S16384x256, a⟩, ⟨S16384x512, (V m c main_v9 : S16384x512.Idx → EReal)⟩, ⟨S16384x768, d⟩]
        Facts₀.concatenates_S16384x256_S16384x512_S16384x768_S16384x1536_d1 := by
  simp only [V, hostOps0, after_cons, after_nil]
  rw [unary_result_ne]; rotate_left; decide
  rw [unary_result_ne]; rotate_left; decide
  rw [unary_result_ne]; rotate_left; decide
  rw [unary_result_ne]; rotate_left; decide
  rw [unary_result_ne]; rotate_left; decide
  rw [unary_result]
  rw [nary_result]
  refine ⟨_, _, congrArg (fun b => concatenate (α := EReal) S16384x1536 1 [⟨S16384x256, _⟩, ⟨S16384x512, b⟩, ⟨S16384x768, _⟩]
    Facts₀.concatenates_S16384x256_S16384x512_S16384x768_S16384x1536_d1) ?_⟩
  after_results_simp
  rfl
theorem cat_apply (a : S16384x256.Idx → EReal) (b : S16384x512.Idx → EReal) (d : S16384x768.Idx → EReal) (s : Fin 16384) (j : Fin 1536) (k : Fin 512)
    (hk : j.val = 256 + k.val) :
    (concatenate (α := EReal) S16384x1536 1 [⟨S16384x256, a⟩, ⟨S16384x512, b⟩, ⟨S16384x768, d⟩]
      Facts₀.concatenates_S16384x256_S16384x512_S16384x768_S16384x1536_d1) (ix2 s j) = b (ix2 s k) := by
  pointwise
  rw [dif_neg (by omega), dif_pos (by omega)]
  exact congrArg (fun k => b (ix2 s k)) (Fin.ext (by show j.val - 256 = k.val; omega))

/-- The keys' array: 256 columns of zeros, then the heads'. -/
theorem V_k0 (s : Fin 16384) (j : Fin 1536) (h : Fin 4) (r : Fin 64) (hz : j.val = (2 + h.val) * 128 + r.val) :
    (V m c main_v21 : S16384x1536.Idx → EReal) (ix2 s j) = argK m c 0 (ix4 0 h s r) := by
  obtain ⟨a, d, e⟩ := V_k_eq m c
  have hk : h.val * 128 + r.val < 512 := by omega
  rw [e, cat_apply _ _ _ s j ⟨h.val * 128 + r.val, hk⟩ (by rw [hz]; show _ = 256 + (h.val * 128 + r.val); omega)]
  exact V_k9_0 m c (ix2 s ⟨h.val * 128 + r.val, hk⟩) h r rfl
theorem V_k1 (s : Fin 16384) (j : Fin 1536) (h : Fin 4) (r : Fin 64) (hz : j.val = (2 + h.val) * 128 + 64 + r.val) :
    (V m c main_v21 : S16384x1536.Idx → EReal) (ix2 s j) = argK m c 1 (ix4 0 h s r) := by
  obtain ⟨a, d, e⟩ := V_k_eq m c
  have hk : h.val * 128 + 64 + r.val < 512 := by omega
  rw [e, cat_apply _ _ _ s j ⟨h.val * 128 + 64 + r.val, hk⟩ (by rw [hz]; show _ = 256 + (h.val * 128 + 64 + r.val); omega)]
  exact V_k9_1 m c (ix2 s ⟨h.val * 128 + 64 + r.val, hk⟩) h r rfl

/-- Lambda's vectors and the gains: one row. -/
theorem V_22 (j : Fin 64) : (V m c main_v22 : S1x64.Idx → EReal) (ix2 0 j) = (m (c, main_arg5) : S64.Idx → EReal) (ix1 j) := by entry_read; pointwise
theorem V_23 (j : Fin 64) : (V m c main_v23 : S1x64.Idx → EReal) (ix2 0 j) = (m (c, main_arg6) : S64.Idx → EReal) (ix1 j) := by entry_read; pointwise
theorem V_24 (j : Fin 64) : (V m c main_v24 : S1x64.Idx → EReal) (ix2 0 j) = (m (c, main_arg7) : S64.Idx → EReal) (ix1 j) := by entry_read; pointwise
theorem V_25 (j : Fin 64) : (V m c main_v25 : S1x64.Idx → EReal) (ix2 0 j) = (m (c, main_arg8) : S64.Idx → EReal) (ix1 j) := by entry_read; pointwise
theorem V_26 (j : Fin 128) : (V m c main_v26 : S1x128.Idx → EReal) (ix2 0 j) = (m (c, main_arg9) : S128.Idx → EReal) (ix1 j) := by entry_read; pointwise

end Cert.Diff
-- ==== Proof.Diff.Read.lean ====
/- The stages' operations at an index, over the extended reals. -/
module

public import proofs.«01_k».proof.Proof.Diff.Body
public import Idealize.ShloMosaic.Lib.Pointwise
public import Idealize.ShloMosaic.Lib.Pipeline.Value

@[expose] public section

noncomputable section

namespace Cert.Diff

open Cert.KernelIdeal Cert.KernelIdeal.Gen Idealize.ShloMosaic Idealize.ShloMosaic.TcCoe Idealize

/-- The named constants: the mask is minus infinity, the scale a number. -/
theorem mask_eq : (Named.named (F := Ideal) κ "mask" (φ := .f32) 0xF149F2CA#32) = ⊥ :=
  IdealRules.named_const.ideal_named_scalar κ "mask" _ _ rfl
theorem scale_eq : (Named.named (F := Ideal) κ "scale2" (φ := .f32) 0x3E38AA3B#32) = ((1 / 8 * (Real.log 2)⁻¹ : ℝ) : EReal) := by
  refine (IdealRules.named_const.ideal_named_scalar κ "scale2" _ _ rfl).trans ?_
  rfl

variable (kX : S16384x128.Idx → EReal) (vX : S128x16384.Idx → EReal) (x : S128x512.Idx → EReal) (i : grid0.Coords)

theorem newM_apply (m y : S1x1x512.Idx → EReal) (j : Fin 512) :
    (newM (F := Ideal) m y : S1x512.Idx → EReal) (ix2 0 j) = max (m (ix3 0 0 j)) (y (ix3 0 0 j)) := by
  unfold newM; pointwise
theorem rowM_apply (v : S1x512.Idx → EReal) (j : Fin 512) : (rowM (F := Ideal) v : S1x1x512.Idx → EReal) (ix3 0 0 j) = v (ix2 0 j) := by
  unfold rowM; pointwise
theorem blkS_apply (v : S256x512.Idx → EReal) (k : Fin 256) (j : Fin 512) :
    (blkS (F := Ideal) v : S1x256x512.Idx → EReal) (ix3 0 k j) = v (ix2 k j) := by
  unfold blkS; pointwise
theorem rescaled_apply (m : S1x1x512.Idx → EReal) (mn : S1x512.Idx → EReal) (a : S1x144x512.Idx → EReal) (d : Fin 144) (j : Fin 512) :
    (rescaled (F := Ideal) m mn a : S1x144x512.Idx → EReal) (ix3 0 d j)
      = Ideal.exp2 (m (ix3 0 0 j) - mn (ix2 0 j)) * a (ix3 0 d j) := by
  unfold rescaled; pointwise; rfl
theorem added_apply (a : S1x144x512.Idx → EReal) (v : S128x256.Idx → EReal) (s : S1x256x512.Idx → EReal) (mn : S1x512.Idx → EReal)
    (d : Fin 144) (j : Fin 512) :
    (added (F := Ideal) a v s mn : S1x144x512.Idx → EReal) (ix3 0 d j)
      = a (ix3 0 d j) + ∑ k : Fin 256, (if h : d.val < 128 then v (ix2 ⟨d.val, h⟩ k) else 1) * Ideal.exp2 (s (ix3 0 k j) - mn (ix2 0 j)) := by
  unfold added; pointwise; rfl
theorem top_apply (s : S256x512.Idx → EReal) (j : Fin 512) :
    (top (F := Ideal) s : S1x512.Idx → EReal) (ix2 0 j) = Finset.fold max (Ideal.ofBits .f32 0xFF800000#32) (fun k : Fin 256 => s (ix2 k j)) Finset.univ := by
  unfold top; pointwise
theorem top4_apply (f : Fin 4 → S256x512.Idx → EReal) (j : Fin 512) :
    (top4 (F := Ideal) f : S1x512.Idx → EReal) (ix2 0 j)
      = max (max (max (top (F := Ideal) (f 0) (ix2 0 j)) (top (F := Ideal) (f 1) (ix2 0 j))) (top (F := Ideal) (f 2) (ix2 0 j))) (top (F := Ideal) (f 3) (ix2 0 j)) := rfl
theorem dots_apply (k : S256x128.Idx → EReal) (q : S128x512.Idx → EReal) (r : Fin 256) (j : Fin 512) :
    (dots (F := Ideal) k q : S256x512.Idx → EReal) (ix2 r j) = ∑ c : Fin 128, k (ix2 r c) * q (ix2 c j) := by
  unfold dots; pointwise
/-- The two maps' queries: 64 rows scaled, the others zero. -/
theorem q0_apply (c : Fin 128) (j : Fin 512) : ((qmaps (F := Ideal) x).q 0 : S128x512.Idx → EReal) (ix2 c j)
    = if c.val < 64 then x (ix2 c j) * ((1 / 8 * (Real.log 2)⁻¹ : ℝ) : EReal) else 0 := by
  rw [← scale_eq]
  unfold qmaps qscaled Qs.q
  simp only [Matrix.cons_val_zero]
  pointwise
  rfl
theorem q1_apply (c : Fin 128) (j : Fin 512) : ((qmaps (F := Ideal) x).q 1 : S128x512.Idx → EReal) (ix2 c j)
    = if c.val < 64 then 0 else x (ix2 c j) * ((1 / 8 * (Real.log 2)⁻¹ : ℝ) : EReal) := by
  rw [← scale_eq]
  unfold qmaps qscaled Qs.q
  simp only [Matrix.cons_val_one]
  pointwise
  by_cases h : c.val < 64
  · rw [dif_pos h, if_pos h]
  · rw [dif_neg h, if_neg h]
    congr 3
    exact Fin.ext (by show 64 + (c.val - 64) = c.val; omega)
theorem meanA_apply (A : S1x144x512.Idx → EReal) (d : Fin 128) (j : Fin 512) :
    (meanA (F := Ideal) A : S128x512.Idx → EReal) (ix2 d j)
      = A (ix3 0 ⟨d.val, by omega⟩ j) * Ideal.div 1 (A (ix3 0 ⟨128, by omega⟩ j)) := by
  unfold meanA meanOf topRect sumRect; pointwise
/-- A block's scores before the mask, and its values: the group's keys are 1024 apart, the block's 256. -/
theorem dots_block (g : ℕ) (b : Fin 4) (q : S128x512.Idx → EReal) (r : Fin 256) (j : Fin 512) (k : Fin 16384) (hk : 1024 * (g % 16) + 256 * b.val + r.val = k.val) :
    (dots (F := Ideal) (View.ld (Val := Elt Ideal) (e' := .bf16) kX (kRect ((kOff g).1 b) ((kOff g).2 b))) q : S256x512.Idx → EReal) (ix2 r j)
      = ∑ c : Fin 128, kX (ix2 k c) * q (ix2 c j) := by
  refine (dots_apply _ _ r j).trans (Finset.sum_congr rfl fun c _ => congrArg (· * _) (congrArg kX (funext fun a => ?_)))
  fin_cases a
  · exact Fin.ext (by show 1024 * (g % 16) + 256 * b.val + 1 * r.val = k.val; omega)
  · exact Fin.ext (by show 0 + 1 * c.val = c.val; omega)
theorem vals_apply (g : ℕ) (b : Fin 4) (d : Fin 128) (r : Fin 256) (k : Fin 16384) (hk : 1024 * (g % 16) + 256 * b.val + r.val = k.val) :
    (vals (F := Ideal) vX (vOff g) b : S128x256.Idx → EReal) (ix2 d r) = vX (ix2 d k) := by
  refine congrArg vX (funext fun a => ?_)
  fin_cases a
  · exact Fin.ext (by show 0 + 1 * d.val = d.val; omega)
  · exact Fin.ext (by show 1024 * (g % 16) + 256 * b.val + 1 * r.val = k.val; omega)
/-- The mask of a tile's own scores: earlier keys and the query's own. -/
theorem own_kp : ∀ (i1 : Fin 32) (b : Fin 4) , Scalar.muli (Scalar.addi (Scalar.muli (ownGroup (BitVec.ofNat 32 i1.val)) 4#32) (BitVec.ofNat 32 b.val)) 256#32
    = BitVec.ofNat 32 (1024 * (i1.val / 2) + 256 * b.val) := by decide +kernel
theorem own_qp : ∀ (i1 : Fin 32), Scalar.muli (BitVec.ofNat 32 i1.val) 512#32 = BitVec.ofNat 32 (512 * i1.val) := by decide +kernel
theorem sle_iff {a b : ℕ} (ha : a < 2 ^ 31) (hb : b < 2 ^ 31) : (BitVec.ofNat 32 a).sle (BitVec.ofNat 32 b) = decide (a ≤ b) := by
  rw [Bool.eq_iff_iff, decide_eq_true_iff, BitVec.sle_iff_toInt_le, BitVec.toInt_eq_toNat_of_lt (by rw [BitVec.toNat_ofNat]; omega),
    BitVec.toInt_eq_toNat_of_lt (by rw [BitVec.toNat_ofNat]; omega), BitVec.toNat_ofNat, BitVec.toNat_ofNat]
  omega
theorem ownPost_apply (t : Fin 32) (b : Fin 4) (s : S256x512.Idx → EReal) (r : Fin 256) (j : Fin 512) :
    (ownPost (F := Ideal) (BitVec.ofNat 32 t.val) b s : S256x512.Idx → EReal) (ix2 r j)
      = if 1024 * (t.val / 2) + 256 * b.val + r.val ≤ 512 * t.val + j.val then s (ix2 r j) else ⊥ := by
  unfold ownPost
  rw [own_kp, own_qp]
  unfold maskedAt
  pointwise
  rw [mask_eq]
  simp only [Scalar.select, IntOp.cmpi, IntOp.addi, ← BitVec.ofNat_add]
  rw [sle_iff (by omega) (by omega)]
  by_cases h : 1024 * (t.val / 2) + 256 * b.val + r.val ≤ 512 * t.val + j.val <;> simp [h]

end Cert.Diff
-- ==== Proof.Diff.Online.lean ====
/- The weighted mean kept online: maxima and sums renewed group by group give the mean under the weights 2 ^ score. -/
module

public import Idealize.ShloMosaic.PureOps.Ideal

@[expose] public section

noncomputable section

namespace Cert.Diff

open Idealize.ShloMosaic Finset

/-- The weight of a score against a maximum: none for a masked score. -/
def ew (s : EReal) (m : ℝ) : ℝ := if s = ⊥ then 0 else (2 : ℝ) ^ (s.toReal - m)

theorem ew_nonneg (s : EReal) (m : ℝ) : 0 ≤ ew s m := by
  unfold ew; split
  · exact le_rfl
  · exact (Real.rpow_pos_of_pos two_pos _).le
theorem ew_pos {s : EReal} (h : s ≠ ⊥) (m : ℝ) : 0 < ew s m := by
  unfold ew; rw [if_neg h]; exact Real.rpow_pos_of_pos two_pos _
theorem ew_bot (m : ℝ) : ew ⊥ m = 0 := if_pos rfl
theorem ew_coe (x : ℝ) : ew (x : EReal) 0 = (2 : ℝ) ^ x := by
  unfold ew; rw [if_neg (EReal.coe_ne_bot x), EReal.toReal_coe, sub_zero]
/-- A weight against one maximum, rescaled to another. -/
theorem ew_mul (s : EReal) (m m' : ℝ) : (2 : ℝ) ^ (m - m') * ew s m = ew s m' := by
  unfold ew; split
  · exact mul_zero _
  · rw [← Real.rpow_add two_pos]; congr 1; ring
theorem exp2_sub {s : EReal} (h : s ≠ ⊤) (m : ℝ) : Ideal.exp2 (s - (m : EReal)) = (ew s m : EReal) := by
  induction s with
  | bot => rw [EReal.bot_sub, ew_bot]; rfl
  | coe x => unfold ew; rw [if_neg (EReal.coe_ne_bot x), EReal.toReal_coe, ← EReal.coe_sub]; rfl
  | top => exact absurd rfl h

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

variable {ι : Type} [Fintype ι]

/-- After the first group, which holds a score, the maximum is a number. -/
theorem online_max {M T : ℕ → EReal} (hM0 : M 0 = ⊥) (hM : ∀ n, M (n + 1) = max (M n) (T n)) (hT : ∀ n, T n ≠ ⊤) (hT0 : T 0 ≠ ⊥) (n : ℕ) :
    ∃ m : ℝ, M (n + 1) = m := by
  have key : ∀ n, M (n + 1) ≠ ⊤ ∧ M (n + 1) ≠ ⊥ := by
    intro n
    induction n with
    | zero => rw [hM, hM0, max_eq_right bot_le]; exact ⟨hT 0, hT0⟩
    | succ n ih =>
      rw [hM]
      refine ⟨fun h => ?_, fun h => ih.2 (le_bot_iff.1 (h ▸ le_max_left _ _))⟩
      rcases max_choice (M (n + 1)) (T (n + 1)) with e | e <;> rw [e] at h
      · exact ih.1 h
      · exact hT _ h
  exact ⟨(M (n + 1)).toReal, (EReal.coe_toReal (key n).1 (key n).2).symm⟩

/-- The sum after any number of groups: every score's weight against the maximum reached, times its value. -/
theorem online_sum {M A : ℕ → EReal} {s : ℕ → ι → EReal} {v : ℕ → ι → ℝ} (hM0 : M 0 = ⊥) (hM : ∀ n, ∃ m : ℝ, M (n + 1) = m)
    (hA0 : A 0 = 0) (hA : ∀ n, A (n + 1) = Ideal.exp2 (M n - M (n + 1)) * A n + ∑ i, (v n i : EReal) * Ideal.exp2 (s n i - M (n + 1)))
    (hs : ∀ n i, s n i ≠ ⊤) (n : ℕ) (m : ℝ) (h : M (n + 1) = m) :
    A (n + 1) = ((∑ k ∈ range (n + 1), ∑ i, v k i * ew (s k i) m : ℝ) : EReal) := by
  have term : ∀ n (m : ℝ), ∑ i, (v n i : EReal) * Ideal.exp2 (s n i - m) = ((∑ i, v n i * ew (s n i) m : ℝ) : EReal) := by
    intro n m
    rw [coe_sum]
    exact sum_congr rfl fun i _ => by rw [exp2_sub (hs n i), EReal.coe_mul]
  induction n generalizing m with
  | zero => rw [hA, hA0, mul_zero, zero_add, h, term, sum_range_one]
  | succ n ih =>
    obtain ⟨m', h'⟩ := hM n
    rw [hA, ih m' h', h, h', term, ← EReal.coe_sub, Ideal.exp2_coe, ← EReal.coe_mul, ← EReal.coe_add, sum_range_succ _ (n + 1)]
    congr 2
    change (2 : ℝ) ^ (m' - m) * _ = _
    rw [mul_sum]
    refine sum_congr rfl fun k _ => ?_
    rw [mul_sum]
    refine sum_congr rfl fun i _ => ?_
    rw [mul_left_comm, ew_mul]

/-- The sum over the sum of the weights is the mean of the values under the weights 2 ^ score. -/
theorem online_mean {M A L : ℕ → EReal} {s : ℕ → ι → EReal} {v : ℕ → ι → ℝ} (hM0 : M 0 = ⊥) (hM : ∀ n, ∃ m : ℝ, M (n + 1) = m)
    (hA0 : A 0 = 0) (hA : ∀ n, A (n + 1) = Ideal.exp2 (M n - M (n + 1)) * A n + ∑ i, (v n i : EReal) * Ideal.exp2 (s n i - M (n + 1)))
    (hL0 : L 0 = 0) (hL : ∀ n, L (n + 1) = Ideal.exp2 (M n - M (n + 1)) * L n + ∑ i, ((1 : ℝ) : EReal) * Ideal.exp2 (s n i - M (n + 1)))
    (hs : ∀ n i, s n i ≠ ⊤) (h0 : ∃ i, s 0 i ≠ ⊥) (n : ℕ) :
    A (n + 1) * Ideal.div 1 (L (n + 1))
      = (((∑ k ∈ range (n + 1), ∑ i, v k i * ew (s k i) 0) / (∑ k ∈ range (n + 1), ∑ i, ew (s k i) 0) : ℝ) : EReal) := by
  obtain ⟨m, h⟩ := hM n
  rw [online_sum hM0 hM hA0 hA hs n m h, online_sum (v := fun _ _ => 1) hM0 hM hL0 hL hs n m h]
  have resc : ∀ w : ℕ → ι → ℝ, ∑ k ∈ range (n + 1), ∑ i, w k i * ew (s k i) m
      = (2 : ℝ) ^ (0 - m) * ∑ k ∈ range (n + 1), ∑ i, w k i * ew (s k i) 0 := by
    intro w
    rw [mul_sum]
    refine sum_congr rfl fun k _ => ?_
    rw [mul_sum]
    refine sum_congr rfl fun i _ => ?_
    rw [mul_left_comm, ew_mul]
  have pos : 0 < ∑ k ∈ range (n + 1), ∑ i, ew (s k i) 0 := by
    obtain ⟨i, hi⟩ := h0
    refine sum_pos' (fun k _ => sum_nonneg fun i _ => ew_nonneg _ _) ⟨0, mem_range.2 n.succ_pos, ?_⟩
    exact sum_pos' (fun i _ => ew_nonneg _ _) ⟨i, mem_univ _, ew_pos hi 0⟩
  have hp : (2 : ℝ) ^ (0 - m) ≠ 0 := (Real.rpow_pos_of_pos two_pos _).ne'
  rw [resc v, resc fun _ _ => 1]
  simp only [one_mul]
  rw [Ideal.div_coe (mul_ne_zero hp pos.ne'), one_mul, ← EReal.coe_mul]
  congr 1
  field_simp

end Cert.Diff
-- ==== Proof.Diff.Mean.lean ====
/- A tile's mean: after its groups the sums over the sums of the weights are the causal mean of the values under the
   weights 2 ^ score, over all the keys up to the query's own. -/
module

public import proofs.«01_k».proof.Proof.Diff.Read
public import proofs.«01_k».proof.Proof.Diff.Online

@[expose] public section

noncomputable section

namespace Cert.Diff

open Cert.KernelIdeal Cert.KernelIdeal.Gen Idealize.ShloMosaic Idealize.ShloMosaic.TcCoe Finset

/-- A maximum of scores is below the top when they are, and above the bottom when one is. -/
theorem fold_max_ne_top {n : ℕ} {f : Fin n → EReal} (h : ∀ k, f k ≠ ⊤) : Finset.fold max ⊥ f univ ≠ ⊤ :=
  ((fold_max_lt _).2 ⟨bot_lt_top, fun k _ => lt_top_iff_ne_top.2 (h k)⟩).ne
theorem fold_max_ne_bot {n : ℕ} {f : Fin n → EReal} {k : Fin n} (h : f k ≠ ⊥) : Finset.fold max ⊥ f univ ≠ ⊥ :=
  ((lt_fold_max _).2 (.inr ⟨k, mem_univ _, bot_lt_iff_ne_bot.2 h⟩)).ne'
theorem ninf_eq : Ideal.ofBits .f32 0xFF800000#32 = ⊥ := by simp [Ideal.ofBits, Ideal.ieee]

section Top
variable (f : Fin 4 → S256x512.Idx → EReal) (j : Fin 512)

theorem top_ne_top {s : S256x512.Idx → EReal} (h : ∀ k, s (ix2 k j) ≠ ⊤) : (top (F := Ideal) s : S1x512.Idx → EReal) (ix2 0 j) ≠ ⊤ := by
  rw [top_apply, ninf_eq]; exact fold_max_ne_top h
theorem top_ne_bot {s : S256x512.Idx → EReal} {k : Fin 256} (h : s (ix2 k j) ≠ ⊥) : (top (F := Ideal) s : S1x512.Idx → EReal) (ix2 0 j) ≠ ⊥ := by
  rw [top_apply, ninf_eq]; exact fold_max_ne_bot h
theorem max_ne_top {a b : EReal} (ha : a ≠ ⊤) (hb : b ≠ ⊤) : max a b ≠ ⊤ := by
  rcases max_choice a b with e | e <;> rw [e] <;> assumption
theorem top4_ne_top (h : ∀ b k, f b (ix2 k j) ≠ ⊤) : (top4 (F := Ideal) f : S1x512.Idx → EReal) (ix2 0 j) ≠ ⊤ := by
  rw [top4_apply]
  exact max_ne_top (max_ne_top (max_ne_top (top_ne_top j (h 0)) (top_ne_top j (h 1))) (top_ne_top j (h 2))) (top_ne_top j (h 3))
theorem top4_ne_bot (h : f 0 (ix2 0 j) ≠ ⊥) : (top4 (F := Ideal) f : S1x512.Idx → EReal) (ix2 0 j) ≠ ⊥ := by
  rw [top4_apply]
  intro e
  have := ((le_max_left _ _).trans ((le_max_left _ _).trans (le_max_left _ _))).trans_eq e
  exact top_ne_bot j h (le_bot_iff.1 this)
end Top

/-- One step at an index: the sum rescaled, and the group's 1024 terms added. -/
theorem stepA_apply (m y : S1x1x512.Idx → EReal) (a : S1x144x512.Idx → EReal) (s : Fin 4 → S1x256x512.Idx → EReal) (v : Fin 4 → S128x256.Idx → EReal)
    (d : Fin 144) (j : Fin 512) :
    (stepA (F := Ideal) m y a s v : S1x144x512.Idx → EReal) (ix3 0 d j)
      = Ideal.exp2 (m (ix3 0 0 j) - max (m (ix3 0 0 j)) (y (ix3 0 0 j))) * a (ix3 0 d j)
        + ∑ p : Fin 4 × Fin 256, (if h : d.val < 128 then v p.1 (ix2 ⟨d.val, h⟩ p.2) else 1)
            * Ideal.exp2 (s p.1 (ix3 0 p.2 j) - max (m (ix3 0 0 j)) (y (ix3 0 0 j))) := by
  unfold stepA
  rw [added_apply, added_apply, added_apply, added_apply, rescaled_apply, newM_apply, Fintype.sum_prod_type, Fin.sum_univ_four]
  simp only [add_assoc]

/-- The keys of a group, block by block. -/
def keyAt (g : ℕ) (p : Fin 4 × Fin 256) : Fin 16384 := ⟨1024 * (g % 16) + 256 * p.1.val + p.2.val, by omega⟩

/-- A sum over all the keys, group by group. -/
theorem sum_keys (G : Fin 16384 → ℝ) : ∑ k, G k = ∑ g ∈ range 16, ∑ p, G (keyAt g p) := by
  rw [sum_range, ← Fintype.sum_prod_type' (f := fun (g : Fin 16) p => G (keyAt g.val p))]
  refine (Fintype.sum_bijective (fun x : Fin 16 × (Fin 4 × Fin 256) => keyAt x.1.val x.2) ⟨?_, ?_⟩ _ _ fun _ => rfl).symm
  · rintro ⟨g, b, r⟩ ⟨g', b', r'⟩ e
    have e := congrArg Fin.val e
    simp only [keyAt] at e
    refine Prod.ext (Fin.ext ?_) (Prod.ext (Fin.ext ?_) (Fin.ext ?_)) <;> simp only <;> omega
  · intro k
    refine ⟨(⟨k.val / 1024, by omega⟩, ⟨k.val % 1024 / 256, by omega⟩, ⟨k.val % 256, by omega⟩), Fin.ext ?_⟩
    simp only [keyAt]; omega

/-- The groups a tile takes in hold every key that its queries see. -/
theorem sum_groups (i : grid0.Coords) (G : Fin 16384 → ℝ) (q : ℕ) (hq : q < 1024 * (own i + 1)) (hG : ∀ k : Fin 16384, q < k.val → G k = 0) :
    ∑ n ∈ range (own i + 1), ∑ p, G (keyAt (grp i n) p) = ∑ k, G k := by
  have ho := own_lt i
  rw [sum_keys, sum_range_succ']
  have e0 : grp i 0 = own i := if_pos rfl
  have e1 : ∀ n, grp i (n + 1) = n := fun n => (if_neg n.succ_ne_zero).trans rfl
  simp only [e0, e1]
  rw [← sum_range_succ (fun g => ∑ p, G (keyAt g p))]
  refine sum_subset (fun g hg => mem_range.2 (by have := mem_range.1 hg; omega)) fun g hg hg' => sum_eq_zero fun p _ => hG _ ?_
  have := mem_range.1 hg
  have : ¬ g < own i + 1 := fun h => hg' (mem_range.2 h)
  simp only [keyAt]; omega

variable {kX : S16384x128.Idx → EReal} {vX : S128x16384.Idx → EReal} {x : S128x512.Idx → EReal} {i : grid0.Coords} {p : Fin 2} {j : Fin 512}
  {X : Fin 16384 → ℝ}

/-- A tile's own scores, masked, and the earlier groups'. -/
theorem fsOf_zero (hX : ∀ k, ∑ c : Fin 128, kX (ix2 k c) * ((qmaps (F := Ideal) x).q p : S128x512.Idx → EReal) (ix2 c j) = X k) (b : Fin 4) (r : Fin 256) :
    (fsOf (F := Ideal) i kX x 0 b p : S256x512.Idx → EReal) (ix2 r j)
      = if (keyAt (own i) (b, r)).val ≤ 512 * (i 1).val + j.val then (X (keyAt (own i) (b, r)) : EReal) else ⊥ := by
  have ho := own_lt i
  have e : (keyAt (own i) (b, r)).val = 1024 * ((i 1).val / 2) + 256 * b.val + r.val := by
    show 1024 * (own i % 16) + _ + _ = _
    rw [Nat.mod_eq_of_lt ho]; rfl
  refine (ownPost_apply ⟨(i 1).val, (i 1).isLt⟩ b _ r j).trans ?_
  rw [dots_block kX (own i) b _ r j (keyAt (own i) (b, r)) rfl, hX, e]
theorem fsOf_succ (hX : ∀ k, ∑ c : Fin 128, kX (ix2 k c) * ((qmaps (F := Ideal) x).q p : S128x512.Idx → EReal) (ix2 c j) = X k) (n : ℕ) (b : Fin 4) (r : Fin 256) :
    (fsOf (F := Ideal) i kX x (n + 1) b p : S256x512.Idx → EReal) (ix2 r j) = (X (keyAt n (b, r)) : EReal) := by
  rw [← hX]; exact dots_block kX n b _ r j (keyAt n (b, r)) rfl

/-- The weight of a key for a query: 2 ^ score, and nothing after the query. -/
def wgt (X : Fin 16384 → ℝ) (q : ℕ) (k : Fin 16384) : ℝ := if k.val ≤ q then (2 : ℝ) ^ X k else 0

/-- The mean over the groups is the causal mean. -/
theorem mean_eq (hX : ∀ k, ∑ c : Fin 128, kX (ix2 k c) * ((qmaps (F := Ideal) x).q p : S128x512.Idx → EReal) (ix2 c j) = X k)
    {d : Fin 128} {W : Fin 16384 → ℝ} (hW : ∀ k, vX (ix2 d k) = W k) :
    (meanA (F := Ideal) (seqA (fsOf (F := Ideal) i kX x) (vsOf (F := Ideal) i vX) (own i + 1) p) : S128x512.Idx → EReal) (ix2 d j)
      = (((∑ k, W k * wgt X (512 * (i 1).val + j.val) k) / ∑ k, wgt X (512 * (i 1).val + j.val) k : ℝ) : EReal) := by
  have ho := own_lt i
  have hj := j.isLt
  have hi : (i 1).val < 32 := (i 1).isLt
  have hown : own i = (i 1).val / 2 := rfl
  rw [meanA_apply]
  let s : ℕ → Fin 4 × Fin 256 → EReal := fun n q => (fsOf (F := Ideal) i kX x n q.1 p : S256x512.Idx → EReal) (ix2 q.2 j)
  have s0 : ∀ q, s 0 q = if (keyAt (own i) q).val ≤ 512 * (i 1).val + j.val then (X (keyAt (own i) q) : EReal) else ⊥ := fun q => fsOf_zero hX q.1 q.2
  have s1 : ∀ n q, s (n + 1) q = (X (keyAt n q) : EReal) := fun n q => fsOf_succ hX n q.1 q.2
  have hs : ∀ n q, s n q ≠ ⊤ := by
    intro n q
    cases n with
    | zero => rw [s0]; split
              · exact EReal.coe_ne_top _
              · exact bot_ne_top
    | succ n => rw [s1]; exact EReal.coe_ne_top _
  have h0 : s 0 (0, 0) ≠ ⊥ := by
    rw [s0, if_pos (by simp only [keyAt]; show 1024 * (own i % 16) + 256 * 0 + 0 ≤ _; omega)]
    exact EReal.coe_ne_bot _
  let M : ℕ → EReal := fun n => (seqM (F := Ideal) (fsOf (F := Ideal) i kX x) n p : S1x1x512.Idx → EReal) (ix3 0 0 j)
  let T : ℕ → EReal := fun n => (top4 (F := Ideal) (fun b => fsOf (F := Ideal) i kX x n b p) : S1x512.Idx → EReal) (ix2 0 j)
  let A : Fin 144 → ℕ → EReal := fun d n => (seqA (F := Ideal) (fsOf (F := Ideal) i kX x) (vsOf (F := Ideal) i vX) n p : S1x144x512.Idx → EReal) (ix3 0 d j)
  have hM0 : M 0 = ⊥ := mask_eq
  have hM : ∀ n, M (n + 1) = max (M n) (T n) := fun n =>
    (rowM_apply _ j).trans ((newM_apply _ _ j).trans (congrArg (max (M n)) (rowM_apply _ j)))
  have hMr := online_max hM0 hM (fun n => top4_ne_top _ j fun b k => hs n (b, k)) (top4_ne_bot _ j h0)
  have hA0 : ∀ d, A d 0 = 0 := fun _ => Ideal.ofBits_zero_f32
  have hA : ∀ d n, A d (n + 1) = Ideal.exp2 (M n - M (n + 1)) * A d n
      + ∑ q : Fin 4 × Fin 256, (if h : d.val < 128 then (vsOf (F := Ideal) i vX n q.1 : S128x256.Idx → EReal) (ix2 ⟨d.val, h⟩ q.2) else 1) * Ideal.exp2 (s n q - M (n + 1)) := by
    intro d n
    refine (stepA_apply _ _ _ _ _ d j).trans ?_
    rw [hM]
    simp only [rowM_apply, blkS_apply]
    rfl
  have hv : ∀ n (q : Fin 4 × Fin 256), (vsOf (F := Ideal) i vX n q.1 : S128x256.Idx → EReal) (ix2 d q.2) = W (keyAt (grp i n) q) := fun n q => by
    rw [← hW]; exact vals_apply vX (grp i n) q.1 d q.2 (keyAt (grp i n) q) rfl
  have hD : ∀ n, A ⟨d.val, by omega⟩ (n + 1) = Ideal.exp2 (M n - M (n + 1)) * A ⟨d.val, by omega⟩ n
      + ∑ q : Fin 4 × Fin 256, (W (keyAt (grp i n) q) : EReal) * Ideal.exp2 (s n q - M (n + 1)) := by
    intro n
    rw [hA]
    refine congrArg _ (sum_congr rfl fun q _ => ?_)
    rw [dif_pos d.isLt]
    exact congrArg (· * _) (hv n q)
  have hL : ∀ n, A ⟨128, by omega⟩ (n + 1) = Ideal.exp2 (M n - M (n + 1)) * A ⟨128, by omega⟩ n
      + ∑ q : Fin 4 × Fin 256, ((1 : ℝ) : EReal) * Ideal.exp2 (s n q - M (n + 1)) := by
    intro n
    rw [hA]
    refine congrArg _ (sum_congr rfl fun q _ => ?_)
    rw [dif_neg (by show ¬ 128 < 128; omega), EReal.coe_one]
  have key := online_mean (ι := Fin 4 × Fin 256) (v := fun n q => W (keyAt (grp i n) q)) hM0 hMr (hA0 _) hD (hA0 _) hL hs ⟨_, h0⟩ (own i)
  refine key.trans ?_
  -- the weights, whichever group they come from
  have hw : ∀ n ∈ range (own i + 1), ∀ q, ew (s n q) 0 = wgt X (512 * (i 1).val + j.val) (keyAt (grp i n) q) := by
    intro n hn q
    have hn := mem_range.1 hn
    unfold wgt
    cases n with
    | zero =>
      rw [s0, show grp i 0 = own i from if_pos rfl]
      split
      · exact ew_coe _
      · exact ew_bot 0
    | succ n =>
      rw [s1, show grp i (n + 1) = n from (if_neg n.succ_ne_zero).trans rfl, ew_coe, if_pos]
      simp only [keyAt]; omega
  have hz : ∀ k : Fin 16384, 512 * (i 1).val + j.val < k.val → wgt X (512 * (i 1).val + j.val) k = 0 := fun k hk => if_neg (by omega)
  rw [← sum_groups i (fun k => W k * wgt X (512 * (i 1).val + j.val) k) (512 * (i 1).val + j.val) (by omega) (fun k hk => by rw [hz k hk, mul_zero]),
    ← sum_groups i (fun k => wgt X (512 * (i 1).val + j.val) k) (512 * (i 1).val + j.val) (by omega) hz]
  refine congrArg _ (congr_arg₂ (· / ·) ?_ ?_)
  · exact sum_congr rfl fun n hn => sum_congr rfl fun q _ => by rw [hw n hn]
  · exact sum_congr rfl fun n hn => sum_congr rfl fun q _ => hw n hn q

end Cert.Diff
-- ==== Proof.Diff.Spec.lean ====
/- What both programs compute, in the real numbers: two causal softmax means of the values, the second taken from the first
   with a weight, and the difference normed over its 128 entries. -/
module

public import Idealize.ShloMosaic.PureOps.Ideal

@[expose] public section

noncomputable section

namespace Cert.Diff

open Idealize.ShloMosaic

/-- The call's arrays as real numbers: the queries and keys of the two maps, by head, position and entry, and the values. -/
structure Reals where
  Q : Fin 2 → Fin 4 → Fin 16384 → Fin 64 → ℝ
  K : Fin 2 → Fin 4 → Fin 16384 → Fin 64 → ℝ
  W : Fin 4 → Fin 16384 → Fin 128 → ℝ

/-- The product of a query and a key. -/
def Reals.dot (A : Reals) (p : Fin 2) (h : Fin 4) (q k : Fin 16384) : ℝ := ∑ r, A.Q p h q r * A.K p h k r
/-- The weight of a key for a query: exp of an eighth of their product, and nothing after the query. -/
def Reals.wt (A : Reals) (p : Fin 2) (h : Fin 4) (q k : Fin 16384) : ℝ := if k.val ≤ q.val then Real.exp (A.dot p h q k / 8) else 0
/-- A map's mean of the values. -/
def Reals.mean (A : Reals) (p : Fin 2) (h : Fin 4) (q : Fin 16384) (d : Fin 128) : ℝ := (∑ k, A.W h k d * A.wt p h q k) / ∑ k, A.wt p h q k
/-- The difference of the two. -/
def Reals.diff (A : Reals) (lam : ℝ) (h : Fin 4) (q : Fin 16384) (d : Fin 128) : ℝ := A.mean 0 h q d - lam * A.mean 1 h q d

theorem Reals.wt_nonneg (A : Reals) (p h q k) : 0 ≤ A.wt p h q k := by
  unfold Reals.wt; split
  · exact (Real.exp_pos _).le
  · exact le_rfl
theorem Reals.sum_pos (A : Reals) (p h q) : 0 < ∑ k, A.wt p h q k :=
  Finset.sum_pos' (fun k _ => A.wt_nonneg p h q k) ⟨0, Finset.mem_univ _, by unfold Reals.wt; rw [if_pos (show (0 : Fin 16384).val ≤ q.val from Nat.zero_le _)]; exact Real.exp_pos _⟩

/-- The norm's factor of a row, and a normed entry with its gain. -/
def rms (D : Fin 128 → EReal) : EReal :=
  Ideal.rsqrt (Ideal.div (∑ d, D d * D d) (Ideal.ofBits .f32 0x43000000#32) + Ideal.ofBits .f32 0x358637BD#32)
def normed (D : Fin 128 → EReal) (g : EReal) (d : Fin 128) : EReal := D d * rms D * g * Ideal.ofBits .f32 0x3F4CCCCD#32

/-- Lambda, from its four vectors. -/
def lamE (w x y z : Fin 64 → EReal) : EReal :=
  Ideal.exp (∑ k, w k * x k) - Ideal.exp (∑ k, y k * z k) + Ideal.ofBits .f32 0x3E4CCCCD#32

/-- 2 to a score in the scale of 2 is exp of an eighth of the product. -/
theorem two_rpow (x : ℝ) : (2 : ℝ) ^ (x * (1 / 8 * (Real.log 2)⁻¹)) = Real.exp (x / 8) := by
  rw [Real.rpow_def_of_pos two_pos]
  have h : Real.log 2 ≠ 0 := (Real.log_pos one_lt_two).ne'
  congr 1
  field_simp

end Cert.Diff
-- ==== Proof.Diff.Tile.lean ====
/- A tile's output at an index. -/
module

public import proofs.«01_k».proof.Proof.Diff.Arrays
public import proofs.«01_k».proof.Proof.Diff.Mean
public import proofs.«01_k».proof.Proof.Diff.Spec

@[expose] public section

noncomputable section

namespace Cert.Diff

open Cert.KernelIdeal Cert.KernelIdeal.Gen Idealize.ShloMosaic Idealize.ShloMosaic.TcCoe Finset

theorem normOf_apply (D : S128x512.Idx → EReal) (g : S1x128.Idx → EReal) (r : Fin 512) (d : Fin 128) :
    (normOf (F := Ideal) D g : S512x128.Idx → EReal) (ix2 r d) = normed (fun e => D (ix2 e r)) (g (ix2 0 d)) d := by
  refine (show _ = D (ix2 d r) * (rms (fun e => D (ix2 e r)) * Ideal.ofBits .f32 0x3F4CCCCD#32) * g (ix2 0 d) from ?_).trans ?_
  · unfold normOf rms
    pointwise
  · unfold normed
    generalize rms _ = a
    dsimp only
    ac_rfl
theorem lamOf_apply (w x y z : S1x64.Idx → EReal) :
    (lamOf (F := Ideal) w x y z : S1x1.Idx → EReal) (ix2 0 0)
      = lamE (fun k => w (ix2 0 k)) (fun k => x (ix2 0 k)) (fun k => y (ix2 0 k)) (fun k => z (ix2 0 k)) := by
  unfold lamOf expDot lamE
  pointwise
theorem diffOf_apply (lam : S1x1.Idx → EReal) (u v : S128x512.Idx → EReal) (d : Fin 128) (r : Fin 512) :
    (diffOf (F := Ideal) lam u v : S128x512.Idx → EReal) (ix2 d r) = u (ix2 d r) - lam (ix2 0 0) * v (ix2 d r) := by
  unfold diffOf
  pointwise

/-- A sum over 128 entries in which one half is against zeros. -/
theorem sum_lo (k y : Fin 128 → EReal) (s : EReal) :
    ∑ c : Fin 128, k c * (if c.val < 64 then y c * s else 0) = ∑ r : Fin 64, k ⟨r.val, by omega⟩ * (y ⟨r.val, by omega⟩ * s) := by
  refine (Fin.sum_univ_add (a := 64) (b := 64) (fun c : Fin (64 + 64) => k c * (if c.val < 64 then y c * s else 0))).trans ?_
  refine (congrArg (_ + ·) (sum_eq_zero fun r _ => by rw [if_neg (by simp), mul_zero])).trans ((add_zero _).trans ?_)
  exact sum_congr rfl fun r _ => by rw [if_pos (by simp)]; rfl
theorem sum_hi (k y : Fin 128 → EReal) (s : EReal) :
    ∑ c : Fin 128, k c * (if c.val < 64 then 0 else y c * s) = ∑ r : Fin 64, k ⟨64 + r.val, by omega⟩ * (y ⟨64 + r.val, by omega⟩ * s) := by
  refine (Fin.sum_univ_add (a := 64) (b := 64) (fun c : Fin (64 + 64) => k c * (if c.val < 64 then 0 else y c * s))).trans ?_
  refine (congrArg (· + _) (sum_eq_zero fun r _ => by rw [if_pos (by simp), mul_zero])).trans ((zero_add _).trans ?_)
  exact sum_congr rfl fun r _ => by rw [if_neg (by simp)]; rfl
/-- A score in real numbers. -/
theorem score_coe (a b : Fin 64 → ℝ) (s : ℝ) : ∑ r, (a r : EReal) * ((b r : EReal) * (s : EReal)) = (((∑ r, b r * a r) * s : ℝ) : EReal) := by
  rw [sum_mul, coe_sum]
  exact sum_congr rfl fun r _ => by rw [← EReal.coe_mul, ← EReal.coe_mul]; congr 1; ring

variable (m : (ℓ : Loc nD τ sig) → Buf (Elt Ideal) ℓ) (c : Dev nD)

/-- The windows of lambda's vectors and of the gains are the whole rows. -/
theorem row4 (t : Fin cfg0.N) (k : Fin 64) : (iblk m c 4 t : S1x64.Idx → EReal) (ix2 0 k) = (m (c, main_arg5) : S64.Idx → EReal) (ix1 k) := by
  refine (show _ = (V m c main_v22 : S1x64.Idx → EReal) (ix2 0 k) from ?_).trans (V_22 m c k)
  unfold iblk
  show V m c main_v22 _ = V m c main_v22 _
  congr 1
  have e := (by decide +kernel : ∀ t : Fin grid0.N, win0_4.index t = ![0, 0]) t
  funext a; apply Fin.ext
  fin_cases a
  · blk_simp; rw [e]; rfl
  · blk_simp; rw [e]; exact (congrArg (· + k.val) (Nat.zero_mul _)).trans (Nat.zero_add _)
theorem row5 (t : Fin cfg0.N) (k : Fin 64) : (iblk m c 5 t : S1x64.Idx → EReal) (ix2 0 k) = (m (c, main_arg6) : S64.Idx → EReal) (ix1 k) := by
  refine (show _ = (V m c main_v23 : S1x64.Idx → EReal) (ix2 0 k) from ?_).trans (V_23 m c k)
  unfold iblk
  show V m c main_v23 _ = V m c main_v23 _
  congr 1
  have e := (by decide +kernel : ∀ t : Fin grid0.N, win0_5.index t = ![0, 0]) t
  funext a; apply Fin.ext
  fin_cases a
  · blk_simp; rw [e]; rfl
  · blk_simp; rw [e]; exact (congrArg (· + k.val) (Nat.zero_mul _)).trans (Nat.zero_add _)
theorem row6 (t : Fin cfg0.N) (k : Fin 64) : (iblk m c 6 t : S1x64.Idx → EReal) (ix2 0 k) = (m (c, main_arg7) : S64.Idx → EReal) (ix1 k) := by
  refine (show _ = (V m c main_v24 : S1x64.Idx → EReal) (ix2 0 k) from ?_).trans (V_24 m c k)
  unfold iblk
  show V m c main_v24 _ = V m c main_v24 _
  congr 1
  have e := (by decide +kernel : ∀ t : Fin grid0.N, win0_6.index t = ![0, 0]) t
  funext a; apply Fin.ext
  fin_cases a
  · blk_simp; rw [e]; rfl
  · blk_simp; rw [e]; exact (congrArg (· + k.val) (Nat.zero_mul _)).trans (Nat.zero_add _)
theorem row7 (t : Fin cfg0.N) (k : Fin 64) : (iblk m c 7 t : S1x64.Idx → EReal) (ix2 0 k) = (m (c, main_arg8) : S64.Idx → EReal) (ix1 k) := by
  refine (show _ = (V m c main_v25 : S1x64.Idx → EReal) (ix2 0 k) from ?_).trans (V_25 m c k)
  unfold iblk
  show V m c main_v25 _ = V m c main_v25 _
  congr 1
  have e := (by decide +kernel : ∀ t : Fin grid0.N, win0_7.index t = ![0, 0]) t
  funext a; apply Fin.ext
  fin_cases a
  · blk_simp; rw [e]; rfl
  · blk_simp; rw [e]; exact (congrArg (· + k.val) (Nat.zero_mul _)).trans (Nat.zero_add _)
theorem row8 (t : Fin cfg0.N) (k : Fin 128) : (iblk m c 8 t : S1x128.Idx → EReal) (ix2 0 k) = (m (c, main_arg9) : S128.Idx → EReal) (ix1 k) := by
  refine (show _ = (V m c main_v26 : S1x128.Idx → EReal) (ix2 0 k) from ?_).trans (V_26 m c k)
  unfold iblk
  show V m c main_v26 _ = V m c main_v26 _
  congr 1
  have e := (by decide +kernel : ∀ t : Fin grid0.N, win0_8.index t = ![0, 0]) t
  funext a; apply Fin.ext
  fin_cases a
  · blk_simp; rw [e]; rfl
  · blk_simp; rw [e]; exact (congrArg (· + k.val) (Nat.zero_mul _)).trans (Nat.zero_add _)

/-- The arguments are the real numbers of `A`, and lambda is `lam`. -/
structure Given (A : Reals) (lam : ℝ) : Prop where
  q : ∀ p h s r, argQ m c p (ix4 0 h s r) = (A.Q p h s r : EReal)
  k : ∀ p h s r, argK m c p (ix4 0 h s r) = (A.K p h s r : EReal)
  v : ∀ h s d, argV m c (ix4 0 h s d) = (A.W h s d : EReal)
  l : lamE (fun j => (m (c, main_arg5) : S64.Idx → EReal) (ix1 j)) (fun j => (m (c, main_arg6) : S64.Idx → EReal) (ix1 j))
    (fun j => (m (c, main_arg7) : S64.Idx → EReal) (ix1 j)) (fun j => (m (c, main_arg8) : S64.Idx → EReal) (ix1 j)) = (lam : EReal)

variable {m c} {A : Reals} {lam : ℝ} (G : Given m c A lam)

/-- A point's head, and the position of one of its queries. -/
def headAt (t : Fin cfg0.N) : Fin 4 := ⟨t.val / 32, by have : t.val < 128 := Nat.lt_of_lt_of_eq t.isLt N_0; omega⟩
def posAt (t : Fin cfg0.N) (j : Fin 512) : Fin 16384 := ⟨t.val % 32 * 512 + j.val, by omega⟩

include G in
theorem scores_at (t : Fin cfg0.N) (p : Fin 2) (j : Fin 512) (k : Fin 16384) :
    ∑ e : Fin 128, (kAt m c t : S16384x128.Idx → EReal) (ix2 k e) * ((qmaps (F := Ideal) (qAt m c t)).q p : S128x512.Idx → EReal) (ix2 e j)
      = ((A.dot p (headAt t) (posAt t j) k * (1 / 8 * (Real.log 2)⁻¹) : ℝ) : EReal) := by
  have hN : t.val < 128 := Nat.lt_of_lt_of_eq t.isLt N_0
  have hk : ∀ e : Fin 128, (kAt m c t : S16384x128.Idx → EReal) (ix2 k e) = (V m c main_v21 : S16384x1536.Idx → EReal) (ix2 k ⟨(2 + t.val / 32) * 128 + e.val, by omega⟩) :=
    fun e => iblk2_apply m c t (ix2 k e) (ix2 k ⟨(2 + t.val / 32) * 128 + e.val, by omega⟩) rfl rfl
  have hq : ∀ e : Fin 128, (qAt m c t : S128x512.Idx → EReal) (ix2 e j) = (V m c main_v15 : S768x16384.Idx → EReal) (ix2 ⟨(2 + t.val / 32) * 128 + e.val, by omega⟩ (posAt t j)) :=
    fun e => iblk0_apply m c t (ix2 e j) (ix2 ⟨(2 + t.val / 32) * 128 + e.val, by omega⟩ (posAt t j)) rfl rfl
  rw [Reals.dot, ← score_coe]
  obtain rfl | rfl : p = 0 ∨ p = 1 := by omega
  · simp only [q0_apply]
    rw [sum_lo (fun e => (kAt m c t : S16384x128.Idx → EReal) (ix2 k e)) (fun e => (qAt m c t : S128x512.Idx → EReal) (ix2 e j))]
    refine sum_congr rfl fun r _ => ?_
    rw [hk, hq, V_k0 m c k _ (headAt t) r rfl, V_q0 m c _ (headAt t) r rfl, G.k, ← G.q]
    rfl
  · simp only [q1_apply]
    rw [sum_hi (fun e => (kAt m c t : S16384x128.Idx → EReal) (ix2 k e)) (fun e => (qAt m c t : S128x512.Idx → EReal) (ix2 e j))]
    refine sum_congr rfl fun r _ => ?_
    rw [hk, hq, V_k1 m c k _ (headAt t) r (by show _ + (64 + r.val) = _; exact (Nat.add_assoc _ _ _).symm),
      V_q1 m c _ (headAt t) r (by show _ + (64 + r.val) = _; exact (Nat.add_assoc _ _ _).symm), G.k, ← G.q]
    rfl

include G in
theorem mean_at (t : Fin cfg0.N) (p : Fin 2) (j : Fin 512) (d : Fin 128) :
    (meanA (F := Ideal) (seqA (fsOf (F := Ideal) (grid0.coords t) (kAt m c t) (qAt m c t)) (vsOf (F := Ideal) (grid0.coords t) (vAt m c t)) (own (grid0.coords t) + 1) p)
      : S128x512.Idx → EReal) (ix2 d j) = (A.mean p (headAt t) (posAt t j) d : EReal) := by
  have hN : t.val < 128 := Nat.lt_of_lt_of_eq t.isLt N_0
  have hv : ∀ k, (vAt m c t : S128x16384.Idx → EReal) (ix2 d k) = (A.W (headAt t) k d : EReal) := fun k => by
    refine (iblk3_apply m c t (ix2 d k) (ix2 ⟨(2 + t.val / 32) * 128 + d.val, by omega⟩ k) rfl rfl).trans ?_
    exact (V_v m c _ (headAt t) d rfl).trans (G.v _ _ _)
  rw [mean_eq (scores_at G t p j) hv]
  have hw : ∀ k, wgt (fun k => A.dot p (headAt t) (posAt t j) k * (1 / 8 * (Real.log 2)⁻¹)) (512 * (grid0.coords t 1).val + j.val) k = A.wt p (headAt t) (posAt t j) k := by
    intro k
    unfold wgt Reals.wt
    rw [two_rpow, coord1, show (posAt t j).val = 512 * (t.val % 32) + j.val by show t.val % 32 * 512 + _ = _; omega]
  simp only [hw]
  rfl

include G in
/-- A tile's output: the normed difference. -/
theorem out_at (t : Fin cfg0.N) (j : Fin 512) (d : Fin 128) :
    (outAt m c t : S512x128.Idx → EReal) (ix2 j d)
      = normed (fun e => (A.diff lam (headAt t) (posAt t j) e : EReal)) ((m (c, main_arg9) : S128.Idx → EReal) (ix1 d)) d := by
  unfold outAt outOf
  rw [normOf_apply, row8]
  congr 1
  funext e
  rw [diffOf_apply, lamOf_apply, mean_at G, mean_at G]
  simp only [row4, row5, row6, row7]
  rw [G.l, ← EReal.coe_mul, ← EReal.coe_sub]
  rfl

end Cert.Diff
-- ==== Proof.Diff.Out.lean ====
/- The kernel's result: the tiles' outputs, each in its place. -/
module

public import proofs.«01_k».proof.Proof.Diff.Tile

@[expose] public section

noncomputable section

namespace Cert.Diff

open Cert.KernelIdeal Cert.KernelIdeal.Gen Idealize.ShloMosaic Idealize.ShloMosaic.TcCoe Idealize.SL.Sem

/-- The head a column of the result belongs to, and the column's place in the head. -/
def colHead (z : S16384x512.Idx) : Fin 4 := ⟨(z 1).val / 128, by have : (z 1).val < 512 := (z 1).isLt; omega⟩
def colEntry (z : S16384x512.Idx) : Fin 128 := ⟨(z 1).val % 128, Nat.mod_lt _ (by omega)⟩
/-- The result: each position's normed difference, head by head. -/
def result (A : Reals) (lam : ℝ) (g : S128.Idx → EReal) : S16384x512.Idx → EReal := fun z =>
  normed (fun e => (A.diff lam (colHead z) (z 0) e : EReal)) (g (ix1 (colEntry z))) (colEntry z)

theorem index9 : ∀ t : Fin cfg0.N, win0_9.index t = ![t.val % 32, t.val / 32] :=
  (by decide +kernel : ∀ t : Fin grid0.N, win0_9.index t = ![t.val % 32, t.val / 32])

variable {m : (ℓ : Loc nD τ sig) → Buf (Elt Ideal) ℓ} {c : Dev nD} {A : Reals} {lam : ℝ}

/-- A tile's output, where it lies in the result. -/
theorem out_result (G : Given m c A lam) (t : Fin cfg0.N) (y : S512x128.Idx) (z : S16384x512.Idx) (h0 : (z 0).val = t.val % 32 * 512 + (y 0).val)
    (h1 : (z 1).val = t.val / 32 * 128 + (y 1).val) :
    (outAt m c t : S512x128.Idx → EReal) y = result A lam (m (c, main_arg9) : S128.Idx → EReal) z := by
  have hy : (y 1).val < 128 := (y 1).isLt
  have e1 : colHead z = headAt t := Fin.ext (by show (z 1).val / 128 = t.val / 32; omega)
  have e2 : colEntry z = y 1 := Fin.ext (by show (z 1).val % 128 = (y 1).val; omega)
  have e3 : z 0 = posAt t (y 0) := Fin.ext h0
  unfold result
  rw [e1, e2, e3, ← out_at G t (y 0) (y 1)]
  exact congrArg (outAt m c t : S512x128.Idx → EReal) (funext fun a => by fin_cases a <;> rfl)

theorem final (G : Given m c A lam) : (dats m 0 c).arrAt 9 cfg0.N = result A lam (m (c, main_arg9) : S128.Idx → EReal) := by
  refine (dats m 0 c).arrAt_eq_of_covers 9 _ (by decide +kernel) fun t hf y => ?_
  blk_simp
  rw [after0_9]
  have e := index9 t
  refine out_result G t y _ ?_ ?_
  · blk_simp; rw [e]; rfl
  · blk_simp; rw [e]; rfl

/-- The program runs to the result, its arguments unchanged. -/
theorem run_result (m : (ℓ : Loc nD τ sig) → Buf (Elt Ideal) ℓ) (ρ : Dev nD → PrngReg) (A : Dev nD → Reals) (lam : Dev nD → ℝ)
    (G : ∀ c, Given m c (A c) (lam c)) :
    θ_run defs (onTc (τ := τ) (main (F := Ideal))) ⟨m, fun _ => 0, ρ⟩ (fun r => ∀ c : Dev nD,
      r.2.mem ((c.tc : Thread nD τ).loc main_v27) = result (A c) (lam c) (m (c, main_arg9) : S128.Idx → EReal)) :=
  (θ_run defs _ _).mono (fun _ h c => (h.out_eq c 9).trans (final (G c))) (run_main m ρ)

end Cert.Diff
-- ==== Proof.Diff.RefText.lean ====
/- The reference's result as a chain of whole-array steps. -/
module

public import proofs.«01_k».proof.Proof.Gen.ReferenceIdeal.Run

@[expose] public section

noncomputable section

namespace Cert.Diff

open Cert.ReferenceIdeal Cert.ReferenceIdeal.Gen Cert.ReferenceIdeal.Value Idealize.ShloMosaic Idealize.ShloMosaic.TcCoe

variable {F : FTy → Type} [FloatOps F]

/-! ## The reference's steps on whole arrays -/

/-- The masked scores of two arrays of queries and keys. -/
def scoreT (Q K : FVec F S1x4x16384x64 .f32) : FVec F S1x4x16384x16384 .f32 :=
  select (broadcastInDim S1x4x16384x16384 ![2, 3] bcast_S16384x16384_S1x4x16384x16384_2_3
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (mulf (Host.dotGeneral dot_S1x4x16384x64_S1x4x16384x64_S1x4x16384x16384_3_3_2_2_01_01 none Q K)
      (broadcastInDim S1x4x16384x16384 ![] bcast_S_S1x4x16384x16384 (constant S_ .f32 0x3E000000#32)))
    (broadcastInDim S1x4x16384x16384 ![] bcast_S_S1x4x16384x16384 (id (constant S_ .f32 0xFF800000#32)))
/-- One number per row, spread over the row. -/
def spreadT (r : FVec F S1x4x16384 .f32) : FVec F S1x4x16384x16384 .f32 :=
  broadcastInDim S1x4x16384x16384 ![0, 1, 2, 3] bcast_S1x4x16384x1_S1x4x16384x16384_0_1_2_3 (broadcastInDim S1x4x16384x1 ![0, 1, 2] bcast_S1x4x16384_S1x4x16384x1_0_1_2 r)
/-- The rows' maxima. -/
def maxT (s : FVec F S1x4x16384x16384 .f32) : FVec F S1x4x16384 .f32 :=
  maximumf (broadcastInDim S1x4x16384 ![] bcast_S_S1x4x16384 (constant S_ .f32 0xFF800000#32))
    (Host.reduce FloatOps.maximumf s (constant S_ .f32 0xFF800000#32) reducesTo_S1x4x16384x16384_S1x4x16384_d3 h_S_)
/-- The rows' exps, and their softmax. -/
def expT (s : FVec F S1x4x16384x16384 .f32) : FVec F S1x4x16384x16384 .f32 := Host.exp (subf s (spreadT (maxT s)))
def softT (s : FVec F S1x4x16384x16384 .f32) : FVec F S1x4x16384x16384 .f32 :=
  Host.divf (expT s) (spreadT (Host.reduceAdd (expT s) (constant S_ .f32 0x00000000#32) reducesTo_S1x4x16384x16384_S1x4x16384_d3 h_S_))
/-- Lambda, and the difference of two softmaxes against the values. -/
def lamT (w x y z : FVec F S64 .f32) : FVec F S_ .f32 :=
  addf (subf (Host.exp (Host.reduceAdd (mulf w x) (constant S_ .f32 0x00000000#32) reducesTo_S64_S_d0 h_S_))
    (Host.exp (Host.reduceAdd (mulf y z) (constant S_ .f32 0x00000000#32) reducesTo_S64_S_d0 h_S_))) (constant S_ .f32 0x3E4CCCCD#32)
def diffT (s1 s2 : FVec F S1x4x16384x16384 .f32) (lam : FVec F S_ .f32) (v : FVec F S1x4x16384x128 .f32) : FVec F S1x4x16384x128 .f32 :=
  Host.dotGeneral dot_S1x4x16384x16384_S1x4x16384x128_S1x4x16384x128_3_2_2_3_01_01 none
    (subf s1 (mulf (broadcastInDim S1x4x16384x16384 ![] bcast_S_S1x4x16384x16384 lam) s2)) v
/-- The norm, its gains, and the order of the output. -/
def normT (D : FVec F S1x4x16384x128 .f32) (g : FVec F S128 .f32) : FVec F S16384x512 .bf16 :=
  truncf .bf16 (shapeCast S16384x512 (transpose S1x16384x4x128 [0, 2, 1, 3]
    (mulf (mulf (mulf D (broadcastInDim S1x4x16384x128 ![0, 1, 2, 3] bcast_S1x4x16384x1_S1x4x16384x128_0_1_2_3
      (Host.rsqrt (addf (Host.divf (broadcastInDim S1x4x16384x1 ![0, 1, 2] bcast_S1x4x16384_S1x4x16384x1_0_1_2
          (Host.reduceAdd (mulf D D) (constant S_ .f32 0x00000000#32) reducesTo_S1x4x16384x128_S1x4x16384_d3 h_S_))
        (broadcastInDim S1x4x16384x1 ![] bcast_S_S1x4x16384x1 (constant S_ .f32 0x43000000#32)))
        (broadcastInDim S1x4x16384x1 ![] bcast_S_S1x4x16384x1 (constant S_ .f32 0x358637BD#32))))))
      (broadcastInDim S1x4x16384x128 ![0, 1, 2, 3] bcast_S1x1x1x128_S1x4x16384x128_0_1_2_3 (broadcastInDim S1x1x1x128 ![3] bcast_S128_S1x1x1x128_3 g)))
      (broadcastInDim S1x4x16384x128 ![] bcast_S_S1x4x16384x128 (constant S_ .f32 0x3F4CCCCD#32)))
    transposes_S1x4x16384x128_S1x16384x4x128_0_2_1_3) shapeCasts_S1x16384x4x128_S16384x512) bitsLt_bf16_f32

/-- The reference's result, step by step. -/
def refT (m : (ℓ : Loc nD τ sig) → Buf (Elt F) ℓ) (c : Dev nD) : FVec F S16384x512 .bf16 :=
  normT (diffT (softT (scoreT (m (c.tc.loc main_arg0)) (m (c.tc.loc main_arg2)))) (softT (scoreT (m (c.tc.loc main_arg1)) (m (c.tc.loc main_arg3))))
    (lamT (m (c.tc.loc main_arg5)) (m (c.tc.loc main_arg6)) (m (c.tc.loc main_arg7)) (m (c.tc.loc main_arg8))) (m (c.tc.loc main_arg4))) (m (c.tc.loc main_arg9))

theorem res_eq (m : (ℓ : Loc nD τ sig) → Buf (Elt F) ℓ) (c : Dev nD) : res_main_v65 m c = refT m c := by
  unfold res_main_v65 refT normT diffT softT expT maxT spreadT scoreT lamT; rfl

end Cert.Diff
-- ==== Proof.Diff.Ref.lean ====
/- The reference at an index: the normed difference of the same two means. -/
module

public import proofs.«01_k».proof.Proof.Diff.RefText
public import proofs.«01_k».proof.Proof.Diff.Spec
public import proofs.«01_k».proof.Proof.Diff.Mean
public import Idealize.ShloMosaic.Lib.Pointwise

@[expose] public section

noncomputable section

namespace Cert.Diff

open Cert.ReferenceIdeal Cert.ReferenceIdeal.Gen Idealize.ShloMosaic Idealize.ShloMosaic.TcCoe Finset

/-! ## The steps at an index -/

/-- The reference's score of a key for a query, masked after the query; the maximum of a row of scores; a row's softmax. -/
def rscore (Q K : S1x4x16384x64.Idx → EReal) (h : Fin 4) (q k : Fin 16384) : EReal :=
  Scalar.select (IntOp.cmpi .sle (BitVec.ofNat 32 k.val) (BitVec.ofNat 32 q.val))
    ((∑ r : Fin 64, Q (ix4 0 h q r) * K (ix4 0 h k r)) * Ideal.ofBits .f32 0x3E000000#32) (Ideal.ofBits .f32 0xFF800000#32)
def rmax (s : Fin 16384 → EReal) : EReal := max (Ideal.ofBits .f32 0xFF800000#32) (Finset.fold max (Ideal.ofBits .f32 0xFF800000#32) s univ)
def rsoft (s : Fin 16384 → EReal) (k : Fin 16384) : EReal := Ideal.div (Ideal.exp (s k - rmax s)) (∑ x, Ideal.exp (s x - rmax s))
theorem scoreT_apply (Q K : S1x4x16384x64.Idx → EReal) (h : Fin 4) (q k : Fin 16384) :
    (scoreT (F := Ideal) Q K : S1x4x16384x16384.Idx → EReal) (ix4 0 h q k) = rscore Q K h q k := by
  unfold scoreT rscore; pointwise
  exact congrArg (Scalar.select _ _) rfl
theorem spreadT_apply (r : S1x4x16384.Idx → EReal) (h : Fin 4) (q k : Fin 16384) :
    (spreadT (F := Ideal) r : S1x4x16384x16384.Idx → EReal) (ix4 0 h q k) = r (ix3 0 h q) := by
  unfold spreadT; pointwise
/-- A row's index with the key's put back. -/
theorem lift_row {a b c n : ℕ} (h : (⟨4, ![a, b, c, n]⟩ : Shape).Reduces [3] (⟨3, ![a, b, c]⟩ : Shape)) (x : Fin a) (y : Fin b) (z : Fin c)
    (k : Fin ((⟨4, ![a, b, c, n]⟩ : Shape).size 3)) : h.lift (ix3 x y z) k = ix4 x y z (⟨k.val, k.isLt⟩ : Fin n) := by
  funext e; apply Fin.ext
  fin_cases e <;> rfl
/-- The maximum of a row, of any length. -/
theorem max_row {a b c n : ℕ} (s : FVec Ideal (⟨4, ![a, b, c, n]⟩ : Shape) .f32) (v : FVec Ideal (⟨0, ![]⟩ : Shape) .f32)
    (h' : (⟨4, ![a, b, c, n]⟩ : Shape).ReducesTo [3] (⟨3, ![a, b, c]⟩ : Shape)) (h : (⟨4, ![a, b, c, n]⟩ : Shape).Reduces [3] (⟨3, ![a, b, c]⟩ : Shape))
    (hu : 0 < (⟨0, ![]⟩ : Shape).numel) (x : Fin a) (y : Fin b) (z : Fin c) :
    Host.reduce FloatOps.maximumf s v h' hu (ix3 x y z)
      = Finset.fold (max : EReal → EReal → EReal) (v (Shape.Idx.first hu)) (fun k : Fin n => s (ix4 x y z k)) univ := by
  rw [Host.reduce_eq_fold_single FloatOps.maximumf s _ h' h hu]
  have hf : (s ∘ h.lift (ix3 x y z)) = fun k : Fin n => s (ix4 x y z k) := funext fun k => congrArg s (lift_row h x y z k)
  exact congrArg (fun f => Finset.fold max (v (Shape.Idx.first hu)) f (univ : Finset (Fin n))) hf
theorem maxT_apply (s : S1x4x16384x16384.Idx → EReal) (h : Fin 4) (q : Fin 16384) :
    (maxT (F := Ideal) s : S1x4x16384.Idx → EReal) (ix3 0 h q) = rmax fun k => s (ix4 0 h q k) := by
  unfold maxT rmax
  rw [maximumf_apply, max_row s _ _ (by decide)]
  exact congr_arg₂ max rfl rfl
theorem expT_apply (s : S1x4x16384x16384.Idx → EReal) (h : Fin 4) (q k : Fin 16384) :
    (expT (F := Ideal) s : S1x4x16384x16384.Idx → EReal) (ix4 0 h q k) = Ideal.exp (s (ix4 0 h q k) - rmax fun k => s (ix4 0 h q k)) := by
  rw [← maxT_apply, ← spreadT_apply (maxT (F := Ideal) s) h q k]; rfl
theorem sumT_apply (s : S1x4x16384x16384.Idx → EReal) (h : Fin 4) (q : Fin 16384) :
    (Host.reduceAdd (F := Ideal) (φ := .f32) s (constant S_ .f32 0x00000000#32) reducesTo_S1x4x16384x16384_S1x4x16384_d3 h_S_ : S1x4x16384.Idx → EReal) (ix3 0 h q)
      = ∑ k, s (ix4 0 h q k) := by
  pointwise
theorem div_eq (a b : EReal) : FloatOps.hostDivf (F := Ideal) (φ := .f32) a b = Ideal.div a b := rfl
theorem softT_apply (s : S1x4x16384x16384.Idx → EReal) (h : Fin 4) (q k : Fin 16384) :
    (softT (F := Ideal) s : S1x4x16384x16384.Idx → EReal) (ix4 0 h q k) = rsoft (fun k => s (ix4 0 h q k)) k := by
  unfold softT rsoft
  rw [Host.divf_apply, spreadT_apply, sumT_apply]
  simp only [expT_apply]
  exact div_eq _ _
theorem lamT_apply (w x y z : S64.Idx → EReal) : (lamT (F := Ideal) w x y z : S_.Idx → EReal) ix0
    = lamE (fun k => w (ix1 k)) (fun k => x (ix1 k)) (fun k => y (ix1 k)) (fun k => z (ix1 k)) := by
  unfold lamT lamE; pointwise
theorem diffT_apply (s1 s2 : S1x4x16384x16384.Idx → EReal) (lam : S_.Idx → EReal) (v : S1x4x16384x128.Idx → EReal) (h : Fin 4) (q : Fin 16384) (d : Fin 128) :
    (diffT (F := Ideal) s1 s2 lam v : S1x4x16384x128.Idx → EReal) (ix4 0 h q d)
      = ∑ k : Fin 16384, (s1 (ix4 0 h q k) - lam ix0 * s2 (ix4 0 h q k)) * v (ix4 0 h k d) := by
  unfold diffT; pointwise
theorem normT_apply (D : S1x4x16384x128.Idx → EReal) (g : S128.Idx → EReal) (j : S16384x512.Idx) (h : Fin 4) (d : Fin 128) (hj : (j 1).val = h.val * 128 + d.val) :
    (normT (F := Ideal) D g : S16384x512.Idx → EReal) j = normed (fun e => D (ix4 0 h (j 0) e)) (g (ix1 d)) d := by
  have e1 : (⟨(j 1).val / 128, by omega⟩ : Fin 4) = h := Fin.ext (by show (j 1).val / 128 = h.val; omega)
  have e2 : (⟨(j 1).val % 128, by omega⟩ : Fin 128) = d := Fin.ext (by show (j 1).val % 128 = d.val; omega)
  unfold normT normed rms
  pointwise
  simp only [e1, e2]

end Cert.Diff
-- ==== Proof.Diff.RefMean.lean ====
/- The reference on real queries, keys and values: its softmax's quotients are the weights over their sum, and its product
   with the values is the difference of the two means. -/
module

public import proofs.«01_k».proof.Proof.Diff.Ref
public import proofs.«01_k».proof.Proof.Diff.Online
public import proofs.«01_k».proof.Proof.Diff.Read

@[expose] public section

noncomputable section

namespace Cert.Diff

open Idealize.ShloMosaic Finset

theorem eighth_eq : Ideal.ofBits .f32 0x3E000000#32 = ((1 / 8 : ℝ) : EReal) := by
  simp [Ideal.ofBits, Ideal.ieee, -EReal.coe_mul, zpow_neg]; norm_num
/-- A choice by two words' order is one by the numbers'. -/
theorem select_sle {a b : ℕ} (ha : a < 2 ^ 31) (hb : b < 2 ^ 31) (x y : EReal) :
    Scalar.select (IntOp.cmpi .sle (BitVec.ofNat 32 a) (BitVec.ofNat 32 b)) x y = if a ≤ b then x else y := by
  have e : IntOp.cmpi .sle (BitVec.ofNat 32 a) (BitVec.ofNat 32 b) = BitVec.ofBool (decide (a ≤ b)) := by
    rw [← sle_iff ha hb]; rfl
  rw [e]
  by_cases h : a ≤ b <;> simp [Scalar.select, h]
/-- The score of real queries and keys. -/
theorem rscore_eq (A : Reals) (p : Fin 2) {Q K : (⟨4, ![1, 4, 16384, 64]⟩ : Shape).Idx → EReal}
    (hQ : ∀ h q r, Q (ix4 0 h q r) = A.Q p h q r) (hK : ∀ h k r, K (ix4 0 h k r) = A.K p h k r) (h : Fin 4) (q k : Fin 16384) :
    rscore Q K h q k = if k.val ≤ q.val then ((A.dot p h q k / 8 : ℝ) : EReal) else ⊥ := by
  have e : ∑ r : Fin 64, Q (ix4 0 h q r) * K (ix4 0 h k r) = (A.dot p h q k : EReal) := by
    unfold Reals.dot; rw [coe_sum]; exact sum_congr rfl fun r _ => by rw [hQ, hK, EReal.coe_mul]
  unfold rscore
  rw [e, eighth_eq, ninf_eq, ← EReal.coe_mul, mul_one_div]
  exact select_sle (by omega) (by omega) _ _
/-- The softmax of a row of scores. -/
theorem rsoft_eq (A : Reals) (p : Fin 2) (h : Fin 4) (q : Fin 16384) {s : Fin 16384 → EReal}
    (hs : ∀ k, s k = if k.val ≤ q.val then ((A.dot p h q k / 8 : ℝ) : EReal) else ⊥) (k : Fin 16384) :
    rsoft s k = ((A.wt p h q k / ∑ x, A.wt p h q x : ℝ) : EReal) := by
  have hM : ∃ M : ℝ, rmax s = M := by
    unfold rmax; rw [ninf_eq, max_eq_right bot_le]
    have ht : Finset.fold max ⊥ s univ ≠ ⊤ := fold_max_ne_top fun k => by
      rw [hs]; split
      · exact EReal.coe_ne_top _
      · exact bot_ne_top
    have hb : Finset.fold max ⊥ s univ ≠ ⊥ := fold_max_ne_bot (k := 0) (by
      rw [hs, if_pos (show (0 : Fin 16384).val ≤ q.val from Nat.zero_le _)]; exact EReal.coe_ne_bot _)
    exact ⟨_, (EReal.coe_toReal ht hb).symm⟩
  obtain ⟨M, hM⟩ := hM
  have he : ∀ x, Ideal.exp (s x - rmax s) = ((Real.exp (-M) * A.wt p h q x : ℝ) : EReal) := by
    intro x
    rw [hM, hs]; unfold Reals.wt
    by_cases hx : x.val ≤ q.val
    · rw [if_pos hx, if_pos hx, ← EReal.coe_sub, Ideal.exp_coe, ← Real.exp_add]
      exact congrArg (fun y : ℝ => ((Real.exp y : ℝ) : EReal)) (by ring)
    · rw [if_neg hx, if_neg hx, EReal.bot_sub, Ideal.exp_bot, mul_zero, EReal.coe_zero]
  have hp := A.sum_pos p h q
  unfold rsoft
  rw [he, sum_congr rfl fun x _ => he x, ← coe_sum, ← mul_sum, Ideal.div_coe (mul_pos (Real.exp_pos _) hp).ne', ← EReal.coe_mul]
  refine EReal.coe_eq_coe_iff.2 ?_
  have := (Real.exp_pos (-M)).ne'
  field_simp
/-- The difference of the softmaxes against the values. -/
theorem rdiff_eq (A : Reals) (lam : ℝ) (h : Fin 4) (q : Fin 16384) (d : Fin 128) {s1 s2 w : Fin 16384 → EReal} {L : EReal} (hL : L = lam)
    (h1 : ∀ k, s1 k = ((A.wt 0 h q k / ∑ x, A.wt 0 h q x : ℝ) : EReal)) (h2 : ∀ k, s2 k = ((A.wt 1 h q k / ∑ x, A.wt 1 h q x : ℝ) : EReal))
    (hw : ∀ k, w k = A.W h k d) : ∑ k, (s1 k - L * s2 k) * w k = (A.diff lam h q d : EReal) := by
  subst hL
  have e : ∀ k, (s1 k - lam * s2 k) * w k
      = (((A.wt 0 h q k / ∑ x, A.wt 0 h q x) - lam * (A.wt 1 h q k / ∑ x, A.wt 1 h q x)) * A.W h k d : ℝ) := fun k => by
    rw [h1, h2, hw, EReal.coe_mul, EReal.coe_sub, EReal.coe_mul]
  rw [sum_congr rfl fun k _ => e k, ← coe_sum]
  refine EReal.coe_eq_coe_iff.2 ?_
  unfold Reals.diff Reals.mean
  rw [sum_div, sum_div, mul_sum, ← sum_sub_distrib]
  exact sum_congr rfl fun k _ => by ring

open Cert.ReferenceIdeal in
/-- The reference's result at an entry. -/
theorem ref_at (A : Reals) (lam : ℝ) (m : (ℓ : Loc nD τ sig) → Buf (Elt Ideal) ℓ) (c : Dev nD)
    (q1 : ∀ h q r, (m ((c.tc : Thread nD τ).loc main_arg0) : S1x4x16384x64.Idx → EReal) (ix4 0 h q r) = ((A.Q 0 h q r : ℝ) : EReal))
    (q2 : ∀ h q r, (m ((c.tc : Thread nD τ).loc main_arg1) : S1x4x16384x64.Idx → EReal) (ix4 0 h q r) = ((A.Q 1 h q r : ℝ) : EReal))
    (k1 : ∀ h q r, (m ((c.tc : Thread nD τ).loc main_arg2) : S1x4x16384x64.Idx → EReal) (ix4 0 h q r) = ((A.K 0 h q r : ℝ) : EReal))
    (k2 : ∀ h q r, (m ((c.tc : Thread nD τ).loc main_arg3) : S1x4x16384x64.Idx → EReal) (ix4 0 h q r) = ((A.K 1 h q r : ℝ) : EReal))
    (v : ∀ h q r, (m ((c.tc : Thread nD τ).loc main_arg4) : S1x4x16384x128.Idx → EReal) (ix4 0 h q r) = ((A.W h q r : ℝ) : EReal))
    (l : lamE (fun k => (m ((c.tc : Thread nD τ).loc main_arg5) : S64.Idx → EReal) (ix1 k)) (fun k => (m ((c.tc : Thread nD τ).loc main_arg6) : S64.Idx → EReal) (ix1 k))
      (fun k => (m ((c.tc : Thread nD τ).loc main_arg7) : S64.Idx → EReal) (ix1 k)) (fun k => (m ((c.tc : Thread nD τ).loc main_arg8) : S64.Idx → EReal) (ix1 k)) = lam)
    (j : S16384x512.Idx) (h : Fin 4) (d : Fin 128) (hj : (j 1).val = h.val * 128 + d.val) :
    (Value.res_main_v65 m c : S16384x512.Idx → EReal) j
      = normed (fun e => (A.diff lam h (j 0) e : EReal)) ((m ((c.tc : Thread nD τ).loc main_arg9) : S128.Idx → EReal) (ix1 d)) d := by
  rw [res_eq, refT, normT_apply _ _ j h d hj]
  refine congrArg (fun D => normed D _ d) (funext fun e => ?_)
  refine (diffT_apply _ _ _ _ h (j 0) e).trans ?_
  exact rdiff_eq A lam h (j 0) e ((lamT_apply _ _ _ _).trans l) (fun k => (softT_apply _ h (j 0) k).trans (rsoft_eq A 0 h (j 0) (fun k => (scoreT_apply _ _ h (j 0) k).trans (rscore_eq A 0 q1 k1 h (j 0) k)) k))
    (fun k => (softT_apply _ h (j 0) k).trans (rsoft_eq A 1 h (j 0) (fun k => (scoreT_apply _ _ h (j 0) k).trans (rscore_eq A 1 q2 k2 h (j 0) k)) k)) (fun k => v h k e)

end Cert.Diff
-- ==== Proof.Diff.Finite.lean ====
/- The precondition at an entry: every entry of the queries, keys, values and lambda's vectors is a real number. -/
module

public import proofs.«01_k».proof.Pre_finite
public import Idealize.ShloMosaic.Lib.ReduceAll
public import Idealize.ShloMosaic.Lib.Pointwise

@[expose] public section

noncomputable section

namespace Cert.Diff

open Idealize.ShloMosaic Cert.Pre_finite

/-- The shapes' side conditions of the precondition. -/
instance finiteFacts : Cert.Pre_finite.Facts where
  bcast_S_S1x4x16384x64 := by decide
  reducesTo_S1x4x16384x64_S_d0_1_2_3 := by decide
  h_S_ := by decide
  bcast_S_S1x4x16384x128 := by decide
  reducesTo_S1x4x16384x128_S_d0_1_2_3 := by decide
  bcast_S_S64 := by decide
  reducesTo_S64_S_d0 := by decide

/-- An extended real whose absolute value is under the infinity is a real number. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

instance : Subsingleton S_.Idx := ⟨fun a b => funext fun i => i.elim0⟩

/-- An array all of whose entries pass the test holds real numbers. -/
theorem real_all {s : Shape} {axes : List (Fin s.rank)} (x : FVec Ideal s .f32) (hb : S_.BroadcastsInDim s ![]) (h : s.ReducesTo axes S_)
    (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : ∃ r : ℝ, (x i : EReal) = r :=
  real_of_lt (x i) (Host.reduce_andi_all _ _ h hu j e i)

/-- The precondition's nine arrays hold real numbers. -/
theorem real_args (a0 a1 a2 a3 : FVec Ideal S1x4x16384x64 .f32) (a4 : FVec Ideal S1x4x16384x128 .f32) (a5 a6 a7 a8 : FVec Ideal S64 .f32)
    (a9 : FVec Ideal S128 .f32) (h : Cert.Pre_finite.fn a0 a1 a2 a3 a4 a5 a6 a7 a8 a9 = fun _ => 1#1) :
    ((∀ i, ∃ r : ℝ, (a0 i : EReal) = r) ∧ (∀ i, ∃ r : ℝ, (a1 i : EReal) = r)) ∧ ((∀ i, ∃ r : ℝ, (a2 i : EReal) = r) ∧ (∀ i, ∃ r : ℝ, (a3 i : EReal) = r))
      ∧ (∀ i, ∃ r : ℝ, (a4 i : EReal) = r) ∧ (∀ i, ∃ r : ℝ, (a5 i : EReal) = r) ∧ (∀ i, ∃ r : ℝ, (a6 i : EReal) = r)
      ∧ (∀ i, ∃ r : ℝ, (a7 i : EReal) = r) ∧ (∀ i, ∃ r : ℝ, (a8 i : EReal) = r) := by
  have h := congrFun h ix0
  simp only [Cert.Pre_finite.fn, fn_part1, fn_part2] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨real_all _ _ _ _ _ h0, real_all _ _ _ _ _ h1⟩, ⟨real_all _ _ _ _ _ h2, real_all _ _ _ _ _ h3⟩, real_all _ _ _ _ _ h4,
    real_all _ _ _ _ _ h5, real_all _ _ _ _ _ h6, real_all _ _ _ _ _ h7, real_all _ _ _ _ _ h8⟩

end Cert.Diff
-- ==== Proof.Diff.Value.lean ====
/- The value claim: on finite arguments the kernel and the reference end with the same result. -/
module

public import proofs.«01_k».proof.Defs
public import proofs.«01_k».proof.Proof.Gen.KernelIdeal
public import proofs.«01_k».proof.Proof.Gen.ReferenceIdeal
public import proofs.«01_k».proof.Proof.Diff.Out
public import proofs.«01_k».proof.Proof.Diff.RefMean
public import proofs.«01_k».proof.Proof.Diff.Finite

@[expose] public section

noncomputable section

namespace Cert.Diff

open Idealize.ShloMosaic Idealize.ShloMosaic.TcCoe Idealize.SL.Sem

theorem fifth_eq : ∃ r : ℝ, Ideal.ofBits .f32 0x3E4CCCCD#32 = r := by
  refine ⟨13421773 * 2 ^ (-26 : ℤ), ?_⟩
  simp [Ideal.ofBits, Ideal.ieee, -EReal.coe_mul, zpow_neg]
/-- Lambda of real vectors is real. -/
theorem lamE_real {w x y z : Fin 64 → EReal} (hw : ∀ k, ∃ r : ℝ, w k = r) (hx : ∀ k, ∃ r : ℝ, x k = r) (hy : ∀ k, ∃ r : ℝ, y k = r)
    (hz : ∀ k, ∃ r : ℝ, z k = r) : ∃ r : ℝ, lamE w x y z = r := by
  choose w' hw using hw
  choose x' hx using hx
  choose y' hy using hy
  choose z' hz using hz
  obtain ⟨r, hr⟩ := fifth_eq
  unfold lamE
  simp only [hw, hx, hy, hz, ← EReal.coe_mul, ← coe_sum, hr, Ideal.exp_coe, ← EReal.coe_sub, ← EReal.coe_add]
  exact ⟨_, rfl⟩

open Cert.KernelIdeal in
/-- Under the precondition a device's arguments are real numbers. -/
theorem given (m : (ℓ : Loc nD τ sig) → Buf (Elt Ideal) ℓ) (hm : Cert.Pre_KernelIdeal_finite m) (c : Dev nD) :
    ∃ (A : Reals) (lam : ℝ), Given m c A lam := by
  obtain ⟨⟨h0, h1⟩, ⟨h2, h3⟩, h4, h5, h6, h7, h8⟩ := real_args _ _ _ _ _ _ _ _ _ _ (hm c)
  have hQ : ∀ p i, ∃ r : ℝ, argQ m c p i = r := fun p => by
    obtain rfl | rfl : p = 0 ∨ p = 1 := by omega
    · exact h0
    · exact h1
  have hK : ∀ p i, ∃ r : ℝ, argK m c p i = r := fun p => by
    obtain rfl | rfl : p = 0 ∨ p = 1 := by omega
    · exact h2
    · exact h3
  obtain ⟨lam, hl⟩ := lamE_real (fun k => h5 (ix1 k)) (fun k => h6 (ix1 k)) (fun k => h7 (ix1 k)) (fun k => h8 (ix1 k))
  choose Q hQ using hQ
  choose K hK using hK
  choose W hW using h4
  exact ⟨⟨fun p h q r => Q p (ix4 0 h q r), fun p h q r => K p (ix4 0 h q r), fun h q r => W (ix4 0 h q r)⟩, lam,
    { q := fun p h q r => hQ p _, k := fun p h q r => hK p _, v := fun h q r => hW _, l := hl }⟩

/-- The reference's result is the kernel's. -/
theorem ref_result {m : (ℓ : Loc KernelIdeal.nD KernelIdeal.τ KernelIdeal.sig) → Buf (Elt Ideal) ℓ} {c : Dev KernelIdeal.nD} {A : Reals} {lam : ℝ}
    (G : Given m c A lam) (m' : (ℓ : Loc ReferenceIdeal.nD ReferenceIdeal.τ ReferenceIdeal.sig) → Buf (Elt Ideal) ℓ)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6))
    (e7 : m' ((c.tc : Thread ReferenceIdeal.nD ReferenceIdeal.τ).loc ReferenceIdeal.main_arg7) = m ((c.tc : Thread KernelIdeal.nD KernelIdeal.τ).loc KernelIdeal.main_arg7))
    (e8 : m' ((c.tc : Thread ReferenceIdeal.nD ReferenceIdeal.τ).loc ReferenceIdeal.main_arg8) = m ((c.tc : Thread KernelIdeal.nD KernelIdeal.τ).loc KernelIdeal.main_arg8))
    (e9 : m' ((c.tc : Thread ReferenceIdeal.nD ReferenceIdeal.τ).loc ReferenceIdeal.main_arg9) = m ((c.tc : Thread KernelIdeal.nD KernelIdeal.τ).loc KernelIdeal.main_arg9)) :
    (ReferenceIdeal.Value.res_main_v65 m' c : KernelIdeal.S16384x512.Idx → EReal) = result A lam (m (c, KernelIdeal.main_arg9) : KernelIdeal.S128.Idx → EReal) := by
  funext j
  refine (ref_at A lam m' c (fun h q r => (congrFun e0 _).trans (G.q 0 h q r)) (fun h q r => (congrFun e1 _).trans (G.q 1 h q r))
    (fun h q r => (congrFun e2 _).trans (G.k 0 h q r)) (fun h q r => (congrFun e3 _).trans (G.k 1 h q r))
    (fun h q r => (congrFun e4 _).trans (G.v h q r)) ?_ j (colHead j) (colEntry j) ?_).trans ?_
  · rw [e5, e6, e7, e8]; exact G.l
  · show (j 1).val = (j 1).val / 128 * 128 + (j 1).val % 128; omega
  · rw [e9]; rfl

theorem algebraic : Cert.algebraic_KernelIdeal_ReferenceIdeal_pre_finite := by
  intro m g m' g' hm hargs
  choose A lam G using given m hm
  refine ⟨fun c => result (A c) (lam c) (m (c, KernelIdeal.main_arg9) : KernelIdeal.S128.Idx → EReal), ?_, ?_⟩
  · have h := θ_run_and (run_result m g A lam G) (frame_main m g)
    exact (θ_run _ _ _).mono (fun _ h c => ⟨h.1 c, h.2.1 c⟩) h
  · refine (θ_run ReferenceIdeal.defs _ _).mono (fun _ h c => ⟨(h c).1.trans ?_, (h c).2⟩) (ReferenceIdeal.Value.run (F := Ideal) m' g')
    obtain ⟨e0, e1, e2, e3, e4, e5, e6, e7, e8, e9⟩ := hargs c
    exact ref_result (G c) m' e0 e1 e2 e3 e4 e5 e6 e7 e8 e9

end Cert.Diff
-- ==== Proof.Ffn.Spec.lean ====
/- The half-step feed-forward network of one row, over the extended reals. -/
module

public import Idealize.ShloMosaic.PureOps.Ideal

@[expose] public section

noncomputable section

namespace Cert.Ffn

open Idealize.ShloMosaic

/-- A row over its root mean square, times the gains. -/
def hidden (x g : Fin 1024 → EReal) (k : Fin 1024) : EReal :=
  x k * Ideal.rsqrt (Ideal.div (∑ e, x e * x e) (Ideal.ofBits .f32 0x44800000#32) + Ideal.ofBits .f32 0x358637BD#32) * g k
/-- A row against a matrix's column. -/
def proj (h : Fin 1024 → EReal) (w : Fin 1024 → Fin 2816 → EReal) (f : Fin 2816) : EReal := ∑ k, h k * w k f
/-- The gated unit. -/
def gated (a b : EReal) : EReal := a * Ideal.logistic a * b
/-- The row, plus half of the network's. -/
def ffn (x g : Fin 1024 → EReal) (wg wu : Fin 1024 → Fin 2816 → EReal) (wd : Fin 2816 → Fin 1024 → EReal) (d : Fin 1024) : EReal :=
  x d + Ideal.ofBits .f32 0x3F000000#32 * ∑ f, gated (proj (hidden x g) wg f) (proj (hidden x g) wu f) * wd f d

end Cert.Ffn
-- ==== Proof.Ffn.Kernel.lean ====
/- The kernel's tile: each row's network; and the whole result, tile by tile. -/
module

public import proofs.«01_k».proof.Proof.Gen.Kernel2Ideal.Value
public import proofs.«01_k».proof.Proof.Ffn.Spec
public import Idealize.ShloMosaic.Lib.Pointwise

@[expose] public section

noncomputable section

namespace Cert.Ffn

open Cert.Kernel2Ideal Cert.Kernel2Ideal.Gen Idealize.ShloMosaic Idealize.ShloMosaic.TcCoe Idealize.SL.Sem

section Steps
variable {F : FTy → Type} [FloatOps F]

/-! ## The tile's steps -/

/-- The normed rows; their products with the two matrices; the gated unit; the tile's rows plus half the network's. -/
def hidK (x : FVec F S512x1024 .f32) (g : FVec F S1x1024 .f32) : FVec F S512x1024 .bf16 :=
  truncf .bf16 (mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)) bitsLt_bf16_f32
def projK (h : FVec F S512x1024 .bf16) (w : FVec F S1x1024x2816 .bf16) : FVec F S512x2816 .f32 :=
  matmul dot_S512x1024_S1024x2816_S512x2816_1_0_0_1_n_n none h (shapeCast S1024x2816 w shapeCasts_S1x1024x2816_S1024x2816) (constant S512x2816 .f32 0x00000000#32)
def gatedK (a b : FVec F S512x2816 .f32) : FVec F S512x2816 .bf16 := truncf .bf16 (mulf (mulf a (logistic a)) b) bitsLt_bf16_f32
def outK (x : FVec F S512x1024 .f32) (u : FVec F S512x2816 .bf16) (w : FVec F S1x2816x1024 .bf16) : FVec F S512x1024 .f32 :=
  addf x (mulf (broadcast S512x1024 (Scalar.ofBits .f32 0x3F000000#32))
    (matmul dot_S512x2816_S2816x1024_S512x1024_1_0_0_1_n_n none u (shapeCast S2816x1024 w shapeCasts_S1x2816x1024_S2816x1024) (constant S512x1024 .f32 0x00000000#32)))
theorem pay_eq (x : FVec F S512x1024 .f32) (g : FVec F S1x1024 .f32) (wg wu : FVec F S1x1024x2816 .bf16) (wd : FVec F S1x2816x1024 .bf16) :
    k0_pay1 x g wg wu wd = outK (shapeCast S512x1024 x shapeCasts_S512x1024_S512x1024)
      (gatedK (projK (hidK (shapeCast S512x1024 x shapeCasts_S512x1024_S512x1024) (shapeCast S1x1024 g shapeCasts_S1x1024_S1x1024)) wg)
        (projK (hidK (shapeCast S512x1024 x shapeCasts_S512x1024_S512x1024) (shapeCast S1x1024 g shapeCasts_S1x1024_S1x1024)) wu)) wd := rfl

end Steps

theorem hidK_apply (x : S512x1024.Idx → EReal) (g : S1x1024.Idx → EReal) (r : Fin 512) (k : Fin 1024) :
    (hidK (F := Ideal) x g : S512x1024.Idx → EReal) (ix2 r k) = hidden (fun e => x (ix2 r e)) (fun e => g (ix2 0 e)) k := by
  unfold hidK hidden; pointwise
theorem projK_apply (h : S512x1024.Idx → EReal) (w : S1x1024x2816.Idx → EReal) (r : Fin 512) (f : Fin 2816) :
    (projK (F := Ideal) h w : S512x2816.Idx → EReal) (ix2 r f) = proj (fun k => h (ix2 r k)) (fun k f => w (ix3 0 k f)) f := by
  unfold projK proj; pointwise
theorem gatedK_apply (a b : S512x2816.Idx → EReal) (i : S512x2816.Idx) : (gatedK (F := Ideal) a b : S512x2816.Idx → EReal) i = gated (a i) (b i) := rfl
theorem outK_apply (x : S512x1024.Idx → EReal) (u : S512x2816.Idx → EReal) (w : S1x2816x1024.Idx → EReal) (r : Fin 512) (d : Fin 1024) :
    (outK (F := Ideal) x u w : S512x1024.Idx → EReal) (ix2 r d) = x (ix2 r d) + Ideal.ofBits .f32 0x3F000000#32 * ∑ f : Fin 2816, u (ix2 r f) * w (ix3 0 f d) := by
  unfold outK; pointwise

/-- A tile's output at an index. -/
theorem pay_apply (x : S512x1024.Idx → EReal) (g : S1x1024.Idx → EReal) (wg wu : S1x1024x2816.Idx → EReal) (wd : S1x2816x1024.Idx → EReal)
    (r : Fin 512) (d : Fin 1024) :
    (k0_pay1 (F := Ideal) x g wg wu wd : S512x1024.Idx → EReal) (ix2 r d)
      = ffn (fun e => x (ix2 r e)) (fun e => g (ix2 0 e)) (fun k f => wg (ix3 0 k f)) (fun k f => wu (ix3 0 k f)) (fun f e => wd (ix3 0 f e)) d := by
  rw [pay_eq, shapeCast_self, shapeCast_self, outK_apply]
  unfold ffn
  simp only [gatedK_apply, projK_apply, hidK_apply]

end Cert.Ffn
-- ==== Proof.Ffn.Out.lean ====
/- The kernel's result: every row's network, from the arguments. -/
module

public import proofs.«01_k».proof.Proof.Ffn.Kernel
public import Idealize.ShloMosaic.Lib.Pipeline.ValueKit

@[expose] public section

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments: the rows, the gains, the three matrices. -/
def argX : S1x16384x1024.Idx → EReal := m (c, main_arg0)
def argG : S2x1024.Idx → EReal := m (c, main_arg1)
def argWg : S2x1024x2816.Idx → EReal := m (c, main_arg2)
def argWu : S2x1024x2816.Idx → EReal := m (c, main_arg3)
def argWd : S2x2816x1024.Idx → EReal := m (c, main_arg4)

/-- The result: each row's network, under the first layer's weights. -/
def result (x : S1x16384x1024.Idx → EReal) (g : S2x1024.Idx → EReal) (wg wu : S2x1024x2816.Idx → EReal) (wd : S2x2816x1024.Idx → EReal) :
    S16384x1024.Idx → EReal := fun z =>
  ffn (fun e => x (ix3 0 (z 0) e)) (fun e => g (ix2 0 e)) (fun k f => wg (ix3 0 k f)) (fun k f => wu (ix3 0 k f)) (fun f e => wd (ix3 0 f e)) (z 1)

/-! ## The arrays the call finds -/

theorem V_x (z : S16384x1024.Idx) : (V m c main_v3 : S16384x1024.Idx → EReal) z = argX m c (ix3 0 (z 0) (z 1)) := by
  entry_read; pointwise; rfl
theorem V_g (z : S1x1024.Idx) : (V m c main_v6 : S1x1024.Idx → EReal) z = argG m c (ix2 0 (z 1)) := by
  entry_read; pointwise; rfl
theorem V_wg (z : S2x1024x2816.Idx) : (V m c main_v0 : S2x1024x2816.Idx → EReal) z = argWg m c z := by
  entry_read; rfl
theorem V_wu (z : S2x1024x2816.Idx) : (V m c main_v1 : S2x1024x2816.Idx → EReal) z = argWu m c z := by
  entry_read; rfl
theorem V_wd (z : S2x2816x1024.Idx) : (V m c main_v2 : S2x2816x1024.Idx → EReal) z = argWd m c z := by
  entry_read; rfl

/-! ## The windows' blocks -/

variable (t : Fin cfg0.N)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0, 0] := (by decide +kernel : ∀ t : Fin grid0.N, win0_4.index t = ![0, 0, 0])
theorem index5 : ∀ t : Fin cfg0.N, win0_5.index t = ![t.val, 0] := (by decide +kernel : ∀ t : Fin grid0.N, win0_5.index t = ![t.val, 0])

/-- The position of a tile's row. -/
def posAt (r : Fin 512) : Fin 16384 := ⟨t.val * 512 + r.val, by have : t.val < 32 := t.isLt; omega⟩

theorem zero_block (n k : ℕ) : 0 * n + k = k := by rw [Nat.zero_mul, Nat.zero_add]
theorem blk_x (r : Fin 512) (k : Fin 1024) : (iblk m c 0 t : S512x1024.Idx → EReal) (ix2 r k) = argX m c (ix3 0 (posAt t r) k) := by
  refine (show _ = (V m c main_v3 : S16384x1024.Idx → EReal) (ix2 (posAt t r) k) from ?_).trans (V_x m c _)
  unfold iblk
  show V m c main_v3 _ = V m c main_v3 _
  congr 1
  have e := index0 t
  funext a; apply Fin.ext
  fin_cases a
  · blk_simp; rw [e]; rfl
  · blk_simp; rw [e]; exact zero_block _ _
theorem blk_g (k : Fin 1024) : (iblk m c 1 t : S1x1024.Idx → EReal) (ix2 0 k) = argG m c (ix2 0 k) := by
  refine (show _ = (V m c main_v6 : S1x1024.Idx → EReal) (ix2 0 k) from ?_).trans (V_g m c _)
  unfold iblk
  show V m c main_v6 _ = V m c main_v6 _
  congr 1
  have e := index1 t
  funext a; apply Fin.ext
  fin_cases a
  · blk_simp; rw [e]; rfl
  · blk_simp; rw [e]; exact zero_block _ _
theorem blk_wg (k : Fin 1024) (f : Fin 2816) : (iblk m c 2 t : S1x1024x2816.Idx → EReal) (ix3 0 k f) = argWg m c (ix3 0 k f) := by
  refine (show _ = (V m c main_v0 : S2x1024x2816.Idx → EReal) (ix3 0 k f) from ?_).trans (V_wg m c _)
  unfold iblk
  show V m c main_v0 _ = V m c main_v0 _
  congr 1
  have e := index2 t
  funext a; apply Fin.ext
  fin_cases a
  · blk_simp; rw [e]; rfl
  · blk_simp; rw [e]; exact zero_block _ _
  · blk_simp; rw [e]; exact zero_block _ _
theorem blk_wu (k : Fin 1024) (f : Fin 2816) : (iblk m c 3 t : S1x1024x2816.Idx → EReal) (ix3 0 k f) = argWu m c (ix3 0 k f) := by
  refine (show _ = (V m c main_v1 : S2x1024x2816.Idx → EReal) (ix3 0 k f) from ?_).trans (V_wu m c _)
  unfold iblk
  show V m c main_v1 _ = V m c main_v1 _
  congr 1
  have e := index3 t
  funext a; apply Fin.ext
  fin_cases a
  · blk_simp; rw [e]; rfl
  · blk_simp; rw [e]; exact zero_block _ _
  · blk_simp; rw [e]; exact zero_block _ _
theorem blk_wd (f : Fin 2816) (k : Fin 1024) : (iblk m c 4 t : S1x2816x1024.Idx → EReal) (ix3 0 f k) = argWd m c (ix3 0 f k) := by
  refine (show _ = (V m c main_v2 : S2x2816x1024.Idx → EReal) (ix3 0 f k) from ?_).trans (V_wd m c _)
  unfold iblk
  show V m c main_v2 _ = V m c main_v2 _
  congr 1
  have e := index4 t
  funext a; apply Fin.ext
  fin_cases a
  · blk_simp; rw [e]; rfl
  · blk_simp; rw [e]; exact zero_block _ _
  · blk_simp; rw [e]; exact zero_block _ _

/-! ## The tile's output, and the array's -/

abbrev resultAt : S16384x1024.Idx → EReal := result (argX m c) (argG m c) (argWg m c) (argWu m c) (argWd m c)

theorem out_apply (r : Fin 512) (d : Fin 1024) :
    (out0_5 (F := Ideal) (iblk m c 0 t) (iblk m c 1 t) (iblk m c 2 t) (iblk m c 3 t) (iblk m c 4 t) : S512x1024.Idx → EReal) (ix2 r d)
      = resultAt m c (ix2 (posAt t r) d) := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]
  refine (pay_apply _ _ _ _ _ r d).trans ?_
  unfold resultAt result
  simp only [blk_x, blk_g, blk_wg, blk_wu, blk_wd]
  rfl

theorem final : (dats m 0 c).arrAt 5 cfg0.N = resultAt m c := by
  refine (dats m 0 c).arrAt_eq_of_covers 5 _ (by decide +kernel) fun t hf y => ?_
  blk_simp
  rw [after0_5]
  have e := index5 t
  obtain ⟨r, d, rfl⟩ : ∃ (r : Fin 512) (d : Fin 1024), y = ix2 r d := ⟨y 0, y 1, funext fun a => by fin_cases a <;> rfl⟩
  refine (out_apply m c t r d).trans (congrArg (resultAt m c) (funext fun a => Fin.ext ?_))
  fin_cases a
  · blk_simp; rw [e]; rfl
  · blk_simp; rw [e]; exact (zero_block _ _).symm

end Cert.Ffn
-- ==== Proof.Ffn.Ref.lean ====
/- The reference at an index: each row's network. -/
module

public import proofs.«01_k».proof.Proof.Gen.Reference2Ideal.Run
public import proofs.«01_k».proof.Proof.Ffn.Spec
public import Idealize.ShloMosaic.Lib.Pointwise

@[expose] public section

noncomputable section

namespace Cert.Ffn

open Cert.Reference2Ideal Cert.Reference2Ideal.Gen Cert.Reference2Ideal.Value Idealize.ShloMosaic Idealize.ShloMosaic.TcCoe

section Steps
variable {F : FTy → Type} [FloatOps F]

/-! ## The reference's steps on whole arrays -/

/-- The normed rows, and a product with one layer's matrix. -/
def hidT (x : FVec F S1x16384x1024 .f32) (g : FVec F S2x1024 .f32) : FVec F S1x16384x1024 .f32 :=
  mulf (mulf x (broadcastInDim S1x16384x1024 ![0, 1, 2] bcast_S1x16384x1_S1x16384x1024_0_1_2 (Host.rsqrt (addf (Host.divf
      (broadcastInDim S1x16384x1 ![0, 1] bcast_S1x16384_S1x16384x1_0_1
        (Host.reduceAdd (mulf x x) (constant S_ .f32 0x00000000#32) reducesTo_S1x16384x1024_S1x16384_d2 h_S_))
      (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2
      (shapeCast _ (extractStridedSlice S1x1024 ![0, 0] g slices_S2x1024_S1x1024_0_0) shapeCasts_S1x1024_S1024)))
def projT (h : FVec F S1x16384x1024 .f32) (w : FVec F S2x1024x2816 .f32) : FVec F S1x16384x2816 .f32 :=
  Host.dotGeneral dot_S1x16384x1024_S1024x2816_S1x16384x2816_2_0_01_1_n_n none h
    (shapeCast _ (extractStridedSlice S1x1024x2816 ![0, 0, 0] w slices_S2x1024x2816_S1x1024x2816_0_0_0) shapeCasts_S1x1024x2816_S1024x2816)
/-- The gated unit, and the rows plus half of the network's. -/
def gatedT (a b : FVec F S1x16384x2816 .f32) : FVec F S1x16384x2816 .f32 :=
  mulf (mulf a (Host.divf (broadcastInDim S1x16384x2816 ![] bcast_S_S1x16384x2816 (constant S_ .f32 0x3F800000#32))
    (addf (broadcastInDim S1x16384x2816 ![] bcast_S_S1x16384x2816 (constant S_ .f32 0x3F800000#32)) (Host.exp (Host.negf a))))) b
def outT (x : FVec F S1x16384x1024 .f32) (u : FVec F S1x16384x2816 .f32) (w : FVec F S2x2816x1024 .f32) : FVec F S16384x1024 .f32 :=
  shapeCast _ (addf x (mulf (broadcastInDim S1x16384x1024 ![] bcast_S_S1x16384x1024 (constant S_ .f32 0x3F000000#32))
    (Host.dotGeneral dot_S1x16384x2816_S2816x1024_S1x16384x1024_2_0_01_1_n_n none u
      (shapeCast _ (extractStridedSlice S1x2816x1024 ![0, 0, 0] w slices_S2x2816x1024_S1x2816x1024_0_0_0) shapeCasts_S1x2816x1024_S2816x1024))))
    shapeCasts_S1x16384x1024_S16384x1024
/-- The reference's result, step by step. -/
def refT (x : FVec F S1x16384x1024 .f32) (g : FVec F S2x1024 .f32) (wg wu : FVec F S2x1024x2816 .f32) (wd : FVec F S2x2816x1024 .f32) : FVec F S16384x1024 .f32 :=
  outT x (gatedT (projT (hidT x g) wg) (projT (hidT x g) wu)) wd
theorem res_eq (m : (ℓ : Loc nD τ sig) → Buf (Elt F) ℓ) (c : Dev nD) :
    res_main_v29 m c = refT (m (c.tc.loc main_arg0)) (m (c.tc.loc main_arg1)) (m (c.tc.loc main_arg2)) (m (c.tc.loc main_arg3)) (m (c.tc.loc main_arg4)) := by
  unfold res_main_v29 refT outT gatedT projT hidT; rfl

end Steps

theorem hidT_apply (x : S1x16384x1024.Idx → EReal) (g : S2x1024.Idx → EReal) (r : Fin 16384) (k : Fin 1024) :
    (hidT (F := Ideal) x g : S1x16384x1024.Idx → EReal) (ix3 0 r k) = hidden (fun e => x (ix3 0 r e)) (fun e => g (ix2 0 e)) k := by
  unfold hidT hidden; pointwise
theorem projT_apply (h : S1x16384x1024.Idx → EReal) (w : S2x1024x2816.Idx → EReal) (r : Fin 16384) (f : Fin 2816) :
    (projT (F := Ideal) h w : S1x16384x2816.Idx → EReal) (ix3 0 r f) = proj (fun k => h (ix3 0 r k)) (fun k f => w (ix3 0 k f)) f := by
  unfold projT proj; pointwise
theorem one_eq : Ideal.ofBits .f32 0x3F800000#32 = 1 := by
  simp [Ideal.ofBits, Ideal.ieee, -EReal.coe_mul, zpow_neg]; norm_num
theorem gatedT_apply (a b : S1x16384x2816.Idx → EReal) (i : S1x16384x2816.Idx) : (gatedT (F := Ideal) a b : S1x16384x2816.Idx → EReal) i = gated (a i) (b i) := by
  unfold gated Ideal.logistic
  rw [← one_eq]; rfl
theorem outT_apply (x : S1x16384x1024.Idx → EReal) (u : S1x16384x2816.Idx → EReal) (w : S2x2816x1024.Idx → EReal) (r : Fin 16384) (d : Fin 1024) :
    (outT (F := Ideal) x u w : S16384x1024.Idx → EReal) (ix2 r d)
      = x (ix3 0 r d) + Ideal.ofBits .f32 0x3F000000#32 * ∑ f : Fin 2816, u (ix3 0 r f) * w (ix3 0 f d) := by
  unfold outT; pointwise

/-- The reference's result at an index. -/
theorem refT_apply (x : S1x16384x1024.Idx → EReal) (g : S2x1024.Idx → EReal) (wg wu : S2x1024x2816.Idx → EReal) (wd : S2x2816x1024.Idx → EReal)
    (r : Fin 16384) (d : Fin 1024) :
    (refT (F := Ideal) x g wg wu wd : S16384x1024.Idx → EReal) (ix2 r d)
      = ffn (fun e => x (ix3 0 r e)) (fun e => g (ix2 0 e)) (fun k f => wg (ix3 0 k f)) (fun k f => wu (ix3 0 k f)) (fun f e => wd (ix3 0 f e)) d := by
  unfold refT
  rw [outT_apply]
  unfold ffn
  simp only [gatedT_apply, projT_apply, hidT_apply]

end Cert.Ffn
-- ==== Proof.Ffn.Value.lean ====
/- The feed-forward network's value claim: the kernel and the reference end with the same result. -/
module

public import proofs.«01_k».proof.Defs
public import proofs.«01_k».proof.Proof.Gen.Kernel2Ideal
public import proofs.«01_k».proof.Proof.Gen.Reference2Ideal
public import proofs.«01_k».proof.Proof.Ffn.Out
public import proofs.«01_k».proof.Proof.Ffn.Ref

@[expose] public section

noncomputable section

namespace Cert.Ffn

open Idealize.ShloMosaic Idealize.ShloMosaic.TcCoe Idealize.SL.Sem

theorem ref_result (x : Kernel2Ideal.S1x16384x1024.Idx → EReal) (g : Kernel2Ideal.S2x1024.Idx → EReal) (wg wu : Kernel2Ideal.S2x1024x2816.Idx → EReal)
    (wd : Kernel2Ideal.S2x2816x1024.Idx → EReal) : (refT (F := Ideal) x g wg wu wd : Kernel2Ideal.S16384x1024.Idx → EReal) = result x g wg wu wd := by
  funext z
  obtain ⟨r, d, rfl⟩ : ∃ (r : Fin 16384) (d : Fin 1024), z = ix2 r d := ⟨z 0, z 1, funext fun a => by fin_cases a <;> rfl⟩
  exact refT_apply x g wg wu wd r d

theorem algebraic : Cert.algebraic_Kernel2Ideal_Reference2Ideal := by
  intro m g m' g' _ hargs
  refine ⟨fun c => resultAt m c, ?_, ?_⟩
  · exact (θ_run Kernel2Ideal.defs _ _).mono (fun _ h c => ⟨(h c).1.trans (final m c), (h c).2⟩) (Kernel2Ideal.Value.run_blocks m g)
  · refine (θ_run Reference2Ideal.defs _ _).mono (fun _ h c => ⟨(h c).1.trans ((res_eq m' c).trans ?_), (h c).2⟩) (Reference2Ideal.Value.run (F := Ideal) m' g')
    obtain ⟨e0, e1, e2, e3, e4⟩ := hargs c
    rw [e0, e1, e2, e3, e4]
    exact ref_result (argX m c) (argG m c) (argWg m c) (argWu m c) (argWd m c)

theorem frame_reference : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

end Cert.Ffn
-- ==== Proof.Merge.Spec.lean ====
/- The gated merge of one row, over the extended reals. -/
module

public import proofs.«01_k».proof.Proof.Ffn.Spec

@[expose] public section

noncomputable section

namespace Cert.Merge

open Idealize.ShloMosaic Cert.Ffn

/-- A branch's column: a mixer's output against its matrix, under the sigmoid of the gate's logit. -/
def branch {n : ℕ} (l : EReal) (o p : Fin n → EReal) : EReal := Ideal.logistic l * ∑ k, o k * p k
/-- A gate's column among those of the input projection, and its logit. -/
def gateCol (i : Fin 3) (d : Fin 1024) : Fin 5888 := ⟨2816 + (1024 * i.val + d.val), by omega⟩
def logit (h : Fin 1024 → EReal) (w : Fin 1024 → Fin 5888 → EReal) (i : Fin 3) (d : Fin 1024) : EReal := ∑ k, h k * w k (gateCol i d)
/-- The three branches' sum. -/
def merged (h : Fin 1024 → EReal) (w : Fin 1024 → Fin 5888 → EReal) (a b : Fin 256 → EReal) (c : Fin 512 → EReal)
    (pa pb : Fin 256 → Fin 1024 → EReal) (pc : Fin 512 → Fin 1024 → EReal) (d : Fin 1024) : EReal :=
  branch (logit h w 0 d) a (fun k => pa k d) + branch (logit h w 1 d) b (fun k => pb k d) + branch (logit h w 2 d) c (fun k => pc k d)
/-- The row, plus the branches' sum against the output's matrix. -/
def mix (x g : Fin 1024 → EReal) (w : Fin 1024 → Fin 5888 → EReal) (a b : Fin 256 → EReal) (c : Fin 512 → EReal)
    (pa pb : Fin 256 → Fin 1024 → EReal) (pc : Fin 512 → Fin 1024 → EReal) (wo : Fin 1024 → Fin 1024 → EReal) (d : Fin 1024) : EReal :=
  x d + ∑ e, merged (hidden x g) w a b c pa pb pc e * wo e d

end Cert.Merge
-- ==== Proof.Merge.Kernel.lean ====
/- The merge's tile: each of its rows. -/
module

public import proofs.«01_k».proof.Proof.Gen.Kernel3Ideal.Value
public import proofs.«01_k».proof.Proof.Merge.Spec
public import Idealize.ShloMosaic.Lib.Pointwise

@[expose] public section

noncomputable section

namespace Cert.Merge

open Cert.Kernel3Ideal Cert.Kernel3Ideal.Gen Idealize.ShloMosaic Idealize.ShloMosaic.TcCoe Cert.Ffn

theorem rows_eq (x : S1024x1024.Idx → EReal) : (k0_pay2 (F := Ideal) x : S1024x1024.Idx → EReal) = x := shapeCast_self _ _
theorem hid_apply (x : S1024x1024.Idx → EReal) (g : S1x1024.Idx → EReal) (r k : Fin 1024) :
    (k0_pay3 (F := Ideal) x g : S1024x1024.Idx → EReal) (ix2 r k) = hidden (fun e => x (ix2 r e)) (fun e => g (ix2 0 e)) k := by
  unfold k0_pay3 k0_pay2 Ffn.hidden; pointwise
/-- The first branch, the second's logit and its matrix. -/
theorem first_apply (x : S1024x1024.Idx → EReal) (g : S1x1024.Idx → EReal) (w : S1024x1024.Idx → EReal) (o : S1024x256.Idx → EReal)
    (p : S1x256x1024.Idx → EReal) (r d : Fin 1024) :
    (k0_pay4 (F := Ideal) x g w o p : S1024x1024.Idx → EReal) (ix2 r d)
      = branch (∑ k : Fin 1024, hidden (fun e => x (ix2 r e)) (fun e => g (ix2 0 e)) k * w (ix2 k d)) (fun k => o (ix2 r k)) (fun k => p (ix3 0 k d)) := by
  simp only [← hid_apply]
  unfold k0_pay4 branch
  generalize k0_pay3 (F := Ideal) x g = h
  pointwise
theorem logit_apply (x : S1024x1024.Idx → EReal) (g : S1x1024.Idx → EReal) (w : S1024x1024.Idx → EReal) (r d : Fin 1024) :
    (k0_pay5 (F := Ideal) x g w : S1024x1024.Idx → EReal) (ix2 r d)
      = ∑ k : Fin 1024, hidden (fun e => x (ix2 r e)) (fun e => g (ix2 0 e)) k * w (ix2 k d) := by
  simp only [← hid_apply]
  unfold k0_pay5
  generalize k0_pay3 (F := Ideal) x g = h
  pointwise
theorem matrix_apply (p : S1x256x1024.Idx → EReal) (k : Fin 256) (d : Fin 1024) : (k0_pay6 (F := Ideal) p : S256x1024.Idx → EReal) (ix2 k d) = p (ix3 0 k d) := by
  unfold k0_pay6; pointwise
/-- The three branches against the output's matrix, and the rows. -/
theorem last_apply (x h s l : S1024x1024.Idx → EReal) (o : S1024x256.Idx → EReal) (p : S256x1024.Idx → EReal) (w : S1024x1024.Idx → EReal)
    (o' : S1024x512.Idx → EReal) (p' : S1x512x1024.Idx → EReal) (wo : S1x1024x1024.Idx → EReal) (r d : Fin 1024) :
    (k0_pay1 (F := Ideal) x h s l o p w o' p' wo : S1024x1024.Idx → EReal) (ix2 r d)
      = x (ix2 r d) + ∑ e : Fin 1024, (s (ix2 r e) + branch (l (ix2 r e)) (fun k => o (ix2 r k)) (fun k => p (ix2 k e))
          + branch (∑ k : Fin 1024, h (ix2 r k) * w (ix2 k e)) (fun k => o' (ix2 r k)) (fun k => p' (ix3 0 k e))) * wo (ix3 0 e d) := by
  unfold k0_pay1 branch; pointwise

end Cert.Merge
-- ==== Proof.Merge.Out.lean ====
/- The kernel's result: every row's merge, from the arguments. -/
module

public import proofs.«01_k».proof.Proof.Merge.Kernel
public import Idealize.ShloMosaic.Lib.Pipeline.ValueKit

@[expose] public section

noncomputable section

namespace Cert.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The arguments: the rows, the gains, the input projection, the mixers' outputs, their matrices and the output's. -/
def argX : S1x16384x1024.Idx → EReal := m (c, main_arg0)
def argG : S2x1024.Idx → EReal := m (c, main_arg1)
def argW : S2x1024x5888.Idx → EReal := m (c, main_arg2)
def argOa : S16384x256.Idx → EReal := m (c, main_arg3)
def argOb : S16384x256.Idx → EReal := m (c, main_arg4)
def argOc : S16384x512.Idx → EReal := m (c, main_arg5)
def argPa : S2x256x1024.Idx → EReal := m (c, main_arg6)
def argPb : S2x256x1024.Idx → EReal := m (c, main_arg7)
def argPc : S2x512x1024.Idx → EReal := m (c, main_arg8)
def argPo : S2x1024x1024.Idx → EReal := m (c, main_arg9)

/-- The result: each row's merge, under the first layer's weights. -/
def result (x : S1x16384x1024.Idx → EReal) (g : S2x1024.Idx → EReal) (w : S2x1024x5888.Idx → EReal) (oa ob : S16384x256.Idx → EReal)
    (oc : S16384x512.Idx → EReal) (wa wb : S2x256x1024.Idx → EReal) (wc : S2x512x1024.Idx → EReal) (wo : S2x1024x1024.Idx → EReal) :
    S16384x1024.Idx → EReal := fun z =>
  mix (fun e => x (ix3 0 (z 0) e)) (fun e => g (ix2 0 e)) (fun k f => w (ix3 0 k f)) (fun k => oa (ix2 (z 0) k)) (fun k => ob (ix2 (z 0) k))
    (fun k => oc (ix2 (z 0) k)) (fun k e => wa (ix3 0 k e)) (fun k e => wb (ix3 0 k e)) (fun k e => wc (ix3 0 k e)) (fun k e => wo (ix3 0 k e)) (z 1)

/-! ## The arrays the call finds -/

theorem V_x (z : S16384x1024.Idx) : (V m c main_v8 : S16384x1024.Idx → EReal) z = argX m c (ix3 0 (z 0) (z 1)) := by
  entry_read; pointwise; rfl
theorem V_g (z : S1x1024.Idx) : (V m c main_v11 : S1x1024.Idx → EReal) z = argG m c (ix2 0 (z 1)) := by
  entry_read; pointwise; rfl
theorem V_w (z : S1024x3072.Idx) : (V m c main_v7 : S1024x3072.Idx → EReal) z
    = argW m c (ix3 0 (z 0) ⟨2816 + (z 1).val, by have : (z 1).val < 3072 := (z 1).isLt; omega⟩) := by
  entry_read; pointwise; rfl
theorem V_oa (z : S16384x256.Idx) : (V m c main_arg3 : S16384x256.Idx → EReal) z = argOa m c z := by
  entry_read; rfl
theorem V_ob (z : S16384x256.Idx) : (V m c main_arg4 : S16384x256.Idx → EReal) z = argOb m c z := by
  entry_read; rfl
theorem V_oc (z : S16384x512.Idx) : (V m c main_arg5 : S16384x512.Idx → EReal) z = argOc m c z := by
  entry_read; rfl
theorem V_pa (z : S2x256x1024.Idx) : (V m c main_v0 : S2x256x1024.Idx → EReal) z = argPa m c z := by
  entry_read; rfl
theorem V_pb (z : S2x256x1024.Idx) : (V m c main_v1 : S2x256x1024.Idx → EReal) z = argPb m c z := by
  entry_read; rfl
theorem V_pc (z : S2x512x1024.Idx) : (V m c main_v2 : S2x512x1024.Idx → EReal) z = argPc m c z := by
  entry_read; rfl
theorem V_po (z : S2x1024x1024.Idx) : (V m c main_v3 : S2x1024x1024.Idx → EReal) z = argPo m c z := by
  entry_read; rfl

/-! ## The windows' blocks -/

variable (t : Fin cfg0.N)

/-- The rows' windows follow the tile; the weights' stay at the first block. -/
theorem index_rows : ∀ t : Fin cfg0.N, win0_0.index t = ![t.val, 0] ∧ win0_3.index t = ![t.val, 0] ∧ win0_4.index t = ![t.val, 0]
    ∧ win0_5.index t = ![t.val, 0] ∧ win0_10.index t = ![t.val, 0] :=
  (by decide +kernel : ∀ t : Fin grid0.N, win0_0.index t = ![t.val, 0] ∧ win0_3.index t = ![t.val, 0] ∧ win0_4.index t = ![t.val, 0]
    ∧ win0_5.index t = ![t.val, 0] ∧ win0_10.index t = ![t.val, 0])
theorem index_weights : ∀ t : Fin cfg0.N, win0_1.index t = ![0, 0] ∧ win0_2.index t = ![0, 0] ∧ win0_6.index t = ![0, 0, 0] ∧ win0_7.index t = ![0, 0, 0]
    ∧ win0_8.index t = ![0, 0, 0] ∧ win0_9.index t = ![0, 0, 0] :=
  (by decide +kernel : ∀ t : Fin grid0.N, win0_1.index t = ![0, 0] ∧ win0_2.index t = ![0, 0] ∧ win0_6.index t = ![0, 0, 0] ∧ win0_7.index t = ![0, 0, 0]
    ∧ win0_8.index t = ![0, 0, 0] ∧ win0_9.index t = ![0, 0, 0])

/-- The position of a tile's row. -/
def posAt (r : Fin 1024) : Fin 16384 := ⟨t.val * 1024 + r.val, by have : t.val < 16 := t.isLt; omega⟩

theorem zero_block (n k : ℕ) : 0 * n + k = k := by rw [Nat.zero_mul, Nat.zero_add]
theorem blk_x (r k : Fin 1024) : (iblk m c 0 t : S1024x1024.Idx → EReal) (ix2 r k) = argX m c (ix3 0 (posAt t r) k) := by
  refine (show _ = (V m c main_v8 : S16384x1024.Idx → EReal) (ix2 (posAt t r) k) from ?_).trans (V_x m c _)
  unfold iblk
  show V m c main_v8 _ = V m c main_v8 _
  congr 1
  have e := (index_rows t).1
  funext a; apply Fin.ext
  fin_cases a
  · blk_simp; rw [e]; rfl
  · blk_simp; rw [e]; exact zero_block _ _
theorem blk_g (k : Fin 1024) : (iblk m c 1 t : S1x1024.Idx → EReal) (ix2 0 k) = argG m c (ix2 0 k) := by
  refine (show _ = (V m c main_v11 : S1x1024.Idx → EReal) (ix2 0 k) from ?_).trans (V_g m c _)
  unfold iblk
  show V m c main_v11 _ = V m c main_v11 _
  congr 1
  have e := (index_weights t).1
  funext a; apply Fin.ext
  fin_cases a
  · blk_simp; rw [e]; rfl
  · blk_simp; rw [e]; exact zero_block _ _
theorem blk_w (k : Fin 1024) (f : Fin 3072) : (iblk m c 2 t : S1024x3072.Idx → EReal) (ix2 k f) = argW m c (ix3 0 k ⟨2816 + f.val, by omega⟩) := by
  refine (show _ = (V m c main_v7 : S1024x3072.Idx → EReal) (ix2 k f) from ?_).trans (V_w m c _)
  unfold iblk
  show V m c main_v7 _ = V m c main_v7 _
  congr 1
  have e := (index_weights t).2.1
  funext a; apply Fin.ext
  fin_cases a
  · blk_simp; rw [e]; exact zero_block _ _
  · blk_simp; rw [e]; exact zero_block _ _
theorem blk_oa (r : Fin 1024) (k : Fin 256) : (iblk m c 3 t : S1024x256.Idx → EReal) (ix2 r k) = argOa m c (ix2 (posAt t r) k) := by
  refine (show _ = (V m c main_arg3 : S16384x256.Idx → EReal) (ix2 (posAt t r) k) from ?_).trans (V_oa m c _)
  unfold iblk
  show V m c main_arg3 _ = V m c main_arg3 _
  congr 1
  have e := (index_rows t).2.1
  funext a; apply Fin.ext
  fin_cases a
  · blk_simp; rw [e]; rfl
  · blk_simp; rw [e]; exact zero_block _ _
theorem blk_ob (r : Fin 1024) (k : Fin 256) : (iblk m c 4 t : S1024x256.Idx → EReal) (ix2 r k) = argOb m c (ix2 (posAt t r) k) := by
  refine (show _ = (V m c main_arg4 : S16384x256.Idx → EReal) (ix2 (posAt t r) k) from ?_).trans (V_ob m c _)
  unfold iblk
  show V m c main_arg4 _ = V m c main_arg4 _
  congr 1
  have e := (index_rows t).2.2.1
  funext a; apply Fin.ext
  fin_cases a
  · blk_simp; rw [e]; rfl
  · blk_simp; rw [e]; exact zero_block _ _
theorem blk_oc (r : Fin 1024) (k : Fin 512) : (iblk m c 5 t : S1024x512.Idx → EReal) (ix2 r k) = argOc m c (ix2 (posAt t r) k) := by
  refine (show _ = (V m c main_arg5 : S16384x512.Idx → EReal) (ix2 (posAt t r) k) from ?_).trans (V_oc m c _)
  unfold iblk
  show V m c main_arg5 _ = V m c main_arg5 _
  congr 1
  have e := (index_rows t).2.2.2.1
  funext a; apply Fin.ext
  fin_cases a
  · blk_simp; rw [e]; rfl
  · blk_simp; rw [e]; exact zero_block _ _
theorem blk_pa (k : Fin 256) (d : Fin 1024) : (iblk m c 6 t : S1x256x1024.Idx → EReal) (ix3 0 k d) = argPa m c (ix3 0 k d) := by
  refine (show _ = (V m c main_v0 : S2x256x1024.Idx → EReal) (ix3 0 k d) from ?_).trans (V_pa m c _)
  unfold iblk
  show V m c main_v0 _ = V m c main_v0 _
  congr 1
  have e := (index_weights t).2.2.1
  funext a; apply Fin.ext
  fin_cases a
  · blk_simp; rw [e]; rfl
  · blk_simp; rw [e]; exact zero_block _ _
  · blk_simp; rw [e]; exact zero_block _ _
theorem blk_pb (k : Fin 256) (d : Fin 1024) : (iblk m c 7 t : S1x256x1024.Idx → EReal) (ix3 0 k d) = argPb m c (ix3 0 k d) := by
  refine (show _ = (V m c main_v1 : S2x256x1024.Idx → EReal) (ix3 0 k d) from ?_).trans (V_pb m c _)
  unfold iblk
  show V m c main_v1 _ = V m c main_v1 _
  congr 1
  have e := (index_weights t).2.2.2.1
  funext a; apply Fin.ext
  fin_cases a
  · blk_simp; rw [e]; rfl
  · blk_simp; rw [e]; exact zero_block _ _
  · blk_simp; rw [e]; exact zero_block _ _
theorem blk_pc (k : Fin 512) (d : Fin 1024) : (iblk m c 8 t : S1x512x1024.Idx → EReal) (ix3 0 k d) = argPc m c (ix3 0 k d) := by
  refine (show _ = (V m c main_v2 : S2x512x1024.Idx → EReal) (ix3 0 k d) from ?_).trans (V_pc m c _)
  unfold iblk
  show V m c main_v2 _ = V m c main_v2 _
  congr 1
  have e := (index_weights t).2.2.2.2.1
  funext a; apply Fin.ext
  fin_cases a
  · blk_simp; rw [e]; rfl
  · blk_simp; rw [e]; exact zero_block _ _
  · blk_simp; rw [e]; exact zero_block _ _
theorem blk_po (k : Fin 1024) (d : Fin 1024) : (iblk m c 9 t : S1x1024x1024.Idx → EReal) (ix3 0 k d) = argPo m c (ix3 0 k d) := by
  refine (show _ = (V m c main_v3 : S2x1024x1024.Idx → EReal) (ix3 0 k d) from ?_).trans (V_po m c _)
  unfold iblk
  show V m c main_v3 _ = V m c main_v3 _
  congr 1
  have e := (index_weights t).2.2.2.2.2
  funext a; apply Fin.ext
  fin_cases a
  · blk_simp; rw [e]; rfl
  · blk_simp; rw [e]; exact zero_block _ _
  · blk_simp; rw [e]; exact zero_block _ _

/-- A gate's columns within the gates' matrix. -/
theorem gate_apply (x : S1024x3072.Idx → EReal) (n : ℕ) (h : ∀ a, (![0, n] : Fin 2 → ℕ) a + S1024x1024.size a ≤ S1024x3072.size a) (k d : Fin 1024) (j : Fin 3072)
    (hj : j.val = n + d.val) :
    (View.ld (Val := Elt Ideal) (e' := .bf16) x (Rect.unit (s := S1024x3072) ![0, n] S1024x1024.size h) : S1024x1024.Idx → EReal) (ix2 k d) = x (ix2 k j) := by
  refine congrArg x (funext fun a => ?_)
  fin_cases a
  · exact Fin.ext (by show 0 + 1 * k.val = k.val; omega)
  · exact Fin.ext (by show n + 1 * d.val = j.val; omega)

/-! ## The tile's output, and the array's -/

abbrev resultAt : S16384x1024.Idx → EReal :=
  result (argX m c) (argG m c) (argW m c) (argOa m c) (argOb m c) (argOc m c) (argPa m c) (argPb m c) (argPc m c) (argPo m c)

theorem out_apply (r d : Fin 1024) :
    (out0_10 (F := Ideal) (iblk m c 0 t) (iblk m c 1 t) (iblk m c 2 t) (iblk m c 3 t) (iblk m c 4 t) (iblk m c 5 t) (iblk m c 6 t) (iblk m c 7 t)
        (iblk m c 8 t) (iblk m c 9 t) : S1024x1024.Idx → EReal) (ix2 r d)
      = resultAt m c (ix2 (posAt t r) d) := by
  unfold out0_10
  rw [View.canon_cons_unit_lit _ _ _ (by decide), View.ld_unit_lit (S := S1024x1024) _ (iblk m c 0 t) (by decide),
    View.ld_unit_lit (S := S1x1024) _ (iblk m c 1 t) (by decide), View.ld_unit_lit (S := S1024x256) _ (iblk m c 3 t) (by decide),
    View.ld_unit_lit (S := S1024x256) _ (iblk m c 4 t) (by decide), View.ld_unit_lit (S := S1024x512) _ (iblk m c 5 t) (by decide),
    View.ld_unit_lit (S := S1x256x1024) _ (iblk m c 6 t) (by decide), View.ld_unit_lit (S := S1x256x1024) _ (iblk m c 7 t) (by decide),
    View.ld_unit_lit (S := S1x512x1024) _ (iblk m c 8 t) (by decide), View.ld_unit_lit (S := S1x1024x1024) _ (iblk m c 9 t) (by decide)]
  refine (last_apply _ _ _ _ _ _ _ _ _ _ r d).trans ?_
  simp only [rows_eq, hid_apply, first_apply, logit_apply, matrix_apply]
  have g0 : ∀ k e : Fin 1024, (View.ld (iblk m c 2 t) r0_2 : S1024x1024.Idx → EReal) (ix2 k e) = argW m c (ix3 0 k (gateCol 0 e)) := fun k e =>
    (gate_apply _ 0 _ k e ⟨1024 * 0 + e.val, by omega⟩ (by show 1024 * 0 + e.val = _; omega)).trans (blk_w m c t _ _)
  have g1 : ∀ k e : Fin 1024, (View.ld (iblk m c 2 t) r0_5 : S1024x1024.Idx → EReal) (ix2 k e) = argW m c (ix3 0 k (gateCol 1 e)) := fun k e =>
    (gate_apply _ 1024 _ k e ⟨1024 * 1 + e.val, by omega⟩ (by show 1024 * 1 + e.val = _; omega)).trans (blk_w m c t _ _)
  have g2 : ∀ k e : Fin 1024, (View.ld (iblk m c 2 t) r0_6 : S1024x1024.Idx → EReal) (ix2 k e) = argW m c (ix3 0 k (gateCol 2 e)) := fun k e =>
    (gate_apply _ 2048 _ k e ⟨1024 * 2 + e.val, by omega⟩ (by show 1024 * 2 + e.val = _; omega)).trans (blk_w m c t _ _)
  simp only [g0, g1, g2, blk_x, blk_g, blk_oa, blk_ob, blk_oc, blk_pa, blk_pb, blk_pc, blk_po]
  rfl

theorem final : (dats m 0 c).arrAt 10 cfg0.N = resultAt m c := by
  refine (dats m 0 c).arrAt_eq_of_covers 10 _ (by decide +kernel) fun t hf y => ?_
  blk_simp
  rw [after0_10]
  have e := (index_rows t).2.2.2.2
  obtain ⟨r, d, rfl⟩ : ∃ (r : Fin 1024) (d : Fin 1024), y = ix2 r d := ⟨y 0, y 1, funext fun a => by fin_cases a <;> rfl⟩
  refine (out_apply m c t r d).trans (congrArg (resultAt m c) (funext fun a => Fin.ext ?_))
  fin_cases a
  · blk_simp; rw [e]; rfl
  · blk_simp; rw [e]; exact (zero_block _ _).symm

end Cert.Merge
-- ==== Proof.Merge.Ref.lean ====
/- The merge's reference at an index: each of its rows. -/
module

public import proofs.«01_k».proof.Proof.Gen.Reference3Ideal.Run
public import proofs.«01_k».proof.Proof.Merge.Spec
public import Idealize.ShloMosaic.Lib.Pointwise

@[expose] public section

noncomputable section

namespace Cert.Merge

open Cert.Reference3Ideal Cert.Reference3Ideal.Gen Cert.Reference3Ideal.Value Idealize.ShloMosaic Idealize.ShloMosaic.TcCoe Cert.Ffn

section Steps
variable {F : FTy → Type} [FloatOps F]

/-! ## The reference's steps on whole arrays -/

/-- The rows, the normed rows, and the sigmoids of the gates' logits. -/
def rowsT (x : FVec F S1x16384x1024 .f32) : FVec F S16384x1024 .f32 := shapeCast _ x shapeCasts_S1x16384x1024_S16384x1024
def hidT (x : FVec F S16384x1024 .f32) (g : FVec F S2x1024 .f32) : FVec F S16384x1024 .f32 :=
  mulf (mulf x (broadcastInDim S16384x1024 ![0, 1] bcast_S16384x1_S16384x1024_0_1 (Host.rsqrt (addf (Host.divf
      (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast _ (extractStridedSlice S1x1024 ![0, 0] g slices_S2x1024_S1x1024_0_0) shapeCasts_S1x1024_S1024)))
def logitsT (h : FVec F S16384x1024 .f32) (w : FVec F S2x1024x5888 .f32) : FVec F S16384x3072 .f32 :=
  extractStridedSlice S16384x3072 ![0, 2816] (Host.dotGeneral dot_S16384x1024_S1024x5888_S16384x5888_1_0_0_1_n_n none h
    (shapeCast _ (extractStridedSlice S1x1024x5888 ![0, 0, 0] w slices_S2x1024x5888_S1x1024x5888_0_0_0) shapeCasts_S1x1024x5888_S1024x5888))
    slices_S16384x5888_S16384x3072_0_2816
def sigmoidT (l : FVec F S16384x3072 .f32) : FVec F S16384x3072 .f32 :=
  Host.divf (broadcastInDim S16384x3072 ![] bcast_S_S16384x3072 (constant S_ .f32 0x3F800000#32))
    (addf (broadcastInDim S16384x3072 ![] bcast_S_S16384x3072 (constant S_ .f32 0x3F800000#32)) (Host.exp (Host.negf l)))
/-- The three gates. -/
def splitT (s : FVec F S16384x3072 .f32) : FVec F S16384x3x1024 .f32 := shapeCast _ s shapeCasts_S16384x3072_S16384x3x1024
def gate0T (s : FVec F S16384x3072 .f32) : FVec F S16384x1024 .f32 :=
  shapeCast _ (extractStridedSlice S16384x1x1024 ![0, 0, 0] (splitT s) slices_S16384x3x1024_S16384x1x1024_0_0_0) shapeCasts_S16384x1x1024_S16384x1024
def gate1T (s : FVec F S16384x3072 .f32) : FVec F S16384x1024 .f32 :=
  shapeCast _ (extractStridedSlice S16384x1x1024 ![0, 1, 0] (splitT s) slices_S16384x3x1024_S16384x1x1024_0_1_0) shapeCasts_S16384x1x1024_S16384x1024
def gate2T (s : FVec F S16384x3072 .f32) : FVec F S16384x1024 .f32 :=
  shapeCast _ (extractStridedSlice S16384x1x1024 ![0, 2, 0] (splitT s) slices_S16384x3x1024_S16384x1x1024_0_2_0) shapeCasts_S16384x1x1024_S16384x1024
/-- The mixers' outputs against their matrices. -/
def outT (o : FVec F S16384x256 .bf16) (w : FVec F S2x256x1024 .f32) : FVec F S16384x1024 .f32 :=
  Host.dotGeneral dot_S16384x256_S256x1024_S16384x1024_1_0_0_1_n_n none (extf .f32 o bitsLt_bf16_f32)
    (shapeCast _ (extractStridedSlice S1x256x1024 ![0, 0, 0] w slices_S2x256x1024_S1x256x1024_0_0_0) shapeCasts_S1x256x1024_S256x1024)
def outT' (o : FVec F S16384x512 .bf16) (w : FVec F S2x512x1024 .f32) : FVec F S16384x1024 .f32 :=
  Host.dotGeneral dot_S16384x512_S512x1024_S16384x1024_1_0_0_1_n_n none (extf .f32 o bitsLt_bf16_f32)
    (shapeCast _ (extractStridedSlice S1x512x1024 ![0, 0, 0] w slices_S2x512x1024_S1x512x1024_0_0_0) shapeCasts_S1x512x1024_S512x1024)
def sumT (s : FVec F S16384x3072 .f32) (ya yb yc : FVec F S16384x1024 .f32) : FVec F S16384x1024 .f32 :=
  addf (addf (mulf (gate0T s) ya) (mulf (gate1T s) yb)) (mulf (gate2T s) yc)
def lastT (x y : FVec F S16384x1024 .f32) (w : FVec F S2x1024x1024 .f32) : FVec F S16384x1024 .f32 :=
  addf x (Host.dotGeneral dot_S16384x1024_S1024x1024_S16384x1024_1_0_0_1_n_n none y
    (shapeCast _ (extractStridedSlice S1x1024x1024 ![0, 0, 0] w slices_S2x1024x1024_S1x1024x1024_0_0_0) shapeCasts_S1x1024x1024_S1024x1024))
/-- The reference's result, step by step. -/
def refT (x : FVec F S1x16384x1024 .f32) (g : FVec F S2x1024 .f32) (w : FVec F S2x1024x5888 .f32) (oa ob : FVec F S16384x256 .bf16) (oc : FVec F S16384x512 .bf16)
    (wa wb : FVec F S2x256x1024 .f32) (wc : FVec F S2x512x1024 .f32) (wo : FVec F S2x1024x1024 .f32) : FVec F S16384x1024 .f32 :=
  lastT (rowsT x) (sumT (sigmoidT (logitsT (hidT (rowsT x) g) w)) (outT oa wa) (outT ob wb) (outT' oc wc)) wo
theorem res_eq (m : (ℓ : Loc nD τ sig) → Buf (Elt F) ℓ) (c : Dev nD) :
    res_main_v53 m c = refT (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9)) := by
  unfold res_main_v53 refT lastT sumT outT outT' gate0T gate1T gate2T splitT sigmoidT logitsT hidT rowsT; rfl

end Steps

theorem rowsT_apply (x : S1x16384x1024.Idx → EReal) (r : Fin 16384) (k : Fin 1024) :
    (rowsT (F := Ideal) x : S16384x1024.Idx → EReal) (ix2 r k) = x (ix3 0 r k) := by
  unfold rowsT; pointwise
theorem hidT_apply (x : S16384x1024.Idx → EReal) (g : S2x1024.Idx → EReal) (r : Fin 16384) (k : Fin 1024) :
    (hidT (F := Ideal) x g : S16384x1024.Idx → EReal) (ix2 r k) = hidden (fun e => x (ix2 r e)) (fun e => g (ix2 0 e)) k := by
  unfold hidT Ffn.hidden; pointwise
theorem logitsT_apply (h : S16384x1024.Idx → EReal) (w : S2x1024x5888.Idx → EReal) (r : Fin 16384) (j : Fin 3072) (i : Fin 3) (d : Fin 1024)
    (hj : j.val = 1024 * i.val + d.val) :
    (logitsT (F := Ideal) h w : S16384x3072.Idx → EReal) (ix2 r j) = logit (fun k => h (ix2 r k)) (fun k f => w (ix3 0 k f)) i d := by
  have e : gateCol i d = ⟨2816 + j.val, by omega⟩ := Fin.ext (congrArg (2816 + ·) hj.symm)
  unfold logit
  rw [e]
  unfold logitsT; pointwise
theorem one_eq : Ideal.ofBits .f32 0x3F800000#32 = 1 := by
  simp [Ideal.ofBits, Ideal.ieee, -EReal.coe_mul, zpow_neg]; norm_num
theorem sigmoidT_apply (l : S16384x3072.Idx → EReal) (i : S16384x3072.Idx) : (sigmoidT (F := Ideal) l : S16384x3072.Idx → EReal) i = Ideal.logistic (l i) := by
  unfold Ideal.logistic
  rw [← one_eq]; rfl
theorem gate0T_apply (s : S16384x3072.Idx → EReal) (r : Fin 16384) (d : Fin 1024) :
    (gate0T (F := Ideal) s : S16384x1024.Idx → EReal) (ix2 r d) = s (ix2 r ⟨d.val, by omega⟩) := by
  unfold gate0T splitT; pointwise
theorem gate1T_apply (s : S16384x3072.Idx → EReal) (r : Fin 16384) (d : Fin 1024) :
    (gate1T (F := Ideal) s : S16384x1024.Idx → EReal) (ix2 r d) = s (ix2 r ⟨1024 + d.val, by omega⟩) := by
  unfold gate1T splitT; pointwise
theorem gate2T_apply (s : S16384x3072.Idx → EReal) (r : Fin 16384) (d : Fin 1024) :
    (gate2T (F := Ideal) s : S16384x1024.Idx → EReal) (ix2 r d) = s (ix2 r ⟨2048 + d.val, by omega⟩) := by
  unfold gate2T splitT; pointwise
theorem outT_apply (o : S16384x256.Idx → EReal) (w : S2x256x1024.Idx → EReal) (r : Fin 16384) (d : Fin 1024) :
    (outT (F := Ideal) o w : S16384x1024.Idx → EReal) (ix2 r d) = ∑ k : Fin 256, o (ix2 r k) * w (ix3 0 k d) := by
  unfold outT; pointwise
theorem outT'_apply (o : S16384x512.Idx → EReal) (w : S2x512x1024.Idx → EReal) (r : Fin 16384) (d : Fin 1024) :
    (outT' (F := Ideal) o w : S16384x1024.Idx → EReal) (ix2 r d) = ∑ k : Fin 512, o (ix2 r k) * w (ix3 0 k d) := by
  unfold outT'; pointwise
theorem sumT_apply (s : S16384x3072.Idx → EReal) (ya yb yc : S16384x1024.Idx → EReal) (i : S16384x1024.Idx) :
    (sumT (F := Ideal) s ya yb yc : S16384x1024.Idx → EReal) i
      = (gate0T (F := Ideal) s : S16384x1024.Idx → EReal) i * ya i + (gate1T (F := Ideal) s : S16384x1024.Idx → EReal) i * yb i
        + (gate2T (F := Ideal) s : S16384x1024.Idx → EReal) i * yc i := rfl
theorem lastT_apply (x y : S16384x1024.Idx → EReal) (w : S2x1024x1024.Idx → EReal) (r : Fin 16384) (d : Fin 1024) :
    (lastT (F := Ideal) x y w : S16384x1024.Idx → EReal) (ix2 r d) = x (ix2 r d) + ∑ e : Fin 1024, y (ix2 r e) * w (ix3 0 e d) := by
  unfold lastT; pointwise

/-- The reference's result at an index. -/
theorem refT_apply (x : S1x16384x1024.Idx → EReal) (g : S2x1024.Idx → EReal) (w : S2x1024x5888.Idx → EReal) (oa ob : S16384x256.Idx → EReal)
    (oc : S16384x512.Idx → EReal) (wa wb : S2x256x1024.Idx → EReal) (wc : S2x512x1024.Idx → EReal) (wo : S2x1024x1024.Idx → EReal)
    (r : Fin 16384) (d : Fin 1024) :
    (refT (F := Ideal) x g w oa ob oc wa wb wc wo : S16384x1024.Idx → EReal) (ix2 r d)
      = mix (fun e => x (ix3 0 r e)) (fun e => g (ix2 0 e)) (fun k f => w (ix3 0 k f)) (fun k => oa (ix2 r k)) (fun k => ob (ix2 r k))
          (fun k => oc (ix2 r k)) (fun k e => wa (ix3 0 k e)) (fun k e => wb (ix3 0 k e)) (fun k e => wc (ix3 0 k e)) (fun k e => wo (ix3 0 k e)) d := by
  unfold refT
  rw [lastT_apply]
  unfold mix merged branch
  simp only [sumT_apply, gate0T_apply, gate1T_apply, gate2T_apply, sigmoidT_apply, outT_apply, outT'_apply, rowsT_apply]
  refine congrArg _ (Finset.sum_congr rfl fun e _ => ?_)
  rw [logitsT_apply _ _ r _ 0 e (by show e.val = 1024 * 0 + e.val; omega), logitsT_apply _ _ r _ 1 e (by show 1024 + e.val = 1024 * 1 + e.val; omega),
    logitsT_apply _ _ r _ 2 e (by show 2048 + e.val = 1024 * 2 + e.val; omega)]
  simp only [hidT_apply, rowsT_apply]

end Cert.Merge
-- ==== Proof.Merge.Value.lean ====
/- The gated merge's value claim: the kernel and the reference end with the same result. -/
module

public import proofs.«01_k».proof.Defs
public import proofs.«01_k».proof.Proof.Gen.Kernel3Ideal
public import proofs.«01_k».proof.Proof.Gen.Reference3Ideal
public import proofs.«01_k».proof.Proof.Merge.Out
public import proofs.«01_k».proof.Proof.Merge.Ref

@[expose] public section

noncomputable section

namespace Cert.Merge

open Idealize.ShloMosaic Idealize.ShloMosaic.TcCoe Idealize.SL.Sem

theorem ref_result (x : Kernel3Ideal.S1x16384x1024.Idx → EReal) (g : Kernel3Ideal.S2x1024.Idx → EReal) (w : Kernel3Ideal.S2x1024x5888.Idx → EReal)
    (oa ob : Kernel3Ideal.S16384x256.Idx → EReal) (oc : Kernel3Ideal.S16384x512.Idx → EReal) (wa wb : Kernel3Ideal.S2x256x1024.Idx → EReal)
    (wc : Kernel3Ideal.S2x512x1024.Idx → EReal) (wo : Kernel3Ideal.S2x1024x1024.Idx → EReal) :
    (refT (F := Ideal) x g w oa ob oc wa wb wc wo : Kernel3Ideal.S16384x1024.Idx → EReal) = result x g w oa ob oc wa wb wc wo := by
  funext z
  obtain ⟨r, d, rfl⟩ : ∃ (r : Fin 16384) (d : Fin 1024), z = ix2 r d := ⟨z 0, z 1, funext fun a => by fin_cases a <;> rfl⟩
  exact refT_apply x g w oa ob oc wa wb wc wo r d

theorem algebraic : Cert.algebraic_Kernel3Ideal_Reference3Ideal := by
  intro m g m' g' _ hargs
  refine ⟨fun c => resultAt m c, ?_, ?_⟩
  · exact (θ_run Kernel3Ideal.defs _ _).mono (fun _ h c => ⟨(h c).1.trans (final m c), (h c).2⟩) (Kernel3Ideal.Value.run_blocks m g)
  · refine (θ_run Reference3Ideal.defs _ _).mono (fun _ h c => ⟨(h c).1.trans ((res_eq m' c).trans ?_), (h c).2⟩) (Reference3Ideal.Value.run (F := Ideal) m' g')
    obtain ⟨e0, e1, e2, e3, e4, e5, e6, e7, e8, e9⟩ := hargs c
    rw [e0, e1, e2, e3, e4, e5, e6, e7, e8, e9]
    exact ref_result (argX m c) (argG m c) (argW m c) (argOa m c) (argOb m c) (argOc m c) (argPa m c) (argPb m c) (argPc m c) (argPo m c)

theorem frame_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

end Cert.Merge
-- ==== Proof.lean ====
/- The proof of every claim of this certificate. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Diff.Value
public import proofs.«01_k».proof.Proof.Ffn.Value
public import proofs.«01_k».proof.Proof.Merge.Value
public import Idealize.ShloMosaic.Adequacy
public import Idealize.ShloMosaic.Init

@[expose] public section

noncomputable section

namespace Cert.Proof

/-- Every claim of the certificate. -/
theorem claim : Cert.Claim :=
  ⟨inferInstance, inferInstance, inferInstance, inferInstance, inferInstance, inferInstance, inferInstance, inferInstance, inferInstance,
    Cert.Diff.finiteFacts,
    Cert.Frames.frame_kernel, Cert.Frames.frame_ideal, fun m g _ => Cert.Frames.frame_ideal m g trivial,
    Cert.Frames.frame_reference, fun m g _ => Cert.Frames.frame_reference m g trivial,
    fun m g _ => Cert.Kernel2.Gen.frame m g, fun m g _ => Cert.Kernel2Ideal.Gen.frame m g, Cert.Ffn.frame_reference,
    fun m g _ => Cert.Kernel3.Gen.frame m g, fun m g _ => Cert.Kernel3Ideal.Gen.frame m g, Cert.Merge.frame_reference,
    Cert.Frames.preserves, Cert.Diff.algebraic, trivial, Cert.Ffn.algebraic, trivial, Cert.Merge.algebraic⟩

end Cert.Proof

end
